-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpReferenceIdeal (m : (ℓ : Loc Cert.DwUpReferenceIdeal.nD Cert.DwUpReferenceIdeal.τ Cert.DwUpReferenceIdeal.sig) → Buf (Elt Ideal) ℓ) : Prop :=
  True

def Pre_DhFfn (m : (ℓ : Loc Cert.DhFfn.nD Cert.DhFfn.τ Cert.DhFfn.sig) → Buf (Elt Bits) ℓ) : Prop :=
  True

def Pre_DhFfnIdeal (m : (ℓ : Loc Cert.DhFfnIdeal.nD Cert.DhFfnIdeal.τ Cert.DhFfnIdeal.sig) → Buf (Elt Ideal) ℓ) : Prop :=
  True

def Pre_DhFfnReferenceIdeal (m : (ℓ : Loc Cert.DhFfnReferenceIdeal.nD Cert.DhFfnReferenceIdeal.τ Cert.DhFfnReferenceIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActReferenceIdeal (m : (ℓ : Loc Cert.DActReferenceIdeal.nD Cert.DActReferenceIdeal.τ Cert.DActReferenceIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownReferenceIdeal (m : (ℓ : Loc Cert.DwDownReferenceIdeal.nD Cert.DwDownReferenceIdeal.τ Cert.DwDownReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateReferenceIdeal (m : (ℓ : Loc Cert.DwGateReferenceIdeal.nD Cert.DwGateReferenceIdeal.τ Cert.DwGateReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DwProj (m : (ℓ : Loc Cert.DwProj.nD Cert.DwProj.τ Cert.DwProj.sig) → Buf (Elt Bits) ℓ) : Prop :=
  True

def Pre_DwProjIdeal (m : (ℓ : Loc Cert.DwProjIdeal.nD Cert.DwProjIdeal.τ Cert.DwProjIdeal.sig) → Buf (Elt Ideal) ℓ) : Prop :=
  True

def Pre_DwProjReferenceIdeal (m : (ℓ : Loc Cert.DwProjReferenceIdeal.nD Cert.DwProjReferenceIdeal.τ Cert.DwProjReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MixLn (m : (ℓ : Loc Cert.MixLn.nD Cert.MixLn.τ Cert.MixLn.sig) → Buf (Elt Bits) ℓ) : Prop :=
  True

def Pre_MixLnIdeal (m : (ℓ : Loc Cert.MixLnIdeal.nD Cert.MixLnIdeal.τ Cert.MixLnIdeal.sig) → Buf (Elt Ideal) ℓ) : Prop :=
  True

def Pre_MixLnReferenceIdeal (m : (ℓ : Loc Cert.MixLnReferenceIdeal.nD Cert.MixLnReferenceIdeal.τ Cert.MixLnReferenceIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdReferenceIdeal (m : (ℓ : Loc Cert.LnBwdReferenceIdeal.nD Cert.LnBwdReferenceIdeal.τ Cert.LnBwdReferenceIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadReferenceIdeal (m : (ℓ : Loc Cert.HeadReferenceIdeal.nD Cert.HeadReferenceIdeal.τ Cert.HeadReferenceIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_fwd [hPre_finite_fwd : Cert.Pre_finite_fwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))) = (fun _ => 1#1)

def Pre_AttnFwdReferenceIdeal (m : (ℓ : Loc Cert.AttnFwdReferenceIdeal.nD Cert.AttnFwdReferenceIdeal.τ Cert.AttnFwdReferenceIdeal.sig) → Buf (Elt Ideal) ℓ) : Prop :=
  True

def Pre_AttnFwdReferenceIdeal_finite_fwd [hPre_finite_fwd : Cert.Pre_finite_fwd.Facts] (m : (ℓ : Loc Cert.AttnFwdReferenceIdeal.nD Cert.AttnFwdReferenceIdeal.τ Cert.AttnFwdReferenceIdeal.sig) → Buf (Elt Ideal) ℓ) : Prop :=
  ∀ c : Dev Cert.AttnFwdReferenceIdeal.nD,
    (Cert.Pre_finite_fwd.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1)) (m ((c.tc : Thread Cert.AttnFwdReferenceIdeal.nD Cert.AttnFwdReferenceIdeal.τ).loc Cert.AttnFwdReferenceIdeal.main_arg2)) (m ((c.tc : Thread Cert.AttnFwdReferenceIdeal.nD Cert.AttnFwdReferenceIdeal.τ).loc Cert.AttnFwdReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpReferenceIdeal [hDwUpReferenceIdeal : Cert.DwUpReferenceIdeal.Facts] : Prop :=
  ∀ (m : (ℓ : Loc Cert.DwUpReferenceIdeal.nD Cert.DwUpReferenceIdeal.τ Cert.DwUpReferenceIdeal.sig) → Buf (Elt Ideal) ℓ) (g : Dev Cert.DwUpReferenceIdeal.nD → PrngReg), Pre_DwUpReferenceIdeal m →
    θ_run (Cert.DwUpReferenceIdeal.defs (F := Ideal)) (onTc (τ := Cert.DwUpReferenceIdeal.τ) (Cert.DwUpReferenceIdeal.main (F := Ideal))) ⟨m, fun _ => 0, g⟩ (fun r => (∀ c : Dev Cert.DwUpReferenceIdeal.nD,
      r.2.mem ((c.tc : Thread Cert.DwUpReferenceIdeal.nD Cert.DwUpReferenceIdeal.τ).loc Cert.DwUpReferenceIdeal.main_arg0) = m ((c.tc : Thread Cert.DwUpReferenceIdeal.nD Cert.DwUpReferenceIdeal.τ).loc Cert.DwUpReferenceIdeal.main_arg0)
      ∧ r.2.mem ((c.tc : Thread Cert.DwUpReferenceIdeal.nD Cert.DwUpReferenceIdeal.τ).loc Cert.DwUpReferenceIdeal.main_arg1) = m ((c.tc : Thread Cert.DwUpReferenceIdeal.nD Cert.DwUpReferenceIdeal.τ).loc Cert.DwUpReferenceIdeal.main_arg1))
      ∧ r.2.sem = fun _ => 0)

def quiescent_DhFfn [hDhFfn : Cert.DhFfn.Facts] : Prop :=
  ∀ (m : (ℓ : Loc Cert.DhFfn.nD Cert.DhFfn.τ Cert.DhFfn.sig) → Buf (Elt Bits) ℓ) (g : Dev Cert.DhFfn.nD → PrngReg), Pre_DhFfn m →
    θ_run (Cert.DhFfn.defs (F := Bits)) (onTc (τ := Cert.DhFfn.τ) (Cert.DhFfn.main (F := Bits))) ⟨m, fun _ => 0, g⟩ (fun r => (∀ c : Dev Cert.DhFfn.nD,
      r.2.mem ((c.tc : Thread Cert.DhFfn.nD Cert.DhFfn.τ).loc Cert.DhFfn.main_arg0) = m ((c.tc : Thread Cert.DhFfn.nD Cert.DhFfn.τ).loc Cert.DhFfn.main_arg0)
      ∧ r.2.mem ((c.tc : Thread Cert.DhFfn.nD Cert.DhFfn.τ).loc Cert.DhFfn.main_arg1) = m ((c.tc : Thread Cert.DhFfn.nD Cert.DhFfn.τ).loc Cert.DhFfn.main_arg1))
      ∧ r.2.sem = fun _ => 0)

def quiescent_DhFfnIdeal [hDhFfnIdeal : Cert.DhFfnIdeal.Facts] : Prop :=
  ∀ (m : (ℓ : Loc Cert.DhFfnIdeal.nD Cert.DhFfnIdeal.τ Cert.DhFfnIdeal.sig) → Buf (Elt Ideal) ℓ) (g : Dev Cert.DhFfnIdeal.nD → PrngReg), Pre_DhFfnIdeal m →
    θ_run (Cert.DhFfnIdeal.defs (F := Ideal)) (onTc (τ := Cert.DhFfnIdeal.τ) (Cert.DhFfnIdeal.main (F := Ideal))) ⟨m, fun _ => 0, g⟩ (fun r => (∀ c : Dev Cert.DhFfnIdeal.nD,
      r.2.mem ((c.tc : Thread Cert.DhFfnIdeal.nD Cert.DhFfnIdeal.τ).loc Cert.DhFfnIdeal.main_arg0) = m ((c.tc : Thread Cert.DhFfnIdeal.nD Cert.DhFfnIdeal.τ).loc Cert.DhFfnIdeal.main_arg0)
      ∧ r.2.mem ((c.tc : Thread Cert.DhFfnIdeal.nD Cert.DhFfnIdeal.τ).loc Cert.DhFfnIdeal.main_arg1) = m ((c.tc : Thread Cert.DhFfnIdeal.nD Cert.DhFfnIdeal.τ).loc Cert.DhFfnIdeal.main_arg1))
      ∧ r.2.sem = fun _ => 0)

def quiescent_DhFfnReferenceIdeal [hDhFfnReferenceIdeal : Cert.DhFfnReferenceIdeal.Facts] : Prop :=
  ∀ (m : (ℓ : Loc Cert.DhFfnReferenceIdeal.nD Cert.DhFfnReferenceIdeal.τ Cert.DhFfnReferenceIdeal.sig) → Buf (Elt Ideal) ℓ) (g : Dev Cert.DhFfnReferenceIdeal.nD → PrngReg), Pre_DhFfnReferenceIdeal m →
    θ_run (Cert.DhFfnReferenceIdeal.defs (F := Ideal)) (onTc (τ := Cert.DhFfnReferenceIdeal.τ) (Cert.DhFfnReferenceIdeal.main (F := Ideal))) ⟨m, fun _ => 0, g⟩ (fun r => (∀ c : Dev Cert.DhFfnReferenceIdeal.nD,
      r.2.mem ((c.tc : Thread Cert.DhFfnReferenceIdeal.nD Cert.DhFfnReferenceIdeal.τ).loc Cert.DhFfnReferenceIdeal.main_arg0) = m ((c.tc : Thread Cert.DhFfnReferenceIdeal.nD Cert.DhFfnReferenceIdeal.τ).loc Cert.DhFfnReferenceIdeal.main_arg0)
      ∧ r.2.mem ((c.tc : Thread Cert.DhFfnReferenceIdeal.nD Cert.DhFfnReferenceIdeal.τ).loc Cert.DhFfnReferenceIdeal.main_arg1) = m ((c.tc : Thread Cert.DhFfnReferenceIdeal.nD Cert.DhFfnReferenceIdeal.τ).loc Cert.DhFfnReferenceIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActReferenceIdeal [hDActReferenceIdeal : Cert.DActReferenceIdeal.Facts] : Prop :=
  ∀ (m : (ℓ : Loc Cert.DActReferenceIdeal.nD Cert.DActReferenceIdeal.τ Cert.DActReferenceIdeal.sig) → Buf (Elt Ideal) ℓ) (g : Dev Cert.DActReferenceIdeal.nD → PrngReg), Pre_DActReferenceIdeal m →
    θ_run (Cert.DActReferenceIdeal.defs (F := Ideal)) (onTc (τ := Cert.DActReferenceIdeal.τ) (Cert.DActReferenceIdeal.main (F := Ideal))) ⟨m, fun _ => 0, g⟩ (fun r => (∀ c : Dev Cert.DActReferenceIdeal.nD,
      r.2.mem ((c.tc : Thread Cert.DActReferenceIdeal.nD Cert.DActReferenceIdeal.τ).loc Cert.DActReferenceIdeal.main_arg0) = m ((c.tc : Thread Cert.DActReferenceIdeal.nD Cert.DActReferenceIdeal.τ).loc Cert.DActReferenceIdeal.main_arg0)
      ∧ r.2.mem ((c.tc : Thread Cert.DActReferenceIdeal.nD Cert.DActReferenceIdeal.τ).loc Cert.DActReferenceIdeal.main_arg1) = m ((c.tc : Thread Cert.DActReferenceIdeal.nD Cert.DActReferenceIdeal.τ).loc Cert.DActReferenceIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateReferenceIdeal [hDwGateReferenceIdeal : Cert.DwGateReferenceIdeal.Facts] : Prop :=
  ∀ (m : (ℓ : Loc Cert.DwGateReferenceIdeal.nD Cert.DwGateReferenceIdeal.τ Cert.DwGateReferenceIdeal.sig) → Buf (Elt Ideal) ℓ) (g : Dev Cert.DwGateReferenceIdeal.nD → PrngReg), Pre_DwGateReferenceIdeal m →
    θ_run (Cert.DwGateReferenceIdeal.defs (F := Ideal)) (onTc (τ := Cert.DwGateReferenceIdeal.τ) (Cert.DwGateReferenceIdeal.main (F := Ideal))) ⟨m, fun _ => 0, g⟩ (fun r => (∀ c : Dev Cert.DwGateReferenceIdeal.nD,
      r.2.mem ((c.tc : Thread Cert.DwGateReferenceIdeal.nD Cert.DwGateReferenceIdeal.τ).loc Cert.DwGateReferenceIdeal.main_arg0) = m ((c.tc : Thread Cert.DwGateReferenceIdeal.nD Cert.DwGateReferenceIdeal.τ).loc Cert.DwGateReferenceIdeal.main_arg0)
      ∧ r.2.mem ((c.tc : Thread Cert.DwGateReferenceIdeal.nD Cert.DwGateReferenceIdeal.τ).loc Cert.DwGateReferenceIdeal.main_arg1) = m ((c.tc : Thread Cert.DwGateReferenceIdeal.nD Cert.DwGateReferenceIdeal.τ).loc Cert.DwGateReferenceIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_DwProj [hDwProj : Cert.DwProj.Facts] : Prop :=
  ∀ (m : (ℓ : Loc Cert.DwProj.nD Cert.DwProj.τ Cert.DwProj.sig) → Buf (Elt Bits) ℓ) (g : Dev Cert.DwProj.nD → PrngReg), Pre_DwProj m →
    θ_run (Cert.DwProj.defs (F := Bits)) (onTc (τ := Cert.DwProj.τ) (Cert.DwProj.main (F := Bits))) ⟨m, fun _ => 0, g⟩ (fun r => (∀ c : Dev Cert.DwProj.nD,
      r.2.mem ((c.tc : Thread Cert.DwProj.nD Cert.DwProj.τ).loc Cert.DwProj.main_arg0) = m ((c.tc : Thread Cert.DwProj.nD Cert.DwProj.τ).loc Cert.DwProj.main_arg0)
      ∧ r.2.mem ((c.tc : Thread Cert.DwProj.nD Cert.DwProj.τ).loc Cert.DwProj.main_arg1) = m ((c.tc : Thread Cert.DwProj.nD Cert.DwProj.τ).loc Cert.DwProj.main_arg1))
      ∧ r.2.sem = fun _ => 0)

def quiescent_DwProjIdeal [hDwProjIdeal : Cert.DwProjIdeal.Facts] : Prop :=
  ∀ (m : (ℓ : Loc Cert.DwProjIdeal.nD Cert.DwProjIdeal.τ Cert.DwProjIdeal.sig) → Buf (Elt Ideal) ℓ) (g : Dev Cert.DwProjIdeal.nD → PrngReg), Pre_DwProjIdeal m →
    θ_run (Cert.DwProjIdeal.defs (F := Ideal)) (onTc (τ := Cert.DwProjIdeal.τ) (Cert.DwProjIdeal.main (F := Ideal))) ⟨m, fun _ => 0, g⟩ (fun r => (∀ c : Dev Cert.DwProjIdeal.nD,
      r.2.mem ((c.tc : Thread Cert.DwProjIdeal.nD Cert.DwProjIdeal.τ).loc Cert.DwProjIdeal.main_arg0) = m ((c.tc : Thread Cert.DwProjIdeal.nD Cert.DwProjIdeal.τ).loc Cert.DwProjIdeal.main_arg0)
      ∧ r.2.mem ((c.tc : Thread Cert.DwProjIdeal.nD Cert.DwProjIdeal.τ).loc Cert.DwProjIdeal.main_arg1) = m ((c.tc : Thread Cert.DwProjIdeal.nD Cert.DwProjIdeal.τ).loc Cert.DwProjIdeal.main_arg1))
      ∧ r.2.sem = fun _ => 0)

def quiescent_DwProjReferenceIdeal [hDwProjReferenceIdeal : Cert.DwProjReferenceIdeal.Facts] : Prop :=
  ∀ (m : (ℓ : Loc Cert.DwProjReferenceIdeal.nD Cert.DwProjReferenceIdeal.τ Cert.DwProjReferenceIdeal.sig) → Buf (Elt Ideal) ℓ) (g : Dev Cert.DwProjReferenceIdeal.nD → PrngReg), Pre_DwProjReferenceIdeal m →
    θ_run (Cert.DwProjReferenceIdeal.defs (F := Ideal)) (onTc (τ := Cert.DwProjReferenceIdeal.τ) (Cert.DwProjReferenceIdeal.main (F := Ideal))) ⟨m, fun _ => 0, g⟩ (fun r => (∀ c : Dev Cert.DwProjReferenceIdeal.nD,
      r.2.mem ((c.tc : Thread Cert.DwProjReferenceIdeal.nD Cert.DwProjReferenceIdeal.τ).loc Cert.DwProjReferenceIdeal.main_arg0) = m ((c.tc : Thread Cert.DwProjReferenceIdeal.nD Cert.DwProjReferenceIdeal.τ).loc Cert.DwProjReferenceIdeal.main_arg0)
      ∧ r.2.mem ((c.tc : Thread Cert.DwProjReferenceIdeal.nD Cert.DwProjReferenceIdeal.τ).loc Cert.DwProjReferenceIdeal.main_arg1) = m ((c.tc : Thread Cert.DwProjReferenceIdeal.nD Cert.DwProjReferenceIdeal.τ).loc Cert.DwProjReferenceIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_MixLn [hMixLn : Cert.MixLn.Facts] : Prop :=
  ∀ (m : (ℓ : Loc Cert.MixLn.nD Cert.MixLn.τ Cert.MixLn.sig) → Buf (Elt Bits) ℓ) (g : Dev Cert.MixLn.nD → PrngReg), Pre_MixLn m →
    θ_run (Cert.MixLn.defs (F := Bits)) (onTc (τ := Cert.MixLn.τ) (Cert.MixLn.main (F := Bits))) ⟨m, fun _ => 0, g⟩ (fun r => (∀ c : Dev Cert.MixLn.nD,
      r.2.mem ((c.tc : Thread Cert.MixLn.nD Cert.MixLn.τ).loc Cert.MixLn.main_arg0) = m ((c.tc : Thread Cert.MixLn.nD Cert.MixLn.τ).loc Cert.MixLn.main_arg0)
      ∧ r.2.mem ((c.tc : Thread Cert.MixLn.nD Cert.MixLn.τ).loc Cert.MixLn.main_arg1) = m ((c.tc : Thread Cert.MixLn.nD Cert.MixLn.τ).loc Cert.MixLn.main_arg1)
      ∧ r.2.mem ((c.tc : Thread Cert.MixLn.nD Cert.MixLn.τ).loc Cert.MixLn.main_arg2) = m ((c.tc : Thread Cert.MixLn.nD Cert.MixLn.τ).loc Cert.MixLn.main_arg2)
      ∧ r.2.mem ((c.tc : Thread Cert.MixLn.nD Cert.MixLn.τ).loc Cert.MixLn.main_arg3) = m ((c.tc : Thread Cert.MixLn.nD Cert.MixLn.τ).loc Cert.MixLn.main_arg3)
      ∧ r.2.mem ((c.tc : Thread Cert.MixLn.nD Cert.MixLn.τ).loc Cert.MixLn.main_arg4) = m ((c.tc : Thread Cert.MixLn.nD Cert.MixLn.τ).loc Cert.MixLn.main_arg4))
      ∧ r.2.sem = fun _ => 0)

def quiescent_MixLnIdeal [hMixLnIdeal : Cert.MixLnIdeal.Facts] : Prop :=
  ∀ (m : (ℓ : Loc Cert.MixLnIdeal.nD Cert.MixLnIdeal.τ Cert.MixLnIdeal.sig) → Buf (Elt Ideal) ℓ) (g : Dev Cert.MixLnIdeal.nD → PrngReg), Pre_MixLnIdeal m →
    θ_run (Cert.MixLnIdeal.defs (F := Ideal)) (onTc (τ := Cert.MixLnIdeal.τ) (Cert.MixLnIdeal.main (F := Ideal))) ⟨m, fun _ => 0, g⟩ (fun r => (∀ c : Dev Cert.MixLnIdeal.nD,
      r.2.mem ((c.tc : Thread Cert.MixLnIdeal.nD Cert.MixLnIdeal.τ).loc Cert.MixLnIdeal.main_arg0) = m ((c.tc : Thread Cert.MixLnIdeal.nD Cert.MixLnIdeal.τ).loc Cert.MixLnIdeal.main_arg0)
      ∧ r.2.mem ((c.tc : Thread Cert.MixLnIdeal.nD Cert.MixLnIdeal.τ).loc Cert.MixLnIdeal.main_arg1) = m ((c.tc : Thread Cert.MixLnIdeal.nD Cert.MixLnIdeal.τ).loc Cert.MixLnIdeal.main_arg1)
      ∧ r.2.mem ((c.tc : Thread Cert.MixLnIdeal.nD Cert.MixLnIdeal.τ).loc Cert.MixLnIdeal.main_arg2) = m ((c.tc : Thread Cert.MixLnIdeal.nD Cert.MixLnIdeal.τ).loc Cert.MixLnIdeal.main_arg2)
      ∧ r.2.mem ((c.tc : Thread Cert.MixLnIdeal.nD Cert.MixLnIdeal.τ).loc Cert.MixLnIdeal.main_arg3) = m ((c.tc : Thread Cert.MixLnIdeal.nD Cert.MixLnIdeal.τ).loc Cert.MixLnIdeal.main_arg3)
      ∧ r.2.mem ((c.tc : Thread Cert.MixLnIdeal.nD Cert.MixLnIdeal.τ).loc Cert.MixLnIdeal.main_arg4) = m ((c.tc : Thread Cert.MixLnIdeal.nD Cert.MixLnIdeal.τ).loc Cert.MixLnIdeal.main_arg4))
      ∧ r.2.sem = fun _ => 0)

def quiescent_MixLnReferenceIdeal [hMixLnReferenceIdeal : Cert.MixLnReferenceIdeal.Facts] : Prop :=
  ∀ (m : (ℓ : Loc Cert.MixLnReferenceIdeal.nD Cert.MixLnReferenceIdeal.τ Cert.MixLnReferenceIdeal.sig) → Buf (Elt Ideal) ℓ) (g : Dev Cert.MixLnReferenceIdeal.nD → PrngReg), Pre_MixLnReferenceIdeal m →
    θ_run (Cert.MixLnReferenceIdeal.defs (F := Ideal)) (onTc (τ := Cert.MixLnReferenceIdeal.τ) (Cert.MixLnReferenceIdeal.main (F := Ideal))) ⟨m, fun _ => 0, g⟩ (fun r => (∀ c : Dev Cert.MixLnReferenceIdeal.nD,
      r.2.mem ((c.tc : Thread Cert.MixLnReferenceIdeal.nD Cert.MixLnReferenceIdeal.τ).loc Cert.MixLnReferenceIdeal.main_arg0) = m ((c.tc : Thread Cert.MixLnReferenceIdeal.nD Cert.MixLnReferenceIdeal.τ).loc Cert.MixLnReferenceIdeal.main_arg0)
      ∧ r.2.mem ((c.tc : Thread Cert.MixLnReferenceIdeal.nD Cert.MixLnReferenceIdeal.τ).loc Cert.MixLnReferenceIdeal.main_arg1) = m ((c.tc : Thread Cert.MixLnReferenceIdeal.nD Cert.MixLnReferenceIdeal.τ).loc Cert.MixLnReferenceIdeal.main_arg1)
      ∧ r.2.mem ((c.tc : Thread Cert.MixLnReferenceIdeal.nD Cert.MixLnReferenceIdeal.τ).loc Cert.MixLnReferenceIdeal.main_arg2) = m ((c.tc : Thread Cert.MixLnReferenceIdeal.nD Cert.MixLnReferenceIdeal.τ).loc Cert.MixLnReferenceIdeal.main_arg2)
      ∧ r.2.mem ((c.tc : Thread Cert.MixLnReferenceIdeal.nD Cert.MixLnReferenceIdeal.τ).loc Cert.MixLnReferenceIdeal.main_arg3) = m ((c.tc : Thread Cert.MixLnReferenceIdeal.nD Cert.MixLnReferenceIdeal.τ).loc Cert.MixLnReferenceIdeal.main_arg3)
      ∧ r.2.mem ((c.tc : Thread Cert.MixLnReferenceIdeal.nD Cert.MixLnReferenceIdeal.τ).loc Cert.MixLnReferenceIdeal.main_arg4) = m ((c.tc : Thread Cert.MixLnReferenceIdeal.nD Cert.MixLnReferenceIdeal.τ).loc Cert.MixLnReferenceIdeal.main_arg4))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3)
      ∧ r.2.mem ((c.tc : Thread Cert.LnBwd.nD Cert.LnBwd.τ).loc Cert.LnBwd.main_arg4) = m ((c.tc : Thread Cert.LnBwd.nD Cert.LnBwd.τ).loc Cert.LnBwd.main_arg4)
      ∧ r.2.mem ((c.tc : Thread Cert.LnBwd.nD Cert.LnBwd.τ).loc Cert.LnBwd.main_arg5) = m ((c.tc : Thread Cert.LnBwd.nD Cert.LnBwd.τ).loc Cert.LnBwd.main_arg5)
      ∧ r.2.mem ((c.tc : Thread Cert.LnBwd.nD Cert.LnBwd.τ).loc Cert.LnBwd.main_arg6) = m ((c.tc : Thread Cert.LnBwd.nD Cert.LnBwd.τ).loc Cert.LnBwd.main_arg6)
      ∧ r.2.mem ((c.tc : Thread Cert.LnBwd.nD Cert.LnBwd.τ).loc Cert.LnBwd.main_arg7) = m ((c.tc : Thread Cert.LnBwd.nD Cert.LnBwd.τ).loc Cert.LnBwd.main_arg7))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
      ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5)
      ∧ r.2.mem ((c.tc : Thread Cert.LnBwdIdeal.nD Cert.LnBwdIdeal.τ).loc Cert.LnBwdIdeal.main_arg6) = m ((c.tc : Thread Cert.LnBwdIdeal.nD Cert.LnBwdIdeal.τ).loc Cert.LnBwdIdeal.main_arg6)
      ∧ r.2.mem ((c.tc : Thread Cert.LnBwdIdeal.nD Cert.LnBwdIdeal.τ).loc Cert.LnBwdIdeal.main_arg7) = m ((c.tc : Thread Cert.LnBwdIdeal.nD Cert.LnBwdIdeal.τ).loc Cert.LnBwdIdeal.main_arg7))
      ∧ r.2.sem = fun _ => 0)

def quiescent_LnBwdReferenceIdeal [hLnBwdReferenceIdeal : Cert.LnBwdReferenceIdeal.Facts] : Prop :=
  ∀ (m : (ℓ : Loc Cert.LnBwdReferenceIdeal.nD Cert.LnBwdReferenceIdeal.τ Cert.LnBwdReferenceIdeal.sig) → Buf (Elt Ideal) ℓ) (g : Dev Cert.LnBwdReferenceIdeal.nD → PrngReg), Pre_LnBwdReferenceIdeal m →
    θ_run (Cert.LnBwdReferenceIdeal.defs (F := Ideal)) (onTc (τ := Cert.LnBwdReferenceIdeal.τ) (Cert.LnBwdReferenceIdeal.main (F := Ideal))) ⟨m, fun _ => 0, g⟩ (fun r => (∀ c : Dev Cert.LnBwdReferenceIdeal.nD,
      r.2.mem ((c.tc : Thread Cert.LnBwdReferenceIdeal.nD Cert.LnBwdReferenceIdeal.τ).loc Cert.LnBwdReferenceIdeal.main_arg0) = m ((c.tc : Thread Cert.LnBwdReferenceIdeal.nD Cert.LnBwdReferenceIdeal.τ).loc Cert.LnBwdReferenceIdeal.main_arg0)
      ∧ r.2.mem ((c.tc : Thread Cert.LnBwdReferenceIdeal.nD Cert.LnBwdReferenceIdeal.τ).loc Cert.LnBwdReferenceIdeal.main_arg1) = m ((c.tc : Thread Cert.LnBwdReferenceIdeal.nD Cert.LnBwdReferenceIdeal.τ).loc Cert.LnBwdReferenceIdeal.main_arg1)
      ∧ r.2.mem ((c.tc : Thread Cert.LnBwdReferenceIdeal.nD Cert.LnBwdReferenceIdeal.τ).loc Cert.LnBwdReferenceIdeal.main_arg2) = m ((c.tc : Thread Cert.LnBwdReferenceIdeal.nD Cert.LnBwdReferenceIdeal.τ).loc Cert.LnBwdReferenceIdeal.main_arg2)
      ∧ r.2.mem ((c.tc : Thread Cert.LnBwdReferenceIdeal.nD Cert.LnBwdReferenceIdeal.τ).loc Cert.LnBwdReferenceIdeal.main_arg3) = m ((c.tc : Thread Cert.LnBwdReferenceIdeal.nD Cert.LnBwdReferenceIdeal.τ).loc Cert.LnBwdReferenceIdeal.main_arg3)
      ∧ r.2.mem ((c.tc : Thread Cert.LnBwdReferenceIdeal.nD Cert.LnBwdReferenceIdeal.τ).loc Cert.LnBwdReferenceIdeal.main_arg4) = m ((c.tc : Thread Cert.LnBwdReferenceIdeal.nD Cert.LnBwdReferenceIdeal.τ).loc Cert.LnBwdReferenceIdeal.main_arg4)
      ∧ r.2.mem ((c.tc : Thread Cert.LnBwdReferenceIdeal.nD Cert.LnBwdReferenceIdeal.τ).loc Cert.LnBwdReferenceIdeal.main_arg5) = m ((c.tc : Thread Cert.LnBwdReferenceIdeal.nD Cert.LnBwdReferenceIdeal.τ).loc Cert.LnBwdReferenceIdeal.main_arg5)
      ∧ r.2.mem ((c.tc : Thread Cert.LnBwdReferenceIdeal.nD Cert.LnBwdReferenceIdeal.τ).loc Cert.LnBwdReferenceIdeal.main_arg6) = m ((c.tc : Thread Cert.LnBwdReferenceIdeal.nD Cert.LnBwdReferenceIdeal.τ).loc Cert.LnBwdReferenceIdeal.main_arg6)
      ∧ r.2.mem ((c.tc : Thread Cert.LnBwdReferenceIdeal.nD Cert.LnBwdReferenceIdeal.τ).loc Cert.LnBwdReferenceIdeal.main_arg7) = m ((c.tc : Thread Cert.LnBwdReferenceIdeal.nD Cert.LnBwdReferenceIdeal.τ).loc Cert.LnBwdReferenceIdeal.main_arg7))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8)
      ∧ r.2.mem ((c.tc : Thread Cert.Head.nD Cert.Head.τ).loc Cert.Head.main_arg9) = m ((c.tc : Thread Cert.Head.nD Cert.Head.τ).loc Cert.Head.main_arg9)
      ∧ r.2.mem ((c.tc : Thread Cert.Head.nD Cert.Head.τ).loc Cert.Head.main_arg10) = m ((c.tc : Thread Cert.Head.nD Cert.Head.τ).loc Cert.Head.main_arg10))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
      ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4)
      ∧ r.2.mem ((c.tc : Thread Cert.HeadReferenceIdeal.nD Cert.HeadReferenceIdeal.τ).loc Cert.HeadReferenceIdeal.main_arg5) = m ((c.tc : Thread Cert.HeadReferenceIdeal.nD Cert.HeadReferenceIdeal.τ).loc Cert.HeadReferenceIdeal.main_arg5)
      ∧ r.2.mem ((c.tc : Thread Cert.HeadReferenceIdeal.nD Cert.HeadReferenceIdeal.τ).loc Cert.HeadReferenceIdeal.main_arg6) = m ((c.tc : Thread Cert.HeadReferenceIdeal.nD Cert.HeadReferenceIdeal.τ).loc Cert.HeadReferenceIdeal.main_arg6)
      ∧ r.2.mem ((c.tc : Thread Cert.HeadReferenceIdeal.nD Cert.HeadReferenceIdeal.τ).loc Cert.HeadReferenceIdeal.main_arg7) = m ((c.tc : Thread Cert.HeadReferenceIdeal.nD Cert.HeadReferenceIdeal.τ).loc Cert.HeadReferenceIdeal.main_arg7)
      ∧ r.2.mem ((c.tc : Thread Cert.HeadReferenceIdeal.nD Cert.HeadReferenceIdeal.τ).loc Cert.HeadReferenceIdeal.main_arg8) = m ((c.tc : Thread Cert.HeadReferenceIdeal.nD Cert.HeadReferenceIdeal.τ).loc Cert.HeadReferenceIdeal.main_arg8)
      ∧ r.2.mem ((c.tc : Thread Cert.HeadReferenceIdeal.nD Cert.HeadReferenceIdeal.τ).loc Cert.HeadReferenceIdeal.main_arg9) = m ((c.tc : Thread Cert.HeadReferenceIdeal.nD Cert.HeadReferenceIdeal.τ).loc Cert.HeadReferenceIdeal.main_arg9)
      ∧ r.2.mem ((c.tc : Thread Cert.HeadReferenceIdeal.nD Cert.HeadReferenceIdeal.τ).loc Cert.HeadReferenceIdeal.main_arg10) = m ((c.tc : Thread Cert.HeadReferenceIdeal.nD Cert.HeadReferenceIdeal.τ).loc Cert.HeadReferenceIdeal.main_arg10))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_finite_fwd [hAttnFwdIdeal : Cert.AttnFwdIdeal.Facts] [hPre_finite_fwd : Cert.Pre_finite_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_fwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdReferenceIdeal [hAttnFwdReferenceIdeal : Cert.AttnFwdReferenceIdeal.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2)
      ∧ r.2.mem ((c.tc : Thread Cert.AttnFwdReferenceIdeal.nD Cert.AttnFwdReferenceIdeal.τ).loc Cert.AttnFwdReferenceIdeal.main_arg3) = m ((c.tc : Thread Cert.AttnFwdReferenceIdeal.nD Cert.AttnFwdReferenceIdeal.τ).loc Cert.AttnFwdReferenceIdeal.main_arg3))
      ∧ r.2.sem = fun _ => 0)

def quiescent_AttnFwdReferenceIdeal_pre_finite_fwd [hAttnFwdReferenceIdeal : Cert.AttnFwdReferenceIdeal.Facts] [hPre_finite_fwd : Cert.Pre_finite_fwd.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal_finite_fwd m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2)
      ∧ r.2.mem ((c.tc : Thread Cert.AttnFwdReferenceIdeal.nD Cert.AttnFwdReferenceIdeal.τ).loc Cert.AttnFwdReferenceIdeal.main_arg3) = m ((c.tc : Thread Cert.AttnFwdReferenceIdeal.nD Cert.AttnFwdReferenceIdeal.τ).loc Cert.AttnFwdReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)) (v2 : (c : Dev Cert.KernelIdeal.nD) → Buf (Elt Ideal) ((c.tc : Thread Cert.KernelIdeal.nD Cert.KernelIdeal.τ).loc Cert.KernelIdeal.main_v41_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_v41_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DwUp_DwUpIdeal : Prop :=
  True

def algebraic_DwUpIdeal_DwUpReferenceIdeal [hDwUpIdeal : Cert.DwUpIdeal.Facts] [hDwUpReferenceIdeal : Cert.DwUpReferenceIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpReferenceIdeal.nD Cert.DwUpReferenceIdeal.τ Cert.DwUpReferenceIdeal.sig) → Buf (Elt Ideal) ℓ) (g' : Dev Cert.DwUpReferenceIdeal.nD → PrngReg), Pre_DwUpIdeal m →
    (∀ c : Dev Cert.DwUpIdeal.nD,
      m' ((c.tc : Thread Cert.DwUpReferenceIdeal.nD Cert.DwUpReferenceIdeal.τ).loc Cert.DwUpReferenceIdeal.main_arg0) = m ((c.tc : Thread Cert.DwUpIdeal.nD Cert.DwUpIdeal.τ).loc Cert.DwUpIdeal.main_arg0)
      ∧ m' ((c.tc : Thread Cert.DwUpReferenceIdeal.nD Cert.DwUpReferenceIdeal.τ).loc Cert.DwUpReferenceIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpReferenceIdeal.defs (F := Ideal)) (onTc (τ := Cert.DwUpReferenceIdeal.τ) (Cert.DwUpReferenceIdeal.main (F := Ideal))) ⟨m', fun _ => 0, g'⟩ (fun r => ∀ c : Dev Cert.DwUpReferenceIdeal.nD,
          r.2.mem ((c.tc : Thread Cert.DwUpReferenceIdeal.nD Cert.DwUpReferenceIdeal.τ).loc Cert.DwUpReferenceIdeal.main_v18) = v0 c
          ∧ r.2.mem ((c.tc : Thread Cert.DwUpReferenceIdeal.nD Cert.DwUpReferenceIdeal.τ).loc Cert.DwUpReferenceIdeal.main_arg0) = m' ((c.tc : Thread Cert.DwUpReferenceIdeal.nD Cert.DwUpReferenceIdeal.τ).loc Cert.DwUpReferenceIdeal.main_arg0)
          ∧ r.2.mem ((c.tc : Thread Cert.DwUpReferenceIdeal.nD Cert.DwUpReferenceIdeal.τ).loc Cert.DwUpReferenceIdeal.main_arg1) = m' ((c.tc : Thread Cert.DwUpReferenceIdeal.nD Cert.DwUpReferenceIdeal.τ).loc Cert.DwUpReferenceIdeal.main_arg1))

def preserves_DhFfn_DhFfnIdeal : Prop :=
  True

def algebraic_DhFfnIdeal_DhFfnReferenceIdeal [hDhFfnIdeal : Cert.DhFfnIdeal.Facts] [hDhFfnReferenceIdeal : Cert.DhFfnReferenceIdeal.Facts] : Prop :=
  ∀ (m : (ℓ : Loc Cert.DhFfnIdeal.nD Cert.DhFfnIdeal.τ Cert.DhFfnIdeal.sig) → Buf (Elt Ideal) ℓ) (g : Dev Cert.DhFfnIdeal.nD → PrngReg)
    (m' : (ℓ : Loc Cert.DhFfnReferenceIdeal.nD Cert.DhFfnReferenceIdeal.τ Cert.DhFfnReferenceIdeal.sig) → Buf (Elt Ideal) ℓ) (g' : Dev Cert.DhFfnReferenceIdeal.nD → PrngReg), Pre_DhFfnIdeal m →
    (∀ c : Dev Cert.DhFfnIdeal.nD,
      m' ((c.tc : Thread Cert.DhFfnReferenceIdeal.nD Cert.DhFfnReferenceIdeal.τ).loc Cert.DhFfnReferenceIdeal.main_arg0) = m ((c.tc : Thread Cert.DhFfnIdeal.nD Cert.DhFfnIdeal.τ).loc Cert.DhFfnIdeal.main_arg0)
      ∧ m' ((c.tc : Thread Cert.DhFfnReferenceIdeal.nD Cert.DhFfnReferenceIdeal.τ).loc Cert.DhFfnReferenceIdeal.main_arg1) = m ((c.tc : Thread Cert.DhFfnIdeal.nD Cert.DhFfnIdeal.τ).loc Cert.DhFfnIdeal.main_arg1)) →
    ∃ (v0 : (c : Dev Cert.DhFfnIdeal.nD) → Buf (Elt Ideal) ((c.tc : Thread Cert.DhFfnIdeal.nD Cert.DhFfnIdeal.τ).loc Cert.DhFfnIdeal.main_v0)),
      θ_run (Cert.DhFfnIdeal.defs (F := Ideal)) (onTc (τ := Cert.DhFfnIdeal.τ) (Cert.DhFfnIdeal.main (F := Ideal))) ⟨m, fun _ => 0, g⟩ (fun r => ∀ c : Dev Cert.DhFfnIdeal.nD,
          r.2.mem ((c.tc : Thread Cert.DhFfnIdeal.nD Cert.DhFfnIdeal.τ).loc Cert.DhFfnIdeal.main_v0) = v0 c
          ∧ r.2.mem ((c.tc : Thread Cert.DhFfnIdeal.nD Cert.DhFfnIdeal.τ).loc Cert.DhFfnIdeal.main_arg0) = m ((c.tc : Thread Cert.DhFfnIdeal.nD Cert.DhFfnIdeal.τ).loc Cert.DhFfnIdeal.main_arg0)
          ∧ r.2.mem ((c.tc : Thread Cert.DhFfnIdeal.nD Cert.DhFfnIdeal.τ).loc Cert.DhFfnIdeal.main_arg1) = m ((c.tc : Thread Cert.DhFfnIdeal.nD Cert.DhFfnIdeal.τ).loc Cert.DhFfnIdeal.main_arg1))
      ∧ θ_run (Cert.DhFfnReferenceIdeal.defs (F := Ideal)) (onTc (τ := Cert.DhFfnReferenceIdeal.τ) (Cert.DhFfnReferenceIdeal.main (F := Ideal))) ⟨m', fun _ => 0, g'⟩ (fun r => ∀ c : Dev Cert.DhFfnReferenceIdeal.nD,
          r.2.mem ((c.tc : Thread Cert.DhFfnReferenceIdeal.nD Cert.DhFfnReferenceIdeal.τ).loc Cert.DhFfnReferenceIdeal.main_v16) = v0 c
          ∧ r.2.mem ((c.tc : Thread Cert.DhFfnReferenceIdeal.nD Cert.DhFfnReferenceIdeal.τ).loc Cert.DhFfnReferenceIdeal.main_arg0) = m' ((c.tc : Thread Cert.DhFfnReferenceIdeal.nD Cert.DhFfnReferenceIdeal.τ).loc Cert.DhFfnReferenceIdeal.main_arg0)
          ∧ r.2.mem ((c.tc : Thread Cert.DhFfnReferenceIdeal.nD Cert.DhFfnReferenceIdeal.τ).loc Cert.DhFfnReferenceIdeal.main_arg1) = m' ((c.tc : Thread Cert.DhFfnReferenceIdeal.nD Cert.DhFfnReferenceIdeal.τ).loc Cert.DhFfnReferenceIdeal.main_arg1))

def preserves_DAct_DActIdeal : Prop :=
  True

def algebraic_DActIdeal_DActReferenceIdeal [hDActIdeal : Cert.DActIdeal.Facts] [hDActReferenceIdeal : Cert.DActReferenceIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActReferenceIdeal.nD Cert.DActReferenceIdeal.τ Cert.DActReferenceIdeal.sig) → Buf (Elt Ideal) ℓ) (g' : Dev Cert.DActReferenceIdeal.nD → PrngReg), Pre_DActIdeal m →
    (∀ c : Dev Cert.DActIdeal.nD,
      m' ((c.tc : Thread Cert.DActReferenceIdeal.nD Cert.DActReferenceIdeal.τ).loc Cert.DActReferenceIdeal.main_arg0) = m ((c.tc : Thread Cert.DActIdeal.nD Cert.DActIdeal.τ).loc Cert.DActIdeal.main_arg0)
      ∧ m' ((c.tc : Thread Cert.DActReferenceIdeal.nD Cert.DActReferenceIdeal.τ).loc Cert.DActReferenceIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActReferenceIdeal.defs (F := Ideal)) (onTc (τ := Cert.DActReferenceIdeal.τ) (Cert.DActReferenceIdeal.main (F := Ideal))) ⟨m', fun _ => 0, g'⟩ (fun r => ∀ c : Dev Cert.DActReferenceIdeal.nD,
          r.2.mem ((c.tc : Thread Cert.DActReferenceIdeal.nD Cert.DActReferenceIdeal.τ).loc Cert.DActReferenceIdeal.main_v2) = v0 c
          ∧ r.2.mem ((c.tc : Thread Cert.DActReferenceIdeal.nD Cert.DActReferenceIdeal.τ).loc Cert.DActReferenceIdeal.main_arg0) = m' ((c.tc : Thread Cert.DActReferenceIdeal.nD Cert.DActReferenceIdeal.τ).loc Cert.DActReferenceIdeal.main_arg0)
          ∧ r.2.mem ((c.tc : Thread Cert.DActReferenceIdeal.nD Cert.DActReferenceIdeal.τ).loc Cert.DActReferenceIdeal.main_arg1) = m' ((c.tc : Thread Cert.DActReferenceIdeal.nD Cert.DActReferenceIdeal.τ).loc Cert.DActReferenceIdeal.main_arg1))

def preserves_DwDown_DwDownIdeal : Prop :=
  True

def algebraic_DwDownIdeal_DwDownReferenceIdeal [hDwDownIdeal : Cert.DwDownIdeal.Facts] [hDwDownReferenceIdeal : Cert.DwDownReferenceIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownIdeal m →
    (∀ c : Dev Cert.DwDownIdeal.nD,
      m' ((c.tc : Thread Cert.DwDownReferenceIdeal.nD Cert.DwDownReferenceIdeal.τ).loc Cert.DwDownReferenceIdeal.main_arg0) = m ((c.tc : Thread Cert.DwDownIdeal.nD Cert.DwDownIdeal.τ).loc Cert.DwDownIdeal.main_arg0)
      ∧ m' ((c.tc : Thread Cert.DwDownReferenceIdeal.nD Cert.DwDownReferenceIdeal.τ).loc Cert.DwDownReferenceIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v3) = v0 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v3) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1))

def preserves_DwGate_DwGateIdeal : Prop :=
  True

def algebraic_DwGateIdeal_DwGateReferenceIdeal [hDwGateIdeal : Cert.DwGateIdeal.Facts] [hDwGateReferenceIdeal : Cert.DwGateReferenceIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateReferenceIdeal.nD Cert.DwGateReferenceIdeal.τ Cert.DwGateReferenceIdeal.sig) → Buf (Elt Ideal) ℓ) (g' : Dev Cert.DwGateReferenceIdeal.nD → PrngReg), Pre_DwGateIdeal m →
    (∀ c : Dev Cert.DwGateIdeal.nD,
      m' ((c.tc : Thread Cert.DwGateReferenceIdeal.nD Cert.DwGateReferenceIdeal.τ).loc Cert.DwGateReferenceIdeal.main_arg0) = m ((c.tc : Thread Cert.DwGateIdeal.nD Cert.DwGateIdeal.τ).loc Cert.DwGateIdeal.main_arg0)
      ∧ m' ((c.tc : Thread Cert.DwGateReferenceIdeal.nD Cert.DwGateReferenceIdeal.τ).loc Cert.DwGateReferenceIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v0)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v0) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateReferenceIdeal.defs (F := Ideal)) (onTc (τ := Cert.DwGateReferenceIdeal.τ) (Cert.DwGateReferenceIdeal.main (F := Ideal))) ⟨m', fun _ => 0, g'⟩ (fun r => ∀ c : Dev Cert.DwGateReferenceIdeal.nD,
          r.2.mem ((c.tc : Thread Cert.DwGateReferenceIdeal.nD Cert.DwGateReferenceIdeal.τ).loc Cert.DwGateReferenceIdeal.main_v3) = v0 c
          ∧ r.2.mem ((c.tc : Thread Cert.DwGateReferenceIdeal.nD Cert.DwGateReferenceIdeal.τ).loc Cert.DwGateReferenceIdeal.main_arg0) = m' ((c.tc : Thread Cert.DwGateReferenceIdeal.nD Cert.DwGateReferenceIdeal.τ).loc Cert.DwGateReferenceIdeal.main_arg0)
          ∧ r.2.mem ((c.tc : Thread Cert.DwGateReferenceIdeal.nD Cert.DwGateReferenceIdeal.τ).loc Cert.DwGateReferenceIdeal.main_arg1) = m' ((c.tc : Thread Cert.DwGateReferenceIdeal.nD Cert.DwGateReferenceIdeal.τ).loc Cert.DwGateReferenceIdeal.main_arg1))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v3) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_DwProj_DwProjIdeal : Prop :=
  True

def algebraic_DwProjIdeal_DwProjReferenceIdeal [hDwProjIdeal : Cert.DwProjIdeal.Facts] [hDwProjReferenceIdeal : Cert.DwProjReferenceIdeal.Facts] : Prop :=
  ∀ (m : (ℓ : Loc Cert.DwProjIdeal.nD Cert.DwProjIdeal.τ Cert.DwProjIdeal.sig) → Buf (Elt Ideal) ℓ) (g : Dev Cert.DwProjIdeal.nD → PrngReg)
    (m' : (ℓ : Loc Cert.DwProjReferenceIdeal.nD Cert.DwProjReferenceIdeal.τ Cert.DwProjReferenceIdeal.sig) → Buf (Elt Ideal) ℓ) (g' : Dev Cert.DwProjReferenceIdeal.nD → PrngReg), Pre_DwProjIdeal m →
    (∀ c : Dev Cert.DwProjIdeal.nD,
      m' ((c.tc : Thread Cert.DwProjReferenceIdeal.nD Cert.DwProjReferenceIdeal.τ).loc Cert.DwProjReferenceIdeal.main_arg0) = m ((c.tc : Thread Cert.DwProjIdeal.nD Cert.DwProjIdeal.τ).loc Cert.DwProjIdeal.main_arg0)
      ∧ m' ((c.tc : Thread Cert.DwProjReferenceIdeal.nD Cert.DwProjReferenceIdeal.τ).loc Cert.DwProjReferenceIdeal.main_arg1) = m ((c.tc : Thread Cert.DwProjIdeal.nD Cert.DwProjIdeal.τ).loc Cert.DwProjIdeal.main_arg1)) →
    ∃ (v0 : (c : Dev Cert.DwProjIdeal.nD) → Buf (Elt Ideal) ((c.tc : Thread Cert.DwProjIdeal.nD Cert.DwProjIdeal.τ).loc Cert.DwProjIdeal.main_v0)),
      θ_run (Cert.DwProjIdeal.defs (F := Ideal)) (onTc (τ := Cert.DwProjIdeal.τ) (Cert.DwProjIdeal.main (F := Ideal))) ⟨m, fun _ => 0, g⟩ (fun r => ∀ c : Dev Cert.DwProjIdeal.nD,
          r.2.mem ((c.tc : Thread Cert.DwProjIdeal.nD Cert.DwProjIdeal.τ).loc Cert.DwProjIdeal.main_v0) = v0 c
          ∧ r.2.mem ((c.tc : Thread Cert.DwProjIdeal.nD Cert.DwProjIdeal.τ).loc Cert.DwProjIdeal.main_arg0) = m ((c.tc : Thread Cert.DwProjIdeal.nD Cert.DwProjIdeal.τ).loc Cert.DwProjIdeal.main_arg0)
          ∧ r.2.mem ((c.tc : Thread Cert.DwProjIdeal.nD Cert.DwProjIdeal.τ).loc Cert.DwProjIdeal.main_arg1) = m ((c.tc : Thread Cert.DwProjIdeal.nD Cert.DwProjIdeal.τ).loc Cert.DwProjIdeal.main_arg1))
      ∧ θ_run (Cert.DwProjReferenceIdeal.defs (F := Ideal)) (onTc (τ := Cert.DwProjReferenceIdeal.τ) (Cert.DwProjReferenceIdeal.main (F := Ideal))) ⟨m', fun _ => 0, g'⟩ (fun r => ∀ c : Dev Cert.DwProjReferenceIdeal.nD,
          r.2.mem ((c.tc : Thread Cert.DwProjReferenceIdeal.nD Cert.DwProjReferenceIdeal.τ).loc Cert.DwProjReferenceIdeal.main_v2) = v0 c
          ∧ r.2.mem ((c.tc : Thread Cert.DwProjReferenceIdeal.nD Cert.DwProjReferenceIdeal.τ).loc Cert.DwProjReferenceIdeal.main_arg0) = m' ((c.tc : Thread Cert.DwProjReferenceIdeal.nD Cert.DwProjReferenceIdeal.τ).loc Cert.DwProjReferenceIdeal.main_arg0)
          ∧ r.2.mem ((c.tc : Thread Cert.DwProjReferenceIdeal.nD Cert.DwProjReferenceIdeal.τ).loc Cert.DwProjReferenceIdeal.main_arg1) = m' ((c.tc : Thread Cert.DwProjReferenceIdeal.nD Cert.DwProjReferenceIdeal.τ).loc Cert.DwProjReferenceIdeal.main_arg1))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v11) = v0 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v2) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_MixLn_MixLnIdeal : Prop :=
  True

def algebraic_MixLnIdeal_MixLnReferenceIdeal [hMixLnIdeal : Cert.MixLnIdeal.Facts] [hMixLnReferenceIdeal : Cert.MixLnReferenceIdeal.Facts] : Prop :=
  ∀ (m : (ℓ : Loc Cert.MixLnIdeal.nD Cert.MixLnIdeal.τ Cert.MixLnIdeal.sig) → Buf (Elt Ideal) ℓ) (g : Dev Cert.MixLnIdeal.nD → PrngReg)
    (m' : (ℓ : Loc Cert.MixLnReferenceIdeal.nD Cert.MixLnReferenceIdeal.τ Cert.MixLnReferenceIdeal.sig) → Buf (Elt Ideal) ℓ) (g' : Dev Cert.MixLnReferenceIdeal.nD → PrngReg), Pre_MixLnIdeal m →
    (∀ c : Dev Cert.MixLnIdeal.nD,
      m' ((c.tc : Thread Cert.MixLnReferenceIdeal.nD Cert.MixLnReferenceIdeal.τ).loc Cert.MixLnReferenceIdeal.main_arg0) = m ((c.tc : Thread Cert.MixLnIdeal.nD Cert.MixLnIdeal.τ).loc Cert.MixLnIdeal.main_arg0)
      ∧ m' ((c.tc : Thread Cert.MixLnReferenceIdeal.nD Cert.MixLnReferenceIdeal.τ).loc Cert.MixLnReferenceIdeal.main_arg1) = m ((c.tc : Thread Cert.MixLnIdeal.nD Cert.MixLnIdeal.τ).loc Cert.MixLnIdeal.main_arg1)
      ∧ m' ((c.tc : Thread Cert.MixLnReferenceIdeal.nD Cert.MixLnReferenceIdeal.τ).loc Cert.MixLnReferenceIdeal.main_arg2) = m ((c.tc : Thread Cert.MixLnIdeal.nD Cert.MixLnIdeal.τ).loc Cert.MixLnIdeal.main_arg2)
      ∧ m' ((c.tc : Thread Cert.MixLnReferenceIdeal.nD Cert.MixLnReferenceIdeal.τ).loc Cert.MixLnReferenceIdeal.main_arg3) = m ((c.tc : Thread Cert.MixLnIdeal.nD Cert.MixLnIdeal.τ).loc Cert.MixLnIdeal.main_arg3)
      ∧ m' ((c.tc : Thread Cert.MixLnReferenceIdeal.nD Cert.MixLnReferenceIdeal.τ).loc Cert.MixLnReferenceIdeal.main_arg4) = m ((c.tc : Thread Cert.MixLnIdeal.nD Cert.MixLnIdeal.τ).loc Cert.MixLnIdeal.main_arg4)) →
    ∃ (v0 : (c : Dev Cert.MixLnIdeal.nD) → Buf (Elt Ideal) ((c.tc : Thread Cert.MixLnIdeal.nD Cert.MixLnIdeal.τ).loc Cert.MixLnIdeal.main_v0_0)) (v1 : (c : Dev Cert.MixLnIdeal.nD) → Buf (Elt Ideal) ((c.tc : Thread Cert.MixLnIdeal.nD Cert.MixLnIdeal.τ).loc Cert.MixLnIdeal.main_v0_1)) (v2 : (c : Dev Cert.MixLnIdeal.nD) → Buf (Elt Ideal) ((c.tc : Thread Cert.MixLnIdeal.nD Cert.MixLnIdeal.τ).loc Cert.MixLnIdeal.main_v0_2)),
      θ_run (Cert.MixLnIdeal.defs (F := Ideal)) (onTc (τ := Cert.MixLnIdeal.τ) (Cert.MixLnIdeal.main (F := Ideal))) ⟨m, fun _ => 0, g⟩ (fun r => ∀ c : Dev Cert.MixLnIdeal.nD,
          r.2.mem ((c.tc : Thread Cert.MixLnIdeal.nD Cert.MixLnIdeal.τ).loc Cert.MixLnIdeal.main_v0_0) = v0 c
          ∧ r.2.mem ((c.tc : Thread Cert.MixLnIdeal.nD Cert.MixLnIdeal.τ).loc Cert.MixLnIdeal.main_v0_1) = v1 c
          ∧ r.2.mem ((c.tc : Thread Cert.MixLnIdeal.nD Cert.MixLnIdeal.τ).loc Cert.MixLnIdeal.main_v0_2) = v2 c
          ∧ r.2.mem ((c.tc : Thread Cert.MixLnIdeal.nD Cert.MixLnIdeal.τ).loc Cert.MixLnIdeal.main_arg0) = m ((c.tc : Thread Cert.MixLnIdeal.nD Cert.MixLnIdeal.τ).loc Cert.MixLnIdeal.main_arg0)
          ∧ r.2.mem ((c.tc : Thread Cert.MixLnIdeal.nD Cert.MixLnIdeal.τ).loc Cert.MixLnIdeal.main_arg1) = m ((c.tc : Thread Cert.MixLnIdeal.nD Cert.MixLnIdeal.τ).loc Cert.MixLnIdeal.main_arg1)
          ∧ r.2.mem ((c.tc : Thread Cert.MixLnIdeal.nD Cert.MixLnIdeal.τ).loc Cert.MixLnIdeal.main_arg2) = m ((c.tc : Thread Cert.MixLnIdeal.nD Cert.MixLnIdeal.τ).loc Cert.MixLnIdeal.main_arg2)
          ∧ r.2.mem ((c.tc : Thread Cert.MixLnIdeal.nD Cert.MixLnIdeal.τ).loc Cert.MixLnIdeal.main_arg3) = m ((c.tc : Thread Cert.MixLnIdeal.nD Cert.MixLnIdeal.τ).loc Cert.MixLnIdeal.main_arg3)
          ∧ r.2.mem ((c.tc : Thread Cert.MixLnIdeal.nD Cert.MixLnIdeal.τ).loc Cert.MixLnIdeal.main_arg4) = m ((c.tc : Thread Cert.MixLnIdeal.nD Cert.MixLnIdeal.τ).loc Cert.MixLnIdeal.main_arg4))
      ∧ θ_run (Cert.MixLnReferenceIdeal.defs (F := Ideal)) (onTc (τ := Cert.MixLnReferenceIdeal.τ) (Cert.MixLnReferenceIdeal.main (F := Ideal))) ⟨m', fun _ => 0, g'⟩ (fun r => ∀ c : Dev Cert.MixLnReferenceIdeal.nD,
          r.2.mem ((c.tc : Thread Cert.MixLnReferenceIdeal.nD Cert.MixLnReferenceIdeal.τ).loc Cert.MixLnReferenceIdeal.main_v5) = v0 c
          ∧ r.2.mem ((c.tc : Thread Cert.MixLnReferenceIdeal.nD Cert.MixLnReferenceIdeal.τ).loc Cert.MixLnReferenceIdeal.main_v29) = v1 c
          ∧ r.2.mem ((c.tc : Thread Cert.MixLnReferenceIdeal.nD Cert.MixLnReferenceIdeal.τ).loc Cert.MixLnReferenceIdeal.main_v30) = v2 c
          ∧ r.2.mem ((c.tc : Thread Cert.MixLnReferenceIdeal.nD Cert.MixLnReferenceIdeal.τ).loc Cert.MixLnReferenceIdeal.main_arg0) = m' ((c.tc : Thread Cert.MixLnReferenceIdeal.nD Cert.MixLnReferenceIdeal.τ).loc Cert.MixLnReferenceIdeal.main_arg0)
          ∧ r.2.mem ((c.tc : Thread Cert.MixLnReferenceIdeal.nD Cert.MixLnReferenceIdeal.τ).loc Cert.MixLnReferenceIdeal.main_arg1) = m' ((c.tc : Thread Cert.MixLnReferenceIdeal.nD Cert.MixLnReferenceIdeal.τ).loc Cert.MixLnReferenceIdeal.main_arg1)
          ∧ r.2.mem ((c.tc : Thread Cert.MixLnReferenceIdeal.nD Cert.MixLnReferenceIdeal.τ).loc Cert.MixLnReferenceIdeal.main_arg2) = m' ((c.tc : Thread Cert.MixLnReferenceIdeal.nD Cert.MixLnReferenceIdeal.τ).loc Cert.MixLnReferenceIdeal.main_arg2)
          ∧ r.2.mem ((c.tc : Thread Cert.MixLnReferenceIdeal.nD Cert.MixLnReferenceIdeal.τ).loc Cert.MixLnReferenceIdeal.main_arg3) = m' ((c.tc : Thread Cert.MixLnReferenceIdeal.nD Cert.MixLnReferenceIdeal.τ).loc Cert.MixLnReferenceIdeal.main_arg3)
          ∧ r.2.mem ((c.tc : Thread Cert.MixLnReferenceIdeal.nD Cert.MixLnReferenceIdeal.τ).loc Cert.MixLnReferenceIdeal.main_arg4) = m' ((c.tc : Thread Cert.MixLnReferenceIdeal.nD Cert.MixLnReferenceIdeal.τ).loc Cert.MixLnReferenceIdeal.main_arg4))

def preserves_LnBwd_LnBwdIdeal : Prop :=
  True

def algebraic_LnBwdIdeal_LnBwdReferenceIdeal [hLnBwdIdeal : Cert.LnBwdIdeal.Facts] [hLnBwdReferenceIdeal : Cert.LnBwdReferenceIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdReferenceIdeal.nD Cert.LnBwdReferenceIdeal.τ Cert.LnBwdReferenceIdeal.sig) → Buf (Elt Ideal) ℓ) (g' : Dev Cert.LnBwdReferenceIdeal.nD → PrngReg), Pre_LnBwdIdeal m →
    (∀ c : Dev Cert.LnBwdIdeal.nD,
      m' ((c.tc : Thread Cert.LnBwdReferenceIdeal.nD Cert.LnBwdReferenceIdeal.τ).loc Cert.LnBwdReferenceIdeal.main_arg0) = m ((c.tc : Thread Cert.LnBwdIdeal.nD Cert.LnBwdIdeal.τ).loc Cert.LnBwdIdeal.main_arg0)
      ∧ m' ((c.tc : Thread Cert.LnBwdReferenceIdeal.nD Cert.LnBwdReferenceIdeal.τ).loc Cert.LnBwdReferenceIdeal.main_arg1) = m ((c.tc : Thread Cert.LnBwdIdeal.nD Cert.LnBwdIdeal.τ).loc Cert.LnBwdIdeal.main_arg1)
      ∧ m' ((c.tc : Thread Cert.LnBwdReferenceIdeal.nD Cert.LnBwdReferenceIdeal.τ).loc Cert.LnBwdReferenceIdeal.main_arg2) = m ((c.tc : Thread Cert.LnBwdIdeal.nD Cert.LnBwdIdeal.τ).loc Cert.LnBwdIdeal.main_arg2)
      ∧ m' ((c.tc : Thread Cert.LnBwdReferenceIdeal.nD Cert.LnBwdReferenceIdeal.τ).loc Cert.LnBwdReferenceIdeal.main_arg3) = m ((c.tc : Thread Cert.LnBwdIdeal.nD Cert.LnBwdIdeal.τ).loc Cert.LnBwdIdeal.main_arg3)
      ∧ m' ((c.tc : Thread Cert.LnBwdReferenceIdeal.nD Cert.LnBwdReferenceIdeal.τ).loc Cert.LnBwdReferenceIdeal.main_arg4) = m ((c.tc : Thread Cert.LnBwdIdeal.nD Cert.LnBwdIdeal.τ).loc Cert.LnBwdIdeal.main_arg4)
      ∧ m' ((c.tc : Thread Cert.LnBwdReferenceIdeal.nD Cert.LnBwdReferenceIdeal.τ).loc Cert.LnBwdReferenceIdeal.main_arg5) = m ((c.tc : Thread Cert.LnBwdIdeal.nD Cert.LnBwdIdeal.τ).loc Cert.LnBwdIdeal.main_arg5)
      ∧ m' ((c.tc : Thread Cert.LnBwdReferenceIdeal.nD Cert.LnBwdReferenceIdeal.τ).loc Cert.LnBwdReferenceIdeal.main_arg6) = m ((c.tc : Thread Cert.LnBwdIdeal.nD Cert.LnBwdIdeal.τ).loc Cert.LnBwdIdeal.main_arg6)
      ∧ m' ((c.tc : Thread Cert.LnBwdReferenceIdeal.nD Cert.LnBwdReferenceIdeal.τ).loc Cert.LnBwdReferenceIdeal.main_arg7) = m ((c.tc : Thread Cert.LnBwdIdeal.nD Cert.LnBwdIdeal.τ).loc Cert.LnBwdIdeal.main_arg7)) →
    ∃ (v0 : (c : Dev Cert.LnBwdIdeal.nD) → Buf (Elt Ideal) ((c.tc : Thread Cert.LnBwdIdeal.nD Cert.LnBwdIdeal.τ).loc Cert.LnBwdIdeal.main_v0_0)) (v1 : (c : Dev Cert.LnBwdIdeal.nD) → Buf (Elt Ideal) ((c.tc : Thread Cert.LnBwdIdeal.nD Cert.LnBwdIdeal.τ).loc Cert.LnBwdIdeal.main_v0_1)) (v2 : (c : Dev Cert.LnBwdIdeal.nD) → Buf (Elt Ideal) ((c.tc : Thread Cert.LnBwdIdeal.nD Cert.LnBwdIdeal.τ).loc Cert.LnBwdIdeal.main_v0_2)) (v3 : (c : Dev Cert.LnBwdIdeal.nD) → Buf (Elt Ideal) ((c.tc : Thread Cert.LnBwdIdeal.nD Cert.LnBwdIdeal.τ).loc Cert.LnBwdIdeal.main_v0_3)) (v4 : (c : Dev Cert.LnBwdIdeal.nD) → Buf (Elt Ideal) ((c.tc : Thread Cert.LnBwdIdeal.nD Cert.LnBwdIdeal.τ).loc Cert.LnBwdIdeal.main_v0_4)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v0_0) = v0 c
          ∧ r.2.mem ((c.tc : Thread Cert.LnBwdIdeal.nD Cert.LnBwdIdeal.τ).loc Cert.LnBwdIdeal.main_v0_1) = v1 c
          ∧ r.2.mem ((c.tc : Thread Cert.LnBwdIdeal.nD Cert.LnBwdIdeal.τ).loc Cert.LnBwdIdeal.main_v0_2) = v2 c
          ∧ r.2.mem ((c.tc : Thread Cert.LnBwdIdeal.nD Cert.LnBwdIdeal.τ).loc Cert.LnBwdIdeal.main_v0_3) = v3 c
          ∧ r.2.mem ((c.tc : Thread Cert.LnBwdIdeal.nD Cert.LnBwdIdeal.τ).loc Cert.LnBwdIdeal.main_v0_4) = v4 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
          ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
          ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5)
          ∧ r.2.mem ((c.tc : Thread Cert.LnBwdIdeal.nD Cert.LnBwdIdeal.τ).loc Cert.LnBwdIdeal.main_arg6) = m ((c.tc : Thread Cert.LnBwdIdeal.nD Cert.LnBwdIdeal.τ).loc Cert.LnBwdIdeal.main_arg6)
          ∧ r.2.mem ((c.tc : Thread Cert.LnBwdIdeal.nD Cert.LnBwdIdeal.τ).loc Cert.LnBwdIdeal.main_arg7) = m ((c.tc : Thread Cert.LnBwdIdeal.nD Cert.LnBwdIdeal.τ).loc Cert.LnBwdIdeal.main_arg7))
      ∧ θ_run (Cert.LnBwdReferenceIdeal.defs (F := Ideal)) (onTc (τ := Cert.LnBwdReferenceIdeal.τ) (Cert.LnBwdReferenceIdeal.main (F := Ideal))) ⟨m', fun _ => 0, g'⟩ (fun r => ∀ c : Dev Cert.LnBwdReferenceIdeal.nD,
          r.2.mem ((c.tc : Thread Cert.LnBwdReferenceIdeal.nD Cert.LnBwdReferenceIdeal.τ).loc Cert.LnBwdReferenceIdeal.main_v68) = v0 c
          ∧ r.2.mem ((c.tc : Thread Cert.LnBwdReferenceIdeal.nD Cert.LnBwdReferenceIdeal.τ).loc Cert.LnBwdReferenceIdeal.main_v71) = v1 c
          ∧ r.2.mem ((c.tc : Thread Cert.LnBwdReferenceIdeal.nD Cert.LnBwdReferenceIdeal.τ).loc Cert.LnBwdReferenceIdeal.main_v70) = v2 c
          ∧ r.2.mem ((c.tc : Thread Cert.LnBwdReferenceIdeal.nD Cert.LnBwdReferenceIdeal.τ).loc Cert.LnBwdReferenceIdeal.main_v72) = v3 c
          ∧ r.2.mem ((c.tc : Thread Cert.LnBwdReferenceIdeal.nD Cert.LnBwdReferenceIdeal.τ).loc Cert.LnBwdReferenceIdeal.main_v73) = v4 c
          ∧ r.2.mem ((c.tc : Thread Cert.LnBwdReferenceIdeal.nD Cert.LnBwdReferenceIdeal.τ).loc Cert.LnBwdReferenceIdeal.main_arg0) = m' ((c.tc : Thread Cert.LnBwdReferenceIdeal.nD Cert.LnBwdReferenceIdeal.τ).loc Cert.LnBwdReferenceIdeal.main_arg0)
          ∧ r.2.mem ((c.tc : Thread Cert.LnBwdReferenceIdeal.nD Cert.LnBwdReferenceIdeal.τ).loc Cert.LnBwdReferenceIdeal.main_arg1) = m' ((c.tc : Thread Cert.LnBwdReferenceIdeal.nD Cert.LnBwdReferenceIdeal.τ).loc Cert.LnBwdReferenceIdeal.main_arg1)
          ∧ r.2.mem ((c.tc : Thread Cert.LnBwdReferenceIdeal.nD Cert.LnBwdReferenceIdeal.τ).loc Cert.LnBwdReferenceIdeal.main_arg2) = m' ((c.tc : Thread Cert.LnBwdReferenceIdeal.nD Cert.LnBwdReferenceIdeal.τ).loc Cert.LnBwdReferenceIdeal.main_arg2)
          ∧ r.2.mem ((c.tc : Thread Cert.LnBwdReferenceIdeal.nD Cert.LnBwdReferenceIdeal.τ).loc Cert.LnBwdReferenceIdeal.main_arg3) = m' ((c.tc : Thread Cert.LnBwdReferenceIdeal.nD Cert.LnBwdReferenceIdeal.τ).loc Cert.LnBwdReferenceIdeal.main_arg3)
          ∧ r.2.mem ((c.tc : Thread Cert.LnBwdReferenceIdeal.nD Cert.LnBwdReferenceIdeal.τ).loc Cert.LnBwdReferenceIdeal.main_arg4) = m' ((c.tc : Thread Cert.LnBwdReferenceIdeal.nD Cert.LnBwdReferenceIdeal.τ).loc Cert.LnBwdReferenceIdeal.main_arg4)
          ∧ r.2.mem ((c.tc : Thread Cert.LnBwdReferenceIdeal.nD Cert.LnBwdReferenceIdeal.τ).loc Cert.LnBwdReferenceIdeal.main_arg5) = m' ((c.tc : Thread Cert.LnBwdReferenceIdeal.nD Cert.LnBwdReferenceIdeal.τ).loc Cert.LnBwdReferenceIdeal.main_arg5)
          ∧ r.2.mem ((c.tc : Thread Cert.LnBwdReferenceIdeal.nD Cert.LnBwdReferenceIdeal.τ).loc Cert.LnBwdReferenceIdeal.main_arg6) = m' ((c.tc : Thread Cert.LnBwdReferenceIdeal.nD Cert.LnBwdReferenceIdeal.τ).loc Cert.LnBwdReferenceIdeal.main_arg6)
          ∧ r.2.mem ((c.tc : Thread Cert.LnBwdReferenceIdeal.nD Cert.LnBwdReferenceIdeal.τ).loc Cert.LnBwdReferenceIdeal.main_arg7) = m' ((c.tc : Thread Cert.LnBwdReferenceIdeal.nD Cert.LnBwdReferenceIdeal.τ).loc Cert.LnBwdReferenceIdeal.main_arg7))

def preserves_Head_HeadIdeal : Prop :=
  True

def algebraic_HeadIdeal_HeadReferenceIdeal [hHeadIdeal : Cert.HeadIdeal.Facts] [hHeadReferenceIdeal : Cert.HeadReferenceIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadIdeal m →
    (∀ c : Dev Cert.HeadIdeal.nD,
      m' ((c.tc : Thread Cert.HeadReferenceIdeal.nD Cert.HeadReferenceIdeal.τ).loc Cert.HeadReferenceIdeal.main_arg0) = m ((c.tc : Thread Cert.HeadIdeal.nD Cert.HeadIdeal.τ).loc Cert.HeadIdeal.main_arg0)
      ∧ m' ((c.tc : Thread Cert.HeadReferenceIdeal.nD Cert.HeadReferenceIdeal.τ).loc Cert.HeadReferenceIdeal.main_arg1) = m ((c.tc : Thread Cert.HeadIdeal.nD Cert.HeadIdeal.τ).loc Cert.HeadIdeal.main_arg1)
      ∧ m' ((c.tc : Thread Cert.HeadReferenceIdeal.nD Cert.HeadReferenceIdeal.τ).loc Cert.HeadReferenceIdeal.main_arg2) = m ((c.tc : Thread Cert.HeadIdeal.nD Cert.HeadIdeal.τ).loc Cert.HeadIdeal.main_arg2)
      ∧ m' ((c.tc : Thread Cert.HeadReferenceIdeal.nD Cert.HeadReferenceIdeal.τ).loc Cert.HeadReferenceIdeal.main_arg3) = m ((c.tc : Thread Cert.HeadIdeal.nD Cert.HeadIdeal.τ).loc Cert.HeadIdeal.main_arg3)
      ∧ m' ((c.tc : Thread Cert.HeadReferenceIdeal.nD Cert.HeadReferenceIdeal.τ).loc Cert.HeadReferenceIdeal.main_arg4) = m ((c.tc : Thread Cert.HeadIdeal.nD Cert.HeadIdeal.τ).loc Cert.HeadIdeal.main_arg4)
      ∧ m' ((c.tc : Thread Cert.HeadReferenceIdeal.nD Cert.HeadReferenceIdeal.τ).loc Cert.HeadReferenceIdeal.main_arg5) = m ((c.tc : Thread Cert.HeadIdeal.nD Cert.HeadIdeal.τ).loc Cert.HeadIdeal.main_arg5)
      ∧ m' ((c.tc : Thread Cert.HeadReferenceIdeal.nD Cert.HeadReferenceIdeal.τ).loc Cert.HeadReferenceIdeal.main_arg6) = m ((c.tc : Thread Cert.HeadIdeal.nD Cert.HeadIdeal.τ).loc Cert.HeadIdeal.main_arg6)
      ∧ m' ((c.tc : Thread Cert.HeadReferenceIdeal.nD Cert.HeadReferenceIdeal.τ).loc Cert.HeadReferenceIdeal.main_arg7) = m ((c.tc : Thread Cert.HeadIdeal.nD Cert.HeadIdeal.τ).loc Cert.HeadIdeal.main_arg7)
      ∧ m' ((c.tc : Thread Cert.HeadReferenceIdeal.nD Cert.HeadReferenceIdeal.τ).loc Cert.HeadReferenceIdeal.main_arg8) = m ((c.tc : Thread Cert.HeadIdeal.nD Cert.HeadIdeal.τ).loc Cert.HeadIdeal.main_arg8)
      ∧ m' ((c.tc : Thread Cert.HeadReferenceIdeal.nD Cert.HeadReferenceIdeal.τ).loc Cert.HeadReferenceIdeal.main_arg9) = m ((c.tc : Thread Cert.HeadIdeal.nD Cert.HeadIdeal.τ).loc Cert.HeadIdeal.main_arg9)
      ∧ m' ((c.tc : Thread Cert.HeadReferenceIdeal.nD Cert.HeadReferenceIdeal.τ).loc Cert.HeadReferenceIdeal.main_arg10) = m ((c.tc : Thread Cert.HeadIdeal.nD Cert.HeadIdeal.τ).loc Cert.HeadIdeal.main_arg10)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)) (v2 : (c : Dev Cert.HeadIdeal.nD) → Buf (Elt Ideal) ((c.tc : Thread Cert.HeadIdeal.nD Cert.HeadIdeal.τ).loc Cert.HeadIdeal.main_v0_2)) (v3 : (c : Dev Cert.HeadIdeal.nD) → Buf (Elt Ideal) ((c.tc : Thread Cert.HeadIdeal.nD Cert.HeadIdeal.τ).loc Cert.HeadIdeal.main_v0_3)) (v4 : (c : Dev Cert.HeadIdeal.nD) → Buf (Elt Ideal) ((c.tc : Thread Cert.HeadIdeal.nD Cert.HeadIdeal.τ).loc Cert.HeadIdeal.main_v0_4)) (v5 : (c : Dev Cert.HeadIdeal.nD) → Buf (Elt Ideal) ((c.tc : Thread Cert.HeadIdeal.nD Cert.HeadIdeal.τ).loc Cert.HeadIdeal.main_v0_5)) (v6 : (c : Dev Cert.HeadIdeal.nD) → Buf (Elt Ideal) ((c.tc : Thread Cert.HeadIdeal.nD Cert.HeadIdeal.τ).loc Cert.HeadIdeal.main_v0_6)) (v7 : (c : Dev Cert.HeadIdeal.nD) → Buf (Elt Ideal) ((c.tc : Thread Cert.HeadIdeal.nD Cert.HeadIdeal.τ).loc Cert.HeadIdeal.main_v0_7)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_v0_2) = v2 c
          ∧ r.2.mem ((c.tc : Thread Cert.HeadIdeal.nD Cert.HeadIdeal.τ).loc Cert.HeadIdeal.main_v0_3) = v3 c
          ∧ r.2.mem ((c.tc : Thread Cert.HeadIdeal.nD Cert.HeadIdeal.τ).loc Cert.HeadIdeal.main_v0_4) = v4 c
          ∧ r.2.mem ((c.tc : Thread Cert.HeadIdeal.nD Cert.HeadIdeal.τ).loc Cert.HeadIdeal.main_v0_5) = v5 c
          ∧ r.2.mem ((c.tc : Thread Cert.HeadIdeal.nD Cert.HeadIdeal.τ).loc Cert.HeadIdeal.main_v0_6) = v6 c
          ∧ r.2.mem ((c.tc : Thread Cert.HeadIdeal.nD Cert.HeadIdeal.τ).loc Cert.HeadIdeal.main_v0_7) = v7 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
          ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
          ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v98) = v0 c
          ∧ r.2.mem ((c.tc : Thread Cert.HeadReferenceIdeal.nD Cert.HeadReferenceIdeal.τ).loc Cert.HeadReferenceIdeal.main_v105) = v1 c
          ∧ r.2.mem ((c.tc : Thread Cert.HeadReferenceIdeal.nD Cert.HeadReferenceIdeal.τ).loc Cert.HeadReferenceIdeal.main_v106) = v2 c
          ∧ r.2.mem ((c.tc : Thread Cert.HeadReferenceIdeal.nD Cert.HeadReferenceIdeal.τ).loc Cert.HeadReferenceIdeal.main_v107) = v3 c
          ∧ r.2.mem ((c.tc : Thread Cert.HeadReferenceIdeal.nD Cert.HeadReferenceIdeal.τ).loc Cert.HeadReferenceIdeal.main_v108) = v4 c
          ∧ r.2.mem ((c.tc : Thread Cert.HeadReferenceIdeal.nD Cert.HeadReferenceIdeal.τ).loc Cert.HeadReferenceIdeal.main_v109) = v5 c
          ∧ r.2.mem ((c.tc : Thread Cert.HeadReferenceIdeal.nD Cert.HeadReferenceIdeal.τ).loc Cert.HeadReferenceIdeal.main_v110) = v6 c
          ∧ r.2.mem ((c.tc : Thread Cert.HeadReferenceIdeal.nD Cert.HeadReferenceIdeal.τ).loc Cert.HeadReferenceIdeal.main_v111) = v7 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2)
          ∧ r.2.mem ((c.tc : Thread Cert.HeadReferenceIdeal.nD Cert.HeadReferenceIdeal.τ).loc Cert.HeadReferenceIdeal.main_arg3) = m' ((c.tc : Thread Cert.HeadReferenceIdeal.nD Cert.HeadReferenceIdeal.τ).loc Cert.HeadReferenceIdeal.main_arg3)
          ∧ r.2.mem ((c.tc : Thread Cert.HeadReferenceIdeal.nD Cert.HeadReferenceIdeal.τ).loc Cert.HeadReferenceIdeal.main_arg4) = m' ((c.tc : Thread Cert.HeadReferenceIdeal.nD Cert.HeadReferenceIdeal.τ).loc Cert.HeadReferenceIdeal.main_arg4)
          ∧ r.2.mem ((c.tc : Thread Cert.HeadReferenceIdeal.nD Cert.HeadReferenceIdeal.τ).loc Cert.HeadReferenceIdeal.main_arg5) = m' ((c.tc : Thread Cert.HeadReferenceIdeal.nD Cert.HeadReferenceIdeal.τ).loc Cert.HeadReferenceIdeal.main_arg5)
          ∧ r.2.mem ((c.tc : Thread Cert.HeadReferenceIdeal.nD Cert.HeadReferenceIdeal.τ).loc Cert.HeadReferenceIdeal.main_arg6) = m' ((c.tc : Thread Cert.HeadReferenceIdeal.nD Cert.HeadReferenceIdeal.τ).loc Cert.HeadReferenceIdeal.main_arg6)
          ∧ r.2.mem ((c.tc : Thread Cert.HeadReferenceIdeal.nD Cert.HeadReferenceIdeal.τ).loc Cert.HeadReferenceIdeal.main_arg7) = m' ((c.tc : Thread Cert.HeadReferenceIdeal.nD Cert.HeadReferenceIdeal.τ).loc Cert.HeadReferenceIdeal.main_arg7)
          ∧ r.2.mem ((c.tc : Thread Cert.HeadReferenceIdeal.nD Cert.HeadReferenceIdeal.τ).loc Cert.HeadReferenceIdeal.main_arg8) = m' ((c.tc : Thread Cert.HeadReferenceIdeal.nD Cert.HeadReferenceIdeal.τ).loc Cert.HeadReferenceIdeal.main_arg8)
          ∧ r.2.mem ((c.tc : Thread Cert.HeadReferenceIdeal.nD Cert.HeadReferenceIdeal.τ).loc Cert.HeadReferenceIdeal.main_arg9) = m' ((c.tc : Thread Cert.HeadReferenceIdeal.nD Cert.HeadReferenceIdeal.τ).loc Cert.HeadReferenceIdeal.main_arg9)
          ∧ r.2.mem ((c.tc : Thread Cert.HeadReferenceIdeal.nD Cert.HeadReferenceIdeal.τ).loc Cert.HeadReferenceIdeal.main_arg10) = m' ((c.tc : Thread Cert.HeadReferenceIdeal.nD Cert.HeadReferenceIdeal.τ).loc Cert.HeadReferenceIdeal.main_arg10))

def preserves_AttnFwd_AttnFwdIdeal : Prop :=
  IdealRules.named_const.Statement Cert.AttnFwdIdeal.κ "mask" .f32 0xF149F2CA#32 ⊥

def algebraic_AttnFwdIdeal_AttnFwdReferenceIdeal_pre_finite_fwd [hAttnFwdIdeal : Cert.AttnFwdIdeal.Facts] [hAttnFwdReferenceIdeal : Cert.AttnFwdReferenceIdeal.Facts] [hPre_finite_fwd : Cert.Pre_finite_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdReferenceIdeal.nD Cert.AttnFwdReferenceIdeal.τ Cert.AttnFwdReferenceIdeal.sig) → Buf (Elt Ideal) ℓ) (g' : Dev Cert.AttnFwdReferenceIdeal.nD → PrngReg), Pre_AttnFwdIdeal_finite_fwd m →
    (∀ c : Dev Cert.AttnFwdIdeal.nD,
      m' ((c.tc : Thread Cert.AttnFwdReferenceIdeal.nD Cert.AttnFwdReferenceIdeal.τ).loc Cert.AttnFwdReferenceIdeal.main_arg0) = m ((c.tc : Thread Cert.AttnFwdIdeal.nD Cert.AttnFwdIdeal.τ).loc Cert.AttnFwdIdeal.main_arg0)
      ∧ m' ((c.tc : Thread Cert.AttnFwdReferenceIdeal.nD Cert.AttnFwdReferenceIdeal.τ).loc Cert.AttnFwdReferenceIdeal.main_arg1) = m ((c.tc : Thread Cert.AttnFwdIdeal.nD Cert.AttnFwdIdeal.τ).loc Cert.AttnFwdIdeal.main_arg1)
      ∧ m' ((c.tc : Thread Cert.AttnFwdReferenceIdeal.nD Cert.AttnFwdReferenceIdeal.τ).loc Cert.AttnFwdReferenceIdeal.main_arg2) = m ((c.tc : Thread Cert.AttnFwdIdeal.nD Cert.AttnFwdIdeal.τ).loc Cert.AttnFwdIdeal.main_arg2)
      ∧ m' ((c.tc : Thread Cert.AttnFwdReferenceIdeal.nD Cert.AttnFwdReferenceIdeal.τ).loc Cert.AttnFwdReferenceIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v0_0)) (v1 : (c : Dev Cert.AttnFwdIdeal.nD) → Buf (Elt Ideal) ((c.tc : Thread Cert.AttnFwdIdeal.nD Cert.AttnFwdIdeal.τ).loc Cert.AttnFwdIdeal.main_v0_1)) (v2 : (c : Dev Cert.AttnFwdIdeal.nD) → Buf (Elt Ideal) ((c.tc : Thread Cert.AttnFwdIdeal.nD Cert.AttnFwdIdeal.τ).loc Cert.AttnFwdIdeal.main_v0_2)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0_0) = v0 c
          ∧ r.2.mem ((c.tc : Thread Cert.AttnFwdIdeal.nD Cert.AttnFwdIdeal.τ).loc Cert.AttnFwdIdeal.main_v0_1) = v1 c
          ∧ r.2.mem ((c.tc : Thread Cert.AttnFwdIdeal.nD Cert.AttnFwdIdeal.τ).loc Cert.AttnFwdIdeal.main_v0_2) = v2 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdReferenceIdeal.defs (F := Ideal)) (onTc (τ := Cert.AttnFwdReferenceIdeal.τ) (Cert.AttnFwdReferenceIdeal.main (F := Ideal))) ⟨m', fun _ => 0, g'⟩ (fun r => ∀ c : Dev Cert.AttnFwdReferenceIdeal.nD,
          r.2.mem ((c.tc : Thread Cert.AttnFwdReferenceIdeal.nD Cert.AttnFwdReferenceIdeal.τ).loc Cert.AttnFwdReferenceIdeal.main_v43) = v0 c
          ∧ r.2.mem ((c.tc : Thread Cert.AttnFwdReferenceIdeal.nD Cert.AttnFwdReferenceIdeal.τ).loc Cert.AttnFwdReferenceIdeal.main_v35) = v1 c
          ∧ r.2.mem ((c.tc : Thread Cert.AttnFwdReferenceIdeal.nD Cert.AttnFwdReferenceIdeal.τ).loc Cert.AttnFwdReferenceIdeal.main_v40) = v2 c
          ∧ r.2.mem ((c.tc : Thread Cert.AttnFwdReferenceIdeal.nD Cert.AttnFwdReferenceIdeal.τ).loc Cert.AttnFwdReferenceIdeal.main_arg0) = m' ((c.tc : Thread Cert.AttnFwdReferenceIdeal.nD Cert.AttnFwdReferenceIdeal.τ).loc Cert.AttnFwdReferenceIdeal.main_arg0)
          ∧ r.2.mem ((c.tc : Thread Cert.AttnFwdReferenceIdeal.nD Cert.AttnFwdReferenceIdeal.τ).loc Cert.AttnFwdReferenceIdeal.main_arg1) = m' ((c.tc : Thread Cert.AttnFwdReferenceIdeal.nD Cert.AttnFwdReferenceIdeal.τ).loc Cert.AttnFwdReferenceIdeal.main_arg1)
          ∧ r.2.mem ((c.tc : Thread Cert.AttnFwdReferenceIdeal.nD Cert.AttnFwdReferenceIdeal.τ).loc Cert.AttnFwdReferenceIdeal.main_arg2) = m' ((c.tc : Thread Cert.AttnFwdReferenceIdeal.nD Cert.AttnFwdReferenceIdeal.τ).loc Cert.AttnFwdReferenceIdeal.main_arg2)
          ∧ r.2.mem ((c.tc : Thread Cert.AttnFwdReferenceIdeal.nD Cert.AttnFwdReferenceIdeal.τ).loc Cert.AttnFwdReferenceIdeal.main_arg3) = m' ((c.tc : Thread Cert.AttnFwdReferenceIdeal.nD Cert.AttnFwdReferenceIdeal.τ).loc Cert.AttnFwdReferenceIdeal.main_arg3))

def Claim : Prop :=
  ∃ (hKernel : Cert.Kernel.Facts) (hKernelIdeal : Cert.KernelIdeal.Facts) (hReferenceIdeal : Cert.ReferenceIdeal.Facts) (hDwUp : Cert.DwUp.Facts) (hDwUpIdeal : Cert.DwUpIdeal.Facts) (hDwUpReferenceIdeal : Cert.DwUpReferenceIdeal.Facts) (hDhFfn : Cert.DhFfn.Facts) (hDhFfnIdeal : Cert.DhFfnIdeal.Facts) (hDhFfnReferenceIdeal : Cert.DhFfnReferenceIdeal.Facts) (hDAct : Cert.DAct.Facts) (hDActIdeal : Cert.DActIdeal.Facts) (hDActReferenceIdeal : Cert.DActReferenceIdeal.Facts) (hDwDown : Cert.DwDown.Facts) (hDwDownIdeal : Cert.DwDownIdeal.Facts) (hDwDownReferenceIdeal : Cert.DwDownReferenceIdeal.Facts) (hDwIn : Cert.DwIn.Facts) (hDwInIdeal : Cert.DwInIdeal.Facts) (hDwInReferenceIdeal : Cert.DwInReferenceIdeal.Facts) (hDwGate : Cert.DwGate.Facts) (hDwGateIdeal : Cert.DwGateIdeal.Facts) (hDwGateReferenceIdeal : Cert.DwGateReferenceIdeal.Facts) (hDwOut : Cert.DwOut.Facts) (hDwOutIdeal : Cert.DwOutIdeal.Facts) (hDwOutReferenceIdeal : Cert.DwOutReferenceIdeal.Facts) (hDwProj : Cert.DwProj.Facts) (hDwProjIdeal : Cert.DwProjIdeal.Facts) (hDwProjReferenceIdeal : Cert.DwProjReferenceIdeal.Facts) (hFfnUp : Cert.FfnUp.Facts) (hFfnUpIdeal : Cert.FfnUpIdeal.Facts) (hFfnUpReferenceIdeal : Cert.FfnUpReferenceIdeal.Facts) (hProj : Cert.Proj.Facts) (hProjIdeal : Cert.ProjIdeal.Facts) (hProjReferenceIdeal : Cert.ProjReferenceIdeal.Facts) (hMixLn : Cert.MixLn.Facts) (hMixLnIdeal : Cert.MixLnIdeal.Facts) (hMixLnReferenceIdeal : Cert.MixLnReferenceIdeal.Facts) (hLnBwd : Cert.LnBwd.Facts) (hLnBwdIdeal : Cert.LnBwdIdeal.Facts) (hLnBwdReferenceIdeal : Cert.LnBwdReferenceIdeal.Facts) (hHead : Cert.Head.Facts) (hHeadIdeal : Cert.HeadIdeal.Facts) (hHeadReferenceIdeal : Cert.HeadReferenceIdeal.Facts) (hAttnFwd : Cert.AttnFwd.Facts) (hAttnFwdIdeal : Cert.AttnFwdIdeal.Facts) (hAttnFwdReferenceIdeal : Cert.AttnFwdReferenceIdeal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwUp (hDwUp := hDwUp)
    ∧ quiescent_DwUpIdeal (hDwUpIdeal := hDwUpIdeal)
    ∧ quiescent_DwUpReferenceIdeal (hDwUpReferenceIdeal := hDwUpReferenceIdeal)
    ∧ quiescent_DhFfn (hDhFfn := hDhFfn)
    ∧ quiescent_DhFfnIdeal (hDhFfnIdeal := hDhFfnIdeal)
    ∧ quiescent_DhFfnReferenceIdeal (hDhFfnReferenceIdeal := hDhFfnReferenceIdeal)
    ∧ quiescent_DAct (hDAct := hDAct)
    ∧ quiescent_DActIdeal (hDActIdeal := hDActIdeal)
    ∧ quiescent_DActReferenceIdeal (hDActReferenceIdeal := hDActReferenceIdeal)
    ∧ quiescent_DwDown (hDwDown := hDwDown)
    ∧ quiescent_DwDownIdeal (hDwDownIdeal := hDwDownIdeal)
    ∧ quiescent_DwDownReferenceIdeal (hDwDownReferenceIdeal := hDwDownReferenceIdeal)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_DwGate (hDwGate := hDwGate)
    ∧ quiescent_DwGateIdeal (hDwGateIdeal := hDwGateIdeal)
    ∧ quiescent_DwGateReferenceIdeal (hDwGateReferenceIdeal := hDwGateReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_DwProj (hDwProj := hDwProj)
    ∧ quiescent_DwProjIdeal (hDwProjIdeal := hDwProjIdeal)
    ∧ quiescent_DwProjReferenceIdeal (hDwProjReferenceIdeal := hDwProjReferenceIdeal)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_MixLn (hMixLn := hMixLn)
    ∧ quiescent_MixLnIdeal (hMixLnIdeal := hMixLnIdeal)
    ∧ quiescent_MixLnReferenceIdeal (hMixLnReferenceIdeal := hMixLnReferenceIdeal)
    ∧ quiescent_LnBwd (hLnBwd := hLnBwd)
    ∧ quiescent_LnBwdIdeal (hLnBwdIdeal := hLnBwdIdeal)
    ∧ quiescent_LnBwdReferenceIdeal (hLnBwdReferenceIdeal := hLnBwdReferenceIdeal)
    ∧ quiescent_Head (hHead := hHead)
    ∧ quiescent_HeadIdeal (hHeadIdeal := hHeadIdeal)
    ∧ quiescent_HeadReferenceIdeal (hHeadReferenceIdeal := hHeadReferenceIdeal)
    ∧ quiescent_AttnFwd (hAttnFwd := hAttnFwd)
    ∧ quiescent_AttnFwdIdeal (hAttnFwdIdeal := hAttnFwdIdeal)
    ∧ quiescent_AttnFwdIdeal_pre_finite_fwd (hAttnFwdIdeal := hAttnFwdIdeal) (hPre_finite_fwd := hPre_finite_fwd)
    ∧ quiescent_AttnFwdReferenceIdeal (hAttnFwdReferenceIdeal := hAttnFwdReferenceIdeal)
    ∧ quiescent_AttnFwdReferenceIdeal_pre_finite_fwd (hAttnFwdReferenceIdeal := hAttnFwdReferenceIdeal) (hPre_finite_fwd := hPre_finite_fwd)
    ∧ preserves_Kernel_KernelIdeal
    ∧ algebraic_KernelIdeal_ReferenceIdeal_pre_finite (hKernelIdeal := hKernelIdeal) (hReferenceIdeal := hReferenceIdeal) (hPre_finite := hPre_finite)
    ∧ preserves_DwUp_DwUpIdeal
    ∧ algebraic_DwUpIdeal_DwUpReferenceIdeal (hDwUpIdeal := hDwUpIdeal) (hDwUpReferenceIdeal := hDwUpReferenceIdeal)
    ∧ preserves_DhFfn_DhFfnIdeal
    ∧ algebraic_DhFfnIdeal_DhFfnReferenceIdeal (hDhFfnIdeal := hDhFfnIdeal) (hDhFfnReferenceIdeal := hDhFfnReferenceIdeal)
    ∧ preserves_DAct_DActIdeal
    ∧ algebraic_DActIdeal_DActReferenceIdeal (hDActIdeal := hDActIdeal) (hDActReferenceIdeal := hDActReferenceIdeal)
    ∧ preserves_DwDown_DwDownIdeal
    ∧ algebraic_DwDownIdeal_DwDownReferenceIdeal (hDwDownIdeal := hDwDownIdeal) (hDwDownReferenceIdeal := hDwDownReferenceIdeal)
    ∧ preserves_DwIn_DwInIdeal
    ∧ algebraic_DwInIdeal_DwInReferenceIdeal (hDwInIdeal := hDwInIdeal) (hDwInReferenceIdeal := hDwInReferenceIdeal)
    ∧ preserves_DwGate_DwGateIdeal
    ∧ algebraic_DwGateIdeal_DwGateReferenceIdeal (hDwGateIdeal := hDwGateIdeal) (hDwGateReferenceIdeal := hDwGateReferenceIdeal)
    ∧ preserves_DwOut_DwOutIdeal
    ∧ algebraic_DwOutIdeal_DwOutReferenceIdeal (hDwOutIdeal := hDwOutIdeal) (hDwOutReferenceIdeal := hDwOutReferenceIdeal)
    ∧ preserves_DwProj_DwProjIdeal
    ∧ algebraic_DwProjIdeal_DwProjReferenceIdeal (hDwProjIdeal := hDwProjIdeal) (hDwProjReferenceIdeal := hDwProjReferenceIdeal)
    ∧ preserves_FfnUp_FfnUpIdeal
    ∧ algebraic_FfnUpIdeal_FfnUpReferenceIdeal (hFfnUpIdeal := hFfnUpIdeal) (hFfnUpReferenceIdeal := hFfnUpReferenceIdeal)
    ∧ preserves_Proj_ProjIdeal
    ∧ algebraic_ProjIdeal_ProjReferenceIdeal (hProjIdeal := hProjIdeal) (hProjReferenceIdeal := hProjReferenceIdeal)
    ∧ preserves_MixLn_MixLnIdeal
    ∧ algebraic_MixLnIdeal_MixLnReferenceIdeal (hMixLnIdeal := hMixLnIdeal) (hMixLnReferenceIdeal := hMixLnReferenceIdeal)
    ∧ preserves_LnBwd_LnBwdIdeal
    ∧ algebraic_LnBwdIdeal_LnBwdReferenceIdeal (hLnBwdIdeal := hLnBwdIdeal) (hLnBwdReferenceIdeal := hLnBwdReferenceIdeal)
    ∧ preserves_Head_HeadIdeal
    ∧ algebraic_HeadIdeal_HeadReferenceIdeal (hHeadIdeal := hHeadIdeal) (hHeadReferenceIdeal := hHeadReferenceIdeal)
    ∧ preserves_AttnFwd_AttnFwdIdeal
    ∧ algebraic_AttnFwdIdeal_AttnFwdReferenceIdeal_pre_finite_fwd (hAttnFwdIdeal := hAttnFwdIdeal) (hAttnFwdReferenceIdeal := hAttnFwdReferenceIdeal) (hPre_finite_fwd := hPre_finite_fwd)
-- ==== Pre_finite.lean ====
abbrev S8192x1024 : Shape := ⟨2, ![8192, 1024]⟩
abbrev S8192x128 : Shape := ⟨2, ![8192, 128]⟩
abbrev S_ : Shape := ⟨0, ![]⟩
abbrev S8192x512 : Shape := ⟨2, ![8192, 512]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  slices_S8192x1024_S8192x512_0_512 : S8192x1024.Slices ![0, 512] S8192x512
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v16 : IVec S_ 1) (main_v17 : FVec F S8192x512 .f32) : IVec S_ 1 :=
  let main_v18 : FVec F S8192x512 .f32 := Host.absf main_v17
  let main_cst_4 : FVec F S_ .f32 := constant S_ .f32 0x7F800000#32
  let main_v19 : FVec F S8192x512 .f32 := broadcastInDim S8192x512 ![] bcast_S_S8192x512 main_cst_4
  let main_v20 : IVec S8192x512 1 := cmpf .olt main_v18 main_v19
  let main_c_5 : IVec S_ 1 := constantI S_ 1 1#1
  let main_v21 : IVec S_ 1 := (fun x v => Host.reduce IntOp.andi x v reducesTo_S8192x512_S_d0_1 h_S_) main_v20 main_c_5
  let main_v22 : IVec S_ 1 := andi main_v16 main_v21
  main_v22

def fn {F : FTy → Type} [FloatOps F] (main_arg0 : FVec F S8192x1024 .bf16) (main_arg1 : FVec F S8192x1024 .bf16) (main_arg2 : FVec F S8192x128 .bf16) (main_arg3 : FVec F S8192x1024 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  let main_v11 : FVec F S8192x128 .f32 := (extf .f32 · bitsLt_bf16_f32) main_arg2
  let main_v12 : FVec F S8192x128 .f32 := Host.absf main_v11
  let main_cst_2 : FVec F S_ .f32 := constant S_ .f32 0x7F800000#32
  let main_v13 : FVec F S8192x128 .f32 := broadcastInDim S8192x128 ![] bcast_S_S8192x128 main_cst_2
  let main_v14 : IVec S8192x128 1 := cmpf .olt main_v12 main_v13
  let main_c_3 : IVec S_ 1 := constantI S_ 1 1#1
  let main_v15 : IVec S_ 1 := (fun x v => Host.reduce IntOp.andi x v reducesTo_S8192x128_S_d0_1 h_S_) main_v14 main_c_3
  let main_v16 : IVec S_ 1 := andi main_v10 main_v15
  let main_v17 : FVec F S8192x512 .f32 := (extractStridedSlice S8192x512 ![0, 512] · slices_S8192x1024_S8192x512_0_512) main_arg3
  fn_part1 (F := F) main_v16 main_v17
-- ==== Pre_finite_fwd.lean ====
abbrev S8192x1024 : Shape := ⟨2, ![8192, 1024]⟩
abbrev S8192x128 : Shape := ⟨2, ![8192, 128]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S8192x1024 .bf16) (main_arg1 : FVec F S8192x1024 .bf16) (main_arg2 : FVec F S8192x128 .bf16) (main_arg3 : FVec F S8192x1024 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  let main_v11 : FVec F S8192x128 .f32 := (extf .f32 · bitsLt_bf16_f32) main_arg2
  let main_v12 : FVec F S8192x128 .f32 := Host.absf main_v11
  let main_cst_2 : FVec F S_ .f32 := constant S_ .f32 0x7F800000#32
  let main_v13 : FVec F S8192x128 .f32 := broadcastInDim S8192x128 ![] bcast_S_S8192x128 main_cst_2
  let main_v14 : IVec S8192x128 1 := cmpf .olt main_v12 main_v13
  let main_c_3 : IVec S_ 1 := constantI S_ 1 1#1
  let main_v15 : IVec S_ 1 := (fun x v => Host.reduce IntOp.andi x v reducesTo_S8192x128_S_d0_1 h_S_) main_v14 main_c_3
  let main_v16 : IVec S_ 1 := andi main_v10 main_v15
  main_v16
-- ==== Kernel.lean ====
abbrev S8192x1024 : Shape := ⟨2, ![8192, 1024]⟩
abbrev S8192x128 : Shape := ⟨2, ![8192, 128]⟩
abbrev S4x2048x4x256 : Shape := ⟨4, ![4, 2048, 4, 256]⟩
abbrev S4x2048x4x128 : Shape := ⟨4, ![4, 2048, 4, 128]⟩
abbrev S4x4x2048x2048 : Shape := ⟨4, ![4, 4, 2048, 2048]⟩
abbrev S4x2048x128 : Shape := ⟨3, ![4, 2048, 128]⟩
abbrev S4x2048x2048x4 : Shape := ⟨4, ![4, 2048, 2048, 4]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S8192x512 : Shape := ⟨2, ![8192, 512]⟩
abbrev S4x2048x4x1 : Shape := ⟨4, ![4, 2048, 4, 1]⟩
abbrev S2048x256 : Shape := ⟨2, ![2048, 256]⟩
abbrev S2048x128 : Shape := ⟨2, ![2048, 128]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 72
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x128, .bf16⟩
  | .hbm, ⟨3, _⟩ => ⟨S8192x1024, .f32⟩
  | .hbm, ⟨4, _⟩ => ⟨S8192x1024, .f32⟩
  | .hbm, ⟨5, _⟩ => ⟨S4x2048x4x256, .f32⟩
  | .hbm, ⟨6, _⟩ => ⟨S8192x1024, .f32⟩
  | .hbm, ⟨7, _⟩ => ⟨S4x2048x4x256, .f32⟩
  | .hbm, ⟨8, _⟩ => ⟨S4x2048x4x128, .f32⟩
  | .hbm, ⟨9, _⟩ => ⟨S4x2048x4x128, .f32⟩
  | .hbm, ⟨10, _⟩ => ⟨S4x4x2048x2048, .f32⟩
  | .hbm, ⟨11, _⟩ => ⟨S4x2048x4x128, .f32⟩
  | .hbm, ⟨12, _⟩ => ⟨S8192x128, .f32⟩
  | .hbm, ⟨13, _⟩ => ⟨S4x2048x128, .f32⟩
  | .hbm, ⟨14, _⟩ => ⟨S4x2048x2048x4, .f32⟩
  | .hbm, ⟨15, _⟩ => ⟨S4x4x2048x2048, .f32⟩
  | .hbm, ⟨16, _⟩ => ⟨S4x4x2048x2048, .f32⟩
  | .hbm, ⟨17, _⟩ => ⟨S2048, .i32⟩
  | .hbm, ⟨18, _⟩ => ⟨S_, .i32⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S1x2048, .i32⟩
  | .hbm, ⟨37, _⟩ => ⟨S2048x1, .i32⟩
  | .hbm, ⟨38, _⟩ => ⟨S2048x2048, .i32⟩
  | .hbm, ⟨39, _⟩ => ⟨S2048x2048, .i32⟩
  | .hbm, ⟨40, _⟩ => ⟨S2048x2048, .i1⟩
  | .hbm, ⟨41, _⟩ => ⟨S_, .f32⟩
  | .hbm, ⟨42, _⟩ => ⟨S4x4x2048x2048, .f32⟩
  | .hbm, ⟨43, _⟩ => ⟨S4x4x2048x2048, .f32⟩
  | .hbm, ⟨44, _⟩ => ⟨S_, .f32⟩
  | .hbm, ⟨45, _⟩ => ⟨S_, .f32⟩
  | .hbm, ⟨46, _⟩ => ⟨S4x4x2048x2048, .i1⟩
  | .hbm, ⟨47, _⟩ => ⟨S4x4x2048x2048, .f32⟩
  | .hbm, ⟨48, _⟩ => ⟨S4x4x2048x2048, .f32⟩
  | .hbm, ⟨49, _⟩ => ⟨S_, .f32⟩
  | .hbm, ⟨50, _⟩ => ⟨S4x4x2048, .f32⟩
  | .hbm, ⟨51, _⟩ => ⟨S4x4x2048x1, .f32⟩
  | .hbm, ⟨52, _⟩ => ⟨S4x4x2048x2048, .f32⟩
  | .hbm, ⟨53, _⟩ => ⟨S4x4x2048x2048, .f32⟩
  | .hbm, ⟨54, _⟩ => ⟨S4x4x2048x2048, .f32⟩
  | .hbm, ⟨55, _⟩ => ⟨S_, .f32⟩
  | .hbm, ⟨56, _⟩ => ⟨S4x4x2048, .f32⟩
  | .hbm, ⟨57, _⟩ => ⟨S4x4x2048x1, .f32⟩
  | .hbm, ⟨58, _⟩ => ⟨S4x4x2048x2048, .f32⟩
  | .hbm, ⟨59, _⟩ => ⟨S4x4x2048x2048, .f32⟩
  | .hbm, ⟨60, _⟩ => ⟨S4x2048x4x128, .f32⟩
  | .hbm, ⟨61, _⟩ => ⟨S4x4x128x2048, .f32⟩
  | .hbm, ⟨62, _⟩ => ⟨S4x2048x4x128, .f32⟩
  | .hbm, ⟨63, _⟩ => ⟨S8192x512, .f32⟩
  | .hbm, ⟨64, _⟩ => ⟨S4x4x2048x1, .f32⟩
  | .hbm, ⟨65, _⟩ => ⟨S4x4x2048x1, .f32⟩
  | .hbm, ⟨66, _⟩ => ⟨S4x2048x4x1, .f32⟩
  | .hbm, ⟨67, _⟩ => ⟨S4x2048x4x128, .f32⟩
  | .hbm, ⟨68, _⟩ => ⟨S8192x512, .f32⟩
  | .hbm, ⟨69, _⟩ => ⟨S8192x1024, .f32⟩
  | .hbm, ⟨70, _⟩ => ⟨S8192x1024, .f32⟩
  | .hbm, ⟨71, _⟩ => ⟨S8192x128, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x128, .f32⟩
  | .local _ .vmem, ⟨17, _⟩ => ⟨S2048x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_cst_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v22 : Ref sig .tc := ⟨.hbm, 48, rfl⟩
abbrev main_cst_1 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_2 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41_0 : Ref sig .tc := ⟨.hbm, 69, rfl⟩
abbrev main_v41_1 : Ref sig .tc := ⟨.hbm, 70, rfl⟩
abbrev main_v41_2 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S8192x128 : Shape := ⟨2, ![8192, 128]⟩
abbrev S4x2048x4x256 : Shape := ⟨4, ![4, 2048, 4, 256]⟩
abbrev S4x2048x4x128 : Shape := ⟨4, ![4, 2048, 4, 128]⟩
abbrev S4x4x2048x2048 : Shape := ⟨4, ![4, 4, 2048, 2048]⟩
abbrev S4x2048x128 : Shape := ⟨3, ![4, 2048, 128]⟩
abbrev S4x2048x2048x4 : Shape := ⟨4, ![4, 2048, 2048, 4]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S8192x512 : Shape := ⟨2, ![8192, 512]⟩
abbrev S4x4x2048x128 : Shape := ⟨4, ![4, 4, 2048, 128]⟩

abbrev nBuf : Space → Nat
  | .hbm => 139
  | .vmem => 0
  | .smem => 0
  | _ => 0

abbrev hbmTy0_0 (i : Nat) : BufTy := match i % 128 with
  | 0 => ⟨S8192x1024, .bf16⟩
  | 1 => ⟨S8192x1024, .bf16⟩
  | 2 => ⟨S8192x128, .bf16⟩
  | 3 => ⟨S8192x1024, .f32⟩
  | 4 => ⟨S8192x1024, .f32⟩
  | 5 => ⟨S8192x1024, .f32⟩
  | 6 => ⟨S8192x128, .f32⟩
  | 7 => ⟨S4x2048x4x256, .f32⟩
  | 8 => ⟨S4x2048x4x256, .f32⟩
  | 9 => ⟨S4x2048x4x128, .f32⟩
  | 10 => ⟨S4x2048x4x128, .f32⟩
  | 11 => ⟨S4x4x2048x2048, .f32⟩
  | 12 => ⟨S4x2048x4x128, .f32⟩
  | 13 => ⟨S4x2048x128, .f32⟩
  | 14 => ⟨S4x2048x2048x4, .f32⟩
  | 15 => ⟨S4x4x2048x2048, .f32⟩
  | 16 => ⟨S4x4x2048x2048, .f32⟩
  | 17 => ⟨S2048, .i32⟩
  | 18 => ⟨S_, .i32⟩
  | 19 => ⟨S_, .i32⟩
  | 20 => ⟨S2048, .i32⟩
  | 21 => ⟨S2048, .i32⟩
  | 22 => ⟨S2048, .i32⟩
  | 23 => ⟨S_, .i32⟩
  | 24 => ⟨S2048, .i32⟩
  | 25 => ⟨S2048, .i1⟩
  | 26 => ⟨S2048, .i32⟩
  | 27 => ⟨S2048, .i32⟩
  | 28 => ⟨S_, .i32⟩
  | 29 => ⟨S2048, .i32⟩
  | 30 => ⟨S2048, .i1⟩
  | 31 => ⟨S2048, .i1⟩
  | 32 => ⟨S_, .i32⟩
  | 33 => ⟨S2048, .i32⟩
  | 34 => ⟨S2048, .i32⟩
  | 35 => ⟨S2048, .i32⟩
  | 36 => ⟨S1x2048, .i32⟩
  | 37 => ⟨S2048x1, .i32⟩
  | 38 => ⟨S2048x2048, .i32⟩
  | 39 => ⟨S2048x2048, .i32⟩
  | 40 => ⟨S2048x2048, .i1⟩
  | 41 => ⟨S_, .f32⟩
  | 42 => ⟨S4x4x2048x2048, .f32⟩
  | 43 => ⟨S4x4x2048x2048, .f32⟩
  | 44 => ⟨S_, .f32⟩
  | 45 => ⟨S_, .f32⟩
  | 46 => ⟨S4x4x2048x2048, .i1⟩
  | 47 => ⟨S4x4x2048x2048, .f32⟩
  | 48 => ⟨S4x4x2048x2048, .f32⟩
  | 49 => ⟨S_, .f32⟩
  | 50 => ⟨S4x4x2048x2048, .f32⟩
  | 51 => ⟨S_, .f32⟩
  | 52 => ⟨S4x4x2048, .f32⟩
  | 53 => ⟨S4x4x2048x1, .f32⟩
  | 54 => ⟨S4x4x2048x2048, .f32⟩
  | 55 => ⟨S4x4x2048x2048, .i1⟩
  | 56 => ⟨S4x4x2048x2048, .f32⟩
  | 57 => ⟨S_, .f32⟩
  | 58 => ⟨S4x4x2048, .f32⟩
  | 59 => ⟨S_, .f32⟩
  | 60 => ⟨S4x4x2048, .f32⟩
  | 61 => ⟨S4x4x2048, .f32⟩
  | 62 => ⟨S_, .f32⟩
  | 63 => ⟨S4x4x2048, .f32⟩
  | 64 => ⟨S4x4x2048, .i1⟩
  | 65 => ⟨S_, .f32⟩
  | 66 => ⟨S4x4x2048, .f32⟩
  | 67 => ⟨S4x4x2048, .i1⟩
  | 68 => ⟨S_, .f32⟩
  | 69 => ⟨S4x4x2048, .f32⟩
  | 70 => ⟨S_, .f32⟩
  | 71 => ⟨S4x4x2048, .f32⟩
  | 72 => ⟨S_, .f32⟩
  | 73 => ⟨S4x4x2048, .f32⟩
  | 74 => ⟨S4x4x2048, .f32⟩
  | 75 => ⟨S4x4x2048, .f32⟩
  | 76 => ⟨S4x4x2048x1, .f32⟩
  | 77 => ⟨S4x4x2048x2048, .f32⟩
  | 78 => ⟨S4x4x2048x2048, .f32⟩
  | 79 => ⟨S4x4x2048x2048, .f32⟩
  | 80 => ⟨S_, .f32⟩
  | 81 => ⟨S4x4x2048, .f32⟩
  | 82 => ⟨S4x4x2048x1, .f32⟩
  | 83 => ⟨S4x4x2048x2048, .f32⟩
  | 84 => ⟨S4x4x2048x2048, .f32⟩
  | 85 => ⟨S4x4x2048x1, .f32⟩
  | 86 => ⟨S_, .f32⟩
  | 87 => ⟨S4x4x2048x1, .f32⟩
  | 88 => ⟨S4x4x2048x1, .f32⟩
  | 89 => ⟨S4x2048x4x128, .f32⟩
  | 90 => ⟨S4x4x128x2048, .f32⟩
  | 91 => ⟨S4x2048x4x128, .f32⟩
  | 92 => ⟨S8192x512, .f32⟩
  | 93 => ⟨S8192x512, .f32⟩
  | 94 => ⟨S4x2048x4x128, .f32⟩
  | 95 => ⟨S4x4x128x2048, .f32⟩
  | 96 => ⟨S4x4x2048x2048, .f32⟩
  | 97 => ⟨S4x4x128x2048, .f32⟩
  | 98 => ⟨S4x2048x4x128, .f32⟩
  | 99 => ⟨S_, .f32⟩
  | 100 => ⟨S4x2048x4x256, .f32⟩
  | 101 => ⟨S4x4x2048x2048, .f32⟩
  | 102 => ⟨S4x4x2048x2048, .f32⟩
  | 103 => ⟨S4x4x2048x2048, .f32⟩
  | 104 => ⟨S_, .f32⟩
  | 105 => ⟨S4x4x2048, .f32⟩
  | 106 => ⟨S4x4x2048x1, .f32⟩
  | 107 => ⟨S4x4x2048x1, .f32⟩
  | 108 => ⟨S4x4x2048x2048, .f32⟩
  | 109 => ⟨S4x4x2048x2048, .f32⟩
  | 110 => ⟨S_, .f32⟩
  | 111 => ⟨S4x4x2048, .f32⟩
  | 112 => ⟨S4x4x2048x2048, .f32⟩
  | 113 => ⟨S4x4x2048x2048, .f32⟩
  | 114 => ⟨S4x4x2048x2048, .f32⟩
  | 115 => ⟨S_, .f32⟩
  | 116 => ⟨S4x4x2048x2048, .f32⟩
  | 117 => ⟨S4x4x2048x2048, .f32⟩
  | 118 => ⟨S_, .f32⟩
  | 119 => ⟨S4x4x2048x2048, .f32⟩
  | 120 => ⟨S4x4x2048x2048, .f32⟩
  | 121 => ⟨S4x2048x2048x4, .f32⟩
  | 122 => ⟨S4x2048x4x128, .f32⟩
  | 123 => ⟨S4x2048x128, .f32⟩
  | 124 => ⟨S8192x128, .f32⟩
  | 125 => ⟨S_, .f32⟩
  | 126 => ⟨S4x2048x4x256, .f32⟩
  | 127 => ⟨S4x4x2048x128, .f32⟩
  | _ => ⟨S8192x1024, .bf16⟩

abbrev hbmTy0_1 (i : Nat) : BufTy := match i % 128 with
  | 0 => ⟨S4x2048x4x128, .f32⟩
  | 1 => ⟨S4x4x2048x128, .f32⟩
  | 2 => ⟨S4x2048x4x128, .f32⟩
  | 3 => ⟨S_, .f32⟩
  | 4 => ⟨S4x2048x4x256, .f32⟩
  | 5 => ⟨S4x2048x4x256, .f32⟩
  | 6 => ⟨S_, .f32⟩
  | 7 => ⟨S4x2048x4x256, .f32⟩
  | 8 => ⟨S4x2048x4x256, .f32⟩
  | 9 => ⟨S8192x1024, .f32⟩
  | 10 => ⟨S8192x1024, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_cst_0 : Ref sig .tc := ⟨.hbm, 44, rfl⟩
abbrev main_call1_v0 : Ref sig .tc := ⟨.hbm, 45, rfl⟩
abbrev main_v22_1 : Ref sig .tc := ⟨.hbm, 46, rfl⟩
abbrev main_call1_v2 : Ref sig .tc := ⟨.hbm, 47, rfl⟩
abbrev main_v22_0 : Ref sig .tc := ⟨.hbm, 48, rfl⟩
abbrev main_call1_cst : Ref sig .tc := ⟨.hbm, 49, rfl⟩
abbrev main_v22_2 : Ref sig .tc := ⟨.hbm, 50, rfl⟩
abbrev main_cst_1 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_2 : Ref sig .tc := ⟨.hbm, 57, rfl⟩
abbrev main_v28 : Ref sig .tc := ⟨.hbm, 58, rfl⟩
abbrev main_cst_3 : Ref sig .tc := ⟨.hbm, 59, rfl⟩
abbrev main_v29 : Ref sig .tc := ⟨.hbm, 60, rfl⟩
abbrev main_v30 : Ref sig .tc := ⟨.hbm, 61, rfl⟩
abbrev main_cst_4 : Ref sig .tc := ⟨.hbm, 62, rfl⟩
abbrev main_v31 : Ref sig .tc := ⟨.hbm, 63, rfl⟩
abbrev main_v32 : Ref sig .tc := ⟨.hbm, 64, rfl⟩
abbrev main_cst_5 : Ref sig .tc := ⟨.hbm, 65, rfl⟩
abbrev main_v33 : Ref sig .tc := ⟨.hbm, 66, rfl⟩
abbrev main_v34 : Ref sig .tc := ⟨.hbm, 67, rfl⟩
abbrev main_cst_6 : Ref sig .tc := ⟨.hbm, 68, rfl⟩
abbrev main_v35 : Ref sig .tc := ⟨.hbm, 69, rfl⟩
abbrev main_cst_7 : Ref sig .tc := ⟨.hbm, 70, rfl⟩
abbrev main_v36 : Ref sig .tc := ⟨.hbm, 71, rfl⟩
abbrev main_cst_8 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_9 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_10 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_11 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_12 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_13 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_call2_cst : Ref sig .tc := ⟨.hbm, 115, rfl⟩
abbrev main_call2_v0 : Ref sig .tc := ⟨.hbm, 116, rfl⟩
abbrev main_v74 : Ref sig .tc := ⟨.hbm, 117, rfl⟩
abbrev main_cst_14 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_15 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_16 : Ref sig .tc := ⟨.hbm, 131, rfl⟩
abbrev main_v86 : Ref sig .tc := ⟨.hbm, 132, rfl⟩
abbrev main_v87 : Ref sig .tc := ⟨.hbm, 133, rfl⟩
abbrev main_cst_17 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩

abbrev nD : Nat := 1
abbrev τ : Topo := Topo.v7x

variable {F : FTy → Type} [FloatOps F]
-- ==== DwUp.lean ====
abbrev S8192x1024 : Shape := ⟨2, ![8192, 1024]⟩
abbrev S2x8192x2816 : Shape := ⟨3, ![2, 8192, 2816]⟩
abbrev S4x1024x1408 : Shape := ⟨3, ![4, 1024, 1408]⟩
abbrev S2048x512 : Shape := ⟨2, ![2048, 512]⟩
abbrev S1x2048x1408 : Shape := ⟨3, ![1, 2048, 1408]⟩
abbrev S1x512x1408 : Shape := ⟨3, ![1, 512, 1408]⟩
abbrev S512x1408 : Shape := ⟨2, ![512, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S4x1024x1408, .bf16⟩
  | .local _ .vmem, ⟨0, _⟩ => ⟨S2048x512, .bf16⟩
  | .local _ .vmem, ⟨1, _⟩ => ⟨S2048x512, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpReferenceIdeal.lean ====
abbrev S8192x1024 : Shape := ⟨2, ![8192, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S8192x5632 : Shape := ⟨2, ![8192, 5632]⟩
abbrev S5632x1024 : Shape := ⟨2, ![5632, 1024]⟩
abbrev S1024x5632 : Shape := ⟨2, ![1024, 5632]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1x8192x2816, .bf16⟩
  | .hbm, ⟨3, _⟩ => ⟨S8192x2816, .bf16⟩
  | .hbm, ⟨4, _⟩ => ⟨S1x8192x2816, .bf16⟩
  | .hbm, ⟨5, _⟩ => ⟨S8192x2816, .bf16⟩
  | .hbm, ⟨6, _⟩ => ⟨S8192x5632, .bf16⟩
  | .hbm, ⟨7, _⟩ => ⟨S8192x1024, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S1024x1408, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S1x1024x1408, .f32⟩
  | .hbm, ⟨16, _⟩ => ⟨S1x1024x1408, .f32⟩
  | .hbm, ⟨17, _⟩ => ⟨S1x1024x1408, .f32⟩
  | .hbm, ⟨18, _⟩ => ⟨S1x1024x1408, .f32⟩
  | .hbm, ⟨19, _⟩ => ⟨S4x1024x1408, .f32⟩
  | .hbm, ⟨20, _⟩ => ⟨S4x1024x1408, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩

abbrev nD : Nat := 1
abbrev τ : Topo := Topo.v7x

variable {F : FTy → Type} [FloatOps F]
-- ==== DhFfn.lean ====
abbrev S2x8192x2816 : Shape := ⟨3, ![2, 8192, 2816]⟩
abbrev S4x1024x1408 : Shape := ⟨3, ![4, 1024, 1408]⟩
abbrev S8192x1024 : Shape := ⟨2, ![8192, 1024]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x2816, .bf16⟩
  | .hbm, ⟨1, _⟩ => ⟨S4x1024x1408, .bf16⟩
  | .hbm, ⟨2, _⟩ => ⟨S8192x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhFfnReferenceIdeal.lean ====
abbrev S2x8192x2816 : Shape := ⟨3, ![2, 8192, 2816]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S1x8192x2816 : Shape := ⟨3, ![1, 8192, 2816]⟩
abbrev S8192x2816 : Shape := ⟨2, ![8192, 2816]⟩
abbrev S8192x5632 : Shape := ⟨2, ![8192, 5632]⟩
abbrev S8192x1024 : Shape := ⟨2, ![8192, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S4x1024x1408, .bf16⟩
  | .hbm, ⟨2, _⟩ => ⟨S1x1024x1408, .bf16⟩
  | .hbm, ⟨3, _⟩ => ⟨S1024x1408, .bf16⟩
  | .hbm, ⟨4, _⟩ => ⟨S1x1024x1408, .bf16⟩
  | .hbm, ⟨5, _⟩ => ⟨S1024x1408, .bf16⟩
  | .hbm, ⟨6, _⟩ => ⟨S1x1024x1408, .bf16⟩
  | .hbm, ⟨7, _⟩ => ⟨S1024x1408, .bf16⟩
  | .hbm, ⟨8, _⟩ => ⟨S1x1024x1408, .bf16⟩
  | .hbm, ⟨9, _⟩ => ⟨S1024x1408, .bf16⟩
  | .hbm, ⟨10, _⟩ => ⟨S1024x5632, .bf16⟩
  | .hbm, ⟨11, _⟩ => ⟨S1x8192x2816, .bf16⟩
  | .hbm, ⟨12, _⟩ => ⟨S8192x2816, .bf16⟩
  | .hbm, ⟨13, _⟩ => ⟨S1x8192x2816, .bf16⟩
  | .hbm, ⟨14, _⟩ => ⟨S8192x2816, .bf16⟩
  | .hbm, ⟨15, _⟩ => ⟨S8192x5632, .bf16⟩
  | .hbm, ⟨16, _⟩ => ⟨S1024x5632, .f32⟩
  | .hbm, ⟨17, _⟩ => ⟨S8192x5632, .f32⟩
  | .hbm, ⟨18, _⟩ => ⟨S8192x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩

abbrev nD : Nat := 1
abbrev τ : Topo := Topo.v7x

variable {F : FTy → Type} [FloatOps F]
-- ==== DAct.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActReferenceIdeal.lean ====
abbrev S8192x1024 : Shape := ⟨2, ![8192, 1024]⟩
abbrev S2816x1024 : Shape := ⟨2, ![2816, 1024]⟩
abbrev S8192x2816 : Shape := ⟨2, ![8192, 2816]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .f32⟩
  | .hbm, ⟨3, _⟩ => ⟨S8192x1024, .f32⟩
  | .hbm, ⟨4, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownReferenceIdeal.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S1024x2816, .f32⟩
  | .hbm, ⟨5, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwIn.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInReferenceIdeal.lean ====
abbrev S8192x1024 : Shape := ⟨2, ![8192, 1024]⟩
abbrev S8192x3072 : Shape := ⟨2, ![8192, 3072]⟩
abbrev S3072x1024 : Shape := ⟨2, ![3072, 1024]⟩
abbrev S1024x3072 : Shape := ⟨2, ![1024, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S3072x1024, .f32⟩
  | .hbm, ⟨5, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwGate.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwGateReferenceIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutReferenceIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwProj.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .f32⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwProjReferenceIdeal.lean ====
abbrev S8192x256 : Shape := ⟨2, ![8192, 256]⟩
abbrev S8192x1024 : Shape := ⟨2, ![8192, 1024]⟩
abbrev S1024x256 : Shape := ⟨2, ![1024, 256]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S8192x1024, .f32⟩
  | .hbm, ⟨3, _⟩ => ⟨S1024x256, .f32⟩
  | .hbm, ⟨4, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnUp.lean ====
abbrev S8192x1024 : Shape := ⟨2, ![8192, 1024]⟩
abbrev S4x1024x1408 : Shape := ⟨3, ![4, 1024, 1408]⟩
abbrev S8192x5632 : Shape := ⟨2, ![8192, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpReferenceIdeal.lean ====
abbrev S8192x1024 : Shape := ⟨2, ![8192, 1024]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S8192x5632 : Shape := ⟨2, ![8192, 5632]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S8192x1024, .f32⟩
  | .hbm, ⟨3, _⟩ => ⟨S1x1024x1408, .bf16⟩
  | .hbm, ⟨4, _⟩ => ⟨S1024x1408, .bf16⟩
  | .hbm, ⟨5, _⟩ => ⟨S1x1024x1408, .bf16⟩
  | .hbm, ⟨6, _⟩ => ⟨S1024x1408, .bf16⟩
  | .hbm, ⟨7, _⟩ => ⟨S1x1024x1408, .bf16⟩
  | .hbm, ⟨8, _⟩ => ⟨S1024x1408, .bf16⟩
  | .hbm, ⟨9, _⟩ => ⟨S1x1024x1408, .bf16⟩
  | .hbm, ⟨10, _⟩ => ⟨S1024x1408, .bf16⟩
  | .hbm, ⟨11, _⟩ => ⟨S1024x5632, .bf16⟩
  | .hbm, ⟨12, _⟩ => ⟨S1024x5632, .f32⟩
  | .hbm, ⟨13, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Proj.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixLn.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixLnReferenceIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== LnBwd.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S1x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== LnBwdReferenceIdeal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S1024x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192, .f32⟩
  | .hbm, ⟨93, _⟩ => ⟨S8192x1024, .f32⟩
  | .hbm, ⟨94, _⟩ => ⟨S8192x1024, .f32⟩
  | .hbm, ⟨95, _⟩ => ⟨S1024x1024, .f32⟩
  | .hbm, ⟨96, _⟩ => ⟨S8192x1024, .f32⟩
  | .hbm, ⟨97, _⟩ => ⟨S8192x1024, .bf16⟩
  | .hbm, ⟨98, _⟩ => ⟨S1x1024, .f32⟩
  | .hbm, ⟨99, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_v63 : Ref sig .tc := ⟨.hbm, 87, rfl⟩
abbrev main_cst_15 : Ref sig .tc := ⟨.hbm, 88, rfl⟩
abbrev main_v64 : Ref sig .tc := ⟨.hbm, 89, rfl⟩
abbrev main_v65 : Ref sig .tc := ⟨.hbm, 90, rfl⟩
abbrev main_cst_16 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Head.lean ====
abbrev S8192x1024 : Shape := ⟨2, ![8192, 1024]⟩
abbrev S8192x2816 : Shape := ⟨2, ![8192, 2816]⟩
abbrev S8192x256 : Shape := ⟨2, ![8192, 256]⟩
abbrev S2816x1024 : Shape := ⟨2, ![2816, 1024]⟩
abbrev S1024x1024 : Shape := ⟨2, ![1024, 1024]⟩
abbrev S256x1024 : Shape := ⟨2, ![256, 1024]⟩
abbrev S1x1024 : Shape := ⟨2, ![1, 1024]⟩
abbrev S8x128 : Shape := ⟨2, ![8, 128]⟩
abbrev S256x2816 : Shape := ⟨2, ![256, 2816]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S1024 : Shape := ⟨1, ![1024]⟩

abbrev nBuf : Space → Nat
  | .hbm => 19
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x2816, .bf16⟩
  | .hbm, ⟨3, _⟩ => ⟨S8192x256, .f32⟩
  | .hbm, ⟨4, _⟩ => ⟨S2816x1024, .bf16⟩
  | .hbm, ⟨5, _⟩ => ⟨S1024x1024, .bf16⟩
  | .hbm, ⟨6, _⟩ => ⟨S256x1024, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S8x128, .f32⟩
  | .hbm, ⟨16, _⟩ => ⟨S1x1024, .f32⟩
  | .hbm, ⟨17, _⟩ => ⟨S1x1024, .f32⟩
  | .hbm, ⟨18, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x2816, .bf16⟩
  | .local _ .vmem, ⟨5, _⟩ => ⟨S256x2816, .bf16⟩
  | .local _ .vmem, ⟨6, _⟩ => ⟨S256x256, .f32⟩
  | .local _ .vmem, ⟨7, _⟩ => ⟨S256x256, .f32⟩
  | .local _ .vmem, ⟨8, _⟩ => ⟨S2816x1024, .bf16⟩
  | .local _ .vmem, ⟨9, _⟩ => ⟨S1024x1024, .bf16⟩
  | .local _ .vmem, ⟨10, _⟩ => ⟨S256x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S8x128, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem16_0 : DmaSem sig := 25
abbrev cc0_sem17_0 : DmaSem sig := 26
abbrev cc0_sem18_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== HeadReferenceIdeal.lean ====
abbrev S8192x1024 : Shape := ⟨2, ![8192, 1024]⟩
abbrev S8192x2816 : Shape := ⟨2, ![8192, 2816]⟩
abbrev S8192x256 : Shape := ⟨2, ![8192, 256]⟩
abbrev S2816x1024 : Shape := ⟨2, ![2816, 1024]⟩
abbrev S1024x1024 : Shape := ⟨2, ![1024, 1024]⟩
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8x128 : Shape := ⟨2, ![8, 128]⟩

abbrev nBuf : Space → Nat
  | .hbm => 153
  | .vmem => 0
  | .smem => 0
  | _ => 0

abbrev hbmTy0_0 (i : Nat) : BufTy := match i % 128 with
  | 0 => ⟨S8192x1024, .f32⟩
  | 1 => ⟨S8192x1024, .bf16⟩
  | 2 => ⟨S8192x2816, .bf16⟩
  | 3 => ⟨S8192x256, .f32⟩
  | 4 => ⟨S2816x1024, .bf16⟩
  | 5 => ⟨S1024x1024, .bf16⟩
  | 6 => ⟨S256x1024, .bf16⟩
  | 7 => ⟨S1x1024, .f32⟩
  | 8 => ⟨S1x1024, .f32⟩
  | 9 => ⟨S1x1024, .f32⟩
  | 10 => ⟨S8192x1024, .f32⟩
  | 11 => ⟨S8192x2816, .f32⟩
  | 12 => ⟨S2816x1024, .f32⟩
  | 13 => ⟨S8192x1024, .f32⟩
  | 14 => ⟨S8192x1024, .f32⟩
  | 15 => ⟨S1024x1024, .f32⟩
  | 16 => ⟨S8192x1024, .f32⟩
  | 17 => ⟨S256x1024, .f32⟩
  | 18 => ⟨S8192x1024, .f32⟩
  | 19 => ⟨S1024, .f32⟩
  | 20 => ⟨S1024, .f32⟩
  | 21 => ⟨S1024, .f32⟩
  | 22 => ⟨S1x1024, .f32⟩
  | 23 => ⟨S8192x1024, .f32⟩
  | 24 => ⟨S8192x1024, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S8192x1024, .f32⟩
  | 42 => ⟨S8192x1024, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S8192x1024, .f32⟩
  | 50 => ⟨S8192x1024, .f32⟩
  | 51 => ⟨S8192x1024, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S_, .f32⟩
  | 59 => ⟨S8192x1, .f32⟩
  | 60 => ⟨S8192x1, .f32⟩
  | 61 => ⟨S8192x1, .f32⟩
  | 62 => ⟨S8192x1, .f32⟩
  | 63 => ⟨S_, .f32⟩
  | 64 => ⟨S8192x1, .f32⟩
  | 65 => ⟨S8192x1, .f32⟩
  | 66 => ⟨S8192x1024, .f32⟩
  | 67 => ⟨S8192x1024, .f32⟩
  | 68 => ⟨S1x1024, .f32⟩
  | 69 => ⟨S8192x1024, .f32⟩
  | 70 => ⟨S8192x1024, .f32⟩
  | 71 => ⟨S1x1024, .f32⟩
  | 72 => ⟨S8192x1024, .f32⟩
  | 73 => ⟨S8192x1024, .f32⟩
  | 74 => ⟨S8192x1024, .f32⟩
  | 75 => ⟨S8192x1024, .f32⟩
  | 76 => ⟨S_, .f32⟩
  | 77 => ⟨S8192x1024, .f32⟩
  | 78 => ⟨S8192x1024, .f32⟩
  | 79 => ⟨S_, .f32⟩
  | 80 => ⟨S8192, .f32⟩
  | 81 => ⟨S_, .f32⟩
  | 82 => ⟨S8192, .f32⟩
  | 83 => ⟨S8192, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S8192, .f32⟩
  | 92 => ⟨S_, .f32⟩
  | 93 => ⟨S8192, .f32⟩
  | 94 => ⟨S8192, .f32⟩
  | 95 => ⟨S8192x1024, .f32⟩
  | 96 => ⟨S8192x1024, .f32⟩
  | 97 => ⟨S_, .f32⟩
  | 98 => ⟨S1024, .f32⟩
  | 99 => ⟨S1x1024, .f32⟩
  | 100 => ⟨S_, .f32⟩
  | 101 => ⟨S1024, .f32⟩
  | 102 => ⟨S8192x1024, .f32⟩
  | 103 => ⟨S_, .f32⟩
  | 104 => ⟨S1024, .f32⟩
  | 105 => ⟨S1x1024, .f32⟩
  | 106 => ⟨S8192x1024, .f32⟩
  | 107 => ⟨S8192x1024, .f32⟩
  | 108 => ⟨S_, .f32⟩
  | 109 => ⟨S1024, .f32⟩
  | 110 => ⟨S8192x1024, .f32⟩
  | 111 => ⟨S_, .f32⟩
  | 112 => ⟨S8192, .f32⟩
  | 113 => ⟨S8192x1, .f32⟩
  | 114 => ⟨S8192x1024, .f32⟩
  | 115 => ⟨S8192x1024, .f32⟩
  | 116 => ⟨S8192x1, .f32⟩
  | 117 => ⟨S_, .f32⟩
  | 118 => ⟨S8192x1, .f32⟩
  | 119 => ⟨S8192x1, .f32⟩
  | 120 => ⟨S_, .f32⟩
  | 121 => ⟨S8192, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S8192, .f32⟩
  | 2 => ⟨S8192x1, .f32⟩
  | 3 => ⟨S_, .f32⟩
  | 4 => ⟨S8192x1, .f32⟩
  | 5 => ⟨S8192x1, .f32⟩
  | 6 => ⟨S_, .f32⟩
  | 7 => ⟨S8192, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S1024, .f32⟩
  | 15 => ⟨S1x1024, .f32⟩
  | 16 => ⟨S_, .f32⟩
  | 17 => ⟨S1024, .f32⟩
  | 18 => ⟨S8192x1024, .bf16⟩
  | 19 => ⟨S8192x1024, .bf16⟩
  | 20 => ⟨S8192x1024, .bf16⟩
  | 21 => ⟨S8x128, .f32⟩
  | 22 => ⟨S1x1024, .f32⟩
  | 23 => ⟨S1x1024, .f32⟩
  | 24 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_cst_14 : Ref sig .tc := ⟨.hbm, 88, rfl⟩
abbrev main_cst_15 : Ref sig .tc := ⟨.hbm, 89, rfl⟩
abbrev main_v62 : Ref sig .tc := ⟨.hbm, 90, rfl⟩
abbrev main_v63 : Ref sig .tc := ⟨.hbm, 91, rfl⟩
abbrev main_cst_16 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_17 : Ref sig .tc := ⟨.hbm, 97, rfl⟩
abbrev main_v68 : Ref sig .tc := ⟨.hbm, 98, rfl⟩
abbrev main_v69 : Ref sig .tc := ⟨.hbm, 99, rfl⟩
abbrev main_cst_18 : Ref sig .tc := ⟨.hbm, 100, rfl⟩
abbrev main_v70 : Ref sig .tc := ⟨.hbm, 101, rfl⟩
abbrev main_v71 : Ref sig .tc := ⟨.hbm, 102, rfl⟩
abbrev main_cst_19 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_20 : Ref sig .tc := ⟨.hbm, 108, rfl⟩
abbrev main_v76 : Ref sig .tc := ⟨.hbm, 109, rfl⟩
abbrev main_v77 : Ref sig .tc := ⟨.hbm, 110, rfl⟩
abbrev main_cst_21 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_22 : Ref sig .tc := ⟨.hbm, 117, rfl⟩
abbrev main_v83 : Ref sig .tc := ⟨.hbm, 118, rfl⟩
abbrev main_v84 : Ref sig .tc := ⟨.hbm, 119, rfl⟩
abbrev main_cst_23 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_24 : Ref sig .tc := ⟨.hbm, 128, rfl⟩
abbrev main_v92 : Ref sig .tc := ⟨.hbm, 129, rfl⟩
abbrev main_v93 : Ref sig .tc := ⟨.hbm, 130, rfl⟩
abbrev main_cst_25 : Ref sig .tc := ⟨.hbm, 131, rfl⟩
abbrev main_v94 : Ref sig .tc := ⟨.hbm, 132, rfl⟩
abbrev main_v95 : Ref sig .tc := ⟨.hbm, 133, rfl⟩
abbrev main_cst_26 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_27 : Ref sig .tc := ⟨.hbm, 141, rfl⟩
abbrev main_v102 : Ref sig .tc := ⟨.hbm, 142, rfl⟩
abbrev main_v103 : Ref sig .tc := ⟨.hbm, 143, rfl⟩
abbrev main_cst_28 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩

abbrev nD : Nat := 1
abbrev τ : Topo := Topo.v7x

variable {F : FTy → Type} [FloatOps F]
-- ==== AttnFwd.lean ====
abbrev S8192x1024 : Shape := ⟨2, ![8192, 1024]⟩
abbrev S8192x128 : Shape := ⟨2, ![8192, 128]⟩
abbrev S8192x512 : Shape := ⟨2, ![8192, 512]⟩
abbrev S2048x256 : Shape := ⟨2, ![2048, 256]⟩
abbrev S2048x128 : Shape := ⟨2, ![2048, 128]⟩
abbrev S512x256 : Shape := ⟨2, ![512, 256]⟩
abbrev S512x128 : Shape := ⟨2, ![512, 128]⟩
abbrev S512x512 : Shape := ⟨2, ![512, 512]⟩
abbrev S1024x128 : Shape := ⟨2, ![1024, 128]⟩
abbrev S512x1024 : Shape := ⟨2, ![512, 1024]⟩
abbrev S512 : Shape := ⟨1, ![512]⟩
abbrev S512x1 : Shape := ⟨2, ![512, 1]⟩
abbrev S1536x128 : Shape := ⟨2, ![1536, 128]⟩
abbrev S512x1536 : Shape := ⟨2, ![512, 1536]⟩
abbrev S512x2048 : Shape := ⟨2, ![512, 2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x128, .bf16⟩
  | .hbm, ⟨3, _⟩ => ⟨S8192x1024, .bf16⟩
  | .hbm, ⟨4, _⟩ => ⟨S8192x1024, .bf16⟩
  | .hbm, ⟨5, _⟩ => ⟨S8192x512, .f32⟩
  | .hbm, ⟨6, _⟩ => ⟨S8192x512, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnFwdIdeal.lean ====
variable {F : FTy → Type} [FloatOps F] [Named F]
def κ : String → Option EReal := fun
  | "mask" => some ⊥
  | _ => none
-- ==== AttnFwdReferenceIdeal.lean ====
abbrev S8192x1024 : Shape := ⟨2, ![8192, 1024]⟩
abbrev S8192x128 : Shape := ⟨2, ![8192, 128]⟩
abbrev S4x2048x4x256 : Shape := ⟨4, ![4, 2048, 4, 256]⟩
abbrev S4x2048x4x128 : Shape := ⟨4, ![4, 2048, 4, 128]⟩
abbrev S4x4x2048x2048 : Shape := ⟨4, ![4, 4, 2048, 2048]⟩
abbrev S4x2048x128 : Shape := ⟨3, ![4, 2048, 128]⟩
abbrev S4x2048x2048x4 : Shape := ⟨4, ![4, 2048, 2048, 4]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S8192x512 : Shape := ⟨2, ![8192, 512]⟩
abbrev S4x2048x4x1 : Shape := ⟨4, ![4, 2048, 4, 1]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x128, .bf16⟩
  | .hbm, ⟨3, _⟩ => ⟨S8192x1024, .bf16⟩
  | .hbm, ⟨4, _⟩ => ⟨S8192x1024, .f32⟩
  | .hbm, ⟨5, _⟩ => ⟨S4x2048x4x256, .f32⟩
  | .hbm, ⟨6, _⟩ => ⟨S8192x1024, .f32⟩
  | .hbm, ⟨7, _⟩ => ⟨S4x2048x4x256, .f32⟩
  | .hbm, ⟨8, _⟩ => ⟨S4x2048x4x128, .f32⟩
  | .hbm, ⟨9, _⟩ => ⟨S4x2048x4x128, .f32⟩
  | .hbm, ⟨10, _⟩ => ⟨S4x4x2048x2048, .f32⟩
  | .hbm, ⟨11, _⟩ => ⟨S4x2048x4x128, .f32⟩
  | .hbm, ⟨12, _⟩ => ⟨S8192x128, .f32⟩
  | .hbm, ⟨13, _⟩ => ⟨S4x2048x128, .f32⟩
  | .hbm, ⟨14, _⟩ => ⟨S4x2048x2048x4, .f32⟩
  | .hbm, ⟨15, _⟩ => ⟨S4x4x2048x2048, .f32⟩
  | .hbm, ⟨16, _⟩ => ⟨S4x4x2048x2048, .f32⟩
  | .hbm, ⟨17, _⟩ => ⟨S2048, .i32⟩
  | .hbm, ⟨18, _⟩ => ⟨S_, .i32⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S1x2048, .i32⟩
  | .hbm, ⟨37, _⟩ => ⟨S2048x1, .i32⟩
  | .hbm, ⟨38, _⟩ => ⟨S2048x2048, .i32⟩
  | .hbm, ⟨39, _⟩ => ⟨S2048x2048, .i32⟩
  | .hbm, ⟨40, _⟩ => ⟨S2048x2048, .i1⟩
  | .hbm, ⟨41, _⟩ => ⟨S_, .f32⟩
  | .hbm, ⟨42, _⟩ => ⟨S4x4x2048x2048, .f32⟩
  | .hbm, ⟨43, _⟩ => ⟨S4x4x2048x2048, .f32⟩
  | .hbm, ⟨44, _⟩ => ⟨S_, .f32⟩
  | .hbm, ⟨45, _⟩ => ⟨S_, .f32⟩
  | .hbm, ⟨46, _⟩ => ⟨S4x4x2048x2048, .i1⟩
  | .hbm, ⟨47, _⟩ => ⟨S4x4x2048x2048, .f32⟩
  | .hbm, ⟨48, _⟩ => ⟨S4x4x2048x2048, .f32⟩
  | .hbm, ⟨49, _⟩ => ⟨S_, .f32⟩
  | .hbm, ⟨50, _⟩ => ⟨S4x4x2048, .f32⟩
  | .hbm, ⟨51, _⟩ => ⟨S4x4x2048x1, .f32⟩
  | .hbm, ⟨52, _⟩ => ⟨S4x4x2048x2048, .f32⟩
  | .hbm, ⟨53, _⟩ => ⟨S4x4x2048x2048, .f32⟩
  | .hbm, ⟨54, _⟩ => ⟨S4x4x2048x2048, .f32⟩
  | .hbm, ⟨55, _⟩ => ⟨S_, .f32⟩
  | .hbm, ⟨56, _⟩ => ⟨S4x4x2048, .f32⟩
  | .hbm, ⟨57, _⟩ => ⟨S4x4x2048x1, .f32⟩
  | .hbm, ⟨58, _⟩ => ⟨S4x4x2048x2048, .f32⟩
  | .hbm, ⟨59, _⟩ => ⟨S4x4x2048x2048, .f32⟩
  | .hbm, ⟨60, _⟩ => ⟨S4x2048x4x128, .f32⟩
  | .hbm, ⟨61, _⟩ => ⟨S4x4x128x2048, .f32⟩
  | .hbm, ⟨62, _⟩ => ⟨S4x2048x4x128, .f32⟩
  | .hbm, ⟨63, _⟩ => ⟨S8192x512, .f32⟩
  | .hbm, ⟨64, _⟩ => ⟨S4x4x2048x1, .f32⟩
  | .hbm, ⟨65, _⟩ => ⟨S4x4x2048x1, .f32⟩
  | .hbm, ⟨66, _⟩ => ⟨S4x2048x4x1, .f32⟩
  | .hbm, ⟨67, _⟩ => ⟨S4x2048x4x128, .f32⟩
  | .hbm, ⟨68, _⟩ => ⟨S8192x512, .f32⟩
  | .hbm, ⟨69, _⟩ => ⟨S8192x512, .bf16⟩
  | .hbm, ⟨70, _⟩ => ⟨S8192x512, .bf16⟩
  | .hbm, ⟨71, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_cst_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v22 : Ref sig .tc := ⟨.hbm, 48, rfl⟩
abbrev main_cst_1 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_2 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩

abbrev nD : Nat := 1
abbrev τ : Topo := Topo.v7x

variable {F : FTy → Type} [FloatOps F]
-- ==== Proof.Saved.lean ====
/- What the forward pass saves, as the kernel's host lines compute it: each line over the ones before. -/
module

public import proofs.«01_k».proof.Proof.Gen.KernelIdeal.Value
public import Idealize.ShloMosaic.Lib.StableHlo.ReadAt

@[expose] public section

set_option maxRecDepth 16384

noncomputable section

namespace Cert.KernelIdeal.Attn

open Cert.KernelIdeal Cert.KernelIdeal.Facts₀ Cert.KernelIdeal.Facts Idealize.ShloMosaic Idealize.ShloMosaic.TcCoe

/-- The rows of an argument as sequences, positions and heads; the two halves of a head's columns. -/
def heads (X : FVec Ideal S8192x1024 .bf16) : FVec Ideal S4x2048x4x256 .f32 := shapeCast S4x2048x4x256 (extf .f32 X bitsLt_bf16_f32) shapeCasts_S8192x1024_S4x2048x4x256
def first (X : FVec Ideal S4x2048x4x256 .f32) : FVec Ideal S4x2048x4x128 .f32 := extractStridedSlice S4x2048x4x128 ![0, 0, 0, 0] X slices_S4x2048x4x256_S4x2048x4x128_0_0_0_0
def second (X : FVec Ideal S4x2048x4x256 .f32) : FVec Ideal S4x2048x4x128 .f32 := extractStridedSlice S4x2048x4x128 ![0, 0, 0, 128] X slices_S4x2048x4x256_S4x2048x4x128_0_0_0_128
def seqs (X : FVec Ideal S8192x128 .bf16) : FVec Ideal S4x2048x128 .f32 := shapeCast S4x2048x128 (extf .f32 X bitsLt_bf16_f32) shapeCasts_S8192x128_S4x2048x128

/-- The two products of the scores. -/
def prodN (q k : FVec Ideal S4x2048x4x128 .f32) : FVec Ideal S4x4x2048x2048 .f32 := Host.dotGeneral dot_S4x2048x4x128_S4x2048x4x128_S4x4x2048x2048_3_3_1_1_02_02 none q k
def prodR (q : FVec Ideal S4x2048x4x128 .f32) (r : FVec Ideal S4x2048x128 .f32) : FVec Ideal S4x4x2048x2048 .f32 :=
  transpose S4x4x2048x2048 [0, 3, 2, 1] (Host.dotGeneral dot_S4x2048x128_S4x2048x4x128_S4x2048x2048x4_2_3_1_12_0_0 none r q) transposes_S4x2048x2048x4_S4x4x2048x2048_0_3_2_1

/-- The scores scaled, and −∞ where the key's chunk comes after the query's. -/
def keep (ch : IVec S2048 32) : IVec S4x4x2048x2048 1 :=
  broadcastInDim S4x4x2048x2048 ![2, 3] bcast_S2048x2048_S4x4x2048x2048_2_3 (cmpi .sle
    (broadcastInDim S2048x2048 ![0, 1] bcast_S1x2048_S2048x2048_0_1 (broadcastInDim S1x2048 ![1] bcast_S2048_S1x2048_1 ch))
    (broadcastInDim S2048x2048 ![0, 1] bcast_S2048x1_S2048x2048_0_1 (broadcastInDim S2048x1 ![0] bcast_S2048_S2048x1_0 ch)))
def scaledH (s : FVec Ideal S4x4x2048x2048 .f32) : FVec Ideal S4x4x2048x2048 .f32 :=
  mulf s (broadcastInDim S4x4x2048x2048 ![] bcast_S_S4x4x2048x2048 (constant S_ .f32 0x3D93CD3A#32))
def maskedH (ch : IVec S2048 32) (s : FVec Ideal S4x4x2048x2048 .f32) : FVec Ideal S4x4x2048x2048 .f32 :=
  select (keep ch) (scaledH s) (broadcastInDim S4x4x2048x2048 ![] bcast_S_S4x4x2048x2048 (constant S_ .f32 0xFF800000#32))

/-- The row maximum, the exponentials, their row sum. -/
def topH (s : FVec Ideal S4x4x2048x2048 .f32) : FVec Ideal S4x4x2048x1 .f32 :=
  broadcastInDim S4x4x2048x1 ![0, 1, 2] bcast_S4x4x2048_S4x4x2048x1_0_1_2 (Host.reduce FloatOps.maximumf s (constant S_ .f32 0xFF800000#32) reducesTo_S4x4x2048x2048_S4x4x2048_d3 h_S_)
def across (x : FVec Ideal S4x4x2048x1 .f32) : FVec Ideal S4x4x2048x2048 .f32 := broadcastInDim S4x4x2048x2048 ![0, 1, 2, 3] bcast_S4x4x2048x1_S4x4x2048x2048_0_1_2_3 x
def expH (s : FVec Ideal S4x4x2048x2048 .f32) (t : FVec Ideal S4x4x2048x1 .f32) : FVec Ideal S4x4x2048x2048 .f32 := Host.exp (subf s (across t))
def normH (e : FVec Ideal S4x4x2048x2048 .f32) : FVec Ideal S4x4x2048x1 .f32 :=
  broadcastInDim S4x4x2048x1 ![0, 1, 2] bcast_S4x4x2048_S4x4x2048x1_0_1_2 (Host.reduceAdd e (constant S_ .f32 0x00000000#32) reducesTo_S4x4x2048x2048_S4x4x2048_d3 h_S_)

/-- The heads' outputs, and the row log-sums over a head's columns. -/
def outH (v : FVec Ideal S4x2048x4x128 .f32) (e : FVec Ideal S4x4x2048x2048 .f32) (n : FVec Ideal S4x4x2048x1 .f32) : FVec Ideal S8192x512 .f32 :=
  shapeCast S8192x512 (transpose S4x2048x4x128 [0, 3, 1, 2] (Host.dotGeneral dot_S4x2048x4x128_S4x4x2048x2048_S4x4x128x2048_1_3_3_2_02_01 none v (Host.divf e (across n)))
    transposes_S4x4x128x2048_S4x2048x4x128_0_3_1_2) shapeCasts_S4x2048x4x128_S8192x512
def lseH (t n : FVec Ideal S4x4x2048x1 .f32) : FVec Ideal S8192x512 .f32 :=
  shapeCast S8192x512 (broadcastInDim S4x2048x4x128 ![0, 1, 2, 3] bcast_S4x2048x4x1_S4x2048x4x128_0_1_2_3
    (transpose S4x2048x4x1 [0, 2, 1, 3] (addf t (Host.log n)) transposes_S4x4x2048x1_S4x2048x4x1_0_2_1_3)) shapeCasts_S4x2048x4x128_S8192x512

variable (m : (ℓ : Loc nD τ sig) → Buf (Elt Ideal) ℓ) (c : Dev nD)

open Cert.KernelIdeal.Gen (V)

theorem step_v12 : (V m c main_v12 : FVec Ideal S4x4x2048x2048 .f32)
    = addf (prodN (first (heads (m ((c : Thread nD τ).loc main_arg0)))) (first (heads (m ((c : Thread nD τ).loc main_arg1)))))
        (prodR (second (heads (m ((c : Thread nD τ).loc main_arg0)))) (seqs (m ((c : Thread nD τ).loc main_arg2)))) := by
  unfold V
  unfold_abbrev_sides
  after_reads_simp
  rfl
theorem step_v22 : (V m c main_v22 : FVec Ideal S4x4x2048x2048 .f32) = maskedH (V m c main_v14) (V m c main_v12) := by
  unfold V
  unfold_abbrev_sides
  after_reads_simp
  rfl
theorem step_v24 : (V m c main_v24 : FVec Ideal S4x4x2048x1 .f32) = topH (V m c main_v22) := by
  unfold V
  unfold_abbrev_sides
  after_reads_simp
  rfl
theorem step_v27 : (V m c main_v27 : FVec Ideal S4x4x2048x2048 .f32) = expH (V m c main_v22) (V m c main_v24) := by
  unfold V
  unfold_abbrev_sides
  after_reads_simp
  rfl
theorem step_v29 : (V m c main_v29 : FVec Ideal S4x4x2048x1 .f32) = normH (V m c main_v27) := by
  unfold V
  unfold_abbrev_sides
  after_reads_simp
  rfl
theorem step_v35 : (V m c main_v35 : FVec Ideal S8192x512 .f32) = outH (second (heads (m ((c : Thread nD τ).loc main_arg1)))) (V m c main_v27) (V m c main_v29) := by
  unfold V
  unfold_abbrev_sides
  after_reads_simp
  rfl
theorem step_v40 : (V m c main_v40 : FVec Ideal S8192x512 .f32) = lseH (V m c main_v24) (V m c main_v29) := by
  unfold V
  unfold_abbrev_sides
  after_reads_simp
  rfl

end Cert.KernelIdeal.Attn

end
-- ==== Proof.AttnSpec.lean ====
/- The gradient of one head of the block-causal attention, over the real numbers.
   Rows and columns are natural numbers; a head has 2048 query rows and 2048 key rows. Query row `a` sees key row `b`
   when the key's chunk of 64 rows does not come after the query's. -/
module

public import Mathlib.Data.EReal.Operations
public import Mathlib.Algebra.BigOperators.Fin
public import Mathlib.Algebra.BigOperators.Field
public import Mathlib.Analysis.SpecialFunctions.Exp
public import Mathlib.Analysis.SpecialFunctions.Log.Basic

@[expose] public section

noncomputable section

namespace AttnSpec

open Finset

/-- The scale of the scores, the f32 number next to `192 ^ (-1/2)`. -/
def scale : ℝ := 9686330 / 134217728

/-- What one head's gradient is computed from: queries, keys and values (128 columns each, side by side), rotated keys,
    the outputs' gradient. -/
structure Head where
  q : ℕ → ℕ → ℝ
  k : ℕ → ℕ → ℝ
  r : ℕ → ℕ → ℝ
  g : ℕ → ℕ → ℝ

namespace Head

variable (H : Head)

/-- The scaled score of query row `a` against key row `b`. -/
def score (a b : ℕ) : ℝ := (∑ d : Fin 128, H.q a d * H.k b d + ∑ d : Fin 128, H.q a (128 + d) * H.r b d) * scale

/-- The weight before normalisation: the exponential of the score where the row sees the key. -/
def e (a b : ℕ) : ℝ := if b / 64 ≤ a / 64 then Real.exp (H.score a b) else 0

/-- The row's normaliser and the log-sum the forward pass saves. -/
def Z (a : ℕ) : ℝ := ∑ b : Fin 2048, H.e a b
def lse (a : ℕ) : ℝ := Real.log (H.Z a)

/-- The attention weights, and the head's output. -/
def p (a b : ℕ) : ℝ := H.e a b / H.Z a
def out (a d : ℕ) : ℝ := ∑ b : Fin 2048, H.p a b * H.k b (128 + d)

/-- The weights' gradient, and the sum of it against the weights: of the outputs' gradient against the outputs. -/
def dp (a b : ℕ) : ℝ := ∑ d : Fin 128, H.g a d * H.k b (128 + d)
def delta (a : ℕ) : ℝ := ∑ d : Fin 128, H.g a d * H.out a d

/-- The scores' gradient. -/
def ds (a b : ℕ) : ℝ := H.p a b * (H.dp a b - H.delta a) * scale

/-- The gradients: of the queries' two halves, of the keys, of the values, and this head's share of the rotated keys'. -/
def dqn (a d : ℕ) : ℝ := ∑ b : Fin 2048, H.ds a b * H.k b d
def dqr (a d : ℕ) : ℝ := ∑ b : Fin 2048, H.ds a b * H.r b d
def dk (b d : ℕ) : ℝ := ∑ a : Fin 2048, H.ds a b * H.q a d
def dv (b d : ℕ) : ℝ := ∑ a : Fin 2048, H.p a b * H.g a d
def dr (b d : ℕ) : ℝ := ∑ a : Fin 2048, H.ds a b * H.q a (128 + d)

theorem e_nonneg (a b : ℕ) : 0 ≤ H.e a b := by unfold e; split_ifs <;> positivity

theorem Z_pos (a : ℕ) (ha : a < 2048) : 0 < H.Z a := by
  refine Finset.sum_pos' (fun b _ => H.e_nonneg a b) ⟨⟨a, ha⟩, Finset.mem_univ _, ?_⟩
  simp only [e, le_refl, if_true]
  positivity

/-- The kernel's weight: the exponential of the score less the log-sum is the normalised weight. -/
theorem exp_sub_lse (a b : ℕ) (ha : a < 2048) (h : b / 64 ≤ a / 64) : Real.exp (H.score a b - H.lse a) = H.p a b := by
  rw [Real.exp_sub, lse, Real.exp_log (H.Z_pos a ha), p, e, if_pos h]

theorem p_of_not (a b : ℕ) (h : ¬b / 64 ≤ a / 64) : H.p a b = 0 := by rw [p, e, if_neg h, zero_div]
theorem ds_of_not (a b : ℕ) (h : ¬b / 64 ≤ a / 64) : H.ds a b = 0 := by rw [ds, p_of_not H a b h, zero_mul, zero_mul]

/-- The log-sum may be taken about any real offset `M`. -/
theorem lse_shift (a : ℕ) (ha : a < 2048) (M : ℝ) :
    M + Real.log (∑ b : Fin 2048, H.e a b * Real.exp (-M)) = H.lse a := by
  rw [← Finset.sum_mul]; change M + Real.log (H.Z a * _) = _; rw [Real.log_mul (H.Z_pos a ha).ne' (Real.exp_pos _).ne', Real.log_exp]
  unfold lse Z; ring

/-- The weights may be taken about any real offset `M`. -/
theorem p_shift (a b : ℕ) (M : ℝ) :
    H.e a b * Real.exp (-M) / (∑ b : Fin 2048, H.e a b * Real.exp (-M)) = H.p a b := by
  rw [← Finset.sum_mul, mul_div_mul_right _ _ (Real.exp_pos _).ne']; rfl

/-- The outputs' gradient against the outputs is the weights' gradient against the weights. -/
theorem delta_eq (a : ℕ) : H.delta a = ∑ b : Fin 2048, H.p a b * H.dp a b := by
  unfold delta out dp
  simp only [Finset.mul_sum]
  rw [Finset.sum_comm]
  exact Finset.sum_congr rfl fun b _ => Finset.sum_congr rfl fun d _ => by ring

/-- The gradient of a softmax as the reference forms it: through the quotient by the normaliser `n`, then the
    exponentials `x b`, both about an offset. -/
theorem ds_quotient (a b : ℕ) (ha : a < 2048) (M : ℝ) :
    (H.dp a b / (∑ b : Fin 2048, H.e a b * Real.exp (-M))
      + -(∑ b' : Fin 2048, H.dp a b' * (1 / ((∑ b : Fin 2048, H.e a b * Real.exp (-M)) * (∑ b : Fin 2048, H.e a b * Real.exp (-M)))) * (H.e a b' * Real.exp (-M))))
      * (H.e a b * Real.exp (-M)) * scale = H.ds a b := by
  have hn : (∑ b : Fin 2048, H.e a b * Real.exp (-M)) ≠ 0 := by
    rw [← Finset.sum_mul]; exact mul_ne_zero (H.Z_pos a ha).ne' (Real.exp_pos _).ne'
  have hp := fun b => H.p_shift a b M
  generalize (∑ b : Fin 2048, H.e a b * Real.exp (-M)) = n at *
  have h1 : (∑ b' : Fin 2048, H.dp a b' * (1 / (n * n)) * (H.e a b' * Real.exp (-M))) = H.delta a / n := by
    rw [delta_eq, Finset.sum_div]
    refine Finset.sum_congr rfl fun b' _ => ?_
    rw [← hp]; field_simp
  rw [h1, ds, ← hp]
  field_simp
  ring

end Head

/-- A finite sum of reals, in the extended reals. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A sum over 2048 rows, block of 256 rows by block. -/
theorem sum_blocks (f : ℕ → ℝ) : ∑ a : Fin 2048, f a = ∑ i : Fin 8, ∑ x : Fin 256, f (256 * i + x) := by
  rw [← Fintype.sum_prod_type']
  refine (Fintype.sum_equiv (finProdFinEquiv (m := 8) (n := 256)) _ (fun a : Fin 2048 => f a) fun t => ?_).symm
  congr 1
  simp only [finProdFinEquiv_apply_val]
  ring

end AttnSpec

end
-- ==== Proof.Global.lean ====
/- The step's arrays as real numbers: four sequences of 2048 rows, four heads side by side. -/
module

public import proofs.«01_k».proof.Proof.AttnSpec

@[expose] public section

noncomputable section

namespace AttnSpec

open Finset

/-- The queries, the keys and values, the rotated keys and the outputs' gradient, over the rows of all sequences. -/
structure Data where
  q : ℕ → ℕ → ℝ
  kv : ℕ → ℕ → ℝ
  kr : ℕ → ℕ → ℝ
  g : ℕ → ℕ → ℝ

namespace Data

variable (D : Data)

/-- Head `h` of sequence `b`. -/
def head (b h : ℕ) : Head where
  q a d := D.q (2048 * b + a) (256 * h + d)
  k a d := D.kv (2048 * b + a) (256 * h + d)
  r a d := D.kr (2048 * b + a) d
  g a d := D.g (2048 * b + a) (128 * h + d)

/-- The three gradients over the rows of all sequences. -/
def dq (n c : ℕ) : ℝ :=
  if c % 256 < 128 then (D.head (n / 2048) (c / 256)).dqn (n % 2048) (c % 256) else (D.head (n / 2048) (c / 256)).dqr (n % 2048) (c % 256 - 128)
def dkv (n c : ℕ) : ℝ :=
  if c % 256 < 128 then (D.head (n / 2048) (c / 256)).dk (n % 2048) (c % 256) else (D.head (n / 2048) (c / 256)).dv (n % 2048) (c % 256 - 128)
def dkr (n d : ℕ) : ℝ := ∑ h ∈ range 4, (D.head (n / 2048) h).dr (n % 2048) d

/-- What the forward pass saves: outputs and log-sums, the latter over a head's 128 columns. -/
def out (n c : ℕ) : ℝ := (D.head (n / 2048) (c / 128)).out (n % 2048) (c % 128)
def lse (n c : ℕ) : ℝ := (D.head (n / 2048) (c / 128)).lse (n % 2048)

end Data

end AttnSpec

end
-- ==== Proof.Tile.lean ====
/- The backward kernel of the attention, one tile at a time, as functions of the blocks a grid point loads.
   A grid point works on one head of one sequence: 2048 query rows and 2048 key rows, cut into eight blocks of 256
   rows. `(i, j)` is the tile of query block `i` against key block `j`; only tiles with `j ≤ i` are walked. -/
module

public import proofs.«01_k».proof.Proof.Gen.KernelIdeal.Frame
public import Idealize.ShloMosaic.Lib.Pipeline.FrameBody

@[expose] public section

set_option maxRecDepth 16384

noncomputable section

namespace Cert.KernelIdeal.Attn

open Cert.KernelIdeal Cert.KernelIdeal.Facts₀ Cert.KernelIdeal.Facts Idealize.ShloMosaic Idealize.ShloMosaic.TcCoe

/-- What a grid point loads, block of rows by block of rows: the queries, the two halves of the keys and values, the
    rotated keys, the outputs' gradient, the forward outputs and the rows' log-sums. -/
structure Loads where
  q : Fin 8 → FVec Ideal S256x256 .bf16
  kn : Fin 8 → FVec Ideal S256x128 .bf16
  v : Fin 8 → FVec Ideal S256x128 .bf16
  kr : Fin 8 → FVec Ideal S256x128 .bf16
  g : Fin 8 → FVec Ideal S256x128 .f32
  o : Fin 8 → FVec Ideal S256x128 .f32
  l : Fin 8 → FVec Ideal S256x128 .f32

theorem fits256 (i : Fin 8) : ∀ a, (![256 * i.val, 0] : Fin 2 → Nat) a + S256x256.size a ≤ S2048x256.size a := fun a => by
  have := i.isLt
  fin_cases a
  · show 256 * i.val + 256 ≤ 2048; omega
  · show 0 + 256 ≤ 256; omega
theorem fitsLo (i : Fin 8) : ∀ a, (![256 * i.val, 0] : Fin 2 → Nat) a + S256x128.size a ≤ S2048x256.size a := fun a => by
  have := i.isLt
  fin_cases a
  · show 256 * i.val + 256 ≤ 2048; omega
  · show 0 + 128 ≤ 256; omega
theorem fitsHi (i : Fin 8) : ∀ a, (![256 * i.val, 128] : Fin 2 → Nat) a + S256x128.size a ≤ S2048x256.size a := fun a => by
  have := i.isLt
  fin_cases a
  · show 256 * i.val + 256 ≤ 2048; omega
  · show 128 + 128 ≤ 256; omega
theorem fits128 (i : Fin 8) : ∀ a, (![256 * i.val, 0] : Fin 2 → Nat) a + S256x128.size a ≤ S2048x128.size a := fun a => by
  have := i.isLt
  fin_cases a
  · show 256 * i.val + 256 ≤ 2048; omega
  · show 0 + 128 ≤ 128; omega

/-- Row block `i` of a 256 column buffer: all its columns, its first half, its second half; and of a 128 column one. -/
abbrev rect256 (i : Fin 8) : Rect S2048x256 := Rect.unit ![256 * i.val, 0] S256x256.size (fits256 i)
abbrev rectLo (i : Fin 8) : Rect S2048x256 := Rect.unit ![256 * i.val, 0] S256x128.size (fitsLo i)
abbrev rectHi (i : Fin 8) : Rect S2048x256 := Rect.unit ![256 * i.val, 128] S256x128.size (fitsHi i)
abbrev rect128 (i : Fin 8) : Rect S2048x128 := Rect.unit ![256 * i.val, 0] S256x128.size (fits128 i)

/-- The loads of a grid point from its staging buffers. -/
def loads (arg2 : Memref sig .tc .vmem S2048x256 .bf16) (harg2 : arg2.IsWhole) (arg3 : Memref sig .tc .vmem S2048x256 .bf16) (harg3 : arg3.IsWhole)
    (arg4 : Memref sig .tc .vmem S2048x128 .bf16) (harg4 : arg4.IsWhole) (arg5 : Memref sig .tc .vmem S2048x128 .f32) (harg5 : arg5.IsWhole)
    (arg6 : Memref sig .tc .vmem S2048x128 .f32) (harg6 : arg6.IsWhole) (arg7 : Memref sig .tc .vmem S2048x128 .f32) (harg7 : arg7.IsWhole)
    (x0 : Vec Ideal S2048x256 .bf16) (x1 : Vec Ideal S2048x256 .bf16) (x2 : Vec Ideal S2048x128 .bf16) (x3 : Vec Ideal S2048x128 .f32)
    (x4 : Vec Ideal S2048x128 .f32) (x5 : Vec Ideal S2048x128 .f32) : Loads where
  q i := View.readAt (Elt Ideal) arg2.view (rect256 i).toLoadRect (harg2.unread x0)
  kn i := View.readAt (Elt Ideal) arg3.view (rectLo i).toLoadRect (harg3.unread x1)
  v i := View.readAt (Elt Ideal) arg3.view (rectHi i).toLoadRect (harg3.unread x1)
  kr i := View.readAt (Elt Ideal) arg4.view (rect128 i).toLoadRect (harg4.unread x2)
  g i := View.readAt (Elt Ideal) arg5.view (rect128 i).toLoadRect (harg5.unread x3)
  o i := View.readAt (Elt Ideal) arg6.view (rect128 i).toLoadRect (harg6.unread x4)
  l i := View.readAt (Elt Ideal) arg7.view (rect128 i).toLoadRect (harg7.unread x5)

/-- The block triangle's mask on a diagonal tile: a key's chunk of 64 rows does not come after the query's. -/
def mask (i : Fin 8) : IVec S256x256 1 :=
  cmpi .sle (shrsi (addi (broadcast S256x256 (BitVec.ofNat 32 (256 * i.val))) (iota .tc S256x256 32 [1] iota_S256x256_d1_w32)) (broadcast S256x256 6#32))
    (shrsi (addi (broadcast S256x256 (BitVec.ofNat 32 (256 * i.val))) (iota .tc S256x256 32 [0] iota_S256x256_d0_w32)) (broadcast S256x256 6#32))

/-- The scaled scores of a tile. -/
def score (L : Loads) (i j : Fin 8) : FVec Ideal S256x256 .f32 :=
  mulf (addf (matmul dot_S256x128_S256x128_S256x256_1_1_0_0_n_n none (extractStridedSlice S256x128 ![0, 0] (L.q i) slices_S256x256_o0_0_S256x128) (L.kn j) (constant S256x256 .f32 0x00000000#32))
      (matmul dot_S256x128_S256x128_S256x256_1_1_0_0_n_n none (extractStridedSlice S256x128 ![0, 128] (L.q i) slices_S256x256_o0_128_S256x128) (L.kr j) (constant S256x256 .f32 0x00000000#32)))
    (broadcast S256x256 (Scalar.ofBits (F := Ideal) .f32 0x3D93CD3A#32))

/-- The scores with the mask laid on where the tile meets the diagonal. -/
def masked (L : Loads) (i j : Fin 8) : FVec Ideal S256x256 .f32 :=
  bif i.val == j.val then select (mask i) (score L i j) (broadcast S256x256 (Named.named κ "mask" 0xF149F2CA#32)) else score L i j

/-- The weights of a tile, rebuilt from the scores and the rows' log-sums. -/
def weight (L : Loads) (i j : Fin 8) : FVec Ideal S256x256 .f32 :=
  exp (subf (masked L i j) (broadcastTo S256x256 (shapeCast S256x1 (multiReduction .maximumf [1] S256 (shapeCast S256x128 (L.l i) shapeCasts_S256x128_S256x128) 0xFF800000#32 reduces_S256x128_S256 (.inl rfl) rfl) shapeCasts_S256_S256x1) broadcasts_S256x1_S256x256))

/-- The gradient of the scores of a tile. -/
def dscore (L : Loads) (i j : Fin 8) : FVec Ideal S256x256 .f32 :=
  mulf (mulf (weight L i j)
      (subf (matmul dot_S256x128_S256x128_S256x256_1_1_0_0_n_n none (truncf .bf16 (L.g i) bitsLt_bf16_f32) (L.v j) (constant S256x256 .f32 0x00000000#32))
        (broadcastTo S256x256 (shapeCast S256x1 (multiReduction .add [1] S256 (mulf (L.g i) (shapeCast S256x128 (L.o i) shapeCasts_S256x128_S256x128)) 0x00000000#32 reduces_S256x128_S256 (.inl rfl) rfl) shapeCasts_S256_S256x1) broadcasts_S256x1_S256x256)))
    (broadcast S256x256 (Scalar.ofBits (F := Ideal) .f32 0x3D93CD3A#32))

/-- What a tile adds to the gradient of the values, of the keys, of the rotated keys. -/
def addV (L : Loads) (i j : Fin 8) : FVec Ideal S256x128 .f32 :=
  matmul dot_S256x256_S256x128_S256x128_0_0_1_1_n_n none (truncf .bf16 (weight L i j) bitsLt_bf16_f32) (truncf .bf16 (L.g i) bitsLt_bf16_f32) (constant S256x128 .f32 0x00000000#32)
def addK (L : Loads) (i j : Fin 8) : FVec Ideal S256x128 .f32 :=
  matmul dot_S256x256_S256x128_S256x128_0_0_1_1_n_n none (truncf .bf16 (dscore L i j) bitsLt_bf16_f32) (extractStridedSlice S256x128 ![0, 0] (L.q i) slices_S256x256_o0_0_S256x128) (constant S256x128 .f32 0x00000000#32)
def addR (L : Loads) (i j : Fin 8) : FVec Ideal S256x128 .f32 :=
  matmul dot_S256x256_S256x128_S256x128_0_0_1_1_n_n none (truncf .bf16 (dscore L i j) bitsLt_bf16_f32) (extractStridedSlice S256x128 ![0, 128] (L.q i) slices_S256x256_o0_128_S256x128) (constant S256x128 .f32 0x00000000#32)

/-- What a tile adds to the two halves of the gradient of the queries. -/
def addQn (L : Loads) (i j : Fin 8) : FVec Ideal S256x128 .f32 :=
  matmul dot_S256x256_S256x128_S256x128_1_0_0_1_n_n none (truncf .bf16 (dscore L i j) bitsLt_bf16_f32) (L.kn j) (constant S256x128 .f32 0x00000000#32)
def addQr (L : Loads) (i j : Fin 8) : FVec Ideal S256x128 .f32 :=
  matmul dot_S256x256_S256x128_S256x128_1_0_0_1_n_n none (truncf .bf16 (dscore L i j) bitsLt_bf16_f32) (L.kr j) (constant S256x128 .f32 0x00000000#32)

/-- A row block's query gradient after its tiles `js` (the last one first). -/
def accQ (add : Fin 8 → FVec Ideal S256x128 .f32) : List (Fin 8) → FVec Ideal S256x128 .f32
  | [] => broadcast S256x128 (Scalar.ofBits (F := Ideal) .f32 0x00000000#32)
  | j :: js => addf (accQ add js) (add j)

/-- The two stores of a tile into the gradient buffer of the keys and values: the values' half, then the keys' half,
    each read back over the stores before (`H`, the last one first) and added to. -/
def stepKV (L : Loads) (m : Memref sig .tc .vmem S2048x256 .f32) (t : Fin 8 × Fin 8) (H : List (View.Piece (Elt Ideal) S2048x256 .f32)) :
    List (View.Piece (Elt Ideal) S2048x256 .f32) :=
  ⟨rectLo t.2, addf (shapeCast S256x128 (m.view.readCov
      (⟨rectHi t.2, addf (shapeCast S256x128 (m.view.readCov H (rectHi t.2).toLoadRect) shapeCasts_S256x128_S256x128) (addV L t.1 t.2)⟩ :: H)
      (rectLo t.2).toLoadRect) shapeCasts_S256x128_S256x128) (addK L t.1 t.2)⟩ ::
    ⟨rectHi t.2, addf (shapeCast S256x128 (m.view.readCov H (rectHi t.2).toLoadRect) shapeCasts_S256x128_S256x128) (addV L t.1 t.2)⟩ :: H

/-- The gradient buffer of the keys and values, zeroed, then after the tiles `ts` (the last one first). -/
def storesKV (L : Loads) (m : Memref sig .tc .vmem S2048x256 .f32) : List (Fin 8 × Fin 8) → List (View.Piece (Elt Ideal) S2048x256 .f32)
  | [] => [⟨Rect.unit ![0, 0] S2048x256.size inb_S2048x256_S2048x256_0_0, broadcast S2048x256 (Scalar.ofBits (F := Ideal) .f32 0x00000000#32)⟩]
  | t :: ts => stepKV L m t (storesKV L m ts)

/-- The store of a tile into the gradient buffer of the rotated keys. -/
def stepR (L : Loads) (m : Memref sig .tc .vmem S2048x128 .f32) (t : Fin 8 × Fin 8) (H : List (View.Piece (Elt Ideal) S2048x128 .f32)) :
    List (View.Piece (Elt Ideal) S2048x128 .f32) :=
  ⟨rect128 t.2, addf (shapeCast S256x128 (m.view.readCov H (rect128 t.2).toLoadRect) shapeCasts_S256x128_S256x128) (addR L t.1 t.2)⟩ :: H

/-- That buffer at a sequence's first head: zeroed, then after the tiles `ts`. -/
def storesR (L : Loads) (m : Memref sig .tc .vmem S2048x128 .f32) : List (Fin 8 × Fin 8) → List (View.Piece (Elt Ideal) S2048x128 .f32)
  | [] => [⟨Rect.unit ![0, 0] S2048x128.size inb_S2048x128_S2048x128_0_0, broadcast S2048x128 (Scalar.ofBits (F := Ideal) .f32 0x00000000#32)⟩]
  | t :: ts => stepR L m t (storesR L m ts)

/-- A row block's first store at a later head, over what the heads before left (`x`). -/
def firstR (L : Loads) (m : Memref sig .tc .vmem S2048x128 .f32) (hm : m.IsWhole) (x : Vec Ideal S2048x128 .f32) (i : Fin 8)
    (H : List (View.Piece (Elt Ideal) S2048x128 .f32)) : List (View.Piece (Elt Ideal) S2048x128 .f32) :=
  ⟨rect128 i, addf (shapeCast S256x128 (View.readAt (Elt Ideal) m.view (rect128 i).toLoadRect (hm.unread x)) shapeCasts_S256x128_S256x128) (addR L i i)⟩ :: H

/-- The buffer at a later head after the tiles `ts`: a row block is first met on the diagonal. -/
def storesR' (L : Loads) (m : Memref sig .tc .vmem S2048x128 .f32) (hm : m.IsWhole) (x : Vec Ideal S2048x128 .f32) : List (Fin 8 × Fin 8) → List (View.Piece (Elt Ideal) S2048x128 .f32)
  | [] => []
  | (i, j) :: ts => if i = j then firstR L m hm x i (storesR' L m hm x ts) else stepR L m (i, j) (storesR' L m hm x ts)

/-- The stores into the gradient buffer of the queries for the row blocks `is` (the last one first): the sums over the
    key blocks up to the diagonal, both halves. -/
def storesQ (L : Loads) : List (Fin 8 × List (Fin 8)) → List (View.Piece (Elt Ideal) S2048x256 .f32)
  | [] => []
  | (i, js) :: is => ⟨rectHi i, accQ (addQr L i) js⟩ :: ⟨rectLo i, accQ (addQn L i) js⟩ :: storesQ L is

/-- The row blocks of the queries, the last one first, each with the key blocks it meets. -/
def rowBlocks : List (Fin 8 × List (Fin 8)) :=
  [(7, [7, 6, 5, 4, 3, 2, 1, 0]), (6, [6, 5, 4, 3, 2, 1, 0]), (5, [5, 4, 3, 2, 1, 0]), (4, [4, 3, 2, 1, 0]), (3, [3, 2, 1, 0]),
    (2, [2, 1, 0]), (1, [1, 0]), (0, [0])]

/-- The tiles, the last one first. -/
def tiles : List (Fin 8 × Fin 8) :=
  [(7, 7), (7, 6), (7, 5), (7, 4), (7, 3), (7, 2), (7, 1), (7, 0), (6, 6), (6, 5), (6, 4), (6, 3), (6, 2), (6, 1), (6, 0),
    (5, 5), (5, 4), (5, 3), (5, 2), (5, 1), (5, 0), (4, 4), (4, 3), (4, 2), (4, 1), (4, 0), (3, 3), (3, 2), (3, 1), (3, 0),
    (2, 2), (2, 1), (2, 0), (1, 1), (1, 0), (0, 0)]

end Cert.KernelIdeal.Attn

end
-- ==== Proof.WalkA.lean ====
/- The stores a run of the kernel makes, in the words of `Tile`, at a first head. -/
module

public import proofs.«01_k».proof.Proof.Tile

@[expose] public section

set_option maxRecDepth 16384

noncomputable section

namespace Cert.KernelIdeal.Attn

open Idealize.ShloMosaic.Tactic Cert.KernelIdeal Cert.KernelIdeal.Gen Idealize.ShloMosaic Idealize.ShloMosaic.TcCoe

variable (c : Dev nD) (i : grid0.Coords) (arg2 : Memref sig .tc .vmem S2048x256 .bf16) (harg2 : arg2.IsWhole) (arg3 : Memref sig .tc .vmem S2048x256 .bf16) (harg3 : arg3.IsWhole)
    (arg4 : Memref sig .tc .vmem S2048x128 .bf16) (harg4 : arg4.IsWhole) (arg5 : Memref sig .tc .vmem S2048x128 .f32) (harg5 : arg5.IsWhole)
    (arg6 : Memref sig .tc .vmem S2048x128 .f32) (harg6 : arg6.IsWhole) (arg7 : Memref sig .tc .vmem S2048x128 .f32) (harg7 : arg7.IsWhole)
    (arg8 : Memref sig .tc .vmem S2048x256 .f32) (harg8 : arg8.IsWhole) (arg9 : Memref sig .tc .vmem S2048x256 .f32) (harg9 : arg9.IsWhole)
    (arg10 : Memref sig .tc .vmem S2048x128 .f32) (harg10 : arg10.IsWhole)
    (x0 : Vec Ideal S2048x256 .bf16) (x1 : Vec Ideal S2048x256 .bf16) (x2 : Vec Ideal S2048x128 .bf16) (x3 : Vec Ideal S2048x128 .f32)
    (x4 : Vec Ideal S2048x128 .f32) (x5 : Vec Ideal S2048x128 .f32)
  (hc0 : cond0_0 i)

/-- The stores into the gradient buffer of the queries are the sums over the key blocks. -/
theorem storesQ_A : (kernelRun0_A (F := Ideal) c i arg2 harg2 arg3 harg3 arg4 harg4 arg5 harg5 arg6 harg6 arg7 harg7 arg8 harg8 arg9 harg9 arg10 harg10 hc0 x0 x1 x2 x3 x4 x5).1 = storesQ (loads arg2 harg2 arg3 harg3 arg4 harg4 arg5 harg5 arg6 harg6 arg7 harg7 x0 x1 x2 x3 x4 x5) rowBlocks := by
  sl_kernel_rfl

/-- The stores into the gradient buffer of the keys and values are the walk of the tiles. -/
theorem storesKV_A : (kernelRun0_A (F := Ideal) c i arg2 harg2 arg3 harg3 arg4 harg4 arg5 harg5 arg6 harg6 arg7 harg7 arg8 harg8 arg9 harg9 arg10 harg10 hc0 x0 x1 x2 x3 x4 x5).2.1 = storesKV (loads arg2 harg2 arg3 harg3 arg4 harg4 arg5 harg5 arg6 harg6 arg7 harg7 x0 x1 x2 x3 x4 x5) arg9 tiles := by
  refine Eq.trans (b := stepKV (loads arg2 harg2 arg3 harg3 arg4 harg4 arg5 harg5 arg6 harg6 arg7 harg7 x0 x1 x2 x3 x4 x5) arg9 (7, 7) (kernelRun0_A.sl.H7_71 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (7, 6) (kernelRun0_A.sl.H7_69 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (7, 5) (kernelRun0_A.sl.H7_67 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (7, 4) (kernelRun0_A.sl.H7_65 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (7, 3) (kernelRun0_A.sl.H7_63 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (7, 2) (kernelRun0_A.sl.H7_61 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (7, 1) (kernelRun0_A.sl.H7_59 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (7, 0) (kernelRun0_A.sl.H7_57 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (6, 6) (kernelRun0_A.sl.H7_55 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (6, 5) (kernelRun0_A.sl.H7_53 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (6, 4) (kernelRun0_A.sl.H7_51 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (6, 3) (kernelRun0_A.sl.H7_49 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (6, 2) (kernelRun0_A.sl.H7_47 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (6, 1) (kernelRun0_A.sl.H7_45 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (6, 0) (kernelRun0_A.sl.H7_43 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (5, 5) (kernelRun0_A.sl.H7_41 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (5, 4) (kernelRun0_A.sl.H7_39 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (5, 3) (kernelRun0_A.sl.H7_37 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (5, 2) (kernelRun0_A.sl.H7_35 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (5, 1) (kernelRun0_A.sl.H7_33 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (5, 0) (kernelRun0_A.sl.H7_31 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (4, 4) (kernelRun0_A.sl.H7_29 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (4, 3) (kernelRun0_A.sl.H7_27 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (4, 2) (kernelRun0_A.sl.H7_25 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (4, 1) (kernelRun0_A.sl.H7_23 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (4, 0) (kernelRun0_A.sl.H7_21 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (3, 3) (kernelRun0_A.sl.H7_19 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (3, 2) (kernelRun0_A.sl.H7_17 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (3, 1) (kernelRun0_A.sl.H7_15 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (3, 0) (kernelRun0_A.sl.H7_13 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (2, 2) (kernelRun0_A.sl.H7_11 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (2, 1) (kernelRun0_A.sl.H7_9 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (2, 0) (kernelRun0_A.sl.H7_7 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (1, 1) (kernelRun0_A.sl.H7_5 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (1, 0) (kernelRun0_A.sl.H7_3 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (0, 0) (kernelRun0_A.sl.H7_1 (F := Ideal) )) (by sl_kernel_rfl) (congrArg _ ?_)
  sl_kernel_rfl

/-- The stores into the gradient buffer of the rotated keys are the walk of the tiles. -/
theorem storesR_A : (kernelRun0_A (F := Ideal) c i arg2 harg2 arg3 harg3 arg4 harg4 arg5 harg5 arg6 harg6 arg7 harg7 arg8 harg8 arg9 harg9 arg10 harg10 hc0 x0 x1 x2 x3 x4 x5).2.2.1 = storesR (loads arg2 harg2 arg3 harg3 arg4 harg4 arg5 harg5 arg6 harg6 arg7 harg7 x0 x1 x2 x3 x4 x5) arg10 tiles := by
  refine Eq.trans (b := (fun H => (stepR (loads arg2 harg2 arg3 harg3 arg4 harg4 arg5 harg5 arg6 harg6 arg7 harg7 x0 x1 x2 x3 x4 x5) arg10 (7, 7) H)) (kernelRun0_A.sl.H8_36 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (7, 7) H)) ?_)
  refine Eq.trans (b := (fun H => (stepR (loads arg2 harg2 arg3 harg3 arg4 harg4 arg5 harg5 arg6 harg6 arg7 harg7 x0 x1 x2 x3 x4 x5) arg10 (7, 6) H)) (kernelRun0_A.sl.H8_35 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (7, 6) H)) ?_)
  refine Eq.trans (b := (fun H => (stepR (loads arg2 harg2 arg3 harg3 arg4 harg4 arg5 harg5 arg6 harg6 arg7 harg7 x0 x1 x2 x3 x4 x5) arg10 (7, 5) H)) (kernelRun0_A.sl.H8_34 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (7, 5) H)) ?_)
  refine Eq.trans (b := (fun H => (stepR (loads arg2 harg2 arg3 harg3 arg4 harg4 arg5 harg5 arg6 harg6 arg7 harg7 x0 x1 x2 x3 x4 x5) arg10 (7, 4) H)) (kernelRun0_A.sl.H8_33 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (7, 4) H)) ?_)
  refine Eq.trans (b := (fun H => (stepR (loads arg2 harg2 arg3 harg3 arg4 harg4 arg5 harg5 arg6 harg6 arg7 harg7 x0 x1 x2 x3 x4 x5) arg10 (7, 3) H)) (kernelRun0_A.sl.H8_32 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (7, 3) H)) ?_)
  refine Eq.trans (b := (fun H => (stepR (loads arg2 harg2 arg3 harg3 arg4 harg4 arg5 harg5 arg6 harg6 arg7 harg7 x0 x1 x2 x3 x4 x5) arg10 (7, 2) H)) (kernelRun0_A.sl.H8_31 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (7, 2) H)) ?_)
  refine Eq.trans (b := (fun H => (stepR (loads arg2 harg2 arg3 harg3 arg4 harg4 arg5 harg5 arg6 harg6 arg7 harg7 x0 x1 x2 x3 x4 x5) arg10 (7, 1) H)) (kernelRun0_A.sl.H8_30 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (7, 1) H)) ?_)
  refine Eq.trans (b := (fun H => (stepR (loads arg2 harg2 arg3 harg3 arg4 harg4 arg5 harg5 arg6 harg6 arg7 harg7 x0 x1 x2 x3 x4 x5) arg10 (7, 0) H)) (kernelRun0_A.sl.H8_29 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (7, 0) H)) ?_)
  refine Eq.trans (b := (fun H => (stepR (loads arg2 harg2 arg3 harg3 arg4 harg4 arg5 harg5 arg6 harg6 arg7 harg7 x0 x1 x2 x3 x4 x5) arg10 (6, 6) H)) (kernelRun0_A.sl.H8_28 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (6, 6) H)) ?_)
  refine Eq.trans (b := (fun H => (stepR (loads arg2 harg2 arg3 harg3 arg4 harg4 arg5 harg5 arg6 harg6 arg7 harg7 x0 x1 x2 x3 x4 x5) arg10 (6, 5) H)) (kernelRun0_A.sl.H8_27 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (6, 5) H)) ?_)
  refine Eq.trans (b := (fun H => (stepR (loads arg2 harg2 arg3 harg3 arg4 harg4 arg5 harg5 arg6 harg6 arg7 harg7 x0 x1 x2 x3 x4 x5) arg10 (6, 4) H)) (kernelRun0_A.sl.H8_26 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (6, 4) H)) ?_)
  refine Eq.trans (b := (fun H => (stepR (loads arg2 harg2 arg3 harg3 arg4 harg4 arg5 harg5 arg6 harg6 arg7 harg7 x0 x1 x2 x3 x4 x5) arg10 (6, 3) H)) (kernelRun0_A.sl.H8_25 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (6, 3) H)) ?_)
  refine Eq.trans (b := (fun H => (stepR (loads arg2 harg2 arg3 harg3 arg4 harg4 arg5 harg5 arg6 harg6 arg7 harg7 x0 x1 x2 x3 x4 x5) arg10 (6, 2) H)) (kernelRun0_A.sl.H8_24 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (6, 2) H)) ?_)
  refine Eq.trans (b := (fun H => (stepR (loads arg2 harg2 arg3 harg3 arg4 harg4 arg5 harg5 arg6 harg6 arg7 harg7 x0 x1 x2 x3 x4 x5) arg10 (6, 1) H)) (kernelRun0_A.sl.H8_23 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (6, 1) H)) ?_)
  refine Eq.trans (b := (fun H => (stepR (loads arg2 harg2 arg3 harg3 arg4 harg4 arg5 harg5 arg6 harg6 arg7 harg7 x0 x1 x2 x3 x4 x5) arg10 (6, 0) H)) (kernelRun0_A.sl.H8_22 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (6, 0) H)) ?_)
  refine Eq.trans (b := (fun H => (stepR (loads arg2 harg2 arg3 harg3 arg4 harg4 arg5 harg5 arg6 harg6 arg7 harg7 x0 x1 x2 x3 x4 x5) arg10 (5, 5) H)) (kernelRun0_A.sl.H8_21 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (5, 5) H)) ?_)
  refine Eq.trans (b := (fun H => (stepR (loads arg2 harg2 arg3 harg3 arg4 harg4 arg5 harg5 arg6 harg6 arg7 harg7 x0 x1 x2 x3 x4 x5) arg10 (5, 4) H)) (kernelRun0_A.sl.H8_20 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (5, 4) H)) ?_)
  refine Eq.trans (b := (fun H => (stepR (loads arg2 harg2 arg3 harg3 arg4 harg4 arg5 harg5 arg6 harg6 arg7 harg7 x0 x1 x2 x3 x4 x5) arg10 (5, 3) H)) (kernelRun0_A.sl.H8_19 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (5, 3) H)) ?_)
  refine Eq.trans (b := (fun H => (stepR (loads arg2 harg2 arg3 harg3 arg4 harg4 arg5 harg5 arg6 harg6 arg7 harg7 x0 x1 x2 x3 x4 x5) arg10 (5, 2) H)) (kernelRun0_A.sl.H8_18 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (5, 2) H)) ?_)
  refine Eq.trans (b := (fun H => (stepR (loads arg2 harg2 arg3 harg3 arg4 harg4 arg5 harg5 arg6 harg6 arg7 harg7 x0 x1 x2 x3 x4 x5) arg10 (5, 1) H)) (kernelRun0_A.sl.H8_17 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (5, 1) H)) ?_)
  refine Eq.trans (b := (fun H => (stepR (loads arg2 harg2 arg3 harg3 arg4 harg4 arg5 harg5 arg6 harg6 arg7 harg7 x0 x1 x2 x3 x4 x5) arg10 (5, 0) H)) (kernelRun0_A.sl.H8_16 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (5, 0) H)) ?_)
  refine Eq.trans (b := (fun H => (stepR (loads arg2 harg2 arg3 harg3 arg4 harg4 arg5 harg5 arg6 harg6 arg7 harg7 x0 x1 x2 x3 x4 x5) arg10 (4, 4) H)) (kernelRun0_A.sl.H8_15 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (4, 4) H)) ?_)
  refine Eq.trans (b := (fun H => (stepR (loads arg2 harg2 arg3 harg3 arg4 harg4 arg5 harg5 arg6 harg6 arg7 harg7 x0 x1 x2 x3 x4 x5) arg10 (4, 3) H)) (kernelRun0_A.sl.H8_14 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (4, 3) H)) ?_)
  refine Eq.trans (b := (fun H => (stepR (loads arg2 harg2 arg3 harg3 arg4 harg4 arg5 harg5 arg6 harg6 arg7 harg7 x0 x1 x2 x3 x4 x5) arg10 (4, 2) H)) (kernelRun0_A.sl.H8_13 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (4, 2) H)) ?_)
  refine Eq.trans (b := (fun H => (stepR (loads arg2 harg2 arg3 harg3 arg4 harg4 arg5 harg5 arg6 harg6 arg7 harg7 x0 x1 x2 x3 x4 x5) arg10 (4, 1) H)) (kernelRun0_A.sl.H8_12 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (4, 1) H)) ?_)
  refine Eq.trans (b := (fun H => (stepR (loads arg2 harg2 arg3 harg3 arg4 harg4 arg5 harg5 arg6 harg6 arg7 harg7 x0 x1 x2 x3 x4 x5) arg10 (4, 0) H)) (kernelRun0_A.sl.H8_11 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (4, 0) H)) ?_)
  refine Eq.trans (b := (fun H => (stepR (loads arg2 harg2 arg3 harg3 arg4 harg4 arg5 harg5 arg6 harg6 arg7 harg7 x0 x1 x2 x3 x4 x5) arg10 (3, 3) H)) (kernelRun0_A.sl.H8_10 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (3, 3) H)) ?_)
  refine Eq.trans (b := (fun H => (stepR (loads arg2 harg2 arg3 harg3 arg4 harg4 arg5 harg5 arg6 harg6 arg7 harg7 x0 x1 x2 x3 x4 x5) arg10 (3, 2) H)) (kernelRun0_A.sl.H8_9 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (3, 2) H)) ?_)
  refine Eq.trans (b := (fun H => (stepR (loads arg2 harg2 arg3 harg3 arg4 harg4 arg5 harg5 arg6 harg6 arg7 harg7 x0 x1 x2 x3 x4 x5) arg10 (3, 1) H)) (kernelRun0_A.sl.H8_8 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (3, 1) H)) ?_)
  refine Eq.trans (b := (fun H => (stepR (loads arg2 harg2 arg3 harg3 arg4 harg4 arg5 harg5 arg6 harg6 arg7 harg7 x0 x1 x2 x3 x4 x5) arg10 (3, 0) H)) (kernelRun0_A.sl.H8_7 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (3, 0) H)) ?_)
  refine Eq.trans (b := (fun H => (stepR (loads arg2 harg2 arg3 harg3 arg4 harg4 arg5 harg5 arg6 harg6 arg7 harg7 x0 x1 x2 x3 x4 x5) arg10 (2, 2) H)) (kernelRun0_A.sl.H8_6 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (2, 2) H)) ?_)
  refine Eq.trans (b := (fun H => (stepR (loads arg2 harg2 arg3 harg3 arg4 harg4 arg5 harg5 arg6 harg6 arg7 harg7 x0 x1 x2 x3 x4 x5) arg10 (2, 1) H)) (kernelRun0_A.sl.H8_5 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (2, 1) H)) ?_)
  refine Eq.trans (b := (fun H => (stepR (loads arg2 harg2 arg3 harg3 arg4 harg4 arg5 harg5 arg6 harg6 arg7 harg7 x0 x1 x2 x3 x4 x5) arg10 (2, 0) H)) (kernelRun0_A.sl.H8_4 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (2, 0) H)) ?_)
  refine Eq.trans (b := (fun H => (stepR (loads arg2 harg2 arg3 harg3 arg4 harg4 arg5 harg5 arg6 harg6 arg7 harg7 x0 x1 x2 x3 x4 x5) arg10 (1, 1) H)) (kernelRun0_A.sl.H8_3 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (1, 1) H)) ?_)
  refine Eq.trans (b := (fun H => (stepR (loads arg2 harg2 arg3 harg3 arg4 harg4 arg5 harg5 arg6 harg6 arg7 harg7 x0 x1 x2 x3 x4 x5) arg10 (1, 0) H)) (kernelRun0_A.sl.H8_2 (F := Ideal) c arg2 harg2 arg3 harg3 arg4 harg4 arg5 harg5 arg6 harg6 arg7 harg7 arg10 x0 x1 x2 x3 x4 x5)) (by sl_kernel_rfl) (congrArg (fun H => (stepR (loads arg2 harg2 arg3 harg3 arg4 harg4 arg5 harg5 arg6 harg6 arg7 harg7 x0 x1 x2 x3 x4 x5) arg10 (1, 0) H)) ?_)
  refine Eq.trans (b := (fun H => (stepR (loads arg2 harg2 arg3 harg3 arg4 harg4 arg5 harg5 arg6 harg6 arg7 harg7 x0 x1 x2 x3 x4 x5) arg10 (0, 0) H)) (kernelRun0_A.sl.H8_1 (F := Ideal) )) (by sl_kernel_rfl) (congrArg (fun H => (stepR (loads arg2 harg2 arg3 harg3 arg4 harg4 arg5 harg5 arg6 harg6 arg7 harg7 x0 x1 x2 x3 x4 x5) arg10 (0, 0) H)) ?_)
  sl_kernel_rfl

end Cert.KernelIdeal.Attn

end
-- ==== Proof.WalkB.lean ====
/- The stores a run of the kernel makes, in the words of `Tile`, at a later head. -/
module

public import proofs.«01_k».proof.Proof.Tile

@[expose] public section

set_option maxRecDepth 16384

noncomputable section

namespace Cert.KernelIdeal.Attn

open Idealize.ShloMosaic.Tactic Cert.KernelIdeal Cert.KernelIdeal.Gen Idealize.ShloMosaic Idealize.ShloMosaic.TcCoe

variable (c : Dev nD) (i : grid0.Coords) (arg2 : Memref sig .tc .vmem S2048x256 .bf16) (harg2 : arg2.IsWhole) (arg3 : Memref sig .tc .vmem S2048x256 .bf16) (harg3 : arg3.IsWhole)
    (arg4 : Memref sig .tc .vmem S2048x128 .bf16) (harg4 : arg4.IsWhole) (arg5 : Memref sig .tc .vmem S2048x128 .f32) (harg5 : arg5.IsWhole)
    (arg6 : Memref sig .tc .vmem S2048x128 .f32) (harg6 : arg6.IsWhole) (arg7 : Memref sig .tc .vmem S2048x128 .f32) (harg7 : arg7.IsWhole)
    (arg8 : Memref sig .tc .vmem S2048x256 .f32) (harg8 : arg8.IsWhole) (arg9 : Memref sig .tc .vmem S2048x256 .f32) (harg9 : arg9.IsWhole)
    (arg10 : Memref sig .tc .vmem S2048x128 .f32) (harg10 : arg10.IsWhole)
    (x0 : Vec Ideal S2048x256 .bf16) (x1 : Vec Ideal S2048x256 .bf16) (x2 : Vec Ideal S2048x128 .bf16) (x3 : Vec Ideal S2048x128 .f32)
    (x4 : Vec Ideal S2048x128 .f32) (x5 : Vec Ideal S2048x128 .f32)
  (hc0 : ¬cond0_0 i) (xo8 : Vec Ideal S2048x128 .f32)

/-- The stores into the gradient buffer of the queries are the sums over the key blocks. -/
theorem storesQ_B : (kernelRun0_B (F := Ideal) c i arg2 harg2 arg3 harg3 arg4 harg4 arg5 harg5 arg6 harg6 arg7 harg7 arg8 harg8 arg9 harg9 arg10 harg10 hc0 x0 x1 x2 x3 x4 x5 xo8).1 = storesQ (loads arg2 harg2 arg3 harg3 arg4 harg4 arg5 harg5 arg6 harg6 arg7 harg7 x0 x1 x2 x3 x4 x5) rowBlocks := by
  sl_kernel_rfl

/-- The stores into the gradient buffer of the keys and values are the walk of the tiles. -/
theorem storesKV_B : (kernelRun0_B (F := Ideal) c i arg2 harg2 arg3 harg3 arg4 harg4 arg5 harg5 arg6 harg6 arg7 harg7 arg8 harg8 arg9 harg9 arg10 harg10 hc0 x0 x1 x2 x3 x4 x5 xo8).2.1 = storesKV (loads arg2 harg2 arg3 harg3 arg4 harg4 arg5 harg5 arg6 harg6 arg7 harg7 x0 x1 x2 x3 x4 x5) arg9 tiles := by
  refine Eq.trans (b := stepKV (loads arg2 harg2 arg3 harg3 arg4 harg4 arg5 harg5 arg6 harg6 arg7 harg7 x0 x1 x2 x3 x4 x5) arg9 (7, 7) (kernelRun0_B.sl.H7_71 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (7, 6) (kernelRun0_B.sl.H7_69 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (7, 5) (kernelRun0_B.sl.H7_67 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (7, 4) (kernelRun0_B.sl.H7_65 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (7, 3) (kernelRun0_B.sl.H7_63 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (7, 2) (kernelRun0_B.sl.H7_61 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (7, 1) (kernelRun0_B.sl.H7_59 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (7, 0) (kernelRun0_B.sl.H7_57 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (6, 6) (kernelRun0_B.sl.H7_55 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (6, 5) (kernelRun0_B.sl.H7_53 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (6, 4) (kernelRun0_B.sl.H7_51 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (6, 3) (kernelRun0_B.sl.H7_49 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (6, 2) (kernelRun0_B.sl.H7_47 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (6, 1) (kernelRun0_B.sl.H7_45 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (6, 0) (kernelRun0_B.sl.H7_43 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (5, 5) (kernelRun0_B.sl.H7_41 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (5, 4) (kernelRun0_B.sl.H7_39 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (5, 3) (kernelRun0_B.sl.H7_37 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (5, 2) (kernelRun0_B.sl.H7_35 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (5, 1) (kernelRun0_B.sl.H7_33 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (5, 0) (kernelRun0_B.sl.H7_31 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (4, 4) (kernelRun0_B.sl.H7_29 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (4, 3) (kernelRun0_B.sl.H7_27 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (4, 2) (kernelRun0_B.sl.H7_25 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (4, 1) (kernelRun0_B.sl.H7_23 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (4, 0) (kernelRun0_B.sl.H7_21 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (3, 3) (kernelRun0_B.sl.H7_19 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (3, 2) (kernelRun0_B.sl.H7_17 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (3, 1) (kernelRun0_B.sl.H7_15 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (3, 0) (kernelRun0_B.sl.H7_13 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (2, 2) (kernelRun0_B.sl.H7_11 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (2, 1) (kernelRun0_B.sl.H7_9 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (2, 0) (kernelRun0_B.sl.H7_7 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (1, 1) (kernelRun0_B.sl.H7_5 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (1, 0) (kernelRun0_B.sl.H7_3 (F := Ideal) c arg2 harg2 arg3 harg3 arg4 harg4 arg5 harg5 arg6 harg6 arg7 harg7 arg9 x0 x1 x2 x3 x4 x5)) (by sl_kernel_rfl) (congrArg _ ?_)
  refine Eq.trans (b := stepKV (loads arg2 harg2 arg3 harg3 arg4 harg4 arg5 harg5 arg6 harg6 arg7 harg7 x0 x1 x2 x3 x4 x5) arg9 (0, 0) (kernelRun0_B.sl.H7_1 (F := Ideal) )) (by sl_kernel_rfl) (congrArg _ ?_)
  sl_kernel_rfl

/-- The stores into the gradient buffer of the rotated keys are the walk of the tiles. -/
theorem storesR_B : (kernelRun0_B (F := Ideal) c i arg2 harg2 arg3 harg3 arg4 harg4 arg5 harg5 arg6 harg6 arg7 harg7 arg8 harg8 arg9 harg9 arg10 harg10 hc0 x0 x1 x2 x3 x4 x5 xo8).2.2.1 = storesR' (loads arg2 harg2 arg3 harg3 arg4 harg4 arg5 harg5 arg6 harg6 arg7 harg7 x0 x1 x2 x3 x4 x5) arg10 harg10 xo8 tiles := by
  refine Eq.trans (b := (fun H => (firstR (loads arg2 harg2 arg3 harg3 arg4 harg4 arg5 harg5 arg6 harg6 arg7 harg7 x0 x1 x2 x3 x4 x5) arg10 harg10 xo8 7 (stepR (loads arg2 harg2 arg3 harg3 arg4 harg4 arg5 harg5 arg6 harg6 arg7 harg7 x0 x1 x2 x3 x4 x5) arg10 (7, 6) H))) (kernelRun0_B.sl.H8_34 (F := Ideal) c arg2 harg2 arg3 harg3 arg4 harg4 arg5 harg5 arg6 harg6 arg7 harg7 arg10 harg10 x0 x1 x2 x3 x4 x5 xo8)) (by sl_kernel_rfl) (congrArg (fun H => (firstR (loads arg2 harg2 arg3 harg3 arg4 harg4 arg5 harg5 arg6 harg6 arg7 harg7 x0 x1 x2 x3 x4 x5) arg10 harg10 xo8 7 (stepR (loads arg2 harg2 arg3 harg3 arg4 harg4 arg5 harg5 arg6 harg6 arg7 harg7 x0 x1 x2 x3 x4 x5) arg10 (7, 6) H))) ?_)
  refine Eq.trans (b := (fun H => (stepR (loads arg2 harg2 arg3 harg3 arg4 harg4 arg5 harg5 arg6 harg6 arg7 harg7 x0 x1 x2 x3 x4 x5) arg10 (7, 5) H)) (kernelRun0_B.sl.H8_33 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (7, 5) H)) ?_)
  refine Eq.trans (b := (fun H => (stepR (loads arg2 harg2 arg3 harg3 arg4 harg4 arg5 harg5 arg6 harg6 arg7 harg7 x0 x1 x2 x3 x4 x5) arg10 (7, 4) H)) (kernelRun0_B.sl.H8_32 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (7, 4) H)) ?_)
  refine Eq.trans (b := (fun H => (stepR (loads arg2 harg2 arg3 harg3 arg4 harg4 arg5 harg5 arg6 harg6 arg7 harg7 x0 x1 x2 x3 x4 x5) arg10 (7, 3) H)) (kernelRun0_B.sl.H8_31 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (7, 3) H)) ?_)
  refine Eq.trans (b := (fun H => (stepR (loads arg2 harg2 arg3 harg3 arg4 harg4 arg5 harg5 arg6 harg6 arg7 harg7 x0 x1 x2 x3 x4 x5) arg10 (7, 2) H)) (kernelRun0_B.sl.H8_30 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (7, 2) H)) ?_)
  refine Eq.trans (b := (fun H => (stepR (loads arg2 harg2 arg3 harg3 arg4 harg4 arg5 harg5 arg6 harg6 arg7 harg7 x0 x1 x2 x3 x4 x5) arg10 (7, 1) H)) (kernelRun0_B.sl.H8_29 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (7, 1) H)) ?_)
  refine Eq.trans (b := (fun H => (stepR (loads arg2 harg2 arg3 harg3 arg4 harg4 arg5 harg5 arg6 harg6 arg7 harg7 x0 x1 x2 x3 x4 x5) arg10 (7, 0) H)) (kernelRun0_B.sl.H8_28 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (7, 0) H)) ?_)
  refine Eq.trans (b := (fun H => (firstR (loads arg2 harg2 arg3 harg3 arg4 harg4 arg5 harg5 arg6 harg6 arg7 harg7 x0 x1 x2 x3 x4 x5) arg10 harg10 xo8 6 (stepR (loads arg2 harg2 arg3 harg3 arg4 harg4 arg5 harg5 arg6 harg6 arg7 harg7 x0 x1 x2 x3 x4 x5) arg10 (6, 5) H))) (kernelRun0_B.sl.H8_26 (F := Ideal) c arg2 harg2 arg3 harg3 arg4 harg4 arg5 harg5 arg6 harg6 arg7 harg7 arg10 harg10 x0 x1 x2 x3 x4 x5 xo8)) (by sl_kernel_rfl) (congrArg (fun H => (firstR (loads arg2 harg2 arg3 harg3 arg4 harg4 arg5 harg5 arg6 harg6 arg7 harg7 x0 x1 x2 x3 x4 x5) arg10 harg10 xo8 6 (stepR (loads arg2 harg2 arg3 harg3 arg4 harg4 arg5 harg5 arg6 harg6 arg7 harg7 x0 x1 x2 x3 x4 x5) arg10 (6, 5) H))) ?_)
  refine Eq.trans (b := (fun H => (stepR (loads arg2 harg2 arg3 harg3 arg4 harg4 arg5 harg5 arg6 harg6 arg7 harg7 x0 x1 x2 x3 x4 x5) arg10 (6, 4) H)) (kernelRun0_B.sl.H8_25 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (6, 4) H)) ?_)
  refine Eq.trans (b := (fun H => (stepR (loads arg2 harg2 arg3 harg3 arg4 harg4 arg5 harg5 arg6 harg6 arg7 harg7 x0 x1 x2 x3 x4 x5) arg10 (6, 3) H)) (kernelRun0_B.sl.H8_24 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (6, 3) H)) ?_)
  refine Eq.trans (b := (fun H => (stepR (loads arg2 harg2 arg3 harg3 arg4 harg4 arg5 harg5 arg6 harg6 arg7 harg7 x0 x1 x2 x3 x4 x5) arg10 (6, 2) H)) (kernelRun0_B.sl.H8_23 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (6, 2) H)) ?_)
  refine Eq.trans (b := (fun H => (stepR (loads arg2 harg2 arg3 harg3 arg4 harg4 arg5 harg5 arg6 harg6 arg7 harg7 x0 x1 x2 x3 x4 x5) arg10 (6, 1) H)) (kernelRun0_B.sl.H8_22 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (6, 1) H)) ?_)
  refine Eq.trans (b := (fun H => (stepR (loads arg2 harg2 arg3 harg3 arg4 harg4 arg5 harg5 arg6 harg6 arg7 harg7 x0 x1 x2 x3 x4 x5) arg10 (6, 0) H)) (kernelRun0_B.sl.H8_21 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (6, 0) H)) ?_)
  refine Eq.trans (b := (fun H => (firstR (loads arg2 harg2 arg3 harg3 arg4 harg4 arg5 harg5 arg6 harg6 arg7 harg7 x0 x1 x2 x3 x4 x5) arg10 harg10 xo8 5 (stepR (loads arg2 harg2 arg3 harg3 arg4 harg4 arg5 harg5 arg6 harg6 arg7 harg7 x0 x1 x2 x3 x4 x5) arg10 (5, 4) H))) (kernelRun0_B.sl.H8_19 (F := Ideal) c arg2 harg2 arg3 harg3 arg4 harg4 arg5 harg5 arg6 harg6 arg7 harg7 arg10 harg10 x0 x1 x2 x3 x4 x5 xo8)) (by sl_kernel_rfl) (congrArg (fun H => (firstR (loads arg2 harg2 arg3 harg3 arg4 harg4 arg5 harg5 arg6 harg6 arg7 harg7 x0 x1 x2 x3 x4 x5) arg10 harg10 xo8 5 (stepR (loads arg2 harg2 arg3 harg3 arg4 harg4 arg5 harg5 arg6 harg6 arg7 harg7 x0 x1 x2 x3 x4 x5) arg10 (5, 4) H))) ?_)
  refine Eq.trans (b := (fun H => (stepR (loads arg2 harg2 arg3 harg3 arg4 harg4 arg5 harg5 arg6 harg6 arg7 harg7 x0 x1 x2 x3 x4 x5) arg10 (5, 3) H)) (kernelRun0_B.sl.H8_18 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (5, 3) H)) ?_)
  refine Eq.trans (b := (fun H => (stepR (loads arg2 harg2 arg3 harg3 arg4 harg4 arg5 harg5 arg6 harg6 arg7 harg7 x0 x1 x2 x3 x4 x5) arg10 (5, 2) H)) (kernelRun0_B.sl.H8_17 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (5, 2) H)) ?_)
  refine Eq.trans (b := (fun H => (stepR (loads arg2 harg2 arg3 harg3 arg4 harg4 arg5 harg5 arg6 harg6 arg7 harg7 x0 x1 x2 x3 x4 x5) arg10 (5, 1) H)) (kernelRun0_B.sl.H8_16 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (5, 1) H)) ?_)
  refine Eq.trans (b := (fun H => (stepR (loads arg2 harg2 arg3 harg3 arg4 harg4 arg5 harg5 arg6 harg6 arg7 harg7 x0 x1 x2 x3 x4 x5) arg10 (5, 0) H)) (kernelRun0_B.sl.H8_15 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (5, 0) H)) ?_)
  refine Eq.trans (b := (fun H => (firstR (loads arg2 harg2 arg3 harg3 arg4 harg4 arg5 harg5 arg6 harg6 arg7 harg7 x0 x1 x2 x3 x4 x5) arg10 harg10 xo8 4 (stepR (loads arg2 harg2 arg3 harg3 arg4 harg4 arg5 harg5 arg6 harg6 arg7 harg7 x0 x1 x2 x3 x4 x5) arg10 (4, 3) H))) (kernelRun0_B.sl.H8_13 (F := Ideal) c arg2 harg2 arg3 harg3 arg4 harg4 arg5 harg5 arg6 harg6 arg7 harg7 arg10 harg10 x0 x1 x2 x3 x4 x5 xo8)) (by sl_kernel_rfl) (congrArg (fun H => (firstR (loads arg2 harg2 arg3 harg3 arg4 harg4 arg5 harg5 arg6 harg6 arg7 harg7 x0 x1 x2 x3 x4 x5) arg10 harg10 xo8 4 (stepR (loads arg2 harg2 arg3 harg3 arg4 harg4 arg5 harg5 arg6 harg6 arg7 harg7 x0 x1 x2 x3 x4 x5) arg10 (4, 3) H))) ?_)
  refine Eq.trans (b := (fun H => (stepR (loads arg2 harg2 arg3 harg3 arg4 harg4 arg5 harg5 arg6 harg6 arg7 harg7 x0 x1 x2 x3 x4 x5) arg10 (4, 2) H)) (kernelRun0_B.sl.H8_12 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (4, 2) H)) ?_)
  refine Eq.trans (b := (fun H => (stepR (loads arg2 harg2 arg3 harg3 arg4 harg4 arg5 harg5 arg6 harg6 arg7 harg7 x0 x1 x2 x3 x4 x5) arg10 (4, 1) H)) (kernelRun0_B.sl.H8_11 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (4, 1) H)) ?_)
  refine Eq.trans (b := (fun H => (stepR (loads arg2 harg2 arg3 harg3 arg4 harg4 arg5 harg5 arg6 harg6 arg7 harg7 x0 x1 x2 x3 x4 x5) arg10 (4, 0) H)) (kernelRun0_B.sl.H8_10 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (4, 0) H)) ?_)
  refine Eq.trans (b := (fun H => (firstR (loads arg2 harg2 arg3 harg3 arg4 harg4 arg5 harg5 arg6 harg6 arg7 harg7 x0 x1 x2 x3 x4 x5) arg10 harg10 xo8 3 (stepR (loads arg2 harg2 arg3 harg3 arg4 harg4 arg5 harg5 arg6 harg6 arg7 harg7 x0 x1 x2 x3 x4 x5) arg10 (3, 2) H))) (kernelRun0_B.sl.H8_8 (F := Ideal) c arg2 harg2 arg3 harg3 arg4 harg4 arg5 harg5 arg6 harg6 arg7 harg7 arg10 harg10 x0 x1 x2 x3 x4 x5 xo8)) (by sl_kernel_rfl) (congrArg (fun H => (firstR (loads arg2 harg2 arg3 harg3 arg4 harg4 arg5 harg5 arg6 harg6 arg7 harg7 x0 x1 x2 x3 x4 x5) arg10 harg10 xo8 3 (stepR (loads arg2 harg2 arg3 harg3 arg4 harg4 arg5 harg5 arg6 harg6 arg7 harg7 x0 x1 x2 x3 x4 x5) arg10 (3, 2) H))) ?_)
  refine Eq.trans (b := (fun H => (stepR (loads arg2 harg2 arg3 harg3 arg4 harg4 arg5 harg5 arg6 harg6 arg7 harg7 x0 x1 x2 x3 x4 x5) arg10 (3, 1) H)) (kernelRun0_B.sl.H8_7 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (3, 1) H)) ?_)
  refine Eq.trans (b := (fun H => (stepR (loads arg2 harg2 arg3 harg3 arg4 harg4 arg5 harg5 arg6 harg6 arg7 harg7 x0 x1 x2 x3 x4 x5) arg10 (3, 0) H)) (kernelRun0_B.sl.H8_6 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (3, 0) H)) ?_)
  refine Eq.trans (b := (fun H => (firstR (loads arg2 harg2 arg3 harg3 arg4 harg4 arg5 harg5 arg6 harg6 arg7 harg7 x0 x1 x2 x3 x4 x5) arg10 harg10 xo8 2 (stepR (loads arg2 harg2 arg3 harg3 arg4 harg4 arg5 harg5 arg6 harg6 arg7 harg7 x0 x1 x2 x3 x4 x5) arg10 (2, 1) H))) (kernelRun0_B.sl.H8_4 (F := Ideal) c arg2 harg2 arg3 harg3 arg4 harg4 arg5 harg5 arg6 harg6 arg7 harg7 arg10 harg10 x0 x1 x2 x3 x4 x5 xo8)) (by sl_kernel_rfl) (congrArg (fun H => (firstR (loads arg2 harg2 arg3 harg3 arg4 harg4 arg5 harg5 arg6 harg6 arg7 harg7 x0 x1 x2 x3 x4 x5) arg10 harg10 xo8 2 (stepR (loads arg2 harg2 arg3 harg3 arg4 harg4 arg5 harg5 arg6 harg6 arg7 harg7 x0 x1 x2 x3 x4 x5) arg10 (2, 1) H))) ?_)
  refine Eq.trans (b := (fun H => (stepR (loads arg2 harg2 arg3 harg3 arg4 harg4 arg5 harg5 arg6 harg6 arg7 harg7 x0 x1 x2 x3 x4 x5) arg10 (2, 0) H)) (kernelRun0_B.sl.H8_3 (F := Ideal) c arg2 harg2 arg3 harg3 arg4 harg4 arg5 harg5 arg6 harg6 arg7 harg7 arg10 harg10 x0 x1 x2 x3 x4 x5 xo8)) (by sl_kernel_rfl) (congrArg (fun H => (stepR (loads arg2 harg2 arg3 harg3 arg4 harg4 arg5 harg5 arg6 harg6 arg7 harg7 x0 x1 x2 x3 x4 x5) arg10 (2, 0) H)) ?_)
  refine Eq.trans (b := (fun H => (firstR (loads arg2 harg2 arg3 harg3 arg4 harg4 arg5 harg5 arg6 harg6 arg7 harg7 x0 x1 x2 x3 x4 x5) arg10 harg10 xo8 1 (stepR (loads arg2 harg2 arg3 harg3 arg4 harg4 arg5 harg5 arg6 harg6 arg7 harg7 x0 x1 x2 x3 x4 x5) arg10 (1, 0) H))) (kernelRun0_B.sl.H8_1 (F := Ideal) c arg2 harg2 arg3 harg3 arg4 harg4 arg5 harg5 arg6 harg6 arg7 harg7 arg10 harg10 x0 x1 x2 x3 x4 x5 xo8)) (by sl_kernel_rfl) (congrArg (fun H => (firstR (loads arg2 harg2 arg3 harg3 arg4 harg4 arg5 harg5 arg6 harg6 arg7 harg7 x0 x1 x2 x3 x4 x5) arg10 harg10 xo8 1 (stepR (loads arg2 harg2 arg3 harg3 arg4 harg4 arg5 harg5 arg6 harg6 arg7 harg7 x0 x1 x2 x3 x4 x5) arg10 (1, 0) H))) ?_)
  sl_kernel_rfl

end Cert.KernelIdeal.Attn

end
-- ==== Proof.TileVal.lean ====
/- The tiles of the backward kernel at an entry: over loads that are real numbers, a tile's weights, scores' gradient and
   contributions are the sums `AttnSpec` names. -/
module

public import proofs.«01_k».proof.Proof.Tile
public import proofs.«01_k».proof.Proof.AttnSpec
public import Idealize.ShloMosaic.Lib.Pointwise
public import Idealize.ShloMosaic.Lib.Tactic.WordOmega
public import Idealize.ShloMosaic.Lib.WordCmp

@[expose] public section

set_option maxRecDepth 16384

noncomputable section

namespace Cert.KernelIdeal.Attn

open Cert.KernelIdeal Idealize.ShloMosaic Idealize.ShloMosaic.TcCoe AttnSpec

/-- The printed scale is the rational number `AttnSpec.scale`. -/
theorem scale_word : Ideal.ofBits FTy.f32 1033096506#32 = ((scale : ℝ) : EReal) := by
  simp [Ideal.ofBits, Ideal.ieee, scale, -EReal.coe_mul]; norm_num

/-- The printed start of a row maximum is −∞, and so is the mask's constant. -/
theorem bot_word : Ideal.ofBits FTy.f32 4286578688#32 = ⊥ := by
  simp [Ideal.ofBits, Ideal.ieee]

theorem named_mask : (Named.named (F := Ideal) κ "mask" 0xF149F2CA#32 : Ideal .f32) = (⊥ : EReal) := rfl

/-- A position's chunk, as the kernel shifts it out of the index word. -/
theorem chunk_word : ∀ n : Fin 2048, IntOp.shrsi .vector (BitVec.ofNat 32 n.val) 6#32 = BitVec.ofNat 32 (n.val / 64) := by
  decide +kernel

/-- On a diagonal tile the mask keeps the entry whose key chunk does not come after the query's. -/
theorem mask_val (i : Fin 8) (a b : Fin 256) :
    mask i (ix2 a b) = if (256 * i.val + b.val) / 64 ≤ (256 * i.val + a.val) / 64 then 1#1 else 0#1 := by
  have ha := a.isLt
  have hb := b.isLt
  have hi := i.isLt
  pointwise [mask]
  have e (x : Fin 256) : IntOp.addi (BitVec.ofNat 32 (256 * i.val)) (BitVec.ofNat 32 x.val) = BitVec.ofNat 32 (256 * i.val + x.val) := by
    simp only [IntOp.addi, BitVec.ofNat_add]
  have f (x : Fin 256) : IntOp.shrsi .vector (IntOp.addi (BitVec.ofNat 32 (256 * i.val)) (BitVec.ofNat 32 x.val)) 6#32 = BitVec.ofNat 32 ((256 * i.val + x.val) / 64) := by
    rw [e]; exact chunk_word ⟨256 * i.val + x.val, by omega⟩
  erw [f a, f b]
  word_omega

/-- A point's loads are the rows of the head `H`. -/
structure Reads (L : Loads) (H : Head) : Prop where
  q : ∀ (i : Fin 8) (a : Fin 256) (d : Fin 256), L.q i (ix2 a d) = ((H.q (256 * i.val + a.val) d.val : ℝ) : EReal)
  kn : ∀ (i : Fin 8) (a : Fin 256) (d : Fin 128), L.kn i (ix2 a d) = ((H.k (256 * i.val + a.val) d.val : ℝ) : EReal)
  v : ∀ (i : Fin 8) (a : Fin 256) (d : Fin 128), L.v i (ix2 a d) = ((H.k (256 * i.val + a.val) (128 + d.val) : ℝ) : EReal)
  kr : ∀ (i : Fin 8) (a : Fin 256) (d : Fin 128), L.kr i (ix2 a d) = ((H.r (256 * i.val + a.val) d.val : ℝ) : EReal)
  g : ∀ (i : Fin 8) (a : Fin 256) (d : Fin 128), L.g i (ix2 a d) = ((H.g (256 * i.val + a.val) d.val : ℝ) : EReal)
  o : ∀ (i : Fin 8) (a : Fin 256) (d : Fin 128), L.o i (ix2 a d) = ((H.out (256 * i.val + a.val) d.val : ℝ) : EReal)
  l : ∀ (i : Fin 8) (a : Fin 256) (d : Fin 128), L.l i (ix2 a d) = ((H.lse (256 * i.val + a.val) : ℝ) : EReal)

variable {L : Loads} {H : Head} (R : Reads L H)
include R

theorem score_val (i j : Fin 8) (a b : Fin 256) :
    score L i j (ix2 a b) = ((H.score (256 * i.val + a.val) (256 * j.val + b.val) : ℝ) : EReal) := by
  pointwise [score]
  rw [scale_word]
  simp only [R.q, R.kn, R.kr, Head.score, EReal.coe_mul, EReal.coe_add, coe_sum]

theorem fold_max_const (x : EReal) : Finset.fold max (⊥ : EReal) (fun _ : Fin 128 => x) Finset.univ = x := by
  refine le_antisymm ?_ ?_
  · rw [Finset.fold_max_le]; exact ⟨bot_le, fun _ _ => le_rfl⟩
  · rw [Finset.le_fold_max]; exact Or.inr ⟨0, Finset.mem_univ _, le_rfl⟩

theorem weight_val (i j : Fin 8) (hij : j.val ≤ i.val) (a b : Fin 256) :
    weight L i j (ix2 a b) = ((H.p (256 * i.val + a.val) (256 * j.val + b.val) : ℝ) : EReal) := by
  have ha := a.isLt
  have hb := b.isLt
  have hi := i.isLt
  have hl : 256 * i.val + a.val < 2048 := by omega
  pointwise [weight]
  simp only [R.l, bot_word, fold_max_const R]
  unfold masked
  by_cases h : (256 * j.val + b.val) / 64 ≤ (256 * i.val + a.val) / 64
  · have hm : (bif i.val == j.val then select (mask i) (score L i j) (broadcast S256x256 (Named.named κ "mask" 0xF149F2CA#32)) else score L i j) (ix2 a b)
        = score L i j (ix2 a b) := by
      by_cases e : i.val = j.val
      · simp only [e, beq_self_eq_true, cond_true]
        rw [← e] at h
        pointwise [mask_val, if_pos h]
      · simp only [beq_iff_eq, e, beq_eq_false_iff_ne.mpr e, cond_false]
    rw [hm, score_val R, ← H.exp_sub_lse _ _ hl h, ← EReal.coe_sub, Ideal.exp_coe]
  · have e : i.val = j.val := by omega
    simp only [e, beq_self_eq_true, cond_true]
    rw [← e] at h ⊢
    rw [H.p_of_not _ _ h]
    pointwise [mask_val, if_neg h]
    rw [named_mask, EReal.bot_sub, Ideal.exp_bot]; rfl

theorem dscore_val (i j : Fin 8) (hij : j.val ≤ i.val) (a b : Fin 256) :
    dscore L i j (ix2 a b) = ((H.ds (256 * i.val + a.val) (256 * j.val + b.val) : ℝ) : EReal) := by
  pointwise [dscore]
  rw [scale_word, weight_val R i j hij]
  simp only [R.g, R.v, R.o, Head.ds, Head.dp, Head.delta, EReal.coe_mul, EReal.coe_sub, coe_sum]

theorem addV_val (i j : Fin 8) (hij : j.val ≤ i.val) (b : Fin 256) (d : Fin 128) :
    addV L i j (ix2 b d) = ((∑ x : Fin 256, H.p (256 * i.val + x.val) (256 * j.val + b.val) * H.g (256 * i.val + x.val) d.val : ℝ) : EReal) := by
  pointwise [addV]
  simp only [weight_val R i j hij, R.g, EReal.coe_mul, coe_sum]

theorem addK_val (i j : Fin 8) (hij : j.val ≤ i.val) (b : Fin 256) (d : Fin 128) :
    addK L i j (ix2 b d) = ((∑ x : Fin 256, H.ds (256 * i.val + x.val) (256 * j.val + b.val) * H.q (256 * i.val + x.val) d.val : ℝ) : EReal) := by
  pointwise [addK]
  simp only [dscore_val R i j hij, R.q, EReal.coe_mul, coe_sum]

theorem addR_val (i j : Fin 8) (hij : j.val ≤ i.val) (b : Fin 256) (d : Fin 128) :
    addR L i j (ix2 b d) = ((∑ x : Fin 256, H.ds (256 * i.val + x.val) (256 * j.val + b.val) * H.q (256 * i.val + x.val) (128 + d.val) : ℝ) : EReal) := by
  pointwise [addR]
  simp only [dscore_val R i j hij, R.q, EReal.coe_mul, coe_sum]

theorem addQn_val (i j : Fin 8) (hij : j.val ≤ i.val) (a : Fin 256) (d : Fin 128) :
    addQn L i j (ix2 a d) = ((∑ x : Fin 256, H.ds (256 * i.val + a.val) (256 * j.val + x.val) * H.k (256 * j.val + x.val) d.val : ℝ) : EReal) := by
  pointwise [addQn]
  simp only [dscore_val R i j hij, R.kn, EReal.coe_mul, coe_sum]

theorem addQr_val (i j : Fin 8) (hij : j.val ≤ i.val) (a : Fin 256) (d : Fin 128) :
    addQr L i j (ix2 a d) = ((∑ x : Fin 256, H.ds (256 * i.val + a.val) (256 * j.val + x.val) * H.r (256 * j.val + x.val) d.val : ℝ) : EReal) := by
  pointwise [addQr]
  simp only [dscore_val R i j hij, R.kr, EReal.coe_mul, coe_sum]

end Cert.KernelIdeal.Attn

end
-- ==== Proof.WalkVal.lean ====
/- What the staging buffers of the gradients hold after a grid point: over loads that are the rows of a head `H`, each
   stored entry is the head's gradient there. -/
module

public import proofs.«01_k».proof.Proof.TileVal

@[expose] public section

set_option maxRecDepth 16384

noncomputable section

namespace Cert.KernelIdeal.Attn

open Cert.KernelIdeal Idealize.ShloMosaic Idealize.ShloMosaic.TcCoe AttnSpec

abbrev row (k : Fin 8) (b : Fin 256) : Fin 2048 := ⟨256 * k.val + b.val, by have := k.isLt; have := b.isLt; omega⟩
abbrev lo (d : Fin 128) : Fin 256 := ⟨d.val, by have := d.isLt; omega⟩
abbrev hi (d : Fin 128) : Fin 256 := ⟨128 + d.val, by have := d.isLt; omega⟩

theorem idxLo (k : Fin 8) (b : Fin 256) (d : Fin 128) : (rectLo k).idx (ix2 b d) = ix2 (row k b) (lo d) := by
  funext a; apply Fin.ext; show _ + _ * _ = _
  fin_cases a
  · show 256 * k.val + 1 * b.val = 256 * k.val + b.val; omega
  · show 0 + 1 * d.val = d.val; omega
theorem idxHi (k : Fin 8) (b : Fin 256) (d : Fin 128) : (rectHi k).idx (ix2 b d) = ix2 (row k b) (hi d) := by
  funext a; apply Fin.ext; show _ + _ * _ = _
  fin_cases a
  · show 256 * k.val + 1 * b.val = 256 * k.val + b.val; omega
  · show 128 + 1 * d.val = 128 + d.val; omega
theorem idx128 (k : Fin 8) (b : Fin 256) (d : Fin 128) : (rect128 k).idx (ix2 b d) = ix2 (row k b) d := by
  funext a; apply Fin.ext; show _ + _ * _ = _
  fin_cases a
  · show 256 * k.val + 1 * b.val = 256 * k.val + b.val; omega
  · show 0 + 1 * d.val = d.val; omega
theorem idx256 (k : Fin 8) (b : Fin 256) (d : Fin 256) : (rect256 k).idx (ix2 b d) = ix2 (row k b) d := by
  funext a; apply Fin.ext; show _ + _ * _ = _
  fin_cases a
  · show 256 * k.val + 1 * b.val = 256 * k.val + b.val; omega
  · show 0 + 1 * d.val = d.val; omega

section Pieces

variable (H : List (View.Piece (Elt Ideal) S2048x256 .f32)) (G : List (View.Piece (Elt Ideal) S2048x128 .f32))
variable (w : FVec Ideal S256x128 .f32)

theorem hitLo (k : Fin 8) (b : Fin 256) (d : Fin 128) : View.canon (⟨rectLo k, w⟩ :: H) (ix2 (row k b) (lo d)) = w (ix2 b d) := by
  rw [← idxLo]; exact View.canon_cons_emb (rectLo k) w H (ix2 b d)
theorem hitHi (k : Fin 8) (b : Fin 256) (d : Fin 128) : View.canon (⟨rectHi k, w⟩ :: H) (ix2 (row k b) (hi d)) = w (ix2 b d) := by
  rw [← idxHi]; exact View.canon_cons_emb (rectHi k) w H (ix2 b d)
theorem hit128 (k : Fin 8) (b : Fin 256) (d : Fin 128) : View.canon (⟨rect128 k, w⟩ :: G) (ix2 (row k b) d) = w (ix2 b d) := by
  rw [← idx128]; exact View.canon_cons_emb (rect128 k) w G (ix2 b d)

theorem offRow {t k : Fin 8} (h : t ≠ k) (b : Fin 256) : ¬(256 * t.val ≤ 256 * k.val + b.val ∧ 256 * k.val + b.val < 256 * t.val + 256) := by
  have := b.isLt
  have : t.val ≠ k.val := fun e => h (Fin.ext e)
  omega

theorem missLo {t k : Fin 8} (h : t ≠ k) (b : Fin 256) (c : Fin 256) :
    View.canon (⟨rectLo t, w⟩ :: H) (ix2 (row k b) c) = View.canon H (ix2 (row k b) c) :=
  View.canon_cons_of_not_mem _ _ fun hy => offRow h b ((Rect.mem_set_unit (inb := fitsLo t)).mp hy 0)
theorem missHi {t k : Fin 8} (h : t ≠ k) (b : Fin 256) (c : Fin 256) :
    View.canon (⟨rectHi t, w⟩ :: H) (ix2 (row k b) c) = View.canon H (ix2 (row k b) c) :=
  View.canon_cons_of_not_mem _ _ fun hy => offRow h b ((Rect.mem_set_unit (inb := fitsHi t)).mp hy 0)
theorem miss128 {t k : Fin 8} (h : t ≠ k) (b : Fin 256) (c : Fin 128) :
    View.canon (⟨rect128 t, w⟩ :: G) (ix2 (row k b) c) = View.canon G (ix2 (row k b) c) :=
  View.canon_cons_of_not_mem _ _ fun hy => offRow h b ((Rect.mem_set_unit (inb := fits128 t)).mp hy 0)
theorem missLo' (t k : Fin 8) (b : Fin 256) (d : Fin 128) :
    View.canon (⟨rectLo t, w⟩ :: H) (ix2 (row k b) (hi d)) = View.canon H (ix2 (row k b) (hi d)) :=
  View.canon_cons_of_not_mem _ _ fun hy => by
    have h : 0 ≤ 128 + d.val ∧ 128 + d.val < 0 + 128 := (Rect.mem_set_unit (inb := fitsLo t)).mp hy 1
    omega
theorem missHi' (t k : Fin 8) (b : Fin 256) (d : Fin 128) :
    View.canon (⟨rectHi t, w⟩ :: H) (ix2 (row k b) (lo d)) = View.canon H (ix2 (row k b) (lo d)) :=
  View.canon_cons_of_not_mem _ _ fun hy => by
    have h : 128 ≤ d.val ∧ d.val < 128 + 128 := (Rect.mem_set_unit (inb := fitsHi t)).mp hy 1
    have := d.isLt
    omega

theorem cast128 (X : FVec Ideal S256x128 .f32) : shapeCast S256x128 X Facts₀.shapeCasts_S256x128_S256x128 = X := shapeCast_self _ _

theorem backLo (m : Memref sig .tc .vmem S2048x256 .f32) (k : Fin 8) (b : Fin 256) (d : Fin 128) :
    shapeCast S256x128 (m.view.readCov H (rectLo k).toLoadRect) Facts₀.shapeCasts_S256x128_S256x128 (ix2 b d) = View.canon H (ix2 (row k b) (lo d)) := by
  refine (congrFun (cast128 _) _).trans ?_
  rw [View.readCov_eq_canon', ← idxLo]
theorem backHi (m : Memref sig .tc .vmem S2048x256 .f32) (k : Fin 8) (b : Fin 256) (d : Fin 128) :
    shapeCast S256x128 (m.view.readCov H (rectHi k).toLoadRect) Facts₀.shapeCasts_S256x128_S256x128 (ix2 b d) = View.canon H (ix2 (row k b) (hi d)) := by
  refine (congrFun (cast128 _) _).trans ?_
  rw [View.readCov_eq_canon', ← idxHi]
theorem back128 (m : Memref sig .tc .vmem S2048x128 .f32) (k : Fin 8) (b : Fin 256) (d : Fin 128) :
    shapeCast S256x128 (m.view.readCov G (rect128 k).toLoadRect) Facts₀.shapeCasts_S256x128_S256x128 (ix2 b d) = View.canon G (ix2 (row k b) d) := by
  refine (congrFun (cast128 _) _).trans ?_
  rw [View.readCov_eq_canon', ← idx128]

end Pieces

theorem zero_word : (Scalar.ofBits (F := Ideal) .f32 0x00000000#32 : EReal) = ((0 : ℝ) : EReal) := by
  show Ideal.ofBits .f32 0#32 = _
  simp [Ideal.ofBits, Ideal.ieee]

theorem zeroKV (L : Loads) (m : Memref sig .tc .vmem S2048x256 .f32) (y : S2048x256.Idx) : View.canon (storesKV L m []) y = ((0 : ℝ) : EReal) := by
  have e : (Rect.unit ![0, 0] S2048x256.size Facts₀.inb_S2048x256_S2048x256_0_0).idx y = y := by
    funext a; apply Fin.ext
    fin_cases a
    · show 0 + 1 * (y 0).val = (y 0).val; omega
    · show 0 + 1 * (y 1).val = (y 1).val; omega
  rw [← e]
  exact (View.canon_cons_emb (Val := Elt Ideal) (e := .f32) (Rect.unit ![0, 0] S2048x256.size Facts₀.inb_S2048x256_S2048x256_0_0) (broadcast S2048x256 (Scalar.ofBits (F := Ideal) .f32 0x00000000#32)) [] y).trans zero_word
theorem zeroR (L : Loads) (m : Memref sig .tc .vmem S2048x128 .f32) (y : S2048x128.Idx) : View.canon (storesR L m []) y = ((0 : ℝ) : EReal) := by
  have e : (Rect.unit ![0, 0] S2048x128.size Facts₀.inb_S2048x128_S2048x128_0_0).idx y = y := by
    funext a; apply Fin.ext
    fin_cases a
    · show 0 + 1 * (y 0).val = (y 0).val; omega
    · show 0 + 1 * (y 1).val = (y 1).val; omega
  rw [← e]
  exact (View.canon_cons_emb (Val := Elt Ideal) (e := .f32) (Rect.unit ![0, 0] S2048x128.size Facts₀.inb_S2048x128_S2048x128_0_0) (broadcast S2048x128 (Scalar.ofBits (F := Ideal) .f32 0x00000000#32)) [] y).trans zero_word

/-- The share that tiles of key block `k` among `ts` add to a gradient, `f i` from query block `i`. -/
def part (k : Fin 8) (f : Fin 8 → ℝ) : List (Fin 8 × Fin 8) → ℝ
  | [] => 0
  | t :: ts => part k f ts + if t.2 = k then f t.1 else 0

theorem part_tiles (k : Fin 8) (f : Fin 8 → ℝ) (hf : ∀ i : Fin 8, i.val < k.val → f i = 0) : part k f tiles = ∑ i : Fin 8, f i := by
  rw [Fin.sum_univ_eight]
  fin_cases k <;> simp [part, tiles] <;> simp [hf] <;> try ring

theorem tiles_le : ∀ t ∈ tiles, t.2.val ≤ t.1.val := by decide

variable {L : Loads} {H : Head} (R : Reads L H)
include R

theorem storesKV_hi (m : Memref sig .tc .vmem S2048x256 .f32) (k : Fin 8) (b : Fin 256) (d : Fin 128) (ts : List (Fin 8 × Fin 8)) (hts : ∀ t ∈ ts, t.2.val ≤ t.1.val) :
    View.canon (storesKV L m ts) (ix2 (row k b) (hi d))
      = ((part k (fun i => ∑ x : Fin 256, H.p (256 * i.val + x.val) (256 * k.val + b.val) * H.g (256 * i.val + x.val) d.val) ts : ℝ) : EReal) := by
  induction ts with
  | nil =>
    exact zeroKV L m _
  | cons t ts ih =>
    have ih := ih fun t h => hts t (List.mem_cons_of_mem _ h)
    have ht := hts t List.mem_cons_self
    show View.canon (stepKV L m t (storesKV L m ts)) _ = _
    unfold stepKV
    rw [missLo', part]
    by_cases e : t.2 = k
    · subst e
      rw [hitHi, if_pos rfl]
      show _ + _ = _
      rw [backHi, ih, addV_val R t.1 t.2 ht, ← EReal.coe_add]
    · rw [missHi _ _ e, if_neg e, ih, add_zero]

theorem storesKV_lo (m : Memref sig .tc .vmem S2048x256 .f32) (k : Fin 8) (b : Fin 256) (d : Fin 128) (ts : List (Fin 8 × Fin 8)) (hts : ∀ t ∈ ts, t.2.val ≤ t.1.val) :
    View.canon (storesKV L m ts) (ix2 (row k b) (lo d))
      = ((part k (fun i => ∑ x : Fin 256, H.ds (256 * i.val + x.val) (256 * k.val + b.val) * H.q (256 * i.val + x.val) d.val) ts : ℝ) : EReal) := by
  induction ts with
  | nil =>
    exact zeroKV L m _
  | cons t ts ih =>
    have ih := ih fun t h => hts t (List.mem_cons_of_mem _ h)
    have ht := hts t List.mem_cons_self
    show View.canon (stepKV L m t (storesKV L m ts)) _ = _
    unfold stepKV
    rw [part]
    by_cases e : t.2 = k
    · subst e
      rw [hitLo, if_pos rfl]
      show _ + _ = _
      rw [backLo, missHi', ih, addK_val R t.1 t.2 ht, ← EReal.coe_add]
    · rw [missLo _ _ e, missHi', if_neg e, ih, add_zero]

theorem storesR_val (m : Memref sig .tc .vmem S2048x128 .f32) (k : Fin 8) (b : Fin 256) (d : Fin 128) (ts : List (Fin 8 × Fin 8)) (hts : ∀ t ∈ ts, t.2.val ≤ t.1.val) :
    View.canon (storesR L m ts) (ix2 (row k b) d)
      = ((part k (fun i => ∑ x : Fin 256, H.ds (256 * i.val + x.val) (256 * k.val + b.val) * H.q (256 * i.val + x.val) (128 + d.val)) ts : ℝ) : EReal) := by
  induction ts with
  | nil =>
    exact zeroR L m _
  | cons t ts ih =>
    have ih := ih fun t h => hts t (List.mem_cons_of_mem _ h)
    have ht := hts t List.mem_cons_self
    show View.canon (stepR L m t (storesR L m ts)) _ = _
    unfold stepR
    rw [part]
    by_cases e : t.2 = k
    · subst e
      rw [hit128, if_pos rfl]
      show _ + _ = _
      rw [back128, ih, addR_val R t.1 t.2 ht, ← EReal.coe_add]
    · rw [miss128 _ _ e, if_neg e, ih, add_zero]

omit R in
/-- A key block is met first on its diagonal. -/
def Good : List (Fin 8 × Fin 8) → Prop
  | [] => True
  | t :: ts => (if t.1 = t.2 then ∀ s ∈ ts, s.2 ≠ t.2 else ∃ s ∈ ts, s.2 = t.2) ∧ Good ts

omit R in
theorem good_tiles : Good tiles := by simp [Good, tiles]

omit R in
theorem part_none (k : Fin 8) (f : Fin 8 → ℝ) (ts : List (Fin 8 × Fin 8)) (h : ∀ s ∈ ts, s.2 ≠ k) : part k f ts = 0 := by
  induction ts with
  | nil => rfl
  | cons t ts ih =>
    rw [part, if_neg (h t List.mem_cons_self), ih fun s hs => h s (List.mem_cons_of_mem _ hs), add_zero]

theorem storesR'_val (m : Memref sig .tc .vmem S2048x128 .f32) (hm : m.IsWhole) (X : Vec Ideal S2048x128 .f32) (k : Fin 8) (b : Fin 256) (d : Fin 128)
    (ts : List (Fin 8 × Fin 8)) (hts : ∀ t ∈ ts, t.2.val ≤ t.1.val) (hg : Good ts) (hk : ∃ s ∈ ts, s.2 = k) :
    View.canon (storesR' L m hm X ts) (ix2 (row k b) d)
      = X (ix2 (row k b) d) + ((part k (fun i => ∑ x : Fin 256, H.ds (256 * i.val + x.val) (256 * k.val + b.val) * H.q (256 * i.val + x.val) (128 + d.val)) ts : ℝ) : EReal) := by
  induction ts with
  | nil => obtain ⟨s, hs, _⟩ := hk; cases hs
  | cons t ts ih =>
    have ih := ih (fun t h => hts t (List.mem_cons_of_mem _ h)) hg.2
    have ht := hts t List.mem_cons_self
    obtain ⟨i, j⟩ := t
    rw [part]
    by_cases e : j = k
    · subst e
      by_cases e' : i = j
      · subst e'
        have hn := hg.1
        rw [if_pos rfl] at hn
        rw [part_none _ _ _ hn, if_pos rfl, zero_add]
        show View.canon (if i = i then firstR L m hm X i (storesR' L m hm X ts) else _) _ = _
        rw [if_pos rfl]
        unfold firstR
        rw [hit128]
        show _ + _ = _
        rw [addR_val R i i le_rfl, ← idx128]
        congr 1
        refine (congrFun (cast128 _) _).trans ?_
        show View.ld (m.view.read _ (hm.unread X)) (rect128 i) (ix2 b d) = _
        rw [hm.read_unread]
      · have hn := hg.1
        rw [if_neg e'] at hn
        show View.canon (if i = j then _ else stepR L m (i, j) (storesR' L m hm X ts)) _ = _
        rw [if_neg e', if_pos rfl]
        unfold stepR
        rw [hit128]
        show _ + _ = _
        rw [back128, ih hn, addR_val R i j ht, add_assoc, ← EReal.coe_add]
    · rw [if_neg e, add_zero]
      have hk' : ∃ s ∈ ts, s.2 = k := by
        obtain ⟨s, hs, h⟩ := hk
        rcases List.mem_cons.mp hs with rfl | hs
        · exact absurd h e
        · exact ⟨s, hs, h⟩
      rw [← ih hk']
      show View.canon (if i = j then firstR L m hm X i (storesR' L m hm X ts) else stepR L m (i, j) (storesR' L m hm X ts)) _ = _
      split_ifs with e'
      · subst e'; exact miss128 _ _ e b d
      · exact miss128 _ _ e b d

theorem accQ_val (add : Fin 8 → FVec Ideal S256x128 .f32) (a : Fin 256) (d : Fin 128) (f : Fin 8 → ℝ) (js : List (Fin 8))
    (h : ∀ j ∈ js, add j (ix2 a d) = ((f j : ℝ) : EReal)) : accQ add js (ix2 a d) = (((js.map f).sum : ℝ) : EReal) := by
  induction js with
  | nil => exact zero_word
  | cons j js ih =>
    show accQ add js (ix2 a d) + add j (ix2 a d) = _
    rw [ih fun j hj => h j (List.mem_cons_of_mem _ hj), h j List.mem_cons_self, List.map_cons, List.sum_cons, ← EReal.coe_add, add_comm]

omit R in
theorem ne_of_absent {i i' : Fin 8} {js : List (Fin 8)} {is : List (Fin 8 × List (Fin 8))} (h : i' ∉ is.map Prod.fst) (hi : (i, js) ∈ is) : i' ≠ i := by
  rintro rfl
  exact h (List.mem_map_of_mem (f := Prod.fst) hi)

omit R in
theorem storesQ_lo (i : Fin 8) (js : List (Fin 8)) (a : Fin 256) (d : Fin 128) (is : List (Fin 8 × List (Fin 8))) (hn : (is.map Prod.fst).Nodup) (hi : (i, js) ∈ is) :
    View.canon (storesQ L is) (ix2 (row i a) (lo d)) = accQ (addQn L i) js (ix2 a d) := by
  induction is with
  | nil => cases hi
  | cons t is ih =>
    obtain ⟨i', js'⟩ := t
    rw [List.map_cons, List.nodup_cons] at hn
    show View.canon (⟨rectHi i', accQ (addQr L i') js'⟩ :: ⟨rectLo i', accQ (addQn L i') js'⟩ :: storesQ L is) _ = _
    rw [missHi']
    rcases List.mem_cons.mp hi with e | hi
    · cases e; exact hitLo _ _ _ _ _
    · rw [missLo _ _ (ne_of_absent hn.1 hi)]
      exact ih hn.2 hi

omit R in
theorem storesQ_hi (i : Fin 8) (js : List (Fin 8)) (a : Fin 256) (d : Fin 128) (is : List (Fin 8 × List (Fin 8))) (hn : (is.map Prod.fst).Nodup) (hi : (i, js) ∈ is) :
    View.canon (storesQ L is) (ix2 (row i a) (Attn.hi d)) = accQ (addQr L i) js (ix2 a d) := by
  induction is with
  | nil => cases hi
  | cons t is ih =>
    obtain ⟨i', js'⟩ := t
    rw [List.map_cons, List.nodup_cons] at hn
    show View.canon (⟨rectHi i', accQ (addQr L i') js'⟩ :: ⟨rectLo i', accQ (addQn L i') js'⟩ :: storesQ L is) _ = _
    rcases List.mem_cons.mp hi with e | hi
    · cases e; exact hitHi _ _ _ _ _
    · rw [missHi _ _ (ne_of_absent hn.1 hi), missLo']
      exact ih hn.2 hi

omit R in
/-- Each row block is in the list, with the key blocks up to its own. -/
theorem rowBlocks_mem (i : Fin 8) (f : Fin 8 → ℝ) (hf : ∀ j : Fin 8, i.val < j.val → f j = 0) :
    ∃ js, (i, js) ∈ rowBlocks ∧ (∀ j ∈ js, j.val ≤ i.val) ∧ (js.map f).sum = ∑ j : Fin 8, f j := by
  rw [Fin.sum_univ_eight]
  fin_cases i <;> refine ⟨_, by simp only [rowBlocks, List.mem_cons]; tauto, by decide, ?_⟩ <;> simp <;> (try simp [hf]) <;> try ring

omit R in
theorem rowBlocks_nodup : (rowBlocks.map Prod.fst).Nodup := by decide

/-- The gradient of the queries. -/
theorem canonQ_lo (i : Fin 8) (a : Fin 256) (d : Fin 128) :
    View.canon (storesQ L rowBlocks) (ix2 (row i a) (lo d)) = ((H.dqn (256 * i.val + a.val) d.val : ℝ) : EReal) := by
  obtain ⟨js, hm, hl, hs⟩ := rowBlocks_mem i (fun j => ∑ x : Fin 256, H.ds (256 * i.val + a.val) (256 * j.val + x.val) * H.k (256 * j.val + x.val) d.val)
    fun j hj => Finset.sum_eq_zero fun x _ => by rw [H.ds_of_not _ _ (by have := a.isLt; omega), zero_mul]
  rw [storesQ_lo i js a d rowBlocks rowBlocks_nodup hm, accQ_val R _ a d _ js fun j hj => addQn_val R i j (hl j hj) a d, hs, Head.dqn,
    sum_blocks fun b => H.ds (256 * i.val + a.val) b * H.k b d.val]
theorem canonQ_hi (i : Fin 8) (a : Fin 256) (d : Fin 128) :
    View.canon (storesQ L rowBlocks) (ix2 (row i a) (hi d)) = ((H.dqr (256 * i.val + a.val) d.val : ℝ) : EReal) := by
  obtain ⟨js, hm, hl, hs⟩ := rowBlocks_mem i (fun j => ∑ x : Fin 256, H.ds (256 * i.val + a.val) (256 * j.val + x.val) * H.r (256 * j.val + x.val) d.val)
    fun j hj => Finset.sum_eq_zero fun x _ => by rw [H.ds_of_not _ _ (by have := a.isLt; omega), zero_mul]
  rw [storesQ_hi i js a d rowBlocks rowBlocks_nodup hm, accQ_val R _ a d _ js fun j hj => addQr_val R i j (hl j hj) a d, hs, Head.dqr,
    sum_blocks fun b => H.ds (256 * i.val + a.val) b * H.r b d.val]

/-- The gradients of the keys and the values. -/
theorem canonKV_lo (m : Memref sig .tc .vmem S2048x256 .f32) (k : Fin 8) (b : Fin 256) (d : Fin 128) :
    View.canon (storesKV L m tiles) (ix2 (row k b) (lo d)) = ((H.dk (256 * k.val + b.val) d.val : ℝ) : EReal) := by
  rw [storesKV_lo R m k b d tiles tiles_le, part_tiles _ _ fun i hi => Finset.sum_eq_zero fun x _ => by
    rw [H.ds_of_not _ _ (by have := x.isLt; omega), zero_mul]]
  rw [Head.dk, sum_blocks fun a => H.ds a (256 * k.val + b.val) * H.q a d.val]
theorem canonKV_hi (m : Memref sig .tc .vmem S2048x256 .f32) (k : Fin 8) (b : Fin 256) (d : Fin 128) :
    View.canon (storesKV L m tiles) (ix2 (row k b) (hi d)) = ((H.dv (256 * k.val + b.val) d.val : ℝ) : EReal) := by
  rw [storesKV_hi R m k b d tiles tiles_le, part_tiles _ _ fun i hi => Finset.sum_eq_zero fun x _ => by
    rw [H.p_of_not _ _ (by have := x.isLt; omega), zero_mul]]
  rw [Head.dv, sum_blocks fun a => H.p a (256 * k.val + b.val) * H.g a d.val]

/-- The gradient of the rotated keys: at a sequence's first head, and added to what the heads before left. -/
theorem canonR (m : Memref sig .tc .vmem S2048x128 .f32) (k : Fin 8) (b : Fin 256) (d : Fin 128) :
    View.canon (storesR L m tiles) (ix2 (row k b) d) = ((H.dr (256 * k.val + b.val) d.val : ℝ) : EReal) := by
  rw [storesR_val R m k b d tiles tiles_le, part_tiles _ _ fun i hi => Finset.sum_eq_zero fun x _ => by
    rw [H.ds_of_not _ _ (by have := x.isLt; omega), zero_mul]]
  rw [Head.dr, sum_blocks fun a => H.ds a (256 * k.val + b.val) * H.q a (128 + d.val)]
omit R in
theorem tiles_meet (k : Fin 8) : ∃ s ∈ tiles, s.2 = k := by
  refine ⟨(k, k), ?_, rfl⟩
  fin_cases k <;> decide
theorem canonR' (m : Memref sig .tc .vmem S2048x128 .f32) (hm : m.IsWhole) (X : Vec Ideal S2048x128 .f32) (k : Fin 8) (b : Fin 256) (d : Fin 128) :
    View.canon (storesR' L m hm X tiles) (ix2 (row k b) d) = X (ix2 (row k b) d) + ((H.dr (256 * k.val + b.val) d.val : ℝ) : EReal) := by
  rw [storesR'_val R m hm X k b d tiles tiles_le good_tiles (tiles_meet k), part_tiles _ _ fun i hi => Finset.sum_eq_zero fun x _ => by
    rw [H.ds_of_not _ _ (by have := x.isLt; omega), zero_mul]]
  rw [Head.dr, sum_blocks fun a => H.ds a (256 * k.val + b.val) * H.q a (128 + d.val)]

end Cert.KernelIdeal.Attn

end
-- ==== Proof.Points.lean ====
/- The kernel's three result arrays: over real arguments and a true forward pass's outputs and log-sums they are the
   gradients that `AttnSpec.Data` names. -/
module

public import proofs.«01_k».proof.Proof.Global
public import proofs.«01_k».proof.Proof.WalkA
public import proofs.«01_k».proof.Proof.WalkB
public import proofs.«01_k».proof.Proof.WalkVal
public import proofs.«01_k».proof.Proof.Gen.KernelIdeal.Value
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe AttnSpec
open Idealize.ShloMosaic.Pipeline (Dat)

variable (m : (ℓ : Loc nD τ sig) → Buf (Elt Ideal) ℓ)

/-- Where each window's block lies at a point: sequence `t / 4`, head `t % 4`. -/
theorem index : ∀ t : Fin cfg0.N, win0_0.index t = ![t.val / 4, t.val % 4] ∧ win0_1.index t = ![t.val / 4, t.val % 4] ∧
    win0_2.index t = ![t.val / 4, 0] ∧ win0_3.index t = ![t.val / 4, 4 + t.val % 4] ∧ win0_4.index t = ![t.val / 4, t.val % 4] ∧
    win0_5.index t = ![t.val / 4, t.val % 4] ∧ win0_6.index t = ![t.val / 4, t.val % 4] ∧ win0_7.index t = ![t.val / 4, t.val % 4] ∧
    win0_8.index t = ![t.val / 4, 0] :=
  (by decide +kernel : ∀ t : Fin grid0.N, _)

/-- The arrays the launch reads hold `D` and the forward pass's outputs and log-sums. -/
structure Holds (c : Dev nD) (D : Data) : Prop where
  q : ∀ (r : Fin 8192) (j : Fin 1024), V m c (Pipeline.arrRef spec0 0) (ix2 r j) = ((D.q r.val j.val : ℝ) : EReal)
  kv : ∀ (r : Fin 8192) (j : Fin 1024), V m c (Pipeline.arrRef spec0 1) (ix2 r j) = ((D.kv r.val j.val : ℝ) : EReal)
  kr : ∀ (r : Fin 8192) (j : Fin 128), V m c (Pipeline.arrRef spec0 2) (ix2 r j) = ((D.kr r.val j.val : ℝ) : EReal)
  g : ∀ (r : Fin 8192) (j : Fin 512), V m c (Pipeline.arrRef spec0 3) (ix2 r ⟨512 + j.val, by have := j.isLt; omega⟩) = ((D.g r.val j.val : ℝ) : EReal)
  o : ∀ (r : Fin 8192) (j : Fin 512), V m c (Pipeline.arrRef spec0 4) (ix2 r j) = ((D.out r.val j.val : ℝ) : EReal)
  l : ∀ (r : Fin 8192) (j : Fin 512), V m c (Pipeline.arrRef spec0 5) (ix2 r j) = ((D.lse r.val j.val : ℝ) : EReal)

variable {m} {c : Dev nD} {D : Data} (A : Holds m c D)
include A

omit A in
theorem read256 {e : EltTy} (v : Memref sig .tc .vmem S2048x256 e) (hv : v.IsWhole) (X : Vec Ideal S2048x256 e) (i : Fin 8) (a : Fin 256) (d : Fin 256) :
    View.readAt (Elt Ideal) v.view (rect256 i).toLoadRect (hv.unread X) (ix2 a d) = X (ix2 (row i a) d) := by
  show View.ld (v.view.read _ (hv.unread X)) (rect256 i) (ix2 a d) = _
  rw [hv.read_unread, ← idx256]
omit A in
theorem readLo {e : EltTy} (v : Memref sig .tc .vmem S2048x256 e) (hv : v.IsWhole) (X : Vec Ideal S2048x256 e) (i : Fin 8) (a : Fin 256) (d : Fin 128) :
    View.readAt (Elt Ideal) v.view (rectLo i).toLoadRect (hv.unread X) (ix2 a d) = X (ix2 (row i a) (lo d)) := by
  show View.ld (v.view.read _ (hv.unread X)) (rectLo i) (ix2 a d) = _
  rw [hv.read_unread, ← idxLo]
omit A in
theorem readHi {e : EltTy} (v : Memref sig .tc .vmem S2048x256 e) (hv : v.IsWhole) (X : Vec Ideal S2048x256 e) (i : Fin 8) (a : Fin 256) (d : Fin 128) :
    View.readAt (Elt Ideal) v.view (rectHi i).toLoadRect (hv.unread X) (ix2 a d) = X (ix2 (row i a) (hi d)) := by
  show View.ld (v.view.read _ (hv.unread X)) (rectHi i) (ix2 a d) = _
  rw [hv.read_unread, ← idxHi]
omit A in
theorem read128 {e : EltTy} (v : Memref sig .tc .vmem S2048x128 e) (hv : v.IsWhole) (X : Vec Ideal S2048x128 e) (i : Fin 8) (a : Fin 256) (d : Fin 128) :
    View.readAt (Elt Ideal) v.view (rect128 i).toLoadRect (hv.unread X) (ix2 a d) = X (ix2 (row i a) d) := by
  show View.ld (v.view.read _ (hv.unread X)) (rect128 i) (ix2 a d) = _
  rw [hv.read_unread, ← idx128]

/-- Head `h` of sequence `b` as a grid point meets it. -/
abbrev headAt (D : Data) (t : Fin cfg0.N) : Head := D.head (t.val / 4) (t.val % 4)

theorem iblk_q (t : Fin cfg0.N) (r : Fin 2048) (j : Fin 256) : iblk m c 0 t (ix2 r j) = ((((headAt D t).q r.val j.val) : ℝ) : EReal) := by
  have ht : t.val < 16 := t.isLt
  have hr := r.isLt
  have hj := j.isLt
  refine Eq.trans ?_ (A.q ⟨2048 * (t.val / 4) + r.val, by omega⟩ ⟨256 * (t.val % 4) + j.val, by omega⟩)
  blk_ext [iblk, index t]

theorem iblk_k (t : Fin cfg0.N) (r : Fin 2048) (j : Fin 256) : iblk m c 1 t (ix2 r j) = ((((headAt D t).k r.val j.val) : ℝ) : EReal) := by
  have ht : t.val < 16 := t.isLt
  have hr := r.isLt
  have hj := j.isLt
  refine Eq.trans ?_ (A.kv ⟨2048 * (t.val / 4) + r.val, by omega⟩ ⟨256 * (t.val % 4) + j.val, by omega⟩)
  blk_ext [iblk, index t]

theorem iblk_r (t : Fin cfg0.N) (r : Fin 2048) (j : Fin 128) : iblk m c 2 t (ix2 r j) = ((((headAt D t).r r.val j.val) : ℝ) : EReal) := by
  have ht : t.val < 16 := t.isLt
  have hr := r.isLt
  have hj := j.isLt
  refine Eq.trans ?_ (A.kr ⟨2048 * (t.val / 4) + r.val, by omega⟩ ⟨j.val, by omega⟩)
  blk_ext [iblk, index t]

theorem iblk_g (t : Fin cfg0.N) (r : Fin 2048) (j : Fin 128) : iblk m c 3 t (ix2 r j) = ((((headAt D t).g r.val j.val) : ℝ) : EReal) := by
  have ht : t.val < 16 := t.isLt
  have hr := r.isLt
  have hj := j.isLt
  refine Eq.trans ?_ (A.g ⟨2048 * (t.val / 4) + r.val, by omega⟩ ⟨128 * (t.val % 4) + j.val, by omega⟩)
  blk_ext [iblk, index t]

theorem iblk_o (t : Fin cfg0.N) (r : Fin 2048) (j : Fin 128) : iblk m c 4 t (ix2 r j) = ((((headAt D t).out r.val j.val) : ℝ) : EReal) := by
  have ht : t.val < 16 := t.isLt
  have hr := r.isLt
  have hj := j.isLt
  have e1 : (2048 * (t.val / 4) + r.val) / 2048 = t.val / 4 := by omega
  have e2 : (2048 * (t.val / 4) + r.val) % 2048 = r.val := by omega
  have e3 : (128 * (t.val % 4) + j.val) / 128 = t.val % 4 := by omega
  have e4 : (128 * (t.val % 4) + j.val) % 128 = j.val := by omega
  have h := A.o ⟨2048 * (t.val / 4) + r.val, by omega⟩ ⟨128 * (t.val % 4) + j.val, by omega⟩
  simp only [Data.out, Data.lse, e1, e2, e3, e4] at h
  refine Eq.trans ?_ h
  blk_ext [iblk, index t]

omit A in
theorem blk5 (X : S8192x512.Idx → Elt Ideal .f32) (t : Fin cfg0.N) (r : Fin 2048) (j : Fin 128) :
    ((cfg0.win 5).blk t).view.read (Elt Ideal) X (ix2 r j)
      = X (ix2 ⟨2048 * (t.val / 4) + r.val, by have : t.val < 16 := t.isLt; omega⟩ ⟨128 * (t.val % 4) + j.val, by omega⟩) := by
  have ht : t.val < 16 := t.isLt
  blk_ext [index t]

theorem iblk_l (t : Fin cfg0.N) (r : Fin 2048) (j : Fin 128) : iblk m c 5 t (ix2 r j) = ((((headAt D t).lse r.val) : ℝ) : EReal) := by
  have ht : t.val < 16 := t.isLt
  have hr := r.isLt
  have hj := j.isLt
  have e1 : (2048 * (t.val / 4) + r.val) / 2048 = t.val / 4 := by omega
  have e2 : (2048 * (t.val / 4) + r.val) % 2048 = r.val := by omega
  have e3 : (128 * (t.val % 4) + j.val) / 128 = t.val % 4 := by omega
  have e4 : (128 * (t.val % 4) + j.val) % 128 = j.val := by omega
  have h := A.l ⟨2048 * (t.val / 4) + r.val, by omega⟩ ⟨128 * (t.val % 4) + j.val, by omega⟩
  simp only [Data.out, Data.lse, e1, e2, e3, e4] at h
  exact (blk5 (V m c (Pipeline.arrRef spec0 5)) t r j).trans h

/-- A point's loads are the rows of its head. -/
theorem reads (t : Fin cfg0.N) : Reads (loads (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t) (iblk m c 5 t)) (headAt D t) where
  q i a d := (read256 _ _ _ i a d).trans (iblk_q A t (row i a) d)
  kn i a d := (readLo _ _ _ i a d).trans (iblk_k A t (row i a) (lo d))
  v i a d := (readHi _ _ _ i a d).trans (iblk_k A t (row i a) (hi d))
  kr i a d := (read128 _ _ _ i a d).trans (iblk_r A t (row i a) d)
  g i a d := (read128 _ _ _ i a d).trans (iblk_g A t (row i a) d)
  o i a d := (read128 _ _ _ i a d).trans (iblk_o A t (row i a) d)
  l i a d := (read128 _ _ _ i a d).trans (iblk_l A t (row i a) d)

omit A in
theorem row_split (r : Fin 2048) : r = row ⟨r.val / 256, by have := r.isLt; omega⟩ ⟨r.val % 256, by omega⟩ := by
  apply Fin.ext; show r.val = 256 * (r.val / 256) + r.val % 256; omega

/-- What a point leaves in the queries' gradient buffer. -/
theorem out_q_lo (t : Fin cfg0.N) (r : Fin 2048) (d : Fin 128) :
    (outsAt0 m c t.val t.isLt).1 (ix2 r (lo d)) = (((headAt D t).dqn r.val d.val : ℝ) : EReal) := by
  have e : 256 * (r.val / 256) + r.val % 256 = r.val := by omega
  have h := canonQ_lo (reads A t) ⟨r.val / 256, by have := r.isLt; omega⟩ ⟨r.val % 256, by omega⟩ d
  rw [← row_split] at h
  simp only [e] at h
  by_cases h0 : t.val % 4 = 0
  · rw [outsAt0_A m c t h0]
    dsimp only
    unfold out0_A_6
    rw [View.read_writes_junk_eq_canon, storesQ_A]
    exact h
  · rw [outsAt0_B m c t h0]
    dsimp only
    unfold out0_B_6
    rw [View.read_writes_junk_eq_canon, storesQ_B]
    exact h

theorem out_q_hi (t : Fin cfg0.N) (r : Fin 2048) (d : Fin 128) :
    (outsAt0 m c t.val t.isLt).1 (ix2 r (hi d)) = (((headAt D t).dqr r.val d.val : ℝ) : EReal) := by
  have e : 256 * (r.val / 256) + r.val % 256 = r.val := by omega
  have h := canonQ_hi (reads A t) ⟨r.val / 256, by have := r.isLt; omega⟩ ⟨r.val % 256, by omega⟩ d
  rw [← row_split] at h
  simp only [e] at h
  by_cases h0 : t.val % 4 = 0
  · rw [outsAt0_A m c t h0]
    dsimp only
    unfold out0_A_6
    rw [View.read_writes_junk_eq_canon, storesQ_A]
    exact h
  · rw [outsAt0_B m c t h0]
    dsimp only
    unfold out0_B_6
    rw [View.read_writes_junk_eq_canon, storesQ_B]
    exact h

/-- What a point leaves in the keys' and values' gradient buffer. -/
theorem out_k_lo (t : Fin cfg0.N) (r : Fin 2048) (d : Fin 128) :
    (outsAt0 m c t.val t.isLt).2.1 (ix2 r (lo d)) = (((headAt D t).dk r.val d.val : ℝ) : EReal) := by
  have e : 256 * (r.val / 256) + r.val % 256 = r.val := by omega
  have h := canonKV_lo (reads A t) (ms0_7 t) ⟨r.val / 256, by have := r.isLt; omega⟩ ⟨r.val % 256, by omega⟩ d
  rw [← row_split] at h
  simp only [e] at h
  by_cases h0 : t.val % 4 = 0
  · rw [outsAt0_A m c t h0]
    dsimp only
    unfold out0_A_7
    rw [View.read_writes_junk_eq_canon, storesKV_A]
    exact h
  · rw [outsAt0_B m c t h0]
    dsimp only
    unfold out0_B_7
    rw [View.read_writes_junk_eq_canon, storesKV_B]
    exact h

theorem out_k_hi (t : Fin cfg0.N) (r : Fin 2048) (d : Fin 128) :
    (outsAt0 m c t.val t.isLt).2.1 (ix2 r (hi d)) = (((headAt D t).dv r.val d.val : ℝ) : EReal) := by
  have e : 256 * (r.val / 256) + r.val % 256 = r.val := by omega
  have h := canonKV_hi (reads A t) (ms0_7 t) ⟨r.val / 256, by have := r.isLt; omega⟩ ⟨r.val % 256, by omega⟩ d
  rw [← row_split] at h
  simp only [e] at h
  by_cases h0 : t.val % 4 = 0
  · rw [outsAt0_A m c t h0]
    dsimp only
    unfold out0_A_7
    rw [View.read_writes_junk_eq_canon, storesKV_A]
    exact h
  · rw [outsAt0_B m c t h0]
    dsimp only
    unfold out0_B_7
    rw [View.read_writes_junk_eq_canon, storesKV_B]
    exact h

/-- What a point leaves in the rotated keys' gradient buffer: its head's share, over what the heads before left. -/
theorem out_r_A (t : Fin cfg0.N) (h0 : t.val % 4 = 0) (r : Fin 2048) (d : Fin 128) :
    (outsAt0 m c t.val t.isLt).2.2 (ix2 r d) = (((headAt D t).dr r.val d.val : ℝ) : EReal) := by
  have e : 256 * (r.val / 256) + r.val % 256 = r.val := by omega
  have h := canonR (reads A t) (ms0_8 t) ⟨r.val / 256, by have := r.isLt; omega⟩ ⟨r.val % 256, by omega⟩ d
  rw [← row_split] at h
  simp only [e] at h
  rw [outsAt0_A m c t h0]
  dsimp only
  unfold out0_A_8
  rw [View.read_writes_junk_eq_canon, storesR_A]
  exact h

theorem out_r_B (t : Fin cfg0.N) (h0 : ¬t.val % 4 = 0) (r : Fin 2048) (d : Fin 128) :
    (outsAt0 m c t.val t.isLt).2.2 (ix2 r d)
      = (outsAt0 m c (t.val - 1) (Nat.lt_of_le_of_lt (Nat.sub_le _ _) t.isLt)).2.2 (ix2 r d) + (((headAt D t).dr r.val d.val : ℝ) : EReal) := by
  have e : 256 * (r.val / 256) + r.val % 256 = r.val := by omega
  have h := canonR' (reads A t) (ms0_8 t) (hs0_8 t) (outsAt0 m c (t.val - 1) (Nat.lt_of_le_of_lt (Nat.sub_le _ _) t.isLt)).2.2
    ⟨r.val / 256, by have := r.isLt; omega⟩ ⟨r.val % 256, by omega⟩ d
  rw [← row_split] at h
  simp only [e] at h
  rw [outsAt0_B m c t h0]
  dsimp only
  unfold out0_B_8
  rw [View.read_writes_junk_eq_canon, storesR_B]
  exact h

/-- At a sequence's last head the buffer holds the sum over its four heads. -/
theorem out_r (t : Fin cfg0.N) (h3 : t.val % 4 = 3) (r : Fin 2048) (d : Fin 128) :
    (outsAt0 m c t.val t.isLt).2.2 (ix2 r d) = ((∑ h ∈ Finset.range 4, (D.head (t.val / 4) h).dr r.val d.val : ℝ) : EReal) := by
  have h := Pipeline.eq_sum_of_reset_step_of_mod (fun n h => (outsAt0 m c n h).2.2 (ix2 r d)) 4 (0 : EReal)
    (fun n => (((D.head (n / 4) (n % 4)).dr r.val d.val : ℝ) : EReal))
    (fun t h0 => by rw [zero_add]; exact out_r_A A t h0 r d) (fun t h0 => out_r_B A t h0 r d) t h3
  refine h.trans ?_
  rw [zero_add, coe_sum]
  refine Finset.sum_congr rfl fun k hk => ?_
  have := Finset.mem_range.mp hk
  rw [show (4 * (t.val / 4) + k) / 4 = t.val / 4 by omega, show (4 * (t.val / 4) + k) % 4 = k by omega]

/-- The three result arrays. -/
theorem arr_q : (dats m 0 c).arrAt 6 cfg0.N = fun i => ((D.dq (i 0).val (i 1).val : ℝ) : EReal) := by
  refine (dats m 0 c).arrAt_eq_of_covers 6 _ (by decide +kernel) fun t hf y => ?_
  have ht : t.val < 16 := t.isLt
  blk_simp [index t]
  rw [after0_6]
  idx_vars y
  have h0 := y0.isLt
  have h1 := y1.isLt
  unfold Data.dq
  rw [show (t.val / 4 * 2048 + y0.val) / 2048 = t.val / 4 by omega, show (t.val / 4 * 2048 + y0.val) % 2048 = y0.val by omega,
    show (t.val % 4 * 256 + y1.val) / 256 = t.val % 4 by omega, show (t.val % 4 * 256 + y1.val) % 256 = y1.val by omega]
  by_cases h : y1.val < 128
  · rw [if_pos h]
    exact out_q_lo A t y0 ⟨y1.val, h⟩
  · rw [if_neg h]
    have e : y1 = hi ⟨y1.val - 128, by omega⟩ := Fin.ext (by show y1.val = 128 + (y1.val - 128); omega)
    have := out_q_hi A t y0 ⟨y1.val - 128, by omega⟩
    rw [← e] at this
    exact this

theorem arr_kv : (dats m 0 c).arrAt 7 cfg0.N = fun i => ((D.dkv (i 0).val (i 1).val : ℝ) : EReal) := by
  refine (dats m 0 c).arrAt_eq_of_covers 7 _ (by decide +kernel) fun t hf y => ?_
  have ht : t.val < 16 := t.isLt
  blk_simp [index t]
  rw [after0_7]
  idx_vars y
  have h0 := y0.isLt
  have h1 := y1.isLt
  unfold Data.dkv
  rw [show (t.val / 4 * 2048 + y0.val) / 2048 = t.val / 4 by omega, show (t.val / 4 * 2048 + y0.val) % 2048 = y0.val by omega,
    show (t.val % 4 * 256 + y1.val) / 256 = t.val % 4 by omega, show (t.val % 4 * 256 + y1.val) % 256 = y1.val by omega]
  by_cases h : y1.val < 128
  · rw [if_pos h]
    exact out_k_lo A t y0 ⟨y1.val, h⟩
  · rw [if_neg h]
    have e : y1 = hi ⟨y1.val - 128, by omega⟩ := Fin.ext (by show y1.val = 128 + (y1.val - 128); omega)
    have := out_k_hi A t y0 ⟨y1.val - 128, by omega⟩
    rw [← e] at this
    exact this

theorem arr_r : (dats m 0 c).arrAt 8 cfg0.N = fun i => ((D.dkr (i 0).val (i 1).val : ℝ) : EReal) := by
  refine (dats m 0 c).arrAt_eq_of_covers 8 _ (by decide +kernel) fun t hf y => ?_
  have ht : t.val < 16 := t.isLt
  have h3 := (flush0_8 t).mp hf
  blk_simp [index t]
  rw [after0_8]
  idx_vars y
  have h0 := y0.isLt
  unfold Data.dkr
  rw [show (t.val / 4 * 2048 + y0.val) / 2048 = t.val / 4 by omega, show (t.val / 4 * 2048 + y0.val) % 2048 = y0.val by omega, out_r A t h3]

end Cert.KernelIdeal.Attn

end
-- ==== Proof.Softmax.lean ====
/- A row of masked scores in the extended reals: its maximum is a real number, and the exponentials about it are real. -/
module

public import proofs.«01_k».proof.Proof.AttnSpec
public import Idealize.ShloMosaic.Lib.Pointwise

@[expose] public section

noncomputable section

namespace AttnSpec

open Idealize.ShloMosaic

/-- A row of scores, −∞ where the row does not see the key. -/
def Head.row (H : Head) (a b : ℕ) : EReal := if b / 64 ≤ a / 64 then ((H.score a b : ℝ) : EReal) else ⊥

theorem Head.exists_top (H : Head) (a : ℕ) (ha : a < 2048) :
    ∃ M : ℝ, Finset.fold max (⊥ : EReal) (fun b : Fin 2048 => H.row a b.val) Finset.univ = ((M : ℝ) : EReal) := by
  refine ⟨_, (EReal.coe_toReal (x := Finset.fold max (⊥ : EReal) (fun b : Fin 2048 => H.row a b.val) Finset.univ) ?_ ?_).symm⟩
  · refine ne_of_lt ((Finset.fold_max_lt _).mpr ⟨bot_lt_top, fun b _ => ?_⟩)
    unfold Head.row
    split_ifs
    · exact EReal.coe_lt_top _
    · exact bot_lt_top
  · refine ne_of_gt ((Finset.lt_fold_max _).mpr (Or.inr ⟨⟨a, ha⟩, Finset.mem_univ _, ?_⟩))
    unfold Head.row
    rw [if_pos le_rfl]
    exact EReal.bot_lt_coe _

theorem Head.exp_row (H : Head) (a b : ℕ) (M : ℝ) : Ideal.exp (H.row a b - ((M : ℝ) : EReal)) = ((H.e a b * Real.exp (-M) : ℝ) : EReal) := by
  unfold Head.row Head.e
  split_ifs
  · rw [← EReal.coe_sub, Ideal.exp_coe, sub_eq_add_neg, Real.exp_add]
  · rw [EReal.bot_sub, Ideal.exp_bot, zero_mul]; rfl

theorem Head.norm_pos (H : Head) (a : ℕ) (ha : a < 2048) (M : ℝ) : 0 < ∑ b : Fin 2048, H.e a b.val * Real.exp (-M) := by
  rw [← Finset.sum_mul]
  exact mul_pos (H.Z_pos a ha) (Real.exp_pos _)

theorem bot_word' : Ideal.ofBits FTy.f32 4286578688#32 = ⊥ := by
  simp [Ideal.ofBits, Ideal.ieee]
theorem zero_word' : Ideal.ofBits FTy.f32 0#32 = 0 := by
  simp [Ideal.ofBits, Ideal.ieee]

end AttnSpec

end
-- ==== Proof.SavedVal.lean ====
/- The saved outputs and log-sums over real arguments. -/
module

public import proofs.«01_k».proof.Proof.Saved
public import proofs.«01_k».proof.Proof.Points
public import proofs.«01_k».proof.Proof.Softmax

@[expose] public section

set_option maxRecDepth 16384

noncomputable section

namespace Cert.KernelIdeal.Attn

open Cert.KernelIdeal Idealize.ShloMosaic Idealize.ShloMosaic.TcCoe AttnSpec
open Cert.KernelIdeal.Gen (V)

variable (m : (ℓ : Loc nD τ sig) → Buf (Elt Ideal) ℓ) (c : Dev nD)

theorem chunks (n : Fin 2048) : (V m c main_v14 : IVec S2048 32) (ix1 n) = BitVec.ofNat 32 (n.val / 64) := by
  unfold V
  after_reads_at
  revert n
  decide +kernel

theorem keep_val (ch : IVec S2048 32) (hch : ∀ n : Fin 2048, ch (ix1 n) = BitVec.ofNat 32 (n.val / 64)) (b h : Fin 4) (a x : Fin 2048) :
    keep ch (ix4 b h a x) = if x.val / 64 ≤ a.val / 64 then 1#1 else 0#1 := by
  have := a.isLt
  have := x.isLt
  pointwise [keep, hch]
  word_omega

/-- The arguments are the real arrays of `D`. -/
structure Args (D : Data) : Prop where
  q : ∀ (r : Fin 8192) (j : Fin 1024), (m ((c : Thread nD τ).loc main_arg0) : FVec Ideal S8192x1024 .bf16) (ix2 r j) = ((D.q r.val j.val : ℝ) : EReal)
  kv : ∀ (r : Fin 8192) (j : Fin 1024), (m ((c : Thread nD τ).loc main_arg1) : FVec Ideal S8192x1024 .bf16) (ix2 r j) = ((D.kv r.val j.val : ℝ) : EReal)
  kr : ∀ (r : Fin 8192) (j : Fin 128), (m ((c : Thread nD τ).loc main_arg2) : FVec Ideal S8192x128 .bf16) (ix2 r j) = ((D.kr r.val j.val : ℝ) : EReal)
  g : ∀ (r : Fin 8192) (j : Fin 512), (m ((c : Thread nD τ).loc main_arg3) : FVec Ideal S8192x1024 .f32) (ix2 r ⟨512 + j.val, by have := j.isLt; omega⟩) = ((D.g r.val j.val : ℝ) : EReal)

theorem heads_val (X : FVec Ideal S8192x1024 .bf16) (f : ℕ → ℕ → ℝ) (hX : ∀ (r : Fin 8192) (j : Fin 1024), X (ix2 r j) = ((f r.val j.val : ℝ) : EReal))
    (b : Fin 4) (s : Fin 2048) (h : Fin 4) (d : Fin 256) : heads X (ix4 b s h d) = ((f (2048 * b.val + s.val) (256 * h.val + d.val) : ℝ) : EReal) := by
  pointwise [heads, hX]
  rw [mul_comm, mul_comm h.val]
theorem seqs_val (X : FVec Ideal S8192x128 .bf16) (f : ℕ → ℕ → ℝ) (hX : ∀ (r : Fin 8192) (j : Fin 128), X (ix2 r j) = ((f r.val j.val : ℝ) : EReal))
    (b : Fin 4) (s : Fin 2048) (d : Fin 128) : seqs X (ix3 b s d) = ((f (2048 * b.val + s.val) d.val : ℝ) : EReal) := by
  pointwise [seqs, hX]
  rw [mul_comm]
theorem first_apply (X : FVec Ideal S4x2048x4x256 .f32) (b : Fin 4) (s : Fin 2048) (h : Fin 4) (d : Fin 128) : first X (ix4 b s h d) = X (ix4 b s h (lo d)) := by
  pointwise [first]
theorem second_apply (X : FVec Ideal S4x2048x4x256 .f32) (b : Fin 4) (s : Fin 2048) (h : Fin 4) (d : Fin 128) : second X (ix4 b s h d) = X (ix4 b s h (hi d)) := by
  pointwise [second]
theorem prodN_apply (q k : FVec Ideal S4x2048x4x128 .f32) (b h : Fin 4) (a x : Fin 2048) : prodN q k (ix4 b h a x) = ∑ d : Fin 128, q (ix4 b a h d) * k (ix4 b x h d) := by
  pointwise [prodN]
theorem prodR_apply (q : FVec Ideal S4x2048x4x128 .f32) (r : FVec Ideal S4x2048x128 .f32) (b h : Fin 4) (a x : Fin 2048) : prodR q r (ix4 b h a x) = ∑ d : Fin 128, r (ix3 b x d) * q (ix4 b a h d) := by
  pointwise [prodR]
theorem scaledH_apply (s : FVec Ideal S4x4x2048x2048 .f32) (b h : Fin 4) (a x : Fin 2048) : scaledH s (ix4 b h a x) = s (ix4 b h a x) * Ideal.ofBits FTy.f32 1033096506#32 := by
  pointwise [scaledH]
theorem topH_apply (s : FVec Ideal S4x4x2048x2048 .f32) (b h : Fin 4) (a : Fin 2048) (z : Fin 1) : topH s (ix4 b h a z) = Finset.fold max (Ideal.ofBits FTy.f32 4286578688#32) (fun x : Fin 2048 => s (ix4 b h a x)) Finset.univ := by
  pointwise [topH]
theorem expH_apply (s : FVec Ideal S4x4x2048x2048 .f32) (t : FVec Ideal S4x4x2048x1 .f32) (b h : Fin 4) (a x : Fin 2048) : expH s t (ix4 b h a x) = Ideal.exp (s (ix4 b h a x) - t (ix4 b h a 0)) := by
  pointwise [expH, across]
theorem normH_apply (e : FVec Ideal S4x4x2048x2048 .f32) (b h : Fin 4) (a : Fin 2048) (z : Fin 1) : normH e (ix4 b h a z) = Ideal.ofBits FTy.f32 0#32 + ∑ x : Fin 2048, e (ix4 b h a x) := by
  pointwise [normH]
theorem outH_apply (v : FVec Ideal S4x2048x4x128 .f32) (e : FVec Ideal S4x4x2048x2048 .f32) (n : FVec Ideal S4x4x2048x1 .f32) (r : Fin 8192) (j : Fin 512) :
    outH v e n (ix2 r j) = ∑ x : Fin 2048, v (ix4 ⟨r.val / 2048, by omega⟩ x ⟨j.val / 128, by omega⟩ ⟨j.val % 128, by omega⟩)
      * Ideal.div (e (ix4 ⟨r.val / 2048, by omega⟩ ⟨j.val / 128, by omega⟩ ⟨r.val % 2048, by omega⟩ x)) (n (ix4 ⟨r.val / 2048, by omega⟩ ⟨j.val / 128, by omega⟩ ⟨r.val % 2048, by omega⟩ 0)) := by
  pointwise [outH, across]
theorem lseH_apply (t n : FVec Ideal S4x4x2048x1 .f32) (r : Fin 8192) (j : Fin 512) :
    lseH t n (ix2 r j) = t (ix4 ⟨r.val / 2048, by omega⟩ ⟨j.val / 128, by omega⟩ ⟨r.val % 2048, by omega⟩ 0)
      + Ideal.log (n (ix4 ⟨r.val / 2048, by omega⟩ ⟨j.val / 128, by omega⟩ ⟨r.val % 2048, by omega⟩ 0)) := by
  pointwise [lseH]

/-- The masked scores of real arrays. -/
theorem masked_val (D : Data) (x0 x1 : FVec Ideal S8192x1024 .bf16) (x2 : FVec Ideal S8192x128 .bf16) (ch : IVec S2048 32)
    (h0 : ∀ (r : Fin 8192) (j : Fin 1024), x0 (ix2 r j) = ((D.q r.val j.val : ℝ) : EReal)) (h1 : ∀ (r : Fin 8192) (j : Fin 1024), x1 (ix2 r j) = ((D.kv r.val j.val : ℝ) : EReal))
    (h2 : ∀ (r : Fin 8192) (j : Fin 128), x2 (ix2 r j) = ((D.kr r.val j.val : ℝ) : EReal)) (hch : ∀ n : Fin 2048, ch (ix1 n) = BitVec.ofNat 32 (n.val / 64))
    (b h : Fin 4) (a x : Fin 2048) :
    maskedH ch (addf (prodN (first (heads x0)) (first (heads x1))) (prodR (second (heads x0)) (seqs x2))) (ix4 b h a x) = (D.head b.val h.val).row a.val x.val := by
  show Scalar.select (keep ch (ix4 b h a x)) (scaledH (addf (prodN (first (heads x0)) (first (heads x1))) (prodR (second (heads x0)) (seqs x2))) (ix4 b h a x)) (Ideal.ofBits FTy.f32 4286578688#32) = _
  rw [keep_val _ hch, scaledH_apply]
  show Scalar.select _ ((prodN _ _ (ix4 b h a x) + prodR _ _ (ix4 b h a x)) * _) _ = _
  rw [prodN_apply, prodR_apply, scale_word, bot_word]
  simp only [first_apply, second_apply, heads_val _ _ h0, heads_val _ _ h1, seqs_val _ _ h2]
  unfold Head.row
  split_ifs
  · show _ = ((((D.head b.val h.val).score a.val x.val) : ℝ) : EReal)
    simp only [Head.score, Data.head, EReal.coe_mul, EReal.coe_add, coe_sum]
    refine congrArg (fun z => (_ + z) * _) (Finset.sum_congr rfl fun d _ => mul_comm _ _)
  · rfl

variable {m c} {D : Data} (A : Args m c D)
include A

/-- The masked scores. -/
theorem scores_val (b h : Fin 4) (a x : Fin 2048) : (V m c main_v22 : FVec Ideal S4x4x2048x2048 .f32) (ix4 b h a x) = (D.head b.val h.val).row a.val x.val := by
  rw [step_v22, step_v12]
  exact masked_val D _ _ _ _ A.q A.kv A.kr (chunks m c) b h a x

/-- A row's maximum, exponentials and normaliser. -/
theorem row_facts (b h : Fin 4) (a : Fin 2048) : ∃ M : ℝ, (V m c main_v24 : FVec Ideal S4x4x2048x1 .f32) (ix4 b h a 0) = ((M : ℝ) : EReal)
    ∧ (∀ x : Fin 2048, (V m c main_v27 : FVec Ideal S4x4x2048x2048 .f32) (ix4 b h a x) = (((D.head b.val h.val).e a.val x.val * Real.exp (-M) : ℝ) : EReal))
    ∧ (V m c main_v29 : FVec Ideal S4x4x2048x1 .f32) (ix4 b h a 0) = ((∑ x : Fin 2048, (D.head b.val h.val).e a.val x.val * Real.exp (-M) : ℝ) : EReal) := by
  obtain ⟨M, hM⟩ := (D.head b.val h.val).exists_top a.val a.isLt
  have h24 : (V m c main_v24 : FVec Ideal S4x4x2048x1 .f32) (ix4 b h a 0) = ((M : ℝ) : EReal) := by
    rw [step_v24, topH_apply, bot_word]
    simp only [scores_val A]
    exact hM
  have h27 (x : Fin 2048) : (V m c main_v27 : FVec Ideal S4x4x2048x2048 .f32) (ix4 b h a x) = (((D.head b.val h.val).e a.val x.val * Real.exp (-M) : ℝ) : EReal) := by
    rw [step_v27, expH_apply, scores_val A, h24, Head.exp_row]
  refine ⟨M, h24, h27, ?_⟩
  refine (congrFun (step_v29 m c) _).trans ((normH_apply _ b h a 0).trans ?_)
  rw [zero_word', zero_add, coe_sum]
  exact Finset.sum_congr rfl fun x _ => h27 x

theorem saved_out (r : Fin 8192) (j : Fin 512) : (V m c main_v35 : FVec Ideal S8192x512 .f32) (ix2 r j) = ((D.out r.val j.val : ℝ) : EReal) := by
  obtain ⟨M, _, h27, h29⟩ := row_facts A ⟨r.val / 2048, by omega⟩ ⟨j.val / 128, by omega⟩ ⟨r.val % 2048, by omega⟩
  have hn := ((D.head (r.val / 2048) (j.val / 128)).norm_pos (r.val % 2048) (by omega) M).ne'
  refine (congrFun (step_v35 m c) _).trans ((outH_apply _ _ _ r j).trans ?_)
  unfold Data.out Head.out
  rw [coe_sum]
  refine Finset.sum_congr rfl fun x _ => ?_
  have hv := (second_apply (heads (m ((c : Thread nD τ).loc main_arg1))) ⟨r.val / 2048, by omega⟩ x ⟨j.val / 128, by omega⟩ ⟨j.val % 128, by omega⟩).trans (heads_val _ _ A.kv _ _ _ _)
  refine (congrArg₂ (fun y z : EReal => y * z) hv (congrArg₂ Ideal.div (h27 x) h29)).trans ?_
  dsimp only
  rw [Ideal.div_coe hn, ← EReal.coe_mul, ← EReal.coe_mul, ← Head.p_shift (D.head (r.val / 2048) (j.val / 128)) _ _ M]
  refine congrArg _ ?_
  simp only [Data.head]
  ring

theorem saved_lse (r : Fin 8192) (j : Fin 512) : (V m c main_v40 : FVec Ideal S8192x512 .f32) (ix2 r j) = ((D.lse r.val j.val : ℝ) : EReal) := by
  obtain ⟨M, h24, _, h29⟩ := row_facts A ⟨r.val / 2048, by omega⟩ ⟨j.val / 128, by omega⟩ ⟨r.val % 2048, by omega⟩
  have hn := (D.head (r.val / 2048) (j.val / 128)).norm_pos (r.val % 2048) (by omega) M
  rw [step_v40, lseH_apply, h24, h29, Ideal.log_coe, if_neg (not_le.mpr hn), ← EReal.coe_add]
  unfold Data.lse
  rw [← (D.head (r.val / 2048) (j.val / 128)).lse_shift (r.val % 2048) (by omega) M]

/-- So the launch's arrays hold what the tiles need. -/
theorem holds : Holds m c D where
  q r j := (congrFun (Gen.V_main_arg0 m c) _).trans (A.q r j)
  kv r j := (congrFun (Gen.V_main_arg1 m c) _).trans (A.kv r j)
  kr r j := (congrFun (Gen.V_main_arg2 m c) _).trans (A.kr r j)
  g r j := (congrFun (Gen.V_main_arg3 m c) _).trans (A.g r j)
  o := saved_out A
  l := saved_lse A

end Cert.KernelIdeal.Attn

end
-- ==== Proof.RefStep.lean ====
/- The reference's operations as functions of the ones before. -/
module

public import proofs.«01_k».proof.Proof.SavedVal
public import proofs.«01_k».proof.Proof.Gen.ReferenceIdeal.Read

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe
open Cert.ReferenceIdeal.Facts
open Cert.KernelIdeal.Attn (heads first second seqs prodN prodR keep maskedH across expH normH topH)

/-- A row's maximum, never below −∞. -/
def liftR (t : FVec Ideal S4x4x2048 .f32) : FVec Ideal S4x4x2048x1 .f32 :=
  broadcastInDim S4x4x2048x1 ![0, 1, 2] bcast_S4x4x2048_S4x4x2048x1_0_1_2 (maximumf (broadcastInDim S4x4x2048 ![] bcast_S_S4x4x2048 (constant S_ .f32 0xFF800000#32)) t)
def columnR (t : FVec Ideal S4x4x2048 .f32) : FVec Ideal S4x4x2048x1 .f32 := broadcastInDim S4x4x2048x1 ![0, 1, 2] bcast_S4x4x2048_S4x4x2048x1_0_1_2 t
def maxR (s : FVec Ideal S4x4x2048x2048 .f32) : FVec Ideal S4x4x2048 .f32 :=
  Host.reduce FloatOps.maximumf s (constant S_ .f32 0xFF800000#32) reducesTo_S4x4x2048x2048_S4x4x2048_d3 h_S_

/-- The weights, the square's inverse, the cotangent by heads. -/
def softR (e : FVec Ideal S4x4x2048x2048 .f32) (n : FVec Ideal S4x4x2048x1 .f32) : FVec Ideal S4x4x2048x2048 .f32 := Host.divf e (across n)
def invR (n : FVec Ideal S4x4x2048x1 .f32) : FVec Ideal S4x4x2048x1 .f32 := Host.divf (broadcastInDim S4x4x2048x1 ![] bcast_S_S4x4x2048x1 (constant S_ .f32 0x3F800000#32)) (mulf n n)
def cotR (X : FVec Ideal S8192x1024 .f32) : FVec Ideal S4x4x128x2048 .f32 :=
  transpose S4x4x128x2048 [0, 2, 3, 1] (shapeCast S4x2048x4x128 (extractStridedSlice S8192x512 ![0, 512] X slices_S8192x1024_S8192x512_0_512) shapeCasts_S8192x512_S4x2048x4x128) transposes_S4x2048x4x128_S4x4x128x2048_0_2_3_1

/-- The weights' cotangent, the values' gradient. -/
def dpR (g : FVec Ideal S4x4x128x2048 .f32) (v : FVec Ideal S4x2048x4x128 .f32) : FVec Ideal S4x4x2048x2048 .f32 := Host.dotGeneral dot_S4x4x128x2048_S4x2048x4x128_S4x4x2048x2048_2_3_3_1_01_02 none g v
def dvR (g : FVec Ideal S4x4x128x2048 .f32) (p : FVec Ideal S4x4x2048x2048 .f32) : FVec Ideal S4x2048x4x128 .f32 :=
  transpose S4x2048x4x128 [0, 3, 1, 2] (Host.dotGeneral dot_S4x4x128x2048_S4x4x2048x2048_S4x4x128x2048_3_2_2_3_01_01 none g p) transposes_S4x4x128x2048_S4x2048x4x128_0_3_1_2

/-- The row term of the softmax's gradient, and the scores' gradient. -/
def rowR (dp e : FVec Ideal S4x4x2048x2048 .f32) (w : FVec Ideal S4x4x2048x1 .f32) : FVec Ideal S4x4x2048x1 .f32 :=
  Host.negf (shapeCast S4x4x2048x1 (Host.reduceAdd (mulf (mulf dp (across w)) e) (constant S_ .f32 0x00000000#32) reducesTo_S4x4x2048x2048_S4x4x2048_d3 h_S_) shapeCasts_S4x4x2048_S4x4x2048x1)
def spreadR (t : FVec Ideal S4x4x2048x1 .f32) : FVec Ideal S4x4x2048x2048 .f32 :=
  broadcastInDim S4x4x2048x2048 ![0, 1, 2] bcast_S4x4x2048_S4x4x2048x2048_0_1_2 (Host.reduceAdd t (constant S_ .f32 0x00000000#32) reducesTo_S4x4x2048x1_S4x4x2048_d3 h_S_)
def dsR (ch : IVec S2048 32) (dp e : FVec Ideal S4x4x2048x2048 .f32) (n t : FVec Ideal S4x4x2048x1 .f32) : FVec Ideal S4x4x2048x2048 .f32 :=
  mulf (select (keep ch) (mulf (addf (Host.divf dp (across n)) (spreadR t)) e) (broadcastInDim S4x4x2048x2048 ![] bcast_S_S4x4x2048x2048 (constant S_ .f32 0x00000000#32)))
    (broadcastInDim S4x4x2048x2048 ![] bcast_S_S4x4x2048x2048 (constant S_ .f32 0x3D93CD3A#32))

/-- The gradients of the two halves, and how they are put side by side. -/
def dqrR (ds : FVec Ideal S4x4x2048x2048 .f32) (r : FVec Ideal S4x2048x128 .f32) : FVec Ideal S4x2048x4x128 .f32 :=
  Host.dotGeneral dot_S4x2048x2048x4_S4x2048x128_S4x2048x4x128_1_1_23_2_0_0 none (transpose S4x2048x2048x4 [0, 3, 2, 1] ds transposes_S4x4x2048x2048_S4x2048x2048x4_0_3_2_1) r
def dkrR (ds : FVec Ideal S4x4x2048x2048 .f32) (q : FVec Ideal S4x2048x4x128 .f32) : FVec Ideal S8192x128 .f32 :=
  shapeCast S8192x128 (Host.dotGeneral dot_S4x2048x2048x4_S4x2048x4x128_S4x2048x128_23_12_1_3_0_0 none (transpose S4x2048x2048x4 [0, 3, 2, 1] ds transposes_S4x4x2048x2048_S4x2048x2048x4_0_3_2_1) q) shapeCasts_S4x2048x128_S8192x128
def dknR (ds : FVec Ideal S4x4x2048x2048 .f32) (q : FVec Ideal S4x2048x4x128 .f32) : FVec Ideal S4x2048x4x128 .f32 :=
  transpose S4x2048x4x128 [0, 2, 1, 3] (Host.dotGeneral dot_S4x4x2048x2048_S4x2048x4x128_S4x4x2048x128_2_1_3_3_01_02 none ds q) transposes_S4x4x2048x128_S4x2048x4x128_0_2_1_3
def dqnR (ds : FVec Ideal S4x4x2048x2048 .f32) (k : FVec Ideal S4x2048x4x128 .f32) : FVec Ideal S4x2048x4x128 .f32 :=
  transpose S4x2048x4x128 [0, 2, 1, 3] (Host.dotGeneral dot_S4x4x2048x2048_S4x2048x4x128_S4x4x2048x128_3_1_2_3_01_02 none ds k) transposes_S4x4x2048x128_S4x2048x4x128_0_2_1_3
def joinR (y z : FVec Ideal S4x2048x4x128 .f32) : FVec Ideal S8192x1024 .f32 :=
  shapeCast S8192x1024 (addf
    (pad S4x2048x4x256 ![0, 0, 0, 128] ![0, 0, 0, 0] ![0, 0, 0, 0] z (constant S_ .f32 0x00000000#32) pads_S4x2048x4x128_S4x2048x4x256_000_000_000_12800 h_S_)
    (pad S4x2048x4x256 ![0, 0, 0, 0] ![0, 0, 0, 128] ![0, 0, 0, 0] y (constant S_ .f32 0x00000000#32) pads_S4x2048x4x128_S4x2048x4x256_000_000_000_01280 h_S_)) shapeCasts_S4x2048x4x256_S8192x1024

variable (x0 x1 : FVec Ideal S8192x1024 .bf16) (x2 : FVec Ideal S8192x128 .bf16) (x3 : FVec Ideal S8192x1024 .f32)

theorem step_scores : (val_main_v22_0 (F := Ideal) x0 x1 x2 : FVec Ideal S4x4x2048x2048 .f32)
    = maskedH (val_main_v14 (F := Ideal)) (addf (prodN (first (heads x0)) (first (heads x1))) (prodR (second (heads x0)) (seqs x2))) := rfl
theorem step_top : (val_main_v40 (F := Ideal) x0 x1 x2 : FVec Ideal S4x4x2048x1 .f32) = liftR (maxR (val_main_v22_0 (F := Ideal) x0 x1 x2)) := rfl
theorem step_col (s : FVec Ideal S4x4x2048x2048 .f32) : topH s = columnR (maxR s) := rfl
theorem step_exp : (val_main_v43 (F := Ideal) x0 x1 x2 : FVec Ideal S4x4x2048x2048 .f32) = expH (val_main_v22_0 (F := Ideal) x0 x1 x2) (val_main_v40 (F := Ideal) x0 x1 x2) := rfl
theorem step_norm : (val_main_v45 (F := Ideal) x0 x1 x2 : FVec Ideal S4x4x2048x1 .f32) = normH (val_main_v43 (F := Ideal) x0 x1 x2) := rfl
theorem step_soft : (val_main_v47 (F := Ideal) x0 x1 x2 : FVec Ideal S4x4x2048x2048 .f32) = softR (val_main_v43 (F := Ideal) x0 x1 x2) (val_main_v45 (F := Ideal) x0 x1 x2) := rfl
theorem step_inv : (val_main_v50 (F := Ideal) x0 x1 x2 : FVec Ideal S4x4x2048x1 .f32) = invR (val_main_v45 (F := Ideal) x0 x1 x2) := rfl
theorem step_dp : (val_main_v58 (F := Ideal) x1 x3 : FVec Ideal S4x4x2048x2048 .f32) = dpR (cotR x3) (second (heads x1)) := rfl
theorem step_dv : (val_main_v60 (F := Ideal) x0 x1 x2 x3 : FVec Ideal S4x2048x4x128 .f32) = dvR (cotR x3) (val_main_v47 (F := Ideal) x0 x1 x2) := rfl
theorem step_row : (val_main_v67 (F := Ideal) x0 x1 x2 x3 : FVec Ideal S4x4x2048x1 .f32) = rowR (val_main_v58 (F := Ideal) x1 x3) (val_main_v43 (F := Ideal) x0 x1 x2) (val_main_v50 (F := Ideal) x0 x1 x2) := rfl
theorem step_ds : (val_main_v76 (F := Ideal) x0 x1 x2 x3 : FVec Ideal S4x4x2048x2048 .f32)
    = dsR (val_main_v14 (F := Ideal)) (val_main_v58 (F := Ideal) x1 x3) (val_main_v43 (F := Ideal) x0 x1 x2) (val_main_v45 (F := Ideal) x0 x1 x2) (val_main_v67 (F := Ideal) x0 x1 x2 x3) := rfl
theorem step_dkr : (val_main_v80 (F := Ideal) x0 x1 x2 x3 : FVec Ideal S8192x128 .f32) = dkrR (val_main_v76 (F := Ideal) x0 x1 x2 x3) (second (heads x0)) := rfl
theorem step_dkv : (val_main_v90 (F := Ideal) x0 x1 x2 x3 : FVec Ideal S8192x1024 .f32)
    = joinR (dknR (val_main_v76 (F := Ideal) x0 x1 x2 x3) (first (heads x0))) (val_main_v60 (F := Ideal) x0 x1 x2 x3) := rfl
theorem step_dq : (val_main_v91 (F := Ideal) x0 x1 x2 x3 : FVec Ideal S8192x1024 .f32)
    = joinR (dqnR (val_main_v76 (F := Ideal) x0 x1 x2 x3) (first (heads x1))) (dqrR (val_main_v76 (F := Ideal) x0 x1 x2 x3) (seqs x2)) := rfl

end Cert.ReferenceIdeal.Attn

end
-- ==== Proof.RefVal.lean ====
/- The reference's results over real arguments. -/
module

public import proofs.«01_k».proof.Proof.RefStep

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe AttnSpec
open Cert.KernelIdeal.Attn (heads first second seqs prodN prodR keep maskedH across expH normH topH topH_apply heads_val seqs_val first_apply second_apply expH_apply normH_apply masked_val lo hi keep_val)

theorem columnR_apply (t : FVec Ideal S4x4x2048 .f32) (b h : Fin 4) (a : Fin 2048) (z : Fin 1) : columnR t (ix4 b h a z) = t (ix3 b h a) := by
  pointwise [columnR]
theorem liftR_apply (t : FVec Ideal S4x4x2048 .f32) (b h : Fin 4) (a : Fin 2048) (z : Fin 1) : liftR t (ix4 b h a z) = max (Ideal.ofBits FTy.f32 4286578688#32) (t (ix3 b h a)) := by
  pointwise [liftR]
theorem topR_apply (s : FVec Ideal S4x4x2048x2048 .f32) (b h : Fin 4) (a : Fin 2048) (z : Fin 1) :
    liftR (maxR s) (ix4 b h a z) = max (Ideal.ofBits FTy.f32 4286578688#32) (Finset.fold max (Ideal.ofBits FTy.f32 4286578688#32) (fun x : Fin 2048 => s (ix4 b h a x)) Finset.univ) :=
  (liftR_apply _ b h a z).trans (congrArg _ ((columnR_apply (maxR s) b h a z).symm.trans ((congrFun (step_col s) _).symm.trans (topH_apply s b h a z))))
theorem softR_apply (e : FVec Ideal S4x4x2048x2048 .f32) (n : FVec Ideal S4x4x2048x1 .f32) (b h : Fin 4) (a x : Fin 2048) :
    softR e n (ix4 b h a x) = Ideal.div (e (ix4 b h a x)) (n (ix4 b h a 0)) := by
  pointwise [softR, across]
theorem invR_apply (n : FVec Ideal S4x4x2048x1 .f32) (b h : Fin 4) (a : Fin 2048) (z : Fin 1) :
    invR n (ix4 b h a z) = Ideal.div (Ideal.ofBits FTy.f32 1065353216#32) (n (ix4 b h a z) * n (ix4 b h a z)) := by
  pointwise [invR]
theorem cotR_apply (X : FVec Ideal S8192x1024 .f32) (b h : Fin 4) (d : Fin 128) (a : Fin 2048) :
    cotR X (ix4 b h d a) = X (ix2 ⟨2048 * b.val + a.val, by omega⟩ ⟨512 + (128 * h.val + d.val), by omega⟩) := by
  pointwise [cotR]
  exact congrArg X (congrArg₂ ix2 (Fin.ext (by show _ * _ + _ = _; ring)) (Fin.ext (by show _ + (_ * _ + _) = _; ring)))
theorem dpR_apply (g : FVec Ideal S4x4x128x2048 .f32) (v : FVec Ideal S4x2048x4x128 .f32) (b h : Fin 4) (a x : Fin 2048) :
    dpR g v (ix4 b h a x) = ∑ d : Fin 128, g (ix4 b h d a) * v (ix4 b x h d) := by
  pointwise [dpR]
theorem dvR_apply (g : FVec Ideal S4x4x128x2048 .f32) (p : FVec Ideal S4x4x2048x2048 .f32) (b : Fin 4) (x : Fin 2048) (h : Fin 4) (d : Fin 128) :
    dvR g p (ix4 b x h d) = ∑ a : Fin 2048, g (ix4 b h d a) * p (ix4 b h a x) := by
  pointwise [dvR]
theorem rowR_apply (dp e : FVec Ideal S4x4x2048x2048 .f32) (w : FVec Ideal S4x4x2048x1 .f32) (b h : Fin 4) (a : Fin 2048) (z : Fin 1) :
    rowR dp e w (ix4 b h a z) = -(Ideal.ofBits FTy.f32 0#32 + ∑ x : Fin 2048, dp (ix4 b h a x) * w (ix4 b h a 0) * e (ix4 b h a x)) := by
  pointwise [rowR, across]
theorem spreadR_apply (t : FVec Ideal S4x4x2048x1 .f32) (b h : Fin 4) (a x : Fin 2048) :
    spreadR t (ix4 b h a x) = Ideal.ofBits FTy.f32 0#32 + ∑ z : Fin 1, t (ix4 b h a z) := by
  pointwise [spreadR]
theorem dqrR_apply (ds : FVec Ideal S4x4x2048x2048 .f32) (r : FVec Ideal S4x2048x128 .f32) (b : Fin 4) (a : Fin 2048) (h : Fin 4) (d : Fin 128) :
    dqrR ds r (ix4 b a h d) = ∑ x : Fin 2048, ds (ix4 b h a x) * r (ix3 b x d) := by
  pointwise [dqrR]
theorem dknR_apply (ds : FVec Ideal S4x4x2048x2048 .f32) (q : FVec Ideal S4x2048x4x128 .f32) (b : Fin 4) (x : Fin 2048) (h : Fin 4) (d : Fin 128) :
    dknR ds q (ix4 b x h d) = ∑ a : Fin 2048, ds (ix4 b h a x) * q (ix4 b a h d) := by
  pointwise [dknR]
theorem dqnR_apply (ds : FVec Ideal S4x4x2048x2048 .f32) (k : FVec Ideal S4x2048x4x128 .f32) (b : Fin 4) (a : Fin 2048) (h : Fin 4) (d : Fin 128) :
    dqnR ds k (ix4 b a h d) = ∑ x : Fin 2048, ds (ix4 b h a x) * k (ix4 b x h d) := by
  pointwise [dqnR]
theorem dkrR_apply (ds : FVec Ideal S4x4x2048x2048 .f32) (q : FVec Ideal S4x2048x4x128 .f32) (r : Fin 8192) (d : Fin 128) :
    dkrR ds q (ix2 r d) = ∑ a : Fin 2048, ∑ h : Fin 4, ds (ix4 ⟨r.val / 2048, by omega⟩ h a ⟨r.val % 2048, by omega⟩) * q (ix4 ⟨r.val / 2048, by omega⟩ a h d) := by
  pointwise [dkrR]
theorem joinR_apply (y z : FVec Ideal S4x2048x4x128 .f32) (r : Fin 8192) (j : Fin 1024) :
    joinR y z (ix2 r j) = if hj : j.val % 256 < 128 then y (ix4 ⟨r.val / 2048, by omega⟩ ⟨r.val % 2048, by omega⟩ ⟨j.val / 256, by omega⟩ ⟨j.val % 256, hj⟩)
      else z (ix4 ⟨r.val / 2048, by omega⟩ ⟨r.val % 2048, by omega⟩ ⟨j.val / 256, by omega⟩ ⟨j.val % 256 - 128, by omega⟩) := by
  pointwise [joinR]
  have h1 : r.val / 2048 < 4 := by omega
  have h2 : r.val % 2048 < 2048 := by omega
  have h3 : j.val / 256 < 4 := by omega
  by_cases hj : j.val % 256 < 128
  · have h4 : ¬128 ≤ j.val % 256 := by omega
    simp only [h1, h2, h3, h4, hj, true_and, false_and, dite_true, dite_false, zero_add]
  · have h4 : 128 ≤ j.val % 256 := by omega
    have h5 : j.val % 256 - 128 < 128 := by omega
    simp only [h1, h2, h3, h4, h5, hj, true_and, and_true, dite_true, dite_false, add_zero]

theorem chunksR (n : Fin 2048) : (val_main_v14 (F := Ideal) : IVec S2048 32) (ix1 n) = BitVec.ofNat 32 (n.val / 64) := by
  revert n
  decide +kernel

end Cert.ReferenceIdeal.Attn

end
-- ==== Proof.RefOut.lean ====
/- The reference's three results over real arguments are the gradients of the plain attention. -/
module

public import proofs.«01_k».proof.Proof.RefVal

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe AttnSpec
open Cert.KernelIdeal.Attn (heads first second seqs prodN prodR keep maskedH across expH normH topH topH_apply heads_val seqs_val first_apply second_apply expH_apply normH_apply masked_val lo hi keep_val)

/-- The arguments are the real arrays of `D`. -/
structure Reals (x0 x1 : FVec Ideal S8192x1024 .bf16) (x2 : FVec Ideal S8192x128 .bf16) (x3 : FVec Ideal S8192x1024 .f32) (D : Data) : Prop where
  q : ∀ (r : Fin 8192) (j : Fin 1024), x0 (ix2 r j) = ((D.q r.val j.val : ℝ) : EReal)
  kv : ∀ (r : Fin 8192) (j : Fin 1024), x1 (ix2 r j) = ((D.kv r.val j.val : ℝ) : EReal)
  kr : ∀ (r : Fin 8192) (j : Fin 128), x2 (ix2 r j) = ((D.kr r.val j.val : ℝ) : EReal)
  g : ∀ (r : Fin 8192) (j : Fin 512), x3 (ix2 r ⟨512 + j.val, by have := j.isLt; omega⟩) = ((D.g r.val j.val : ℝ) : EReal)

variable {x0 x1 : FVec Ideal S8192x1024 .bf16} {x2 : FVec Ideal S8192x128 .bf16} {x3 : FVec Ideal S8192x1024 .f32} {D : Data} (A : Reals x0 x1 x2 x3 D)

theorem one_word : Ideal.ofBits FTy.f32 1065353216#32 = ((1 : ℝ) : EReal) := by
  simp [Ideal.ofBits, Ideal.ieee]
  rw [← EReal.coe_mul]
  norm_num

/-- The gradient of one score, over the reals, from the stages' values at its row. -/
theorem ds_point (H : Head) (a : ℕ) (ha : a < 2048) (M : ℝ) (ch : IVec S2048 32) (hch : ∀ n : Fin 2048, ch (ix1 n) = BitVec.ofNat 32 (n.val / 64))
    (dp e : FVec Ideal S4x4x2048x2048 .f32) (n t : FVec Ideal S4x4x2048x1 .f32) (b h : Fin 4) (x : Fin 2048)
    (hdp : ∀ x : Fin 2048, dp (ix4 b h ⟨a, ha⟩ x) = ((H.dp a x.val : ℝ) : EReal))
    (he : ∀ x : Fin 2048, e (ix4 b h ⟨a, ha⟩ x) = ((H.e a x.val * Real.exp (-M) : ℝ) : EReal))
    (hn : n (ix4 b h ⟨a, ha⟩ 0) = ((∑ x : Fin 2048, H.e a x.val * Real.exp (-M) : ℝ) : EReal))
    (ht : t (ix4 b h ⟨a, ha⟩ 0) = ((-(∑ b' : Fin 2048, H.dp a b' * (1 / ((∑ b : Fin 2048, H.e a b * Real.exp (-M)) * (∑ b : Fin 2048, H.e a b * Real.exp (-M)))) * (H.e a b' * Real.exp (-M))) : ℝ) : EReal)) :
    dsR ch dp e n t (ix4 b h ⟨a, ha⟩ x) = ((H.ds a x.val : ℝ) : EReal) := by
  have hp := (H.norm_pos a ha M).ne'
  have hs : spreadR t (ix4 b h ⟨a, ha⟩ x) = t (ix4 b h ⟨a, ha⟩ 0) := by
    rw [spreadR_apply, zero_word', zero_add, Fin.sum_univ_one]
  have hd : (Host.divf dp (across n) : FVec Ideal S4x4x2048x2048 .f32) (ix4 b h ⟨a, ha⟩ x) = Ideal.div (dp (ix4 b h ⟨a, ha⟩ x)) (n (ix4 b h ⟨a, ha⟩ 0)) := softR_apply dp n b h _ x
  show Scalar.select (keep ch (ix4 b h ⟨a, ha⟩ x)) (((Host.divf dp (across n) : FVec Ideal S4x4x2048x2048 .f32) (ix4 b h ⟨a, ha⟩ x) + spreadR t (ix4 b h ⟨a, ha⟩ x)) * e (ix4 b h ⟨a, ha⟩ x)) (Ideal.ofBits FTy.f32 0#32)
    * Ideal.ofBits FTy.f32 1033096506#32 = _
  rw [keep_val _ hch, hs, hd, hdp, he, hn, ht, Ideal.div_coe hp, Cert.KernelIdeal.Attn.scale_word]
  dsimp only
  split_ifs with hk
  · show (_ + _) * _ * _ = _
    rw [← H.ds_quotient a x.val ha M]
    simp only [EReal.coe_mul, EReal.coe_add, div_eq_mul_one_div (H.dp a x.val)]
  · show Ideal.ofBits FTy.f32 0#32 * _ = _
    rw [zero_word', zero_mul, H.ds_of_not a x.val hk]
    rfl

include A

theorem exp_facts (b h : Fin 4) (a : Fin 2048) : ∃ M : ℝ,
    (∀ x : Fin 2048, (val_main_v43 (F := Ideal) x0 x1 x2 : FVec Ideal S4x4x2048x2048 .f32) (ix4 b h a x) = (((D.head b.val h.val).e a.val x.val * Real.exp (-M) : ℝ) : EReal))
    ∧ (val_main_v45 (F := Ideal) x0 x1 x2 : FVec Ideal S4x4x2048x1 .f32) (ix4 b h a 0) = ((∑ x : Fin 2048, (D.head b.val h.val).e a.val x.val * Real.exp (-M) : ℝ) : EReal) := by
  have hs (x : Fin 2048) : (val_main_v22_0 (F := Ideal) x0 x1 x2 : FVec Ideal S4x4x2048x2048 .f32) (ix4 b h a x) = (D.head b.val h.val).row a.val x.val :=
    (congrFun (step_scores x0 x1 x2) _).trans (masked_val D _ _ _ _ A.q A.kv A.kr chunksR b h a x)
  obtain ⟨M, hM⟩ := (D.head b.val h.val).exists_top a.val a.isLt
  have h24 : (val_main_v40 (F := Ideal) x0 x1 x2 : FVec Ideal S4x4x2048x1 .f32) (ix4 b h a 0) = ((M : ℝ) : EReal) := by
    refine (congrFun (step_top x0 x1 x2) _).trans ((topR_apply _ b h a 0).trans ?_)
    rw [bot_word']
    simp only [hs]
    rw [hM]
    exact max_eq_right bot_le
  have h27 (x : Fin 2048) : (val_main_v43 (F := Ideal) x0 x1 x2 : FVec Ideal S4x4x2048x2048 .f32) (ix4 b h a x) = (((D.head b.val h.val).e a.val x.val * Real.exp (-M) : ℝ) : EReal) := by
    refine (congrFun (step_exp x0 x1 x2) _).trans ((expH_apply _ _ b h a x).trans ?_)
    rw [hs, h24, Head.exp_row]
  refine ⟨M, h27, ?_⟩
  refine (congrFun (step_norm x0 x1 x2) _).trans ((normH_apply _ b h a 0).trans ?_)
  rw [zero_word', zero_add, coe_sum]
  exact Finset.sum_congr rfl fun x _ => h27 x

theorem cot_val (b h : Fin 4) (d : Fin 128) (a : Fin 2048) : cotR x3 (ix4 b h d a) = (((D.head b.val h.val).g a.val d.val : ℝ) : EReal) :=
  (cotR_apply x3 b h d a).trans (A.g ⟨2048 * b.val + a.val, by omega⟩ ⟨128 * h.val + d.val, by omega⟩)

theorem value_val (b : Fin 4) (x : Fin 2048) (h : Fin 4) (d : Fin 128) : second (heads x1) (ix4 b x h d) = (((D.head b.val h.val).k x.val (128 + d.val) : ℝ) : EReal) :=
  (second_apply _ b x h d).trans (heads_val _ _ A.kv b x h (hi d))
theorem key_val (b : Fin 4) (x : Fin 2048) (h : Fin 4) (d : Fin 128) : first (heads x1) (ix4 b x h d) = (((D.head b.val h.val).k x.val d.val : ℝ) : EReal) :=
  (first_apply _ b x h d).trans (heads_val _ _ A.kv b x h (lo d))
theorem query_val (b : Fin 4) (x : Fin 2048) (h : Fin 4) (d : Fin 128) : first (heads x0) (ix4 b x h d) = (((D.head b.val h.val).q x.val d.val : ℝ) : EReal) :=
  (first_apply _ b x h d).trans (heads_val _ _ A.q b x h (lo d))
theorem turned_val (b : Fin 4) (x : Fin 2048) (h : Fin 4) (d : Fin 128) : second (heads x0) (ix4 b x h d) = (((D.head b.val h.val).q x.val (128 + d.val) : ℝ) : EReal) :=
  (second_apply _ b x h d).trans (heads_val _ _ A.q b x h (hi d))

theorem dp_val (b h : Fin 4) (a x : Fin 2048) : (val_main_v58 (F := Ideal) x1 x3 : FVec Ideal S4x4x2048x2048 .f32) (ix4 b h a x) = (((D.head b.val h.val).dp a.val x.val : ℝ) : EReal) := by
  refine (congrFun (step_dp x1 x3) _).trans ((dpR_apply _ _ b h a x).trans ?_)
  unfold Head.dp
  rw [coe_sum]
  refine Finset.sum_congr rfl fun d _ => ?_
  rw [cot_val A, value_val A, EReal.coe_mul]

theorem soft_val (b h : Fin 4) (a x : Fin 2048) : (val_main_v47 (F := Ideal) x0 x1 x2 : FVec Ideal S4x4x2048x2048 .f32) (ix4 b h a x) = (((D.head b.val h.val).p a.val x.val : ℝ) : EReal) := by
  obtain ⟨M, h27, h29⟩ := exp_facts A b h a
  refine (congrFun (step_soft x0 x1 x2) _).trans ((softR_apply _ _ b h a x).trans ?_)
  refine (congrArg₂ Ideal.div (h27 x) h29).trans ?_
  rw [Ideal.div_coe ((D.head b.val h.val).norm_pos a.val a.isLt M).ne', ← EReal.coe_mul, ← Head.p_shift (D.head b.val h.val) _ _ M, ← div_eq_mul_one_div]

theorem ds_val (b h : Fin 4) (a x : Fin 2048) : (val_main_v76 (F := Ideal) x0 x1 x2 x3 : FVec Ideal S4x4x2048x2048 .f32) (ix4 b h a x) = (((D.head b.val h.val).ds a.val x.val : ℝ) : EReal) := by
  obtain ⟨M, h27, h29⟩ := exp_facts A b h a
  have hp := ((D.head b.val h.val).norm_pos a.val a.isLt M).ne'
  refine (congrFun (step_ds x0 x1 x2 x3) _).trans (ds_point (D.head b.val h.val) a.val a.isLt M _ chunksR _ _ _ _ b h x (fun x => dp_val A b h a x) h27 h29 ?_)
  refine (congrFun (step_row x0 x1 x2 x3) _).trans ((rowR_apply _ _ _ b h a 0).trans ?_)
  have hi : (val_main_v50 (F := Ideal) x0 x1 x2 : FVec Ideal S4x4x2048x1 .f32) (ix4 b h a 0)
      = ((1 / ((∑ x : Fin 2048, (D.head b.val h.val).e a.val x.val * Real.exp (-M)) * (∑ x : Fin 2048, (D.head b.val h.val).e a.val x.val * Real.exp (-M))) : ℝ) : EReal) := by
    refine (congrFun (step_inv x0 x1 x2) _).trans ((invR_apply _ b h a 0).trans ?_)
    rw [h29, ← EReal.coe_mul, one_word, Ideal.div_coe (mul_ne_zero hp hp), ← EReal.coe_mul, one_mul]
  rw [zero_word', zero_add, EReal.coe_neg, coe_sum]
  refine congrArg _ (Finset.sum_congr rfl fun y _ => ?_)
  rw [dp_val A, hi, h27, ← EReal.coe_mul, ← EReal.coe_mul]

/-- The three results. -/
theorem out_q (r : Fin 8192) (j : Fin 1024) : (val_main_v91 (F := Ideal) x0 x1 x2 x3 : FVec Ideal S8192x1024 .f32) (ix2 r j) = ((D.dq r.val j.val : ℝ) : EReal) := by
  refine (congrFun (step_dq x0 x1 x2 x3) _).trans ((joinR_apply _ _ r j).trans ?_)
  unfold Data.dq
  split_ifs with hj
  · rw [dqnR_apply]
    unfold Head.dqn
    rw [coe_sum]
    refine Finset.sum_congr rfl fun x _ => ?_
    rw [ds_val A, key_val A, EReal.coe_mul]
  · rw [dqrR_apply]
    unfold Head.dqr
    rw [coe_sum]
    refine Finset.sum_congr rfl fun x _ => ?_
    rw [ds_val A, seqs_val _ _ A.kr, EReal.coe_mul]
    rfl

theorem out_kv (r : Fin 8192) (j : Fin 1024) : (val_main_v90 (F := Ideal) x0 x1 x2 x3 : FVec Ideal S8192x1024 .f32) (ix2 r j) = ((D.dkv r.val j.val : ℝ) : EReal) := by
  refine (congrFun (step_dkv x0 x1 x2 x3) _).trans ((joinR_apply _ _ r j).trans ?_)
  unfold Data.dkv
  split_ifs with hj
  · rw [dknR_apply]
    unfold Head.dk
    rw [coe_sum]
    refine Finset.sum_congr rfl fun x _ => ?_
    rw [ds_val A, query_val A, EReal.coe_mul]
  · refine (congrFun (step_dv x0 x1 x2 x3) _).trans ((dvR_apply _ _ _ _ _ _).trans ?_)
    unfold Head.dv
    rw [coe_sum]
    refine Finset.sum_congr rfl fun x _ => ?_
    rw [cot_val A, soft_val A, EReal.coe_mul, mul_comm]

theorem out_kr (r : Fin 8192) (d : Fin 128) : (val_main_v80 (F := Ideal) x0 x1 x2 x3 : FVec Ideal S8192x128 .f32) (ix2 r d) = ((D.dkr r.val d.val : ℝ) : EReal) := by
  refine (congrFun (step_dkr x0 x1 x2 x3) _).trans ((dkrR_apply _ _ r d).trans ?_)
  unfold Data.dkr
  rw [Finset.sum_comm, Finset.sum_range, coe_sum]
  refine Finset.sum_congr rfl fun h _ => ?_
  unfold Head.dr
  rw [coe_sum]
  refine Finset.sum_congr rfl fun a _ => ?_
  rw [ds_val A, turned_val A, EReal.coe_mul]

end Cert.ReferenceIdeal.Attn

end
-- ==== Proof.Finite.lean ====
/- Under the precondition the arguments are real arrays. -/
module

public import proofs.«01_k».proof.Proof.SavedVal
public import proofs.«01_k».proof.Pre_finite
public import Idealize.ShloMosaic.Lib.ReduceAll

@[expose] public section

set_option maxRecDepth 16384

noncomputable section

namespace Cert.Finite

open Idealize.ShloMosaic Idealize.ShloMosaic.TcCoe AttnSpec Cert.Pre_finite

/-- The predicate's side conditions. -/
theorem facts : Cert.Pre_finite.Facts where
  bitsLt_bf16_f32 := by decide
  bcast_S_S8192x1024 := by decide
  reducesTo_S8192x1024_S_d0_1 := by decide
  h_S_ := by decide
  bcast_S_S8192x128 := by decide
  reducesTo_S8192x128_S_d0_1 := by decide
  slices_S8192x1024_S8192x512_0_512 := by decide
  bcast_S_S8192x512 := by decide
  reducesTo_S8192x512_S_d0_1 := by decide

theorem inf_word : Ideal.ofBits FTy.f32 0x7F800000#32 = ⊤ := by
  simp [Ideal.ofBits, Ideal.ieee]

/-- A magnitude below +∞ is a real's. -/
theorem real_of_lt (x : EReal) (h : Ideal.cmp .olt (max x (-x)) ⊤ = 1#1) : ((x.toReal : ℝ) : EReal) = x := by
  have hl : max x (-x) < ⊤ := by
    by_contra hn
    simp [Ideal.cmp, hn] at h
  refine EReal.coe_toReal (ne_of_lt (lt_of_le_of_lt (le_max_left _ _) hl)) ?_
  rintro rfl
  simp at hl

variable [hP : Cert.Pre_finite.Facts]

theorem reals (x0 x1 : FVec Ideal S8192x1024 .bf16) (x2 : FVec Ideal S8192x128 .bf16) (x3 : FVec Ideal S8192x1024 .f32)
    (h : Cert.Pre_finite.fn (F := Ideal) x0 x1 x2 x3 = fun _ => 1#1) :
    (∀ i, (((x0 i).toReal : ℝ) : EReal) = x0 i) ∧ (∀ i, (((x1 i).toReal : ℝ) : EReal) = x1 i) ∧ (∀ i, (((x2 i).toReal : ℝ) : EReal) = x2 i)
      ∧ ∀ (r : Fin 8192) (j : Fin 512), (((x3 (ix2 r ⟨512 + j.val, by have := j.isLt; omega⟩)).toReal : ℝ) : EReal) = x3 (ix2 r ⟨512 + j.val, by have := j.isLt; omega⟩) := by
  have e := congrFun h (fun a => nomatch a)
  dsimp only [Cert.Pre_finite.fn, fn_part1] at e
  obtain ⟨e, e3⟩ := IntOp.andi_eq_one.1 e
  obtain ⟨e, e2⟩ := IntOp.andi_eq_one.1 e
  obtain ⟨e0, e1⟩ := IntOp.andi_eq_one.1 e
  haveI : Subsingleton S_.Idx := ⟨fun a b => funext fun x => nomatch x⟩
  refine ⟨fun i => real_of_lt _ ?_, fun i => real_of_lt _ ?_, fun i => real_of_lt _ ?_, fun r j => real_of_lt _ ?_⟩
  · rw [← inf_word]
    exact Host.reduce_andi_all _ _ _ _ _ e0 i
  · rw [← inf_word]
    exact Host.reduce_andi_all _ _ _ _ _ e1 i
  · rw [← inf_word]
    exact Host.reduce_andi_all _ _ _ _ _ e2 i
  · have hx := extractStridedSlice_apply ![0, 512] x3 Cert.Pre_finite.Facts.slices_S8192x1024_S8192x512_0_512 (ix2 r j) (ix2 r ⟨512 + j.val, by have := j.isLt; omega⟩)
      (fun a => match a with | ⟨0, _⟩ => by show r.val = 0 + r.val; omega | ⟨1, _⟩ => rfl)
    rw [← inf_word, ← hx]
    exact Host.reduce_andi_all _ _ _ _ _ e3 (ix2 r j)

/-- The real arrays that the arguments are, zero outside. -/
def data (x0 x1 : FVec Ideal S8192x1024 .bf16) (x2 : FVec Ideal S8192x128 .bf16) (x3 : FVec Ideal S8192x1024 .f32) : Data where
  q r j := if h : r < 8192 ∧ j < 1024 then (x0 (ix2 ⟨r, h.1⟩ ⟨j, h.2⟩) : EReal).toReal else 0
  kv r j := if h : r < 8192 ∧ j < 1024 then (x1 (ix2 ⟨r, h.1⟩ ⟨j, h.2⟩) : EReal).toReal else 0
  kr r j := if h : r < 8192 ∧ j < 128 then (x2 (ix2 ⟨r, h.1⟩ ⟨j, h.2⟩) : EReal).toReal else 0
  g r j := if h : r < 8192 ∧ j < 512 then (x3 (ix2 ⟨r, h.1⟩ ⟨512 + j, by omega⟩) : EReal).toReal else 0

variable {x0 x1 : FVec Ideal S8192x1024 .bf16} {x2 : FVec Ideal S8192x128 .bf16} {x3 : FVec Ideal S8192x1024 .f32}
    (h : Cert.Pre_finite.fn (F := Ideal) x0 x1 x2 x3 = fun _ => 1#1)
include h

theorem data_q (r : Fin 8192) (j : Fin 1024) : x0 (ix2 r j) = (((data x0 x1 x2 x3).q r.val j.val : ℝ) : EReal) := by
  unfold data
  dsimp only
  rw [dif_pos ⟨r.isLt, j.isLt⟩]
  exact ((reals x0 x1 x2 x3 h).1 _).symm
theorem data_kv (r : Fin 8192) (j : Fin 1024) : x1 (ix2 r j) = (((data x0 x1 x2 x3).kv r.val j.val : ℝ) : EReal) := by
  unfold data
  dsimp only
  rw [dif_pos ⟨r.isLt, j.isLt⟩]
  exact ((reals x0 x1 x2 x3 h).2.1 _).symm
theorem data_kr (r : Fin 8192) (j : Fin 128) : x2 (ix2 r j) = (((data x0 x1 x2 x3).kr r.val j.val : ℝ) : EReal) := by
  unfold data
  dsimp only
  rw [dif_pos ⟨r.isLt, j.isLt⟩]
  exact ((reals x0 x1 x2 x3 h).2.2.1 _).symm
theorem data_g (r : Fin 8192) (j : Fin 512) : x3 (ix2 r ⟨512 + j.val, by have := j.isLt; omega⟩) = (((data x0 x1 x2 x3).g r.val j.val : ℝ) : EReal) := by
  unfold data
  dsimp only
  rw [dif_pos ⟨r.isLt, j.isLt⟩]
  exact ((reals x0 x1 x2 x3 h).2.2.2 r j).symm

end Cert.Finite

end
-- ==== Proof.Algebraic.lean ====
/- The gradients that the kernel leaves and those of the reference, over real arguments the same. -/
module

public import proofs.«01_k».proof.Defs
public import proofs.«01_k».proof.Proof.RefOut
public import proofs.«01_k».proof.Proof.Finite

@[expose] public section

set_option maxRecDepth 16384

noncomputable section

namespace Cert.Attn

open Idealize.ShloMosaic Idealize.ShloMosaic.TcCoe Idealize.SL.Sem AttnSpec

variable [hP : Cert.Pre_finite.Facts]

/-- A rank-two array read through its two coordinates. -/
theorem by_rows {a b : ℕ} (X : (⟨2, ![a, b]⟩ : Shape).Idx → EReal) (f : ℕ → ℕ → ℝ) (h : ∀ (r : Fin a) (j : Fin b), X (ix2 r j) = ((f r.val j.val : ℝ) : EReal)) :
    X = fun i => ((f (i 0).val (i 1).val : ℝ) : EReal) := by
  funext i
  have e : i = ix2 (i 0) (i 1) := funext fun x => match x with | ⟨0, _⟩ => rfl | ⟨1, _⟩ => rfl
  rw [e]
  exact h _ _

theorem algebraic : Cert.algebraic_KernelIdeal_ReferenceIdeal_pre_finite := by
  intro m g m' g' hpre hargs
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, Cert.KernelIdeal.Value.run_blocks m g, ?_⟩
  refine (θ_run Cert.ReferenceIdeal.defs _ _).mono (fun r h c => ?_) (Cert.ReferenceIdeal.Value.run m' g')
  obtain ⟨h91, h90, h80, k0, k1, k2, k3⟩ := h c
  obtain ⟨a0, a1, a2, a3⟩ := hargs c
  have A : Cert.KernelIdeal.Attn.Args m c _ := ⟨Cert.Finite.data_q (hpre c), Cert.Finite.data_kv (hpre c), Cert.Finite.data_kr (hpre c), Cert.Finite.data_g (hpre c)⟩
  have B : Cert.ReferenceIdeal.Attn.Reals _ _ _ _ _ := ⟨Cert.Finite.data_q (hpre c), Cert.Finite.data_kv (hpre c), Cert.Finite.data_kr (hpre c), Cert.Finite.data_g (hpre c)⟩
  have H := Cert.KernelIdeal.Attn.holds A
  refine ⟨h91.trans ?_, h90.trans ?_, h80.trans ?_, k0, k1, k2, k3⟩
  · rw [Cert.ReferenceIdeal.Read.val_main_v91_eq, a0, a1, a2, a3]
    exact (by_rows _ _ (Cert.ReferenceIdeal.Attn.out_q B)).trans (Cert.KernelIdeal.Attn.arr_q H).symm
  · rw [Cert.ReferenceIdeal.Read.val_main_v90_eq, a0, a1, a2, a3]
    exact (by_rows _ _ (Cert.ReferenceIdeal.Attn.out_kv B)).trans (Cert.KernelIdeal.Attn.arr_kv H).symm
  · rw [Cert.ReferenceIdeal.Read.val_main_v80_eq, a0, a1, a2, a3]
    exact (by_rows _ _ (Cert.ReferenceIdeal.Attn.out_kr B)).trans (Cert.KernelIdeal.Attn.arr_r H).symm

/-- The reference's frame: its run keeps the arguments, and it has no semaphore. -/
theorem frame_reference : Cert.quiescent_ReferenceIdeal := by
  intro m g _
  exact (θ_run Cert.ReferenceIdeal.defs _ _).mono (fun r h => ⟨fun c => (h c).2.2.2, sem_eq_zero_of_no_sems (by decide) r.2⟩) (Cert.ReferenceIdeal.Value.run (F := Ideal) m g)

end Cert.Attn

end
-- ==== Proof.MatSum.lean ====
/- A matrix read at plain numbers, and the splitting of a long sum of products into blocks. -/
module

public import Idealize.ShloMosaic.PureOps
public import Idealize.ShloMosaic.Lib.Pipeline.ValueKit

@[expose] public section

noncomputable section

namespace MatSum

open Idealize.ShloMosaic

/-- The entry of a matrix at two plain numbers; zero outside of it. -/
def at2 {a b : ℕ} {φ : FTy} (A : FVec Ideal ⟨2, ![a, b]⟩ φ) (i j : ℕ) : EReal :=
  if h : i < a ∧ j < b then A (ix2 ⟨i, h.1⟩ ⟨j, h.2⟩) else 0

theorem at2_eq {a b : ℕ} {φ : FTy} (A : FVec Ideal ⟨2, ![a, b]⟩ φ) {i j : ℕ} (hi : i < a) (hj : j < b) :
    at2 A i j = A (ix2 ⟨i, hi⟩ ⟨j, hj⟩) := dif_pos ⟨hi, hj⟩

theorem at2_fin {a b : ℕ} {φ : FTy} (A : FVec Ideal ⟨2, ![a, b]⟩ φ) (i : Fin a) (j : Fin b) : at2 A i.val j.val = A (ix2 i j) :=
  at2_eq A i.isLt j.isLt

/-- The entry of a stack of matrices at three plain numbers; zero outside of it. -/
def at3 {p a b : ℕ} {φ : FTy} (A : FVec Ideal ⟨3, ![p, a, b]⟩ φ) (q i j : ℕ) : EReal :=
  if h : q < p ∧ i < a ∧ j < b then A (ix3 ⟨q, h.1⟩ ⟨i, h.2.1⟩ ⟨j, h.2.2⟩) else 0

theorem at3_eq {p a b : ℕ} {φ : FTy} (A : FVec Ideal ⟨3, ![p, a, b]⟩ φ) {q i j : ℕ} (hq : q < p) (hi : i < a) (hj : j < b) :
    at3 A q i j = A (ix3 ⟨q, hq⟩ ⟨i, hi⟩ ⟨j, hj⟩) := dif_pos ⟨hq, hi, hj⟩

/-- `n` blocks of `t` numbers each, in order, are the first `n · t` numbers. -/
theorem blocks (f : ℕ → EReal) (t : ℕ) : ∀ n : ℕ, ∑ s ∈ Finset.range n, ∑ k : Fin t, f (s * t + k.val) = ∑ k : Fin (n * t), f k.val
  | 0 => by
    have e : ∀ w : ℕ, w = 0 → (0 : EReal) = ∑ k : Fin w, f k.val := by
      rintro w rfl
      rfl
    rw [Finset.range_zero, Finset.sum_empty]
    exact e _ (Nat.zero_mul t)
  | n + 1 => by
    rw [Finset.sum_range_succ, blocks f t n, Fin.sum_univ_eq_sum_range (fun k => f k) (n * t), Fin.sum_univ_eq_sum_range (fun k => f (n * t + k)) t,
      Fin.sum_univ_eq_sum_range (fun k => f k) ((n + 1) * t), Nat.succ_mul, Finset.sum_range_add]

/-- The same, the number of all of them given as a plain number. -/
theorem blocks_all (f : ℕ → EReal) (n t : ℕ) {N : ℕ} (h : n * t = N) :
    ∑ s ∈ Finset.range n, ∑ k : Fin t, f (s * t + k.val) = ∑ k : Fin N, f k.val := by
  subst h
  exact blocks f t n

end MatSum

end
-- ==== Proof.SideBySide.lean ====
/- Matrices held in parts, each part some of the columns: the parts set next to each other, read at an index. -/
module

public import proofs.«01_k».proof.Proof.MatSum
public import proofs.«01_k».proof.Proof.Gen.DhFfnReferenceIdeal.Run
public import Idealize.ShloMosaic.Lib.Pipeline.ValueKit

@[expose] public section

noncomputable section

namespace Cert.SideBySide

open Cert.DhFfnReferenceIdeal Cert.DhFfnReferenceIdeal.Facts₀ Idealize.ShloMosaic MatSum

/-- Two halves of 2816 columns each. -/
def wide2 (a : FVec Ideal S2x8192x2816 .bf16) : FVec Ideal S8192x5632 .bf16 :=
  concatenate S8192x5632 1
    [⟨S8192x2816, shapeCast _ (extractStridedSlice S1x8192x2816 ![0, 0, 0] a slices_S2x8192x2816_S1x8192x2816_0_0_0) shapeCasts_S1x8192x2816_S8192x2816⟩,
      ⟨S8192x2816, shapeCast _ (extractStridedSlice S1x8192x2816 ![1, 0, 0] a slices_S2x8192x2816_S1x8192x2816_1_0_0) shapeCasts_S1x8192x2816_S8192x2816⟩]
    concatenates_S8192x2816_S8192x2816_S8192x5632_d1

theorem wide2_apply (a : FVec Ideal S2x8192x2816 .bf16) (i : Fin 8192) (k : Fin 5632) :
    wide2 a (ix2 i k) = at3 a (k.val / 2816) i.val (k.val % 2816) := by
  have hk := k.isLt
  rw [at3_eq a (by omega) i.isLt (by omega)]
  pointwise [wide2]
  split
  · refine congrArg a (funext fun x => Fin.ext ?_)
    fin_cases x
    · show 0 = k.val / 2816
      omega
    · rfl
    · show k.val = k.val % 2816
      omega
  · refine congrArg a (funext fun x => Fin.ext ?_)
    fin_cases x
    · show 1 = k.val / 2816
      omega
    · rfl
    · show k.val - 2816 = k.val % 2816
      omega

/-- Four parts of 1408 columns each. -/
def wide4 (b : FVec Ideal S4x1024x1408 .bf16) : FVec Ideal S1024x5632 .bf16 :=
  concatenate S1024x5632 1
    [⟨S1024x1408, shapeCast _ (extractStridedSlice S1x1024x1408 ![0, 0, 0] b slices_S4x1024x1408_S1x1024x1408_0_0_0) shapeCasts_S1x1024x1408_S1024x1408⟩,
      ⟨S1024x1408, shapeCast _ (extractStridedSlice S1x1024x1408 ![1, 0, 0] b slices_S4x1024x1408_S1x1024x1408_1_0_0) shapeCasts_S1x1024x1408_S1024x1408⟩,
      ⟨S1024x1408, shapeCast _ (extractStridedSlice S1x1024x1408 ![2, 0, 0] b slices_S4x1024x1408_S1x1024x1408_2_0_0) shapeCasts_S1x1024x1408_S1024x1408⟩,
      ⟨S1024x1408, shapeCast _ (extractStridedSlice S1x1024x1408 ![3, 0, 0] b slices_S4x1024x1408_S1x1024x1408_3_0_0) shapeCasts_S1x1024x1408_S1024x1408⟩]
    concatenates_S1024x1408_S1024x1408_S1024x1408_S1024x1408_S1024x5632_d1

theorem wide4_apply (b : FVec Ideal S4x1024x1408 .bf16) (j : Fin 1024) (k : Fin 5632) :
    wide4 b (ix2 j k) = at3 b (k.val / 1408) j.val (k.val % 1408) := by
  have hk := k.isLt
  rw [at3_eq b (by omega) j.isLt (by omega)]
  pointwise [wide4]
  split_ifs
  all_goals
    refine congrArg b (funext fun x => Fin.ext ?_)
    fin_cases x
    all_goals
      dsimp
      try omega

end Cert.SideBySide

end
-- ==== Proof.DwUp.lean ====
/- The product of the rows' columns with the gradient's columns, held in two halves, in four parts: the array the call leaves, entry by entry. -/
module

public import proofs.«01_k».proof.Proof.MatSum
public import proofs.«01_k».proof.Proof.SideBySide
public import proofs.«01_k».proof.Defs
public import proofs.«01_k».proof.Proof.Gen.DwUpIdeal.Value
public import proofs.«01_k».proof.Proof.Gen.DwUpReferenceIdeal.Run
public import Idealize.ShloMosaic.Lib.Quiescent
public import Idealize.ShloMosaic.Lib.Pipeline.ValueKit

@[expose] public section

set_option maxRecDepth 16384

noncomputable section

namespace Cert.DwUpIdeal.Product

open Cert.DwUpIdeal Cert.DwUpIdeal.Gen Cert.DwUpIdeal.Value Idealize.ShloMosaic Idealize.ShloMosaic.TcCoe Idealize.SL.Sem MatSum Cert.SideBySide
open Idealize.ShloMosaic.Pipeline (Dat)

/-- One block's product added to the running sum. -/
theorem pay_apply (v : FVec Ideal S512x1408 .f32) (a : FVec Ideal S2048x512 .bf16) (b : FVec Ideal S1x2048x1408 .bf16) (i : Fin 512) (j : Fin 1408) :
    k0_pay2 v a b (ix2 i j) = v (ix2 i j) + ∑ k : Fin 2048, a (ix2 k i) * b (ix3 0 k j) := by
  pointwise [k0_pay2]

theorem zero_apply (i : Fin 512) (j : Fin 1408) : (k0_pay1 : FVec Ideal S512x1408 .f32) (ix2 i j) = 0 := by
  pointwise [k0_pay1]

/-- The sum rounded and stored under a unit axis. -/
theorem store_apply (v : FVec Ideal S512x1408 .f32) (i : Fin 512) (j : Fin 1408) : (k0_pay3 v : FVec Ideal S1x512x1408 .bf16) (ix3 0 i j) = (v (ix2 i j) : EReal) := by
  pointwise [k0_pay3]

theorem hz3 : (![0, 0, 0] : Fin 3 → Nat) = fun _ => 0 := funext fun a => by fin_cases a <;> rfl

theorem hz : (![0, 0] : Fin 2 → Nat) = fun _ => 0 := funext fun a => by fin_cases a <;> rfl

variable {F : FTy → Type} [FloatOps F] (c : Dev nD)

/-- The first point of a block stores zero, reads it back and adds the block's product. -/
theorem sum_first (i a3 h3 a4 h4 a5 h5 a6 h6 hc0 hc1) (x0 : Vec F S2048x512 .bf16) (x1 : Vec F S1x2048x1408 .bf16) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S512x1408) hz, View.readCov_unit_zero (S := S512x1408) _ hz]
  simp only [View.readAt_eq_ld, h3.read_unread, h4.read_unread, View.ld_unit_zero (S := S2048x512) hz, View.ld_unit_zero (S := S1x2048x1408) hz3]

/-- A later point adds its product to what the point before left. -/
theorem sum_next (i a3 h3 a4 h4 a5 h5 a6 h6 hc0 hc1) (x0 : Vec F S2048x512 .bf16) (x1 : Vec F S1x2048x1408 .bf16) (v : Vec F S512x1408 .f32) :
    sout0_B_0 c i a3 h3 a4 h4 a5 h5 a6 h6 hc0 hc1 x0 x1 v = k0_pay2 v x0 x1 := by
  unfold sout0_B_0
  rw [View.read_writes_eq_canon _ _ _ (scover0_B_0 c i a3 h3 a4 h4 a5 h5 a6 h6 hc0 hc1 x0 x1 v)]
  unfold kernelRun0_B
  dsimp only
  rw [View.canon_unit_zero hz]
  simp only [View.readAt_eq_ld, h3.read_unread, h4.read_unread, h6.read_unread, View.ld_unit_zero (S := S2048x512) hz, View.ld_unit_zero (S := S1x2048x1408) hz3, View.ld_unit_zero (S := S512x1408) hz]

/-- So does the last point … -/
theorem sum_last (i a3 h3 a4 h4 a5 h5 a6 h6 hc0 hc1) (x0 : Vec F S2048x512 .bf16) (x1 : Vec F S1x2048x1408 .bf16) (v : Vec F S512x1408 .f32) :
    sout0_C_0 c i a3 h3 a4 h4 a5 h5 a6 h6 hc0 hc1 x0 x1 v = k0_pay2 v x0 x1 := by
  unfold sout0_C_0
  rw [View.read_writes_eq_canon _ _ _ (scover0_C_0 c i a3 h3 a4 h4 a5 h5 a6 h6 hc0 hc1 x0 x1 v)]
  unfold kernelRun0_C
  dsimp only
  sl_unfold_words
  rw [View.canon_unit_zero hz]
  simp only [View.readAt_eq_ld, h3.read_unread, h4.read_unread, h6.read_unread, View.ld_unit_zero (S := S2048x512) hz, View.ld_unit_zero (S := S1x2048x1408) hz3, View.ld_unit_zero (S := S512x1408) hz]

/-- … which writes the sum to the result's block. -/
theorem out_last (i a3 h3 a4 h4 a5 h5 a6 h6 hc0 hc1) (x0 : Vec F S2048x512 .bf16) (x1 : Vec F S1x2048x1408 .bf16) (v : Vec F S512x1408 .f32) :
    out0_C_2 c i a3 h3 a4 h4 a5 h5 a6 h6 hc0 hc1 x0 x1 v = k0_pay3 (k0_pay2 v x0 x1) := by
  unfold out0_C_2
  rw [View.read_writes_eq_canon _ _ _ (cover0_C_2 c i a3 h3 a4 h4 a5 h5 a6 h6 hc0 hc1 x0 x1 v)]
  unfold kernelRun0_C
  dsimp only
  sl_unfold_words
  rw [View.canon_unit_zero hz3, View.readCov_unit_zero (S := S512x1408) _ hz]
  simp only [View.readAt_eq_ld, h3.read_unread, h4.read_unread, h6.read_unread, View.ld_unit_zero (S := S2048x512) hz, View.ld_unit_zero (S := S1x2048x1408) hz3, View.ld_unit_zero (S := S512x1408) hz]

variable (m : (ℓ : Loc nD τ sig) → Buf (Elt Ideal) ℓ)

/-- The two operands. -/
abbrev lhs : FVec Ideal ⟨2, ![8192, 1024]⟩ .bf16 := m ((c : Thread nD τ).loc main_arg0)
abbrev rhs : FVec Ideal ⟨3, ![2, 8192, 2816]⟩ .bf16 := m ((c : Thread nD τ).loc main_arg1)

/-- Entry `(k, j)` of the second operand, its halves set side by side. -/
def right (k j : ℕ) : EReal := at3 (rhs c m) (j / 2816) k (j % 2816)

/-- Where each operand's block lies at a point. -/
theorem index : ∀ t : Fin cfg0.N, win0_0.index t = ![t.val % 4, t.val / 16] ∧ win0_1.index t = ![t.val / 4 % 4 / 2, t.val % 4, t.val / 4 % 4 % 2] :=
  (by decide +kernel : ∀ t : Fin grid0.N, _)

theorem iblk_lhs (t : Fin cfg0.N) (k : Fin 2048) (i : Fin 512) :
    iblk m c 0 t (ix2 k i) = at2 (lhs c m) (t.val % 4 * 2048 + k.val) (t.val / 16 * 512 + i.val) := by
  have ht : t.val < 32 := t.isLt
  have hk := k.isLt
  have hi := i.isLt
  rw [at2_eq _ (by omega) (by omega)]
  blk_ext [iblk, index t]

theorem iblk_rhs (t : Fin cfg0.N) (k : Fin 2048) (j : Fin 1408) :
    iblk m c 1 t (ix3 0 k j) = right c m (t.val % 4 * 2048 + k.val) (t.val / 4 % 4 * 1408 + j.val) := by
  have ht : t.val < 32 := t.isLt
  have hk := k.isLt
  have hj := j.isLt
  unfold right
  rw [at3_eq _ (by omega) (by omega) (by omega)]
  blk_ext [iblk, index t]

/-- What point `n` adds to the sum's entry. -/
def addend (n : ℕ) (i : S512x1408.Idx) : EReal :=
  ∑ k : Fin 2048, at2 (lhs c m) (n % 4 * 2048 + k.val) (n / 16 * 512 + (i 0).val) * right c m (n % 4 * 2048 + k.val) (n / 4 % 4 * 1408 + (i 1).val)

theorem pay_iblk (t : Fin cfg0.N) (v : FVec Ideal S512x1408 .f32) (i : S512x1408.Idx) :
    k0_pay2 v (iblk m c 0 t) (iblk m c 1 t) i = v i + addend c m t.val i := by
  obtain ⟨p, q, rfl⟩ : ∃ p q, i = ix2 p q := ⟨i 0, i 1, (ix2_eta i).symm⟩
  refine (pay_apply v (iblk m c 0 t) (iblk m c 1 t) p q).trans ?_
  refine congrArg (v (ix2 p q) + ·) (Finset.sum_congr rfl fun k _ => ?_)
  exact congrArg₂ (· * ·) (iblk_lhs c m t k p) (iblk_rhs c m t k q)

/-- What the running sum holds at a block's last point. -/
theorem sum_at (t : Fin cfg0.N) (ht : t.val % 4 = 3) (i : S512x1408.Idx) :
    (outsAt0 m c t.val t.isLt).2 i = ∑ s ∈ Finset.range 4, addend c m (4 * (t.val / 4) + s) i := by
  have hN : t.val < 32 := t.isLt
  rw [soutsAt0_0_eq]
  refine (Pipeline.accAt_add_apply _ _ (fun _ => 0) (addend c m) (4 * (t.val / 4)) 3 ?_ ?_ (t.val % 4) (by omega) _ i).trans ?_
  · intro h i
    show scAt0_0 m c _ _ _ i = _
    unfold scAt0_0
    rw [dif_pos (by omega), dif_neg (by omega), sum_first]
    refine (pay_iblk c m ⟨_, h⟩ _ i).trans (congrArg (· + _) ?_)
    exact (congrArg _ (ix2_eta i).symm).trans (zero_apply (i 0) (i 1))
  · intro n h acc i h0 h1
    unfold scAt0_0
    rw [dif_neg (by omega)]
    split
    · rw [sum_last]
      exact pay_iblk c m ⟨n, h⟩ acc i
    · rw [sum_next]
      exact pay_iblk c m ⟨n, h⟩ acc i
  · rw [zero_add, ht]

/-- The result's block at its last point: the sum of the block's four products. -/
theorem block_at (n : ℕ) (hn : n < cfg0.N) (hm : n % 4 = 3) (i : Fin 512) (j : Fin 1408) :
    (outsAt0 m c n hn).1 (ix3 0 i j) = ∑ s ∈ Finset.range 4, addend c m (4 * (n / 4) + s) (ix2 i j) := by
  have e : (outsAt0 m c n hn).1 = k0_pay3 (outsAt0 m c n hn).2 := by
    rw [outsAt0_C m c ⟨n, hn⟩ (by dsimp only; omega) hm]
    dsimp only
    rw [out_last, sum_last]
  exact (congrFun e _).trans ((store_apply _ i j).trans (sum_at c m ⟨n, hn⟩ hm (ix2 i j)))

/-- The four products are one over all rows. -/
theorem addends (q : Fin 4) (i : Fin 1024) (j : Fin 1408) (b : ℕ) (hb : b = q.val + 4 * (i.val / 512)) (x : S512x1408.Idx) (h0 : (x 0).val = i.val % 512) (h1 : (x 1).val = j.val) :
    ∑ s ∈ Finset.range 4, addend c m (4 * b + s) x = ∑ k : Fin 8192, lhs c m (ix2 k i) * right c m k.val (q.val * 1408 + j.val) := by
  have hq := q.isLt
  have hi := i.isLt
  have hj := j.isLt
  refine Eq.trans ?_ ((blocks_all (fun k => at2 (lhs c m) k i.val * right c m k (q.val * 1408 + j.val)) 4 2048 (N := 8192) rfl).trans ?_)
  · refine Finset.sum_congr rfl fun s hs => Finset.sum_congr rfl fun k _ => ?_
    have hs' := Finset.mem_range.mp hs
    have e1 : (4 * b + s) % 4 = s := by omega
    have e2 : (4 * b + s) / 16 * 512 + (x 0).val = i.val := by omega
    have e3 : (4 * b + s) / 4 % 4 * 1408 + (x 1).val = q.val * 1408 + j.val := by omega
    rw [e2, e1, e3]
  · exact Finset.sum_congr rfl fun k _ => congrArg (· * _) (at2_fin (lhs c m) k i)

theorem pt_eq (q : Fin 4) (i : Fin 1024) (j : Fin 1408) : pt2Of (ix3 q i j) = 4 * (q.val + 4 * (i.val / 512)) + 3 := by
  have hj := j.isLt
  show 4 * (1 * (q.val / 1 - 0) + 4 * (i.val / 512 - 0) + 8 * (j.val / 1408 - 0)) + 3 = _
  omega

theorem loc_eq (q : Fin 4) (i : Fin 1024) (j : Fin 1408) : loc2Of (ix3 q i j) = ix3 0 ⟨i.val % 512, by omega⟩ j := by
  have hj := j.isLt
  funext a
  refine Fin.ext ?_
  fin_cases a
  · show q.val % 1 = 0
    omega
  · rfl
  · show j.val % 1408 = j.val
    omega

/-- THE PRODUCT: entry `(q, i, j)` of the call's array. -/
theorem result (q : Fin 4) (i : Fin 1024) (j : Fin 1408) :
    G2 m c (ix3 q i j) = ∑ k : Fin 8192, lhs c m (ix2 k i) * right c m k.val (q.val * 1408 + j.val) := by
  have hq := q.isLt
  have hi := i.isLt
  have hp := pt_eq q i j
  have hN : pt2Of (ix3 q i j) < cfg0.N := by rw [hp]; show _ < 32; omega
  unfold G2
  rw [dif_pos hN, ← outsAt0_sweep m c (pt2Of (ix3 q i j)) hN, loc_eq q i j]
  exact (block_at c m _ hN (by rw [hp]; omega) _ _).trans (addends c m q i j _ (by rw [hp]; omega) _ rfl rfl)

section
open Cert.DwUpReferenceIdeal Cert.DwUpReferenceIdeal.Facts₀

/-- The reference: the same product on the host … -/
def product (a : FVec Ideal Cert.DwUpReferenceIdeal.S8192x1024 .bf16) (b : FVec Ideal Cert.DwUpReferenceIdeal.S2x8192x2816 .bf16) : FVec Ideal S1024x5632 .f32 :=
  transpose S1024x5632 [1, 0] (Host.dotGeneral Cert.DwUpReferenceIdeal.dot_S8192x5632_S8192x1024_S5632x1024_0_0_1_1_n_n none
    (extf .f32 (wide2 b) Cert.DwUpReferenceIdeal.Facts₀.bitsLt_bf16_f32) (extf .f32 a Cert.DwUpReferenceIdeal.Facts₀.bitsLt_bf16_f32)) transposes_S5632x1024_S1024x5632_1_0

/-- … its columns cut in four parts. -/
def parts (g : FVec Ideal S1024x5632 .f32) : FVec Ideal Cert.DwUpReferenceIdeal.S4x1024x1408 .bf16 :=
  truncf .bf16 (concatenate Cert.DwUpReferenceIdeal.S4x1024x1408 0
    [⟨S1x1024x1408, broadcastInDim S1x1024x1408 ![1, 2] bcast_S1024x1408_S1x1024x1408_1_2 (extractStridedSlice S1024x1408 ![0, 0] g slices_S1024x5632_S1024x1408_0_0)⟩,
      ⟨S1x1024x1408, broadcastInDim S1x1024x1408 ![1, 2] bcast_S1024x1408_S1x1024x1408_1_2 (extractStridedSlice S1024x1408 ![0, 1408] g slices_S1024x5632_S1024x1408_0_1408)⟩,
      ⟨S1x1024x1408, broadcastInDim S1x1024x1408 ![1, 2] bcast_S1024x1408_S1x1024x1408_1_2 (extractStridedSlice S1024x1408 ![0, 2816] g slices_S1024x5632_S1024x1408_0_2816)⟩,
      ⟨S1x1024x1408, broadcastInDim S1x1024x1408 ![1, 2] bcast_S1024x1408_S1x1024x1408_1_2 (extractStridedSlice S1024x1408 ![0, 4224] g slices_S1024x5632_S1024x1408_0_4224)⟩]
    concatenates_S1x1024x1408_S1x1024x1408_S1x1024x1408_S1x1024x1408_S4x1024x1408_d0) Cert.DwUpReferenceIdeal.Facts₀.bitsLt_bf16_f32

theorem product_apply (a : FVec Ideal Cert.DwUpReferenceIdeal.S8192x1024 .bf16) (b : FVec Ideal Cert.DwUpReferenceIdeal.S2x8192x2816 .bf16) (i : Fin 1024) (j : Fin 5632) :
    product a b (ix2 i j) = ∑ k : Fin 8192, wide2 b (ix2 k j) * a (ix2 k i) := by
  pointwise [product]

theorem parts_apply (g : FVec Ideal S1024x5632 .f32) (q : Fin 4) (i : Fin 1024) (j : Fin 1408) :
    parts g (ix3 q i j) = g (ix2 i ⟨q.val * 1408 + j.val, by omega⟩) := by
  pointwise [parts]
  fin_vals q with hq
  all_goals simp only [hq, Nat.reduceSub, Nat.reduceLT, ↓reduceDIte]
  refine congrArg g (funext fun x => Fin.ext ?_)
  fin_cases x
  · rfl
  · dsimp
    omega

end

theorem equal : G2 m c = parts (product (lhs c m) (rhs c m)) := by
  funext x
  obtain ⟨q, i, j, rfl⟩ : ∃ (q : Fin 4) (i : Fin 1024) (j : Fin 1408), x = ix3 q i j := ⟨x 0, x 1, x 2, (ix3_eta x).symm⟩
  have e : (∑ k : Fin 8192, lhs c m (ix2 k i) * right c m k.val (q.val * 1408 + j.val) : EReal)
      = ∑ k : Fin 8192, wide2 (rhs c m) (ix2 k ⟨q.val * 1408 + j.val, by omega⟩) * lhs c m (ix2 k i) :=
    Finset.sum_congr rfl fun k _ => (mul_comm _ _).trans (congrArg (· * _) (wide2_apply (rhs c m) k ⟨q.val * 1408 + j.val, by omega⟩).symm)
  exact (result c m q i j).trans (e.trans ((parts_apply _ q i j).trans (product_apply (lhs c m) (rhs c m) i _)).symm)

theorem algebraic : Cert.algebraic_DwUpIdeal_DwUpReferenceIdeal := by
  intro m ρ m' ρ' _ hagree
  refine ⟨_, run (F := Ideal) m ρ, ?_⟩
  refine (θ_run Cert.DwUpReferenceIdeal.defs _ _).mono (fun _ h c => ⟨?_, (h c).2⟩) (Cert.DwUpReferenceIdeal.Value.run (F := Ideal) m' ρ')
  rw [(h c).1, (hagree c).1, (hagree c).2]
  exact (equal c m).symm

theorem frame_reference : Cert.quiescent_DwUpReferenceIdeal := fun m ρ _ =>
  (θ_run Cert.DwUpReferenceIdeal.defs _ _).mono (fun r h => ⟨fun c => (h c).2, sem_eq_zero_of_no_sems (by decide) r.2⟩)
    (Cert.DwUpReferenceIdeal.Value.run (F := Ideal) m ρ)

end Cert.DwUpIdeal.Product

end
-- ==== Proof.DhFfn.lean ====
/- The product of the gradient's rows, held in two halves, with the weight's rows, held in four parts: the array the call leaves, entry by entry. -/
module

public import proofs.«01_k».proof.Proof.MatSum
public import proofs.«01_k».proof.Proof.SideBySide
public import proofs.«01_k».proof.Defs
public import proofs.«01_k».proof.Proof.Gen.DhFfnIdeal.Value
public import proofs.«01_k».proof.Proof.Gen.DhFfnReferenceIdeal.Run
public import Idealize.ShloMosaic.Lib.Quiescent
public import Idealize.ShloMosaic.Lib.Pipeline.ValueKit

@[expose] public section

set_option maxRecDepth 16384

noncomputable section

namespace Cert.DhFfnIdeal.Product

open Cert.DhFfnIdeal Cert.DhFfnIdeal.Gen Cert.DhFfnIdeal.Value Idealize.ShloMosaic Idealize.ShloMosaic.TcCoe Idealize.SL.Sem MatSum Cert.SideBySide
open Idealize.ShloMosaic.Pipeline (Dat)

/-- One block's product added to the running sum. -/
theorem pay_apply (v : FVec Ideal S1024x1024 .f32) (a : FVec Ideal S1x1024x1408 .bf16) (b : FVec Ideal S1x1024x1408 .bf16) (i : Fin 1024) (j : Fin 1024) :
    k0_pay2 v a b (ix2 i j) = v (ix2 i j) + ∑ k : Fin 1408, a (ix3 0 i k) * b (ix3 0 j k) := by
  pointwise [k0_pay2]

theorem zero_apply (i : Fin 1024) (j : Fin 1024) : (k0_pay1 : FVec Ideal S1024x1024 .f32) (ix2 i j) = 0 := by
  pointwise [k0_pay1]

theorem hz3 : (![0, 0, 0] : Fin 3 → Nat) = fun _ => 0 := funext fun a => by fin_cases a <;> rfl

theorem hz : (![0, 0] : Fin 2 → Nat) = fun _ => 0 := funext fun a => by fin_cases a <;> rfl

variable {F : FTy → Type} [FloatOps F] (c : Dev nD)

/-- The first point of a block stores zero, reads it back and adds the block's product. -/
theorem sum_first (i a3 h3 a4 h4 a5 h5 a6 h6 hc0 hc1) (x0 : Vec F S1x1024x1408 .bf16) (x1 : Vec F S1x1024x1408 .bf16) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1x1024x1408) hz3]

/-- A later point adds its product to what the point before left. -/
theorem sum_next (i a3 h3 a4 h4 a5 h5 a6 h6 hc0 hc1) (x0 : Vec F S1x1024x1408 .bf16) (x1 : Vec F S1x1024x1408 .bf16) (v : Vec F S1024x1024 .f32) :
    sout0_B_0 c i a3 h3 a4 h4 a5 h5 a6 h6 hc0 hc1 x0 x1 v = k0_pay2 v x0 x1 := by
  unfold sout0_B_0
  rw [View.read_writes_eq_canon _ _ _ (scover0_B_0 c i a3 h3 a4 h4 a5 h5 a6 h6 hc0 hc1 x0 x1 v)]
  unfold kernelRun0_B
  dsimp only
  rw [View.canon_unit_zero hz]
  simp only [View.readAt_eq_ld, h3.read_unread, h4.read_unread, h6.read_unread, View.ld_unit_zero (S := S1x1024x1408) hz3, View.ld_unit_zero (S := S1024x1024) hz]

/-- So does the last point … -/
theorem sum_last (i a3 h3 a4 h4 a5 h5 a6 h6 hc0 hc1) (x0 : Vec F S1x1024x1408 .bf16) (x1 : Vec F S1x1024x1408 .bf16) (v : Vec F S1024x1024 .f32) :
    sout0_C_0 c i a3 h3 a4 h4 a5 h5 a6 h6 hc0 hc1 x0 x1 v = k0_pay2 v x0 x1 := by
  unfold sout0_C_0
  rw [View.read_writes_eq_canon _ _ _ (scover0_C_0 c i a3 h3 a4 h4 a5 h5 a6 h6 hc0 hc1 x0 x1 v)]
  unfold kernelRun0_C
  dsimp only
  sl_unfold_words
  rw [View.canon_unit_zero hz]
  simp only [View.readAt_eq_ld, h3.read_unread, h4.read_unread, h6.read_unread, View.ld_unit_zero (S := S1x1024x1408) hz3, View.ld_unit_zero (S := S1024x1024) hz]

/-- … which copies the sum to the result's block. -/
theorem out_last (i a3 h3 a4 h4 a5 h5 a6 h6 hc0 hc1) (x0 : Vec F S1x1024x1408 .bf16) (x1 : Vec F S1x1024x1408 .bf16) (v : Vec F S1024x1024 .f32) :
    out0_C_2 c i a3 h3 a4 h4 a5 h5 a6 h6 hc0 hc1 x0 x1 v = k0_pay2 v x0 x1 := by
  unfold out0_C_2
  rw [View.read_writes_eq_canon _ _ _ (cover0_C_2 c i a3 h3 a4 h4 a5 h5 a6 h6 hc0 hc1 x0 x1 v)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1x1024x1408) hz3, View.ld_unit_zero (S := S1024x1024) hz]

variable (m : (ℓ : Loc nD τ sig) → Buf (Elt Ideal) ℓ)

/-- The two operands. -/
abbrev lhs : FVec Ideal ⟨3, ![2, 8192, 2816]⟩ .bf16 := m ((c : Thread nD τ).loc main_arg0)
abbrev rhs : FVec Ideal ⟨3, ![4, 1024, 1408]⟩ .bf16 := m ((c : Thread nD τ).loc main_arg1)

/-- Entry `(i, k)` of the first operand, its halves set side by side; entry `(j, k)` of the second, its parts set side by side. -/
def left (i k : ℕ) : EReal := at3 (lhs c m) (k / 2816) i (k % 2816)
def right (j k : ℕ) : EReal := at3 (rhs c m) (k / 1408) j (k % 1408)

/-- Where each operand's block lies at a point. -/
theorem index : ∀ t : Fin cfg0.N, win0_0.index t = ![t.val % 4 / 2, t.val / 4, t.val % 4 % 2] ∧ win0_1.index t = ![t.val % 4, 0, 0] :=
  (by decide +kernel : ∀ t : Fin grid0.N, _)

theorem iblk_lhs (t : Fin cfg0.N) (i : Fin 1024) (k : Fin 1408) :
    iblk m c 0 t (ix3 0 i k) = left c m (t.val / 4 * 1024 + i.val) (t.val % 4 * 1408 + k.val) := by
  have ht : t.val < 32 := t.isLt
  have hk := k.isLt
  have hi := i.isLt
  unfold left
  rw [at3_eq _ (by omega) (by omega) (by omega)]
  blk_ext [iblk, index t]

theorem iblk_rhs (t : Fin cfg0.N) (j : Fin 1024) (k : Fin 1408) :
    iblk m c 1 t (ix3 0 j k) = right c m j.val (t.val % 4 * 1408 + k.val) := by
  have ht : t.val < 32 := t.isLt
  have hk := k.isLt
  have hj := j.isLt
  unfold right
  rw [at3_eq _ (by omega) (by omega) (by omega)]
  blk_ext [iblk, index t]

/-- What point `n` adds to the sum's entry. -/
def addend (n : ℕ) (i : S1024x1024.Idx) : EReal :=
  ∑ k : Fin 1408, left c m (n / 4 * 1024 + (i 0).val) (n % 4 * 1408 + k.val) * right c m (i 1).val (n % 4 * 1408 + k.val)

theorem pay_iblk (t : Fin cfg0.N) (v : FVec Ideal S1024x1024 .f32) (i : S1024x1024.Idx) :
    k0_pay2 v (iblk m c 0 t) (iblk m c 1 t) i = v i + addend c m t.val i := by
  obtain ⟨p, q, rfl⟩ : ∃ p q, i = ix2 p q := ⟨i 0, i 1, (ix2_eta i).symm⟩
  refine (pay_apply v (iblk m c 0 t) (iblk m c 1 t) p q).trans ?_
  refine congrArg (v (ix2 p q) + ·) (Finset.sum_congr rfl fun k _ => ?_)
  exact congrArg₂ (· * ·) (iblk_lhs c m t p k) (iblk_rhs c m t q k)

/-- What the running sum holds at a block's last point. -/
theorem sum_at (t : Fin cfg0.N) (ht : t.val % 4 = 3) (i : S1024x1024.Idx) :
    (outsAt0 m c t.val t.isLt).2 i = ∑ s ∈ Finset.range 4, addend c m (4 * (t.val / 4) + s) i := by
  have hN : t.val < 32 := t.isLt
  rw [soutsAt0_0_eq]
  refine (Pipeline.accAt_add_apply _ _ (fun _ => 0) (addend c m) (4 * (t.val / 4)) 3 ?_ ?_ (t.val % 4) (by omega) _ i).trans ?_
  · intro h i
    show scAt0_0 m c _ _ _ i = _
    unfold scAt0_0
    rw [dif_pos (by omega), dif_neg (by omega), sum_first]
    refine (pay_iblk c m ⟨_, h⟩ _ i).trans (congrArg (· + _) ?_)
    exact (congrArg _ (ix2_eta i).symm).trans (zero_apply (i 0) (i 1))
  · intro n h acc i h0 h1
    unfold scAt0_0
    rw [dif_neg (by omega)]
    split
    · rw [sum_last]
      exact pay_iblk c m ⟨n, h⟩ acc i
    · rw [sum_next]
      exact pay_iblk c m ⟨n, h⟩ acc i
  · rw [zero_add, ht]

/-- The result's block at its last point: the sum of the block's four products. -/
theorem block_at (n : ℕ) (hn : n < cfg0.N) (hm : n % 4 = 3) (i : S1024x1024.Idx) :
    (outsAt0 m c n hn).1 i = ∑ s ∈ Finset.range 4, addend c m (4 * (n / 4) + s) i := by
  have e : (outsAt0 m c n hn).1 = (outsAt0 m c n hn).2 := by
    rw [outsAt0_C m c ⟨n, hn⟩ (by dsimp only; omega) hm]
    dsimp only
    rw [out_last, sum_last]
  exact (congrFun e i).trans (sum_at c m ⟨n, hn⟩ hm i)

/-- The four products are one over all columns. -/
theorem addends (i : Fin 8192) (j : Fin 1024) (b : ℕ) (hb : b = i.val / 1024) (x : S1024x1024.Idx) (h0 : (x 0).val = i.val % 1024) (h1 : (x 1).val = j.val % 1024) :
    ∑ s ∈ Finset.range 4, addend c m (4 * b + s) x = ∑ k : Fin 5632, left c m i.val k.val * right c m j.val k.val := by
  have hi := i.isLt
  have hj := j.isLt
  refine Eq.trans ?_ (blocks_all (fun k => left c m i.val k * right c m j.val k) 4 1408 (N := 5632) rfl)
  refine Finset.sum_congr rfl fun s hs => Finset.sum_congr rfl fun k _ => ?_
  have hs' := Finset.mem_range.mp hs
  have e1 : (4 * b + s) % 4 = s := by omega
  have e2 : (4 * b + s) / 4 * 1024 + (x 0).val = i.val := by omega
  have e3 : (x 1).val = j.val := by omega
  rw [e2, e1, e3]

theorem pt_eq (i : Fin 8192) (j : Fin 1024) : pt2Of (ix2 i j) = 4 * (i.val / 1024) + 3 := by
  have hj := j.isLt
  show 4 * (1 * (i.val / 1024 - 0) + 1 * (j.val / 1024 - 0)) + 3 = _
  omega

/-- THE PRODUCT: entry `(i, j)` of the call's array. -/
theorem result (i : Fin 8192) (j : Fin 1024) :
    G2 m c (ix2 i j) = ∑ k : Fin 5632, left c m i.val k.val * right c m j.val k.val := by
  have hi := i.isLt
  have hp := pt_eq i j
  have hN : pt2Of (ix2 i j) < cfg0.N := by rw [hp]; show _ < 32; omega
  unfold G2
  rw [dif_pos hN, ← outsAt0_sweep m c (pt2Of (ix2 i j)) hN]
  refine (block_at c m _ hN (by rw [hp]; omega) _).trans (addends c m i j _ (by rw [hp]; omega) _ rfl rfl)

/-- The reference: the same product on the host. -/
def reference (a : FVec Ideal Cert.DhFfnReferenceIdeal.S2x8192x2816 .bf16) (b : FVec Ideal Cert.DhFfnReferenceIdeal.S4x1024x1408 .bf16) : FVec Ideal Cert.DhFfnReferenceIdeal.S8192x1024 .f32 :=
  open Cert.DhFfnReferenceIdeal Cert.DhFfnReferenceIdeal.Facts₀ in
  Host.dotGeneral Cert.DhFfnReferenceIdeal.dot_S8192x5632_S1024x5632_S8192x1024_1_1_0_0_n_n none (extf .f32 (wide2 a) Cert.DhFfnReferenceIdeal.Facts₀.bitsLt_bf16_f32)
    (extf .f32 (wide4 b) Cert.DhFfnReferenceIdeal.Facts₀.bitsLt_bf16_f32)

theorem reference_apply (a : FVec Ideal Cert.DhFfnReferenceIdeal.S2x8192x2816 .bf16) (b : FVec Ideal Cert.DhFfnReferenceIdeal.S4x1024x1408 .bf16) (i : Fin 8192) (j : Fin 1024) :
    reference a b (ix2 i j) = ∑ k : Fin 5632, wide2 a (ix2 i k) * wide4 b (ix2 j k) := by
  pointwise [reference]

theorem equal : G2 m c = reference (lhs c m) (rhs c m) := by
  funext x
  obtain ⟨i, j, rfl⟩ : ∃ (i : Fin 8192) (j : Fin 1024), x = ix2 i j := ⟨x 0, x 1, (ix2_eta x).symm⟩
  have e : (∑ k : Fin 5632, left c m i.val k.val * right c m j.val k.val : EReal) = ∑ k : Fin 5632, wide2 (lhs c m) (ix2 i k) * wide4 (rhs c m) (ix2 j k) :=
    Finset.sum_congr rfl fun k _ => congrArg₂ (· * ·) (wide2_apply (lhs c m) i k).symm (wide4_apply (rhs c m) j k).symm
  exact (result c m i j).trans (e.trans (reference_apply (lhs c m) (rhs c m) i j).symm)

theorem algebraic : Cert.algebraic_DhFfnIdeal_DhFfnReferenceIdeal := by
  intro m ρ m' ρ' _ hagree
  refine ⟨_, run (F := Ideal) m ρ, ?_⟩
  refine (θ_run Cert.DhFfnReferenceIdeal.defs _ _).mono (fun _ h c => ⟨?_, (h c).2⟩) (Cert.DhFfnReferenceIdeal.Value.run (F := Ideal) m' ρ')
  rw [(h c).1, (hagree c).1, (hagree c).2]
  exact (equal c m).symm

theorem frame_reference : Cert.quiescent_DhFfnReferenceIdeal := fun m ρ _ =>
  (θ_run Cert.DhFfnReferenceIdeal.defs _ _).mono (fun r h => ⟨fun c => (h c).2, sem_eq_zero_of_no_sems (by decide) r.2⟩)
    (Cert.DhFfnReferenceIdeal.Value.run (F := Ideal) m ρ)

end Cert.DhFfnIdeal.Product

end
-- ==== Proof.DAct.lean ====
/- The product of the gradient's rows with the weight's rows: the array the call leaves, entry by entry. -/
module

public import proofs.«01_k».proof.Proof.MatSum
public import proofs.«01_k».proof.Defs
public import proofs.«01_k».proof.Proof.Gen.DActIdeal.Value
public import proofs.«01_k».proof.Proof.Gen.DActReferenceIdeal.Run
public import Idealize.ShloMosaic.Lib.Quiescent
public import Idealize.ShloMosaic.Lib.Pipeline.ValueKit

@[expose] public section

set_option maxRecDepth 16384

noncomputable section

namespace Cert.DActIdeal.Product

open Cert.DActIdeal Cert.DActIdeal.Gen Cert.DActIdeal.Value Idealize.ShloMosaic Idealize.ShloMosaic.TcCoe Idealize.SL.Sem MatSum
open Idealize.ShloMosaic.Pipeline (Dat)

/-- One block's product added to the sum so far. -/
theorem pay_apply (v : FVec Ideal S1024x1408 .f32) (a : FVec Ideal S1024x1024 .bf16) (b : FVec Ideal S1408x1024 .bf16) (i : Fin 1024) (j : Fin 1408) :
    k0_pay2 v a b (ix2 i j) = v (ix2 i j) + ∑ k : Fin 1024, a (ix2 i k) * b (ix2 j k) := by
  pointwise [k0_pay2]

theorem zero_apply (i : Fin 1024) (j : Fin 1408) : (k0_pay1 : FVec Ideal S1024x1408 .f32) (ix2 i j) = 0 := by
  pointwise [k0_pay1]

theorem hz : (![0, 0] : Fin 2 → Nat) = fun _ => 0 := funext fun a => by fin_cases a <;> rfl

variable {F : FTy → Type} [FloatOps F] (c : Dev nD)

/-- A point stores zero, reads it back, adds the block's product and copies the sum to the result's block. -/
theorem out_point (i a3 h3 a4 h4 a5 h5 a6 h6 hc0 hc1) (x0 : Vec F S1024x1024 .bf16) (x1 : Vec F S1408x1024 .bf16) :
    out0_A_2 c i a3 h3 a4 h4 a5 h5 a6 h6 hc0 hc1 x0 x1 = k0_pay2 k0_pay1 x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz, View.readCov_cons_toLoadRect, View.readCov_unit_zero (S := S1024x1408) _ hz]
  simp only [View.readAt_eq_ld, h3.read_unread, h4.read_unread, View.ld_unit_zero (S := S1024x1024) hz, View.ld_unit_zero (S := S1408x1024) hz]

variable (m : (ℓ : Loc nD τ sig) → Buf (Elt Ideal) ℓ)

/-- The two operands. -/
abbrev lhs : FVec Ideal ⟨2, ![8192, 1024]⟩ .bf16 := m ((c : Thread nD τ).loc main_arg0)
abbrev rhs : FVec Ideal ⟨2, ![2816, 1024]⟩ .bf16 := m ((c : Thread nD τ).loc main_arg1)

/-- Row `j` of the weight at column `k`. -/
def right (j k : ℕ) : EReal := at2 (rhs c m) j k

/-- Where each array's block lies at a point. -/
theorem index : ∀ t : Fin cfg0.N, win0_0.index t = ![t.val / 2, 0] ∧ win0_1.index t = ![t.val % 2, 0] ∧ win0_2.index t = ![t.val / 2, t.val % 2] :=
  (by decide +kernel : ∀ t : Fin grid0.N, _)

theorem iblk_lhs (t : Fin cfg0.N) (i : Fin 1024) (k : Fin 1024) :
    iblk m c 0 t (ix2 i k) = at2 (lhs c m) (t.val / 2 * 1024 + i.val) k.val := by
  have ht : t.val < 16 := t.isLt
  have hk := k.isLt
  have hi := i.isLt
  rw [at2_eq _ (by omega) (by omega)]
  blk_ext [iblk, index t]

theorem iblk_rhs (t : Fin cfg0.N) (j : Fin 1408) (k : Fin 1024) :
    iblk m c 1 t (ix2 j k) = right c m (t.val % 2 * 1408 + j.val) k.val := by
  have ht : t.val < 16 := t.isLt
  have hk := k.isLt
  have hj := j.isLt
  unfold right
  rw [at2_eq _ (by omega) (by omega)]
  blk_ext [iblk, index t]

/-- What a point writes. -/
theorem point (t : Fin cfg0.N) (i : Fin 1024) (j : Fin 1408) :
    outsAt0 m c t (ix2 i j) = ∑ k : Fin 1024, at2 (lhs c m) (t.val / 2 * 1024 + i.val) k.val * right c m (t.val % 2 * 1408 + j.val) k.val := by
  unfold outsAt0
  rw [out_point]
  refine (pay_apply _ _ _ i j).trans ?_
  rw [zero_apply, zero_add]
  exact Finset.sum_congr rfl fun k _ => congrArg₂ (· * ·) (iblk_lhs c m t i k) (iblk_rhs c m t j k)

/-- THE PRODUCT: the call's array. -/
def whole : FVec Ideal ⟨2, ![8192, 2816]⟩ .f32 := fun i => ∑ k : Fin 1024, at2 (lhs c m) (i 0).val k.val * right c m (i 1).val k.val

theorem result : (dats m 0 c).arrAt 2 cfg0.N = whole c m := by
  refine (dats m 0 c).arrAt_eq_of_covers 2 _ (by decide +kernel) fun t hf y => ?_
  have ht : t.val < 16 := t.isLt
  unfold whole
  blk_simp [index t]
  rw [after0_2]
  idx_vars y
  exact point c m t y0 y1

/-- The reference: the same product on the host. -/
def reference (a : FVec Ideal Cert.DActReferenceIdeal.S8192x1024 .bf16) (b : FVec Ideal Cert.DActReferenceIdeal.S2816x1024 .bf16) : FVec Ideal Cert.DActReferenceIdeal.S8192x2816 .f32 :=
  Host.dotGeneral Cert.DActReferenceIdeal.dot_S8192x1024_S2816x1024_S8192x2816_1_1_0_0_n_n none (extf .f32 a Cert.DActReferenceIdeal.Facts₀.bitsLt_bf16_f32) (extf .f32 b Cert.DActReferenceIdeal.Facts₀.bitsLt_bf16_f32)

theorem reference_apply (a : FVec Ideal Cert.DActReferenceIdeal.S8192x1024 .bf16) (b : FVec Ideal Cert.DActReferenceIdeal.S2816x1024 .bf16) (i : Fin 8192) (j : Fin 2816) :
    reference a b (ix2 i j) = ∑ k : Fin 1024, a (ix2 i k) * b (ix2 j k) := by
  pointwise [reference]

theorem equal : whole c m = reference (lhs c m) (rhs c m) := by
  funext x
  obtain ⟨i, j, rfl⟩ : ∃ (i : Fin 8192) (j : Fin 2816), x = ix2 i j := ⟨x 0, x 1, (ix2_eta x).symm⟩
  refine Eq.trans ?_ (reference_apply (lhs c m) (rhs c m) i j).symm
  unfold whole
  refine Finset.sum_congr rfl fun k _ => congrArg₂ (· * ·) (at2_fin (lhs c m) i k) ?_
  exact at2_fin (rhs c m) j k

theorem algebraic : Cert.algebraic_DActIdeal_DActReferenceIdeal := by
  intro m ρ m' ρ' _ hagree
  refine ⟨_, run_blocks (F := Ideal) m ρ, ?_⟩
  refine (θ_run Cert.DActReferenceIdeal.defs _ _).mono (fun _ h c => ⟨?_, (h c).2⟩) (Cert.DActReferenceIdeal.Value.run (F := Ideal) m' ρ')
  rw [(h c).1, (hagree c).1, (hagree c).2]
  exact ((result c m).trans (equal c m)).symm

theorem frame_reference : Cert.quiescent_DActReferenceIdeal := fun m ρ _ =>
  (θ_run Cert.DActReferenceIdeal.defs _ _).mono (fun r h => ⟨fun c => (h c).2, sem_eq_zero_of_no_sems (by decide) r.2⟩)
    (Cert.DActReferenceIdeal.Value.run (F := Ideal) m ρ)

end Cert.DActIdeal.Product

end
-- ==== Proof.DwDown.lean ====
/- The product of the activations' columns with the gradient's columns: the array the call leaves, entry by entry. -/
module

public import proofs.«01_k».proof.Proof.MatSum
public import proofs.«01_k».proof.Defs
public import proofs.«01_k».proof.Proof.Gen.DwDownIdeal.Value
public import proofs.«01_k».proof.Proof.Gen.DwDownReferenceIdeal.Run
public import Idealize.ShloMosaic.Lib.Quiescent
public import Idealize.ShloMosaic.Lib.Pipeline.ValueKit

@[expose] public section

set_option maxRecDepth 16384

noncomputable section

namespace Cert.DwDownIdeal.Product

open Cert.DwDownIdeal Cert.DwDownIdeal.Gen Cert.DwDownIdeal.Value Idealize.ShloMosaic Idealize.ShloMosaic.TcCoe Idealize.SL.Sem MatSum
open Idealize.ShloMosaic.Pipeline (Dat)

/-- One block's product added to the running sum. -/
theorem pay_apply (v : FVec Ideal S1408x1024 .f32) (a : FVec Ideal S2048x1408 .bf16) (b : FVec Ideal S2048x1024 .bf16) (i : Fin 1408) (j : Fin 1024) :
    k0_pay2 v a b (ix2 i j) = v (ix2 i j) + ∑ k : Fin 2048, a (ix2 k i) * b (ix2 k j) := by
  pointwise [k0_pay2]

theorem zero_apply (i : Fin 1408) (j : Fin 1024) : (k0_pay1 : FVec Ideal S1408x1024 .f32) (ix2 i j) = 0 := by
  pointwise [k0_pay1]

theorem hz : (![0, 0] : Fin 2 → Nat) = fun _ => 0 := funext fun a => by fin_cases a <;> rfl

variable {F : FTy → Type} [FloatOps F] (c : Dev nD)

/-- The first point of a block stores zero, reads it back and adds the block's product. -/
theorem sum_first (i a3 h3 a4 h4 a5 h5 a6 h6 hc0 hc1) (x0 : Vec F S2048x1408 .bf16) (x1 : Vec F S2048x1024 .bf16) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1408x1024) hz, View.readCov_unit_zero (S := S1408x1024) _ hz]
  simp only [View.readAt_eq_ld, h3.read_unread, h4.read_unread, View.ld_unit_zero (S := S2048x1408) hz, View.ld_unit_zero (S := S2048x1024) hz]

/-- A later point adds its product to what the point before left. -/
theorem sum_next (i a3 h3 a4 h4 a5 h5 a6 h6 hc0 hc1) (x0 : Vec F S2048x1408 .bf16) (x1 : Vec F S2048x1024 .bf16) (v : Vec F S1408x1024 .f32) :
    sout0_B_0 c i a3 h3 a4 h4 a5 h5 a6 h6 hc0 hc1 x0 x1 v = k0_pay2 v x0 x1 := by
  unfold sout0_B_0
  rw [View.read_writes_eq_canon _ _ _ (scover0_B_0 c i a3 h3 a4 h4 a5 h5 a6 h6 hc0 hc1 x0 x1 v)]
  unfold kernelRun0_B
  dsimp only
  rw [View.canon_unit_zero hz]
  simp only [View.readAt_eq_ld, h3.read_unread, h4.read_unread, h6.read_unread, View.ld_unit_zero (S := S2048x1408) hz, View.ld_unit_zero (S := S2048x1024) hz, View.ld_unit_zero (S := S1408x1024) hz]

/-- So does the last point … -/
theorem sum_last (i a3 h3 a4 h4 a5 h5 a6 h6 hc0 hc1) (x0 : Vec F S2048x1408 .bf16) (x1 : Vec F S2048x1024 .bf16) (v : Vec F S1408x1024 .f32) :
    sout0_C_0 c i a3 h3 a4 h4 a5 h5 a6 h6 hc0 hc1 x0 x1 v = k0_pay2 v x0 x1 := by
  unfold sout0_C_0
  rw [View.read_writes_eq_canon _ _ _ (scover0_C_0 c i a3 h3 a4 h4 a5 h5 a6 h6 hc0 hc1 x0 x1 v)]
  unfold kernelRun0_C
  dsimp only
  sl_unfold_words
  rw [View.canon_unit_zero hz]
  simp only [View.readAt_eq_ld, h3.read_unread, h4.read_unread, h6.read_unread, View.ld_unit_zero (S := S2048x1408) hz, View.ld_unit_zero (S := S2048x1024) hz, View.ld_unit_zero (S := S1408x1024) hz]

/-- … which copies the sum to the result's block. -/
theorem out_last (i a3 h3 a4 h4 a5 h5 a6 h6 hc0 hc1) (x0 : Vec F S2048x1408 .bf16) (x1 : Vec F S2048x1024 .bf16) (v : Vec F S1408x1024 .f32) :
    out0_C_2 c i a3 h3 a4 h4 a5 h5 a6 h6 hc0 hc1 x0 x1 v = k0_pay2 v x0 x1 := by
  unfold out0_C_2
  rw [View.read_writes_eq_canon _ _ _ (cover0_C_2 c i a3 h3 a4 h4 a5 h5 a6 h6 hc0 hc1 x0 x1 v)]
  unfold kernelRun0_C
  dsimp only
  sl_unfold_words
  rw [View.canon_unit_zero hz, View.readCov_unit_zero (S := S1408x1024) _ hz]
  simp only [View.readAt_eq_ld, h3.read_unread, h4.read_unread, h6.read_unread, View.ld_unit_zero (S := S2048x1408) hz, View.ld_unit_zero (S := S2048x1024) hz, View.ld_unit_zero (S := S1408x1024) hz]

variable (m : (ℓ : Loc nD τ sig) → Buf (Elt Ideal) ℓ)

/-- The two operands. -/
abbrev lhs : FVec Ideal ⟨2, ![8192, 2816]⟩ .bf16 := m ((c : Thread nD τ).loc main_arg0)
abbrev rhs : FVec Ideal ⟨2, ![8192, 1024]⟩ .bf16 := m ((c : Thread nD τ).loc main_arg1)

/-- Where each operand's block lies at a point. -/
theorem index : ∀ t : Fin cfg0.N, win0_0.index t = ![t.val % 4, t.val / 4] ∧ win0_1.index t = ![t.val % 4, 0] :=
  (by decide +kernel : ∀ t : Fin grid0.N, _)

theorem iblk_lhs (t : Fin cfg0.N) (k : Fin 2048) (i : Fin 1408) :
    iblk m c 0 t (ix2 k i) = at2 (lhs c m) (t.val % 4 * 2048 + k.val) (t.val / 4 * 1408 + i.val) := by
  have ht : t.val < 8 := t.isLt
  have hk := k.isLt
  have hi := i.isLt
  rw [at2_eq _ (by omega) (by omega)]
  blk_ext [iblk, index t]

theorem iblk_rhs (t : Fin cfg0.N) (k : Fin 2048) (j : Fin 1024) :
    iblk m c 1 t (ix2 k j) = at2 (rhs c m) (t.val % 4 * 2048 + k.val) j.val := by
  have ht : t.val < 8 := t.isLt
  have hk := k.isLt
  have hj := j.isLt
  rw [at2_eq _ (by omega) (by omega)]
  blk_ext [iblk, index t]

/-- What point `n` adds to the sum's entry. -/
def addend (n : ℕ) (i : S1408x1024.Idx) : EReal :=
  ∑ k : Fin 2048, at2 (lhs c m) (n % 4 * 2048 + k.val) (n / 4 * 1408 + (i 0).val) * at2 (rhs c m) (n % 4 * 2048 + k.val) (i 1).val

theorem pay_iblk (t : Fin cfg0.N) (v : FVec Ideal S1408x1024 .f32) (i : S1408x1024.Idx) :
    k0_pay2 v (iblk m c 0 t) (iblk m c 1 t) i = v i + addend c m t.val i := by
  obtain ⟨p, q, rfl⟩ : ∃ p q, i = ix2 p q := ⟨i 0, i 1, (ix2_eta i).symm⟩
  refine (pay_apply v (iblk m c 0 t) (iblk m c 1 t) p q).trans ?_
  refine congrArg (v (ix2 p q) + ·) (Finset.sum_congr rfl fun k _ => ?_)
  exact congrArg₂ (· * ·) (iblk_lhs c m t k p) (iblk_rhs c m t k q)

/-- What the running sum holds at a block's last point. -/
theorem sum_at (t : Fin cfg0.N) (ht : t.val % 4 = 3) (i : S1408x1024.Idx) :
    (outsAt0 m c t.val t.isLt).2 i = ∑ s ∈ Finset.range 4, addend c m (4 * (t.val / 4) + s) i := by
  have hN : t.val < 8 := t.isLt
  rw [soutsAt0_0_eq]
  refine (Pipeline.accAt_add_apply _ _ (fun _ => 0) (addend c m) (4 * (t.val / 4)) 3 ?_ ?_ (t.val % 4) (by omega) _ i).trans ?_
  · intro h i
    show scAt0_0 m c _ _ _ i = _
    unfold scAt0_0
    rw [dif_pos (by omega), dif_neg (by omega), sum_first]
    refine (pay_iblk c m ⟨_, h⟩ _ i).trans (congrArg (· + _) ?_)
    exact (congrArg _ (ix2_eta i).symm).trans (zero_apply (i 0) (i 1))
  · intro n h acc i h0 h1
    unfold scAt0_0
    rw [dif_neg (by omega)]
    split
    · rw [sum_last]
      exact pay_iblk c m ⟨n, h⟩ acc i
    · rw [sum_next]
      exact pay_iblk c m ⟨n, h⟩ acc i
  · rw [zero_add, ht]

/-- The result's block at its last point: the sum of the block's four products. -/
theorem block_at (n : ℕ) (hn : n < cfg0.N) (hm : n % 4 = 3) (i : S1408x1024.Idx) :
    (outsAt0 m c n hn).1 i = ∑ s ∈ Finset.range 4, addend c m (4 * (n / 4) + s) i := by
  have e : (outsAt0 m c n hn).1 = (outsAt0 m c n hn).2 := by
    rw [outsAt0_C m c ⟨n, hn⟩ (by dsimp only; omega) hm]
    dsimp only
    rw [out_last, sum_last]
  exact (congrFun e i).trans (sum_at c m ⟨n, hn⟩ hm i)

/-- The four products are one over all rows. -/
theorem addends (i : Fin 2816) (j : Fin 1024) (b : ℕ) (hb : b = i.val / 1408) (x : S1408x1024.Idx) (h0 : (x 0).val = i.val % 1408) (h1 : (x 1).val = j.val % 1024) :
    ∑ s ∈ Finset.range 4, addend c m (4 * b + s) x = ∑ k : Fin 8192, lhs c m (ix2 k i) * rhs c m (ix2 k j) := by
  have hi := i.isLt
  have hj := j.isLt
  refine Eq.trans ?_ ((blocks_all (fun k => at2 (lhs c m) k i.val * at2 (rhs c m) k j.val) 4 2048 (N := 8192) rfl).trans ?_)
  · refine Finset.sum_congr rfl fun s hs => Finset.sum_congr rfl fun k _ => ?_
    have hs' := Finset.mem_range.mp hs
    have e1 : (4 * b + s) % 4 = s := by omega
    have e2 : (4 * b + s) / 4 * 1408 + (x 0).val = i.val := by omega
    have e3 : (x 1).val = j.val := by omega
    rw [e2, e1, e3]
  · exact Finset.sum_congr rfl fun k _ => congrArg₂ (· * ·) (at2_fin (lhs c m) k i) (at2_fin (rhs c m) k j)

theorem pt_eq (i : Fin 2816) (j : Fin 1024) : pt2Of (ix2 i j) = 4 * (i.val / 1408) + 3 := by
  have hj := j.isLt
  show 4 * (1 * (i.val / 1408 - 0) + 1 * (j.val / 1024 - 0)) + 3 = _
  omega

/-- THE PRODUCT: entry `(i, j)` of the call's array. -/
theorem result (i : Fin 2816) (j : Fin 1024) :
    G2 m c (ix2 i j) = ∑ k : Fin 8192, lhs c m (ix2 k i) * rhs c m (ix2 k j) := by
  have hi := i.isLt
  have hp := pt_eq i j
  have hN : pt2Of (ix2 i j) < cfg0.N := by rw [hp]; show _ < 8; omega
  unfold G2
  rw [dif_pos hN, ← outsAt0_sweep m c (pt2Of (ix2 i j)) hN]
  refine (block_at c m _ hN (by rw [hp]; omega) _).trans (addends c m i j _ (by rw [hp]; omega) _ rfl rfl)

/-- The reference: the same product on the host. -/
def reference (a : FVec Ideal Cert.DwDownReferenceIdeal.S8192x2816 .bf16) (b : FVec Ideal Cert.DwDownReferenceIdeal.S8192x1024 .bf16) : FVec Ideal Cert.DwDownReferenceIdeal.S2816x1024 .f32 :=
  open Cert.DwDownReferenceIdeal Cert.DwDownReferenceIdeal.Facts₀ in
  transpose S2816x1024 [1, 0] (Host.dotGeneral dot_S8192x1024_S8192x2816_S1024x2816_0_0_1_1_n_n none (extf .f32 b bitsLt_bf16_f32) (extf .f32 a bitsLt_bf16_f32)) transposes_S1024x2816_S2816x1024_1_0

theorem reference_apply (a : FVec Ideal Cert.DwDownReferenceIdeal.S8192x2816 .bf16) (b : FVec Ideal Cert.DwDownReferenceIdeal.S8192x1024 .bf16) (i : Fin 2816) (j : Fin 1024) :
    reference a b (ix2 i j) = ∑ k : Fin 8192, a (ix2 k i) * b (ix2 k j) := by
  refine Eq.trans (b := ∑ k : Fin 8192, b (ix2 k j) * a (ix2 k i)) ?_ (Finset.sum_congr rfl fun k _ => mul_comm _ _)
  pointwise [reference]

theorem equal : G2 m c = reference (lhs c m) (rhs c m) := by
  funext x
  obtain ⟨i, j, rfl⟩ : ∃ (i : Fin 2816) (j : Fin 1024), x = ix2 i j := ⟨x 0, x 1, (ix2_eta x).symm⟩
  exact (result c m i j).trans (reference_apply (lhs c m) (rhs c m) i j).symm

theorem algebraic : Cert.algebraic_DwDownIdeal_DwDownReferenceIdeal := by
  intro m ρ m' ρ' _ hagree
  refine ⟨_, run (F := Ideal) m ρ, ?_⟩
  refine (θ_run Cert.DwDownReferenceIdeal.defs _ _).mono (fun _ h c => ⟨?_, (h c).2⟩) (Cert.DwDownReferenceIdeal.Value.run (F := Ideal) m' ρ')
  rw [(h c).1, (hagree c).1, (hagree c).2]
  exact (equal c m).symm

theorem frame_reference : Cert.quiescent_DwDownReferenceIdeal := fun m ρ _ =>
  (θ_run Cert.DwDownReferenceIdeal.defs _ _).mono (fun r h => ⟨fun c => (h c).2, sem_eq_zero_of_no_sems (by decide) r.2⟩)
    (Cert.DwDownReferenceIdeal.Value.run (F := Ideal) m ρ)

end Cert.DwDownIdeal.Product

end
-- ==== Proof.DwIn.lean ====
/- The product of the inputs' columns with the columns of the projection's gradient: the array the call leaves, entry by entry. -/
module

public import proofs.«01_k».proof.Proof.MatSum
public import proofs.«01_k».proof.Defs
public import proofs.«01_k».proof.Proof.Gen.DwInIdeal.Value
public import proofs.«01_k».proof.Proof.Gen.DwInReferenceIdeal.Run
public import Idealize.ShloMosaic.Lib.Quiescent
public import Idealize.ShloMosaic.Lib.Pipeline.ValueKit

@[expose] public section

set_option maxRecDepth 16384

noncomputable section

namespace Cert.DwInIdeal.Product

open Cert.DwInIdeal Cert.DwInIdeal.Gen Cert.DwInIdeal.Value Idealize.ShloMosaic Idealize.ShloMosaic.TcCoe Idealize.SL.Sem MatSum
open Idealize.ShloMosaic.Pipeline (Dat)

/-- One block's product added to the running sum. -/
theorem pay_apply (v : FVec Ideal S1024x1024 .f32) (a : FVec Ideal S2048x1024 .bf16) (b : FVec Ideal S2048x1024 .bf16) (i : Fin 1024) (j : Fin 1024) :
    k0_pay2 v a b (ix2 i j) = v (ix2 i j) + ∑ k : Fin 2048, a (ix2 k i) * b (ix2 k j) := by
  pointwise [k0_pay2]

theorem zero_apply (i : Fin 1024) (j : Fin 1024) : (k0_pay1 : FVec Ideal S1024x1024 .f32) (ix2 i j) = 0 := by
  pointwise [k0_pay1]

theorem hz : (![0, 0] : Fin 2 → Nat) = fun _ => 0 := funext fun a => by fin_cases a <;> rfl

variable {F : FTy → Type} [FloatOps F] (c : Dev nD)

/-- The first point of a block stores zero, reads it back and adds the block's product. -/
theorem sum_first (i a3 h3 a4 h4 a5 h5 a6 h6 hc0 hc1) (x0 : Vec F S2048x1024 .bf16) (x1 : Vec F S2048x1024 .bf16) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S2048x1024) hz, View.ld_unit_zero (S := S2048x1024) hz]

/-- A later point adds its product to what the point before left. -/
theorem sum_next (i a3 h3 a4 h4 a5 h5 a6 h6 hc0 hc1) (x0 : Vec F S2048x1024 .bf16) (x1 : Vec F S2048x1024 .bf16) (v : Vec F S1024x1024 .f32) :
    sout0_B_0 c i a3 h3 a4 h4 a5 h5 a6 h6 hc0 hc1 x0 x1 v = k0_pay2 v x0 x1 := by
  unfold sout0_B_0
  rw [View.read_writes_eq_canon _ _ _ (scover0_B_0 c i a3 h3 a4 h4 a5 h5 a6 h6 hc0 hc1 x0 x1 v)]
  unfold kernelRun0_B
  dsimp only
  rw [View.canon_unit_zero hz]
  simp only [View.readAt_eq_ld, h3.read_unread, h4.read_unread, h6.read_unread, View.ld_unit_zero (S := S2048x1024) hz, View.ld_unit_zero (S := S2048x1024) hz, View.ld_unit_zero (S := S1024x1024) hz]

/-- So does the last point … -/
theorem sum_last (i a3 h3 a4 h4 a5 h5 a6 h6 hc0 hc1) (x0 : Vec F S2048x1024 .bf16) (x1 : Vec F S2048x1024 .bf16) (v : Vec F S1024x1024 .f32) :
    sout0_C_0 c i a3 h3 a4 h4 a5 h5 a6 h6 hc0 hc1 x0 x1 v = k0_pay2 v x0 x1 := by
  unfold sout0_C_0
  rw [View.read_writes_eq_canon _ _ _ (scover0_C_0 c i a3 h3 a4 h4 a5 h5 a6 h6 hc0 hc1 x0 x1 v)]
  unfold kernelRun0_C
  dsimp only
  sl_unfold_words
  rw [View.canon_unit_zero hz]
  simp only [View.readAt_eq_ld, h3.read_unread, h4.read_unread, h6.read_unread, View.ld_unit_zero (S := S2048x1024) hz, View.ld_unit_zero (S := S2048x1024) hz, View.ld_unit_zero (S := S1024x1024) hz]

/-- … which copies the sum to the result's block. -/
theorem out_last (i a3 h3 a4 h4 a5 h5 a6 h6 hc0 hc1) (x0 : Vec F S2048x1024 .bf16) (x1 : Vec F S2048x1024 .bf16) (v : Vec F S1024x1024 .f32) :
    out0_C_2 c i a3 h3 a4 h4 a5 h5 a6 h6 hc0 hc1 x0 x1 v = k0_pay2 v x0 x1 := by
  unfold out0_C_2
  rw [View.read_writes_eq_canon _ _ _ (cover0_C_2 c i a3 h3 a4 h4 a5 h5 a6 h6 hc0 hc1 x0 x1 v)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S2048x1024) hz, View.ld_unit_zero (S := S2048x1024) hz, View.ld_unit_zero (S := S1024x1024) hz]

variable (m : (ℓ : Loc nD τ sig) → Buf (Elt Ideal) ℓ)

/-- The two operands. -/
abbrev lhs : FVec Ideal ⟨2, ![8192, 1024]⟩ .bf16 := m ((c : Thread nD τ).loc main_arg0)
abbrev rhs : FVec Ideal ⟨2, ![8192, 3072]⟩ .bf16 := m ((c : Thread nD τ).loc main_arg1)

/-- Where each operand's block lies at a point. -/
theorem index : ∀ t : Fin cfg0.N, win0_0.index t = ![t.val % 4, t.val / 4 / 3] ∧ win0_1.index t = ![t.val % 4, t.val / 4 % 3] :=
  (by decide +kernel : ∀ t : Fin grid0.N, _)

theorem iblk_lhs (t : Fin cfg0.N) (k : Fin 2048) (i : Fin 1024) :
    iblk m c 0 t (ix2 k i) = at2 (lhs c m) (t.val % 4 * 2048 + k.val) (t.val / 4 / 3 * 1024 + i.val) := by
  have ht : t.val < 12 := t.isLt
  have hk := k.isLt
  have hi := i.isLt
  rw [at2_eq _ (by omega) (by omega)]
  blk_ext [iblk, index t]

theorem iblk_rhs (t : Fin cfg0.N) (k : Fin 2048) (j : Fin 1024) :
    iblk m c 1 t (ix2 k j) = at2 (rhs c m) (t.val % 4 * 2048 + k.val) (t.val / 4 % 3 * 1024 + j.val) := by
  have ht : t.val < 12 := t.isLt
  have hk := k.isLt
  have hj := j.isLt
  rw [at2_eq _ (by omega) (by omega)]
  blk_ext [iblk, index t]

/-- What point `n` adds to the sum's entry. -/
def addend (n : ℕ) (i : S1024x1024.Idx) : EReal :=
  ∑ k : Fin 2048, at2 (lhs c m) (n % 4 * 2048 + k.val) (n / 4 / 3 * 1024 + (i 0).val) * at2 (rhs c m) (n % 4 * 2048 + k.val) (n / 4 % 3 * 1024 + (i 1).val)

theorem pay_iblk (t : Fin cfg0.N) (v : FVec Ideal S1024x1024 .f32) (i : S1024x1024.Idx) :
    k0_pay2 v (iblk m c 0 t) (iblk m c 1 t) i = v i + addend c m t.val i := by
  obtain ⟨p, q, rfl⟩ : ∃ p q, i = ix2 p q := ⟨i 0, i 1, (ix2_eta i).symm⟩
  refine (pay_apply v (iblk m c 0 t) (iblk m c 1 t) p q).trans ?_
  refine congrArg (v (ix2 p q) + ·) (Finset.sum_congr rfl fun k _ => ?_)
  exact congrArg₂ (· * ·) (iblk_lhs c m t k p) (iblk_rhs c m t k q)

/-- What the running sum holds at a block's last point. -/
theorem sum_at (t : Fin cfg0.N) (ht : t.val % 4 = 3) (i : S1024x1024.Idx) :
    (outsAt0 m c t.val t.isLt).2 i = ∑ s ∈ Finset.range 4, addend c m (4 * (t.val / 4) + s) i := by
  have hN : t.val < 12 := t.isLt
  rw [soutsAt0_0_eq]
  refine (Pipeline.accAt_add_apply _ _ (fun _ => 0) (addend c m) (4 * (t.val / 4)) 3 ?_ ?_ (t.val % 4) (by omega) _ i).trans ?_
  · intro h i
    show scAt0_0 m c _ _ _ i = _
    unfold scAt0_0
    rw [dif_pos (by omega), dif_neg (by omega), sum_first]
    refine (pay_iblk c m ⟨_, h⟩ _ i).trans (congrArg (· + _) ?_)
    exact (congrArg _ (ix2_eta i).symm).trans (zero_apply (i 0) (i 1))
  · intro n h acc i h0 h1
    unfold scAt0_0
    rw [dif_neg (by omega)]
    split
    · rw [sum_last]
      exact pay_iblk c m ⟨n, h⟩ acc i
    · rw [sum_next]
      exact pay_iblk c m ⟨n, h⟩ acc i
  · rw [zero_add, ht]

/-- The result's block at its last point: the sum of the block's products. -/
theorem block_at (n : ℕ) (hn : n < cfg0.N) (hm : n % 4 = 3) (i : S1024x1024.Idx) :
    (outsAt0 m c n hn).1 i = ∑ s ∈ Finset.range 4, addend c m (4 * (n / 4) + s) i := by
  have e : (outsAt0 m c n hn).1 = (outsAt0 m c n hn).2 := by
    rw [outsAt0_C m c ⟨n, hn⟩ (by dsimp only; omega) hm]
    dsimp only
    rw [out_last, sum_last]
  exact (congrFun e i).trans (sum_at c m ⟨n, hn⟩ hm i)

/-- The blocks' products are one over all rows. -/
theorem addends (i : Fin 1024) (j : Fin 3072) (b : ℕ) (hb : b = 3 * (i.val / 1024) + j.val / 1024) (x : S1024x1024.Idx) (h0 : (x 0).val = i.val % 1024) (h1 : (x 1).val = j.val % 1024) :
    ∑ s ∈ Finset.range 4, addend c m (4 * b + s) x = ∑ k : Fin 8192, lhs c m (ix2 k i) * rhs c m (ix2 k j) := by
  have hi := i.isLt
  have hj := j.isLt
  refine Eq.trans ?_ ((blocks_all (fun k => at2 (lhs c m) k i.val * at2 (rhs c m) k j.val) 4 2048 (N := 8192) rfl).trans ?_)
  · refine Finset.sum_congr rfl fun s hs => Finset.sum_congr rfl fun k _ => ?_
    have hs' := Finset.mem_range.mp hs
    have e1 : (4 * b + s) % 4 = s := by omega
    have e2 : (4 * b + s) / 4 / 3 * 1024 + (x 0).val = i.val := by omega
    have e3 : (4 * b + s) / 4 % 3 * 1024 + (x 1).val = j.val := by omega
    rw [e2, e1, e3]
  · exact Finset.sum_congr rfl fun k _ => congrArg₂ (· * ·) (at2_fin (lhs c m) k i) (at2_fin (rhs c m) k j)

theorem pt_eq (i : Fin 1024) (j : Fin 3072) : pt2Of (ix2 i j) = 4 * (3 * (i.val / 1024) + j.val / 1024) + 3 := by
  have hj := j.isLt
  show 4 * (3 * (i.val / 1024 - 0) + 1 * (j.val / 1024 - 0)) + 3 = _
  omega

/-- THE PRODUCT: entry `(i, j)` of the call's array. -/
theorem result (i : Fin 1024) (j : Fin 3072) :
    G2 m c (ix2 i j) = ∑ k : Fin 8192, lhs c m (ix2 k i) * rhs c m (ix2 k j) := by
  have hi := i.isLt
  have hp := pt_eq i j
  have hN : pt2Of (ix2 i j) < cfg0.N := by rw [hp]; show _ < 12; omega
  unfold G2
  rw [dif_pos hN, ← outsAt0_sweep m c (pt2Of (ix2 i j)) hN]
  refine (block_at c m _ hN (by rw [hp]; omega) _).trans (addends c m i j _ (by rw [hp]; omega) _ rfl rfl)

/-- The reference: the same product on the host. -/
def reference (a : FVec Ideal Cert.DwInReferenceIdeal.S8192x1024 .bf16) (b : FVec Ideal Cert.DwInReferenceIdeal.S8192x3072 .bf16) : FVec Ideal Cert.DwInReferenceIdeal.S1024x3072 .f32 :=
  open Cert.DwInReferenceIdeal Cert.DwInReferenceIdeal.Facts₀ in
  transpose S1024x3072 [1, 0] (Host.dotGeneral dot_S8192x3072_S8192x1024_S3072x1024_0_0_1_1_n_n none (extf .f32 b bitsLt_bf16_f32) (extf .f32 a bitsLt_bf16_f32)) transposes_S3072x1024_S1024x3072_1_0

theorem reference_apply (a : FVec Ideal Cert.DwInReferenceIdeal.S8192x1024 .bf16) (b : FVec Ideal Cert.DwInReferenceIdeal.S8192x3072 .bf16) (i : Fin 1024) (j : Fin 3072) :
    reference a b (ix2 i j) = ∑ k : Fin 8192, a (ix2 k i) * b (ix2 k j) := by
  refine Eq.trans (b := ∑ k : Fin 8192, b (ix2 k j) * a (ix2 k i)) ?_ (Finset.sum_congr rfl fun k _ => mul_comm _ _)
  pointwise [reference]

theorem equal : G2 m c = reference (lhs c m) (rhs c m) := by
  funext x
  obtain ⟨i, j, rfl⟩ : ∃ (i : Fin 1024) (j : Fin 3072), x = ix2 i j := ⟨x 0, x 1, (ix2_eta x).symm⟩
  exact (result c m i j).trans (reference_apply (lhs c m) (rhs c m) i j).symm

theorem algebraic : Cert.algebraic_DwInIdeal_DwInReferenceIdeal := by
  intro m ρ m' ρ' _ hagree
  refine ⟨_, run (F := Ideal) m ρ, ?_⟩
  refine (θ_run Cert.DwInReferenceIdeal.defs _ _).mono (fun _ h c => ⟨?_, (h c).2⟩) (Cert.DwInReferenceIdeal.Value.run (F := Ideal) m' ρ')
  rw [(h c).1, (hagree c).1, (hagree c).2]
  exact (equal c m).symm

theorem frame_reference : Cert.quiescent_DwInReferenceIdeal := fun m ρ _ =>
  (θ_run Cert.DwInReferenceIdeal.defs _ _).mono (fun r h => ⟨fun c => (h c).2, sem_eq_zero_of_no_sems (by decide) r.2⟩)
    (Cert.DwInReferenceIdeal.Value.run (F := Ideal) m ρ)

end Cert.DwInIdeal.Product

end
-- ==== Proof.DwGate.lean ====
/- The product of the normalised rows' columns with the columns of the gate's gradient: the array the call leaves, entry by entry. -/
module

public import proofs.«01_k».proof.Proof.MatSum
public import proofs.«01_k».proof.Defs
public import proofs.«01_k».proof.Proof.Gen.DwGateIdeal.Value
public import proofs.«01_k».proof.Proof.Gen.DwGateReferenceIdeal.Run
public import Idealize.ShloMosaic.Lib.Quiescent
public import Idealize.ShloMosaic.Lib.Pipeline.ValueKit

@[expose] public section

set_option maxRecDepth 16384

noncomputable section

namespace Cert.DwGateIdeal.Product

open Cert.DwGateIdeal Cert.DwGateIdeal.Gen Cert.DwGateIdeal.Value Idealize.ShloMosaic Idealize.ShloMosaic.TcCoe Idealize.SL.Sem MatSum
open Idealize.ShloMosaic.Pipeline (Dat)

/-- One block's product added to the running sum. -/
theorem pay_apply (v : FVec Ideal S1024x1024 .f32) (a : FVec Ideal S2048x1024 .bf16) (b : FVec Ideal S2048x1024 .bf16) (i : Fin 1024) (j : Fin 1024) :
    k0_pay2 v a b (ix2 i j) = v (ix2 i j) + ∑ k : Fin 2048, a (ix2 k i) * b (ix2 k j) := by
  pointwise [k0_pay2]

theorem zero_apply (i : Fin 1024) (j : Fin 1024) : (k0_pay1 : FVec Ideal S1024x1024 .f32) (ix2 i j) = 0 := by
  pointwise [k0_pay1]

theorem hz : (![0, 0] : Fin 2 → Nat) = fun _ => 0 := funext fun a => by fin_cases a <;> rfl

variable {F : FTy → Type} [FloatOps F] (c : Dev nD)

/-- The first point of a block stores zero, reads it back and adds the block's product. -/
theorem sum_first (i a3 h3 a4 h4 a5 h5 a6 h6 hc0 hc1) (x0 : Vec F S2048x1024 .bf16) (x1 : Vec F S2048x1024 .bf16) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S2048x1024) hz, View.ld_unit_zero (S := S2048x1024) hz]

/-- A later point adds its product to what the point before left. -/
theorem sum_next (i a3 h3 a4 h4 a5 h5 a6 h6 hc0 hc1) (x0 : Vec F S2048x1024 .bf16) (x1 : Vec F S2048x1024 .bf16) (v : Vec F S1024x1024 .f32) :
    sout0_B_0 c i a3 h3 a4 h4 a5 h5 a6 h6 hc0 hc1 x0 x1 v = k0_pay2 v x0 x1 := by
  unfold sout0_B_0
  rw [View.read_writes_eq_canon _ _ _ (scover0_B_0 c i a3 h3 a4 h4 a5 h5 a6 h6 hc0 hc1 x0 x1 v)]
  unfold kernelRun0_B
  dsimp only
  rw [View.canon_unit_zero hz]
  simp only [View.readAt_eq_ld, h3.read_unread, h4.read_unread, h6.read_unread, View.ld_unit_zero (S := S2048x1024) hz, View.ld_unit_zero (S := S2048x1024) hz, View.ld_unit_zero (S := S1024x1024) hz]

/-- So does the last point … -/
theorem sum_last (i a3 h3 a4 h4 a5 h5 a6 h6 hc0 hc1) (x0 : Vec F S2048x1024 .bf16) (x1 : Vec F S2048x1024 .bf16) (v : Vec F S1024x1024 .f32) :
    sout0_C_0 c i a3 h3 a4 h4 a5 h5 a6 h6 hc0 hc1 x0 x1 v = k0_pay2 v x0 x1 := by
  unfold sout0_C_0
  rw [View.read_writes_eq_canon _ _ _ (scover0_C_0 c i a3 h3 a4 h4 a5 h5 a6 h6 hc0 hc1 x0 x1 v)]
  unfold kernelRun0_C
  dsimp only
  sl_unfold_words
  rw [View.canon_unit_zero hz]
  simp only [View.readAt_eq_ld, h3.read_unread, h4.read_unread, h6.read_unread, View.ld_unit_zero (S := S2048x1024) hz, View.ld_unit_zero (S := S2048x1024) hz, View.ld_unit_zero (S := S1024x1024) hz]

/-- … which copies the sum to the result's block. -/
theorem out_last (i a3 h3 a4 h4 a5 h5 a6 h6 hc0 hc1) (x0 : Vec F S2048x1024 .bf16) (x1 : Vec F S2048x1024 .bf16) (v : Vec F S1024x1024 .f32) :
    out0_C_2 c i a3 h3 a4 h4 a5 h5 a6 h6 hc0 hc1 x0 x1 v = k0_pay2 v x0 x1 := by
  unfold out0_C_2
  rw [View.read_writes_eq_canon _ _ _ (cover0_C_2 c i a3 h3 a4 h4 a5 h5 a6 h6 hc0 hc1 x0 x1 v)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S2048x1024) hz, View.ld_unit_zero (S := S2048x1024) hz, View.ld_unit_zero (S := S1024x1024) hz]

variable (m : (ℓ : Loc nD τ sig) → Buf (Elt Ideal) ℓ)

/-- The two operands. -/
abbrev lhs : FVec Ideal ⟨2, ![8192, 1024]⟩ .bf16 := m ((c : Thread nD τ).loc main_arg0)
abbrev rhs : FVec Ideal ⟨2, ![8192, 1024]⟩ .bf16 := m ((c : Thread nD τ).loc main_arg1)

/-- Where each operand's block lies at a point. -/
theorem index : ∀ t : Fin cfg0.N, win0_0.index t = ![t.val % 4, t.val / 4 / 1] ∧ win0_1.index t = ![t.val % 4, t.val / 4 % 1] :=
  (by decide +kernel : ∀ t : Fin grid0.N, _)

theorem iblk_lhs (t : Fin cfg0.N) (k : Fin 2048) (i : Fin 1024) :
    iblk m c 0 t (ix2 k i) = at2 (lhs c m) (t.val % 4 * 2048 + k.val) (t.val / 4 / 1 * 1024 + i.val) := by
  have ht : t.val < 4 := t.isLt
  have hk := k.isLt
  have hi := i.isLt
  rw [at2_eq _ (by omega) (by omega)]
  blk_ext [iblk, index t]

theorem iblk_rhs (t : Fin cfg0.N) (k : Fin 2048) (j : Fin 1024) :
    iblk m c 1 t (ix2 k j) = at2 (rhs c m) (t.val % 4 * 2048 + k.val) (t.val / 4 % 1 * 1024 + j.val) := by
  have ht : t.val < 4 := t.isLt
  have hk := k.isLt
  have hj := j.isLt
  rw [at2_eq _ (by omega) (by omega)]
  blk_ext [iblk, index t]

/-- What point `n` adds to the sum's entry. -/
def addend (n : ℕ) (i : S1024x1024.Idx) : EReal :=
  ∑ k : Fin 2048, at2 (lhs c m) (n % 4 * 2048 + k.val) (n / 4 / 1 * 1024 + (i 0).val) * at2 (rhs c m) (n % 4 * 2048 + k.val) (n / 4 % 1 * 1024 + (i 1).val)

theorem pay_iblk (t : Fin cfg0.N) (v : FVec Ideal S1024x1024 .f32) (i : S1024x1024.Idx) :
    k0_pay2 v (iblk m c 0 t) (iblk m c 1 t) i = v i + addend c m t.val i := by
  obtain ⟨p, q, rfl⟩ : ∃ p q, i = ix2 p q := ⟨i 0, i 1, (ix2_eta i).symm⟩
  refine (pay_apply v (iblk m c 0 t) (iblk m c 1 t) p q).trans ?_
  refine congrArg (v (ix2 p q) + ·) (Finset.sum_congr rfl fun k _ => ?_)
  exact congrArg₂ (· * ·) (iblk_lhs c m t k p) (iblk_rhs c m t k q)

/-- What the running sum holds at a block's last point. -/
theorem sum_at (t : Fin cfg0.N) (ht : t.val % 4 = 3) (i : S1024x1024.Idx) :
    (outsAt0 m c t.val t.isLt).2 i = ∑ s ∈ Finset.range 4, addend c m (4 * (t.val / 4) + s) i := by
  have hN : t.val < 4 := t.isLt
  rw [soutsAt0_0_eq]
  refine (Pipeline.accAt_add_apply _ _ (fun _ => 0) (addend c m) (4 * (t.val / 4)) 3 ?_ ?_ (t.val % 4) (by omega) _ i).trans ?_
  · intro h i
    show scAt0_0 m c _ _ _ i = _
    unfold scAt0_0
    rw [dif_pos (by omega), dif_neg (by omega), sum_first]
    refine (pay_iblk c m ⟨_, h⟩ _ i).trans (congrArg (· + _) ?_)
    exact (congrArg _ (ix2_eta i).symm).trans (zero_apply (i 0) (i 1))
  · intro n h acc i h0 h1
    unfold scAt0_0
    rw [dif_neg (by omega)]
    split
    · rw [sum_last]
      exact pay_iblk c m ⟨n, h⟩ acc i
    · rw [sum_next]
      exact pay_iblk c m ⟨n, h⟩ acc i
  · rw [zero_add, ht]

/-- The result's block at its last point: the sum of the block's products. -/
theorem block_at (n : ℕ) (hn : n < cfg0.N) (hm : n % 4 = 3) (i : S1024x1024.Idx) :
    (outsAt0 m c n hn).1 i = ∑ s ∈ Finset.range 4, addend c m (4 * (n / 4) + s) i := by
  have e : (outsAt0 m c n hn).1 = (outsAt0 m c n hn).2 := by
    rw [outsAt0_C m c ⟨n, hn⟩ (by dsimp only; omega) hm]
    dsimp only
    rw [out_last, sum_last]
  exact (congrFun e i).trans (sum_at c m ⟨n, hn⟩ hm i)

/-- The blocks' products are one over all rows. -/
theorem addends (i : Fin 1024) (j : Fin 1024) (b : ℕ) (hb : b = 1 * (i.val / 1024) + j.val / 1024) (x : S1024x1024.Idx) (h0 : (x 0).val = i.val % 1024) (h1 : (x 1).val = j.val % 1024) :
    ∑ s ∈ Finset.range 4, addend c m (4 * b + s) x = ∑ k : Fin 8192, lhs c m (ix2 k i) * rhs c m (ix2 k j) := by
  have hi := i.isLt
  have hj := j.isLt
  refine Eq.trans ?_ ((blocks_all (fun k => at2 (lhs c m) k i.val * at2 (rhs c m) k j.val) 4 2048 (N := 8192) rfl).trans ?_)
  · refine Finset.sum_congr rfl fun s hs => Finset.sum_congr rfl fun k _ => ?_
    have hs' := Finset.mem_range.mp hs
    have e1 : (4 * b + s) % 4 = s := by omega
    have e2 : (4 * b + s) / 4 / 1 * 1024 + (x 0).val = i.val := by omega
    have e3 : (4 * b + s) / 4 % 1 * 1024 + (x 1).val = j.val := by omega
    rw [e2, e1, e3]
  · exact Finset.sum_congr rfl fun k _ => congrArg₂ (· * ·) (at2_fin (lhs c m) k i) (at2_fin (rhs c m) k j)

theorem pt_eq (i : Fin 1024) (j : Fin 1024) : pt2Of (ix2 i j) = 4 * (1 * (i.val / 1024) + j.val / 1024) + 3 := by
  have hj := j.isLt
  show 4 * (1 * (i.val / 1024 - 0) + 1 * (j.val / 1024 - 0)) + 3 = _
  omega

/-- THE PRODUCT: entry `(i, j)` of the call's array. -/
theorem result (i : Fin 1024) (j : Fin 1024) :
    G2 m c (ix2 i j) = ∑ k : Fin 8192, lhs c m (ix2 k i) * rhs c m (ix2 k j) := by
  have hi := i.isLt
  have hp := pt_eq i j
  have hN : pt2Of (ix2 i j) < cfg0.N := by rw [hp]; show _ < 4; omega
  unfold G2
  rw [dif_pos hN, ← outsAt0_sweep m c (pt2Of (ix2 i j)) hN]
  refine (block_at c m _ hN (by rw [hp]; omega) _).trans (addends c m i j _ (by rw [hp]; omega) _ rfl rfl)

/-- The reference: the same product on the host. -/
def reference (a : FVec Ideal Cert.DwGateReferenceIdeal.S8192x1024 .bf16) (b : FVec Ideal Cert.DwGateReferenceIdeal.S8192x1024 .bf16) : FVec Ideal Cert.DwGateReferenceIdeal.S1024x1024 .f32 :=
  open Cert.DwGateReferenceIdeal Cert.DwGateReferenceIdeal.Facts₀ in
  transpose S1024x1024 [1, 0] (Host.dotGeneral dot_S8192x1024_S8192x1024_S1024x1024_0_0_1_1_n_n none (extf .f32 b bitsLt_bf16_f32) (extf .f32 a bitsLt_bf16_f32)) transposes_S1024x1024_S1024x1024_1_0

theorem reference_apply (a : FVec Ideal Cert.DwGateReferenceIdeal.S8192x1024 .bf16) (b : FVec Ideal Cert.DwGateReferenceIdeal.S8192x1024 .bf16) (i : Fin 1024) (j : Fin 1024) :
    reference a b (ix2 i j) = ∑ k : Fin 8192, a (ix2 k i) * b (ix2 k j) := by
  refine Eq.trans (b := ∑ k : Fin 8192, b (ix2 k j) * a (ix2 k i)) ?_ (Finset.sum_congr rfl fun k _ => mul_comm _ _)
  pointwise [reference]

theorem equal : G2 m c = reference (lhs c m) (rhs c m) := by
  funext x
  obtain ⟨i, j, rfl⟩ : ∃ (i : Fin 1024) (j : Fin 1024), x = ix2 i j := ⟨x 0, x 1, (ix2_eta x).symm⟩
  exact (result c m i j).trans (reference_apply (lhs c m) (rhs c m) i j).symm

theorem algebraic : Cert.algebraic_DwGateIdeal_DwGateReferenceIdeal := by
  intro m ρ m' ρ' _ hagree
  refine ⟨_, run (F := Ideal) m ρ, ?_⟩
  refine (θ_run Cert.DwGateReferenceIdeal.defs _ _).mono (fun _ h c => ⟨?_, (h c).2⟩) (Cert.DwGateReferenceIdeal.Value.run (F := Ideal) m' ρ')
  rw [(h c).1, (hagree c).1, (hagree c).2]
  exact (equal c m).symm

theorem frame_reference : Cert.quiescent_DwGateReferenceIdeal := fun m ρ _ =>
  (θ_run Cert.DwGateReferenceIdeal.defs _ _).mono (fun r h => ⟨fun c => (h c).2, sem_eq_zero_of_no_sems (by decide) r.2⟩)
    (Cert.DwGateReferenceIdeal.Value.run (F := Ideal) m ρ)

end Cert.DwGateIdeal.Product

end
-- ==== Proof.DwOut.lean ====
/- The product of the joined branches' columns with the columns of the mixer's gradient: the array the call leaves, entry by entry. -/
module

public import proofs.«01_k».proof.Proof.MatSum
public import proofs.«01_k».proof.Defs
public import proofs.«01_k».proof.Proof.Gen.DwOutIdeal.Value
public import proofs.«01_k».proof.Proof.Gen.DwOutReferenceIdeal.Run
public import Idealize.ShloMosaic.Lib.Quiescent
public import Idealize.ShloMosaic.Lib.Pipeline.ValueKit

@[expose] public section

set_option maxRecDepth 16384

noncomputable section

namespace Cert.DwOutIdeal.Product

open Cert.DwOutIdeal Cert.DwOutIdeal.Gen Cert.DwOutIdeal.Value Idealize.ShloMosaic Idealize.ShloMosaic.TcCoe Idealize.SL.Sem MatSum
open Idealize.ShloMosaic.Pipeline (Dat)

/-- One block's product added to the running sum. -/
theorem pay_apply (v : FVec Ideal S1024x1024 .f32) (a : FVec Ideal S2048x1024 .bf16) (b : FVec Ideal S2048x1024 .bf16) (i : Fin 1024) (j : Fin 1024) :
    k0_pay2 v a b (ix2 i j) = v (ix2 i j) + ∑ k : Fin 2048, a (ix2 k i) * b (ix2 k j) := by
  pointwise [k0_pay2]

theorem zero_apply (i : Fin 1024) (j : Fin 1024) : (k0_pay1 : FVec Ideal S1024x1024 .f32) (ix2 i j) = 0 := by
  pointwise [k0_pay1]

theorem hz : (![0, 0] : Fin 2 → Nat) = fun _ => 0 := funext fun a => by fin_cases a <;> rfl

variable {F : FTy → Type} [FloatOps F] (c : Dev nD)

/-- The first point of a block stores zero, reads it back and adds the block's product. -/
theorem sum_first (i a3 h3 a4 h4 a5 h5 a6 h6 hc0 hc1) (x0 : Vec F S2048x1024 .bf16) (x1 : Vec F S2048x1024 .bf16) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S2048x1024) hz, View.ld_unit_zero (S := S2048x1024) hz]

/-- A later point adds its product to what the point before left. -/
theorem sum_next (i a3 h3 a4 h4 a5 h5 a6 h6 hc0 hc1) (x0 : Vec F S2048x1024 .bf16) (x1 : Vec F S2048x1024 .bf16) (v : Vec F S1024x1024 .f32) :
    sout0_B_0 c i a3 h3 a4 h4 a5 h5 a6 h6 hc0 hc1 x0 x1 v = k0_pay2 v x0 x1 := by
  unfold sout0_B_0
  rw [View.read_writes_eq_canon _ _ _ (scover0_B_0 c i a3 h3 a4 h4 a5 h5 a6 h6 hc0 hc1 x0 x1 v)]
  unfold kernelRun0_B
  dsimp only
  rw [View.canon_unit_zero hz]
  simp only [View.readAt_eq_ld, h3.read_unread, h4.read_unread, h6.read_unread, View.ld_unit_zero (S := S2048x1024) hz, View.ld_unit_zero (S := S2048x1024) hz, View.ld_unit_zero (S := S1024x1024) hz]

/-- So does the last point … -/
theorem sum_last (i a3 h3 a4 h4 a5 h5 a6 h6 hc0 hc1) (x0 : Vec F S2048x1024 .bf16) (x1 : Vec F S2048x1024 .bf16) (v : Vec F S1024x1024 .f32) :
    sout0_C_0 c i a3 h3 a4 h4 a5 h5 a6 h6 hc0 hc1 x0 x1 v = k0_pay2 v x0 x1 := by
  unfold sout0_C_0
  rw [View.read_writes_eq_canon _ _ _ (scover0_C_0 c i a3 h3 a4 h4 a5 h5 a6 h6 hc0 hc1 x0 x1 v)]
  unfold kernelRun0_C
  dsimp only
  sl_unfold_words
  rw [View.canon_unit_zero hz]
  simp only [View.readAt_eq_ld, h3.read_unread, h4.read_unread, h6.read_unread, View.ld_unit_zero (S := S2048x1024) hz, View.ld_unit_zero (S := S2048x1024) hz, View.ld_unit_zero (S := S1024x1024) hz]

/-- … which copies the sum to the result's block. -/
theorem out_last (i a3 h3 a4 h4 a5 h5 a6 h6 hc0 hc1) (x0 : Vec F S2048x1024 .bf16) (x1 : Vec F S2048x1024 .bf16) (v : Vec F S1024x1024 .f32) :
    out0_C_2 c i a3 h3 a4 h4 a5 h5 a6 h6 hc0 hc1 x0 x1 v = k0_pay2 v x0 x1 := by
  unfold out0_C_2
  rw [View.read_writes_eq_canon _ _ _ (cover0_C_2 c i a3 h3 a4 h4 a5 h5 a6 h6 hc0 hc1 x0 x1 v)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S2048x1024) hz, View.ld_unit_zero (S := S2048x1024) hz, View.ld_unit_zero (S := S1024x1024) hz]

variable (m : (ℓ : Loc nD τ sig) → Buf (Elt Ideal) ℓ)

/-- The two operands. -/
abbrev lhs : FVec Ideal ⟨2, ![8192, 1024]⟩ .bf16 := m ((c : Thread nD τ).loc main_arg0)
abbrev rhs : FVec Ideal ⟨2, ![8192, 1024]⟩ .bf16 := m ((c : Thread nD τ).loc main_arg1)

/-- Where each operand's block lies at a point. -/
theorem index : ∀ t : Fin cfg0.N, win0_0.index t = ![t.val % 4, t.val / 4 / 1] ∧ win0_1.index t = ![t.val % 4, t.val / 4 % 1] :=
  (by decide +kernel : ∀ t : Fin grid0.N, _)

theorem iblk_lhs (t : Fin cfg0.N) (k : Fin 2048) (i : Fin 1024) :
    iblk m c 0 t (ix2 k i) = at2 (lhs c m) (t.val % 4 * 2048 + k.val) (t.val / 4 / 1 * 1024 + i.val) := by
  have ht : t.val < 4 := t.isLt
  have hk := k.isLt
  have hi := i.isLt
  rw [at2_eq _ (by omega) (by omega)]
  blk_ext [iblk, index t]

theorem iblk_rhs (t : Fin cfg0.N) (k : Fin 2048) (j : Fin 1024) :
    iblk m c 1 t (ix2 k j) = at2 (rhs c m) (t.val % 4 * 2048 + k.val) (t.val / 4 % 1 * 1024 + j.val) := by
  have ht : t.val < 4 := t.isLt
  have hk := k.isLt
  have hj := j.isLt
  rw [at2_eq _ (by omega) (by omega)]
  blk_ext [iblk, index t]

/-- What point `n` adds to the sum's entry. -/
def addend (n : ℕ) (i : S1024x1024.Idx) : EReal :=
  ∑ k : Fin 2048, at2 (lhs c m) (n % 4 * 2048 + k.val) (n / 4 / 1 * 1024 + (i 0).val) * at2 (rhs c m) (n % 4 * 2048 + k.val) (n / 4 % 1 * 1024 + (i 1).val)

theorem pay_iblk (t : Fin cfg0.N) (v : FVec Ideal S1024x1024 .f32) (i : S1024x1024.Idx) :
    k0_pay2 v (iblk m c 0 t) (iblk m c 1 t) i = v i + addend c m t.val i := by
  obtain ⟨p, q, rfl⟩ : ∃ p q, i = ix2 p q := ⟨i 0, i 1, (ix2_eta i).symm⟩
  refine (pay_apply v (iblk m c 0 t) (iblk m c 1 t) p q).trans ?_
  refine congrArg (v (ix2 p q) + ·) (Finset.sum_congr rfl fun k _ => ?_)
  exact congrArg₂ (· * ·) (iblk_lhs c m t k p) (iblk_rhs c m t k q)

/-- What the running sum holds at a block's last point. -/
theorem sum_at (t : Fin cfg0.N) (ht : t.val % 4 = 3) (i : S1024x1024.Idx) :
    (outsAt0 m c t.val t.isLt).2 i = ∑ s ∈ Finset.range 4, addend c m (4 * (t.val / 4) + s) i := by
  have hN : t.val < 4 := t.isLt
  rw [soutsAt0_0_eq]
  refine (Pipeline.accAt_add_apply _ _ (fun _ => 0) (addend c m) (4 * (t.val / 4)) 3 ?_ ?_ (t.val % 4) (by omega) _ i).trans ?_
  · intro h i
    show scAt0_0 m c _ _ _ i = _
    unfold scAt0_0
    rw [dif_pos (by omega), dif_neg (by omega), sum_first]
    refine (pay_iblk c m ⟨_, h⟩ _ i).trans (congrArg (· + _) ?_)
    exact (congrArg _ (ix2_eta i).symm).trans (zero_apply (i 0) (i 1))
  · intro n h acc i h0 h1
    unfold scAt0_0
    rw [dif_neg (by omega)]
    split
    · rw [sum_last]
      exact pay_iblk c m ⟨n, h⟩ acc i
    · rw [sum_next]
      exact pay_iblk c m ⟨n, h⟩ acc i
  · rw [zero_add, ht]

/-- The result's block at its last point: the sum of the block's products. -/
theorem block_at (n : ℕ) (hn : n < cfg0.N) (hm : n % 4 = 3) (i : S1024x1024.Idx) :
    (outsAt0 m c n hn).1 i = ∑ s ∈ Finset.range 4, addend c m (4 * (n / 4) + s) i := by
  have e : (outsAt0 m c n hn).1 = (outsAt0 m c n hn).2 := by
    rw [outsAt0_C m c ⟨n, hn⟩ (by dsimp only; omega) hm]
    dsimp only
    rw [out_last, sum_last]
  exact (congrFun e i).trans (sum_at c m ⟨n, hn⟩ hm i)

/-- The blocks' products are one over all rows. -/
theorem addends (i : Fin 1024) (j : Fin 1024) (b : ℕ) (hb : b = 1 * (i.val / 1024) + j.val / 1024) (x : S1024x1024.Idx) (h0 : (x 0).val = i.val % 1024) (h1 : (x 1).val = j.val % 1024) :
    ∑ s ∈ Finset.range 4, addend c m (4 * b + s) x = ∑ k : Fin 8192, lhs c m (ix2 k i) * rhs c m (ix2 k j) := by
  have hi := i.isLt
  have hj := j.isLt
  refine Eq.trans ?_ ((blocks_all (fun k => at2 (lhs c m) k i.val * at2 (rhs c m) k j.val) 4 2048 (N := 8192) rfl).trans ?_)
  · refine Finset.sum_congr rfl fun s hs => Finset.sum_congr rfl fun k _ => ?_
    have hs' := Finset.mem_range.mp hs
    have e1 : (4 * b + s) % 4 = s := by omega
    have e2 : (4 * b + s) / 4 / 1 * 1024 + (x 0).val = i.val := by omega
    have e3 : (4 * b + s) / 4 % 1 * 1024 + (x 1).val = j.val := by omega
    rw [e2, e1, e3]
  · exact Finset.sum_congr rfl fun k _ => congrArg₂ (· * ·) (at2_fin (lhs c m) k i) (at2_fin (rhs c m) k j)

theorem pt_eq (i : Fin 1024) (j : Fin 1024) : pt2Of (ix2 i j) = 4 * (1 * (i.val / 1024) + j.val / 1024) + 3 := by
  have hj := j.isLt
  show 4 * (1 * (i.val / 1024 - 0) + 1 * (j.val / 1024 - 0)) + 3 = _
  omega

/-- THE PRODUCT: entry `(i, j)` of the call's array. -/
theorem result (i : Fin 1024) (j : Fin 1024) :
    G2 m c (ix2 i j) = ∑ k : Fin 8192, lhs c m (ix2 k i) * rhs c m (ix2 k j) := by
  have hi := i.isLt
  have hp := pt_eq i j
  have hN : pt2Of (ix2 i j) < cfg0.N := by rw [hp]; show _ < 4; omega
  unfold G2
  rw [dif_pos hN, ← outsAt0_sweep m c (pt2Of (ix2 i j)) hN]
  refine (block_at c m _ hN (by rw [hp]; omega) _).trans (addends c m i j _ (by rw [hp]; omega) _ rfl rfl)

/-- The reference: the same product on the host. -/
def reference (a : FVec Ideal Cert.DwOutReferenceIdeal.S8192x1024 .bf16) (b : FVec Ideal Cert.DwOutReferenceIdeal.S8192x1024 .bf16) : FVec Ideal Cert.DwOutReferenceIdeal.S1024x1024 .f32 :=
  open Cert.DwOutReferenceIdeal Cert.DwOutReferenceIdeal.Facts₀ in
  transpose S1024x1024 [1, 0] (Host.dotGeneral dot_S8192x1024_S8192x1024_S1024x1024_0_0_1_1_n_n none (extf .f32 b bitsLt_bf16_f32) (extf .f32 a bitsLt_bf16_f32)) transposes_S1024x1024_S1024x1024_1_0

theorem reference_apply (a : FVec Ideal Cert.DwOutReferenceIdeal.S8192x1024 .bf16) (b : FVec Ideal Cert.DwOutReferenceIdeal.S8192x1024 .bf16) (i : Fin 1024) (j : Fin 1024) :
    reference a b (ix2 i j) = ∑ k : Fin 8192, a (ix2 k i) * b (ix2 k j) := by
  refine Eq.trans (b := ∑ k : Fin 8192, b (ix2 k j) * a (ix2 k i)) ?_ (Finset.sum_congr rfl fun k _ => mul_comm _ _)
  pointwise [reference]

theorem equal : G2 m c = reference (lhs c m) (rhs c m) := by
  funext x
  obtain ⟨i, j, rfl⟩ : ∃ (i : Fin 1024) (j : Fin 1024), x = ix2 i j := ⟨x 0, x 1, (ix2_eta x).symm⟩
  exact (result c m i j).trans (reference_apply (lhs c m) (rhs c m) i j).symm

theorem algebraic : Cert.algebraic_DwOutIdeal_DwOutReferenceIdeal := by
  intro m ρ m' ρ' _ hagree
  refine ⟨_, run (F := Ideal) m ρ, ?_⟩
  refine (θ_run Cert.DwOutReferenceIdeal.defs _ _).mono (fun _ h c => ⟨?_, (h c).2⟩) (Cert.DwOutReferenceIdeal.Value.run (F := Ideal) m' ρ')
  rw [(h c).1, (hagree c).1, (hagree c).2]
  exact (equal c m).symm

theorem frame_reference : Cert.quiescent_DwOutReferenceIdeal := fun m ρ _ =>
  (θ_run Cert.DwOutReferenceIdeal.defs _ _).mono (fun r h => ⟨fun c => (h c).2, sem_eq_zero_of_no_sems (by decide) r.2⟩)
    (Cert.DwOutReferenceIdeal.Value.run (F := Ideal) m ρ)

end Cert.DwOutIdeal.Product

end
-- ==== Proof.DwProj.lean ====
/- The product of the layer embedding's columns with the columns of its projection's gradient: the array the call leaves, entry by entry. -/
module

public import proofs.«01_k».proof.Proof.MatSum
public import proofs.«01_k».proof.Defs
public import proofs.«01_k».proof.Proof.Gen.DwProjIdeal.Value
public import proofs.«01_k».proof.Proof.Gen.DwProjReferenceIdeal.Run
public import Idealize.ShloMosaic.Lib.Quiescent
public import Idealize.ShloMosaic.Lib.Pipeline.ValueKit

@[expose] public section

set_option maxRecDepth 16384

noncomputable section

namespace Cert.DwProjIdeal.Product

open Cert.DwProjIdeal Cert.DwProjIdeal.Gen Cert.DwProjIdeal.Value Idealize.ShloMosaic Idealize.ShloMosaic.TcCoe Idealize.SL.Sem MatSum
open Idealize.ShloMosaic.Pipeline (Dat)

/-- One block's product added to the running sum. -/
theorem pay_apply (v : FVec Ideal S256x1024 .f32) (a : FVec Ideal S1024x256 .f32) (b : FVec Ideal S1024x1024 .bf16) (i : Fin 256) (j : Fin 1024) :
    k0_pay2 v a b (ix2 i j) = v (ix2 i j) + ∑ k : Fin 1024, a (ix2 k i) * b (ix2 k j) := by
  pointwise [k0_pay2]

theorem zero_apply (i : Fin 256) (j : Fin 1024) : (k0_pay1 : FVec Ideal S256x1024 .f32) (ix2 i j) = 0 := by
  pointwise [k0_pay1]

theorem hz : (![0, 0] : Fin 2 → Nat) = fun _ => 0 := funext fun a => by fin_cases a <;> rfl

variable {F : FTy → Type} [FloatOps F] (c : Dev nD)

/-- The first point of a block stores zero, reads it back and adds the block's product. -/
theorem sum_first (i a3 h3 a4 h4 a5 h5 a6 h6 hc0 hc1) (x0 : Vec F S1024x256 .f32) (x1 : Vec F S1024x1024 .bf16) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S256x1024) hz, View.readCov_unit_zero (S := S256x1024) _ hz]
  simp only [View.readAt_eq_ld, h3.read_unread, h4.read_unread, View.ld_unit_zero (S := S1024x256) hz, View.ld_unit_zero (S := S1024x1024) hz]

/-- A later point adds its product to what the point before left. -/
theorem sum_next (i a3 h3 a4 h4 a5 h5 a6 h6 hc0 hc1) (x0 : Vec F S1024x256 .f32) (x1 : Vec F S1024x1024 .bf16) (v : Vec F S256x1024 .f32) :
    sout0_B_0 c i a3 h3 a4 h4 a5 h5 a6 h6 hc0 hc1 x0 x1 v = k0_pay2 v x0 x1 := by
  unfold sout0_B_0
  rw [View.read_writes_eq_canon _ _ _ (scover0_B_0 c i a3 h3 a4 h4 a5 h5 a6 h6 hc0 hc1 x0 x1 v)]
  unfold kernelRun0_B
  dsimp only
  rw [View.canon_unit_zero hz]
  simp only [View.readAt_eq_ld, h3.read_unread, h4.read_unread, h6.read_unread, View.ld_unit_zero (S := S1024x256) hz, View.ld_unit_zero (S := S1024x1024) hz, View.ld_unit_zero (S := S256x1024) hz]

/-- So does the last point … -/
theorem sum_last (i a3 h3 a4 h4 a5 h5 a6 h6 hc0 hc1) (x0 : Vec F S1024x256 .f32) (x1 : Vec F S1024x1024 .bf16) (v : Vec F S256x1024 .f32) :
    sout0_C_0 c i a3 h3 a4 h4 a5 h5 a6 h6 hc0 hc1 x0 x1 v = k0_pay2 v x0 x1 := by
  unfold sout0_C_0
  rw [View.read_writes_eq_canon _ _ _ (scover0_C_0 c i a3 h3 a4 h4 a5 h5 a6 h6 hc0 hc1 x0 x1 v)]
  unfold kernelRun0_C
  dsimp only
  sl_unfold_words
  rw [View.canon_unit_zero hz]
  simp only [View.readAt_eq_ld, h3.read_unread, h4.read_unread, h6.read_unread, View.ld_unit_zero (S := S1024x256) hz, View.ld_unit_zero (S := S1024x1024) hz, View.ld_unit_zero (S := S256x1024) hz]

/-- … which copies the sum to the result's block. -/
theorem out_last (i a3 h3 a4 h4 a5 h5 a6 h6 hc0 hc1) (x0 : Vec F S1024x256 .f32) (x1 : Vec F S1024x1024 .bf16) (v : Vec F S256x1024 .f32) :
    out0_C_2 c i a3 h3 a4 h4 a5 h5 a6 h6 hc0 hc1 x0 x1 v = k0_pay2 v x0 x1 := by
  unfold out0_C_2
  rw [View.read_writes_eq_canon _ _ _ (cover0_C_2 c i a3 h3 a4 h4 a5 h5 a6 h6 hc0 hc1 x0 x1 v)]
  unfold kernelRun0_C
  dsimp only
  sl_unfold_words
  rw [View.canon_unit_zero hz, View.readCov_unit_zero (S := S256x1024) _ hz]
  simp only [View.readAt_eq_ld, h3.read_unread, h4.read_unread, h6.read_unread, View.ld_unit_zero (S := S1024x256) hz, View.ld_unit_zero (S := S1024x1024) hz, View.ld_unit_zero (S := S256x1024) hz]

variable (m : (ℓ : Loc nD τ sig) → Buf (Elt Ideal) ℓ)

/-- The two operands. -/
abbrev lhs : FVec Ideal ⟨2, ![8192, 256]⟩ .f32 := m ((c : Thread nD τ).loc main_arg0)
abbrev rhs : FVec Ideal ⟨2, ![8192, 1024]⟩ .bf16 := m ((c : Thread nD τ).loc main_arg1)

/-- Where each operand's block lies at a point. -/
theorem index : ∀ t : Fin cfg0.N, win0_0.index t = ![t.val % 8, t.val / 8 / 1] ∧ win0_1.index t = ![t.val % 8, t.val / 8 % 1] :=
  (by decide +kernel : ∀ t : Fin grid0.N, _)

theorem iblk_lhs (t : Fin cfg0.N) (k : Fin 1024) (i : Fin 256) :
    iblk m c 0 t (ix2 k i) = at2 (lhs c m) (t.val % 8 * 1024 + k.val) (t.val / 8 / 1 * 256 + i.val) := by
  have ht : t.val < 8 := t.isLt
  have hk := k.isLt
  have hi := i.isLt
  rw [at2_eq _ (by omega) (by omega)]
  blk_ext [iblk, index t]

theorem iblk_rhs (t : Fin cfg0.N) (k : Fin 1024) (j : Fin 1024) :
    iblk m c 1 t (ix2 k j) = at2 (rhs c m) (t.val % 8 * 1024 + k.val) (t.val / 8 % 1 * 1024 + j.val) := by
  have ht : t.val < 8 := t.isLt
  have hk := k.isLt
  have hj := j.isLt
  rw [at2_eq _ (by omega) (by omega)]
  blk_ext [iblk, index t]

/-- What point `n` adds to the sum's entry. -/
def addend (n : ℕ) (i : S256x1024.Idx) : EReal :=
  ∑ k : Fin 1024, at2 (lhs c m) (n % 8 * 1024 + k.val) (n / 8 / 1 * 256 + (i 0).val) * at2 (rhs c m) (n % 8 * 1024 + k.val) (n / 8 % 1 * 1024 + (i 1).val)

theorem pay_iblk (t : Fin cfg0.N) (v : FVec Ideal S256x1024 .f32) (i : S256x1024.Idx) :
    k0_pay2 v (iblk m c 0 t) (iblk m c 1 t) i = v i + addend c m t.val i := by
  obtain ⟨p, q, rfl⟩ : ∃ p q, i = ix2 p q := ⟨i 0, i 1, (ix2_eta i).symm⟩
  refine (pay_apply v (iblk m c 0 t) (iblk m c 1 t) p q).trans ?_
  refine congrArg (v (ix2 p q) + ·) (Finset.sum_congr rfl fun k _ => ?_)
  exact congrArg₂ (· * ·) (iblk_lhs c m t k p) (iblk_rhs c m t k q)

/-- What the running sum holds at a block's last point. -/
theorem sum_at (t : Fin cfg0.N) (ht : t.val % 8 = 7) (i : S256x1024.Idx) :
    (outsAt0 m c t.val t.isLt).2 i = ∑ s ∈ Finset.range 8, addend c m (8 * (t.val / 8) + s) i := by
  have hN : t.val < 8 := t.isLt
  rw [soutsAt0_0_eq]
  refine (Pipeline.accAt_add_apply _ _ (fun _ => 0) (addend c m) (8 * (t.val / 8)) 7 ?_ ?_ (t.val % 8) (by omega) _ i).trans ?_
  · intro h i
    show scAt0_0 m c _ _ _ i = _
    unfold scAt0_0
    rw [dif_pos (by omega), dif_neg (by omega), sum_first]
    refine (pay_iblk c m ⟨_, h⟩ _ i).trans (congrArg (· + _) ?_)
    exact (congrArg _ (ix2_eta i).symm).trans (zero_apply (i 0) (i 1))
  · intro n h acc i h0 h1
    unfold scAt0_0
    rw [dif_neg (by omega)]
    split
    · rw [sum_last]
      exact pay_iblk c m ⟨n, h⟩ acc i
    · rw [sum_next]
      exact pay_iblk c m ⟨n, h⟩ acc i
  · rw [zero_add, ht]

/-- The result's block at its last point: the sum of the block's products. -/
theorem block_at (n : ℕ) (hn : n < cfg0.N) (hm : n % 8 = 7) (i : S256x1024.Idx) :
    (outsAt0 m c n hn).1 i = ∑ s ∈ Finset.range 8, addend c m (8 * (n / 8) + s) i := by
  have e : (outsAt0 m c n hn).1 = (outsAt0 m c n hn).2 := by
    rw [outsAt0_C m c ⟨n, hn⟩ (by dsimp only; omega) hm]
    dsimp only
    rw [out_last, sum_last]
  exact (congrFun e i).trans (sum_at c m ⟨n, hn⟩ hm i)

/-- The blocks' products are one over all rows. -/
theorem addends (i : Fin 256) (j : Fin 1024) (b : ℕ) (hb : b = 1 * (i.val / 256) + j.val / 1024) (x : S256x1024.Idx) (h0 : (x 0).val = i.val % 256) (h1 : (x 1).val = j.val % 1024) :
    ∑ s ∈ Finset.range 8, addend c m (8 * b + s) x = ∑ k : Fin 8192, lhs c m (ix2 k i) * rhs c m (ix2 k j) := by
  have hi := i.isLt
  have hj := j.isLt
  refine Eq.trans ?_ ((blocks_all (fun k => at2 (lhs c m) k i.val * at2 (rhs c m) k j.val) 8 1024 (N := 8192) rfl).trans ?_)
  · refine Finset.sum_congr rfl fun s hs => Finset.sum_congr rfl fun k _ => ?_
    have hs' := Finset.mem_range.mp hs
    have e1 : (8 * b + s) % 8 = s := by omega
    have e2 : (8 * b + s) / 8 / 1 * 256 + (x 0).val = i.val := by omega
    have e3 : (8 * b + s) / 8 % 1 * 1024 + (x 1).val = j.val := by omega
    rw [e2, e1, e3]
  · exact Finset.sum_congr rfl fun k _ => congrArg₂ (· * ·) (at2_fin (lhs c m) k i) (at2_fin (rhs c m) k j)

theorem pt_eq (i : Fin 256) (j : Fin 1024) : pt2Of (ix2 i j) = 8 * (1 * (i.val / 256) + j.val / 1024) + 7 := by
  have hj := j.isLt
  show 8 * (1 * (i.val / 256 - 0) + 1 * (j.val / 1024 - 0)) + 7 = _
  omega

/-- THE PRODUCT: entry `(i, j)` of the call's array. -/
theorem result (i : Fin 256) (j : Fin 1024) :
    G2 m c (ix2 i j) = ∑ k : Fin 8192, lhs c m (ix2 k i) * rhs c m (ix2 k j) := by
  have hi := i.isLt
  have hp := pt_eq i j
  have hN : pt2Of (ix2 i j) < cfg0.N := by rw [hp]; show _ < 8; omega
  unfold G2
  rw [dif_pos hN, ← outsAt0_sweep m c (pt2Of (ix2 i j)) hN]
  refine (block_at c m _ hN (by rw [hp]; omega) _).trans (addends c m i j _ (by rw [hp]; omega) _ rfl rfl)

/-- The reference: the same product on the host. -/
def reference (a : FVec Ideal Cert.DwProjReferenceIdeal.S8192x256 .f32) (b : FVec Ideal Cert.DwProjReferenceIdeal.S8192x1024 .bf16) : FVec Ideal Cert.DwProjReferenceIdeal.S256x1024 .f32 :=
  open Cert.DwProjReferenceIdeal Cert.DwProjReferenceIdeal.Facts₀ in
  transpose S256x1024 [1, 0] (Host.dotGeneral dot_S8192x1024_S8192x256_S1024x256_0_0_1_1_n_n none (extf .f32 b Cert.DwProjReferenceIdeal.Facts₀.bitsLt_bf16_f32) a) transposes_S1024x256_S256x1024_1_0

theorem reference_apply (a : FVec Ideal Cert.DwProjReferenceIdeal.S8192x256 .f32) (b : FVec Ideal Cert.DwProjReferenceIdeal.S8192x1024 .bf16) (i : Fin 256) (j : Fin 1024) :
    reference a b (ix2 i j) = ∑ k : Fin 8192, a (ix2 k i) * b (ix2 k j) := by
  refine Eq.trans (b := ∑ k : Fin 8192, b (ix2 k j) * a (ix2 k i)) ?_ (Finset.sum_congr rfl fun k _ => mul_comm _ _)
  pointwise [reference]

theorem equal : G2 m c = reference (lhs c m) (rhs c m) := by
  funext x
  obtain ⟨i, j, rfl⟩ : ∃ (i : Fin 256) (j : Fin 1024), x = ix2 i j := ⟨x 0, x 1, (ix2_eta x).symm⟩
  exact (result c m i j).trans (reference_apply (lhs c m) (rhs c m) i j).symm

theorem algebraic : Cert.algebraic_DwProjIdeal_DwProjReferenceIdeal := by
  intro m ρ m' ρ' _ hagree
  refine ⟨_, run (F := Ideal) m ρ, ?_⟩
  refine (θ_run Cert.DwProjReferenceIdeal.defs _ _).mono (fun _ h c => ⟨?_, (h c).2⟩) (Cert.DwProjReferenceIdeal.Value.run (F := Ideal) m' ρ')
  rw [(h c).1, (hagree c).1, (hagree c).2]
  exact (equal c m).symm

theorem frame_reference : Cert.quiescent_DwProjReferenceIdeal := fun m ρ _ =>
  (θ_run Cert.DwProjReferenceIdeal.defs _ _).mono (fun r h => ⟨fun c => (h c).2, sem_eq_zero_of_no_sems (by decide) r.2⟩)
    (Cert.DwProjReferenceIdeal.Value.run (F := Ideal) m ρ)

end Cert.DwProjIdeal.Product

end
-- ==== Proof.FfnUp.lean ====
/- The product of the rows with the weight's columns, held in four parts: the array the call leaves, entry by entry. -/
module

public import proofs.«01_k».proof.Proof.MatSum
public import proofs.«01_k».proof.Proof.SideBySide
public import proofs.«01_k».proof.Defs
public import proofs.«01_k».proof.Proof.Gen.FfnUpIdeal.Value
public import proofs.«01_k».proof.Proof.Gen.FfnUpReferenceIdeal.Run
public import Idealize.ShloMosaic.Lib.Quiescent
public import Idealize.ShloMosaic.Lib.Pipeline.ValueKit

@[expose] public section

set_option maxRecDepth 16384

noncomputable section

namespace Cert.FfnUpIdeal.Product

open Cert.FfnUpIdeal Cert.FfnUpIdeal.Gen Cert.FfnUpIdeal.Value Idealize.ShloMosaic Idealize.ShloMosaic.TcCoe Idealize.SL.Sem MatSum Cert.SideBySide
open Idealize.ShloMosaic.Pipeline (Dat)

/-- One block's product added to the sum so far. -/
theorem pay_apply (v : FVec Ideal S1024x1408 .f32) (a : FVec Ideal S1024x1024 .bf16) (b : FVec Ideal S1x1024x1408 .bf16) (i : Fin 1024) (j : Fin 1408) :
    k0_pay2 v a b (ix2 i j) = v (ix2 i j) + ∑ k : Fin 1024, a (ix2 i k) * b (ix3 0 k j) := by
  pointwise [k0_pay2]

theorem zero_apply (i : Fin 1024) (j : Fin 1408) : (k0_pay1 : FVec Ideal S1024x1408 .f32) (ix2 i j) = 0 := by
  pointwise [k0_pay1]

theorem hz : (![0, 0] : Fin 2 → Nat) = fun _ => 0 := funext fun a => by fin_cases a <;> rfl

theorem hz3 : (![0, 0, 0] : Fin 3 → Nat) = fun _ => 0 := funext fun a => by fin_cases a <;> rfl

variable {F : FTy → Type} [FloatOps F] (c : Dev nD)

/-- A point stores zero, reads it back, adds the block's product and copies the sum to the result's block. -/
theorem out_point (i a3 h3 a4 h4 a5 h5 a6 h6 hc0 hc1) (x0 : Vec F S1024x1024 .bf16) (x1 : Vec F S1x1024x1408 .bf16) :
    out0_A_2 c i a3 h3 a4 h4 a5 h5 a6 h6 hc0 hc1 x0 x1 = k0_pay2 k0_pay1 x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz, View.readCov_cons_toLoadRect, View.readCov_unit_zero (S := S1024x1408) _ hz]
  simp only [View.readAt_eq_ld, h3.read_unread, h4.read_unread, View.ld_unit_zero (S := S1024x1024) hz, View.ld_unit_zero (S := S1x1024x1408) hz3]

variable (m : (ℓ : Loc nD τ sig) → Buf (Elt Ideal) ℓ)

/-- The two operands. -/
abbrev lhs : FVec Ideal ⟨2, ![8192, 1024]⟩ .bf16 := m ((c : Thread nD τ).loc main_arg0)
abbrev rhs : FVec Ideal ⟨3, ![4, 1024, 1408]⟩ .bf16 := m ((c : Thread nD τ).loc main_arg1)

/-- Column `j` of the weight, its parts set side by side, at row `k`. -/
def right (j k : ℕ) : EReal := at3 (rhs c m) (j / 1408) k (j % 1408)

/-- Where each array's block lies at a point. -/
theorem index : ∀ t : Fin cfg0.N, win0_0.index t = ![t.val / 4, 0] ∧ win0_1.index t = ![t.val % 4, 0, 0] ∧ win0_2.index t = ![t.val / 4, t.val % 4] :=
  (by decide +kernel : ∀ t : Fin grid0.N, _)

theorem iblk_lhs (t : Fin cfg0.N) (i : Fin 1024) (k : Fin 1024) :
    iblk m c 0 t (ix2 i k) = at2 (lhs c m) (t.val / 4 * 1024 + i.val) k.val := by
  have ht : t.val < 32 := t.isLt
  have hk := k.isLt
  have hi := i.isLt
  rw [at2_eq _ (by omega) (by omega)]
  blk_ext [iblk, index t]

theorem iblk_rhs (t : Fin cfg0.N) (j : Fin 1408) (k : Fin 1024) :
    iblk m c 1 t (ix3 0 k j) = right c m (t.val % 4 * 1408 + j.val) k.val := by
  have ht : t.val < 32 := t.isLt
  have hk := k.isLt
  have hj := j.isLt
  unfold right
  rw [at3_eq _ (by omega) (by omega) (by omega)]
  blk_ext [iblk, index t]

/-- What a point writes. -/
theorem point (t : Fin cfg0.N) (i : Fin 1024) (j : Fin 1408) :
    outsAt0 m c t (ix2 i j) = ∑ k : Fin 1024, at2 (lhs c m) (t.val / 4 * 1024 + i.val) k.val * right c m (t.val % 4 * 1408 + j.val) k.val := by
  unfold outsAt0
  rw [out_point]
  refine (pay_apply _ _ _ i j).trans ?_
  rw [zero_apply, zero_add]
  exact Finset.sum_congr rfl fun k _ => congrArg₂ (· * ·) (iblk_lhs c m t i k) (iblk_rhs c m t j k)

/-- THE PRODUCT: the call's array. -/
def whole : FVec Ideal ⟨2, ![8192, 5632]⟩ .f32 := fun i => ∑ k : Fin 1024, at2 (lhs c m) (i 0).val k.val * right c m (i 1).val k.val

theorem result : (dats m 0 c).arrAt 2 cfg0.N = whole c m := by
  refine (dats m 0 c).arrAt_eq_of_covers 2 _ (by decide +kernel) fun t hf y => ?_
  have ht : t.val < 32 := t.isLt
  unfold whole
  blk_simp [index t]
  rw [after0_2]
  idx_vars y
  exact point c m t y0 y1

/-- The reference: the same product on the host. -/
def reference (a : FVec Ideal Cert.FfnUpReferenceIdeal.S8192x1024 .bf16) (b : FVec Ideal Cert.FfnUpReferenceIdeal.S4x1024x1408 .bf16) : FVec Ideal Cert.FfnUpReferenceIdeal.S8192x5632 .f32 :=
  Host.dotGeneral Cert.FfnUpReferenceIdeal.dot_S8192x1024_S1024x5632_S8192x5632_1_0_0_1_n_n none (extf .f32 a Cert.FfnUpReferenceIdeal.Facts₀.bitsLt_bf16_f32) (extf .f32 (wide4 b) Cert.FfnUpReferenceIdeal.Facts₀.bitsLt_bf16_f32)

theorem reference_apply (a : FVec Ideal Cert.FfnUpReferenceIdeal.S8192x1024 .bf16) (b : FVec Ideal Cert.FfnUpReferenceIdeal.S4x1024x1408 .bf16) (i : Fin 8192) (j : Fin 5632) :
    reference a b (ix2 i j) = ∑ k : Fin 1024, a (ix2 i k) * wide4 b (ix2 k j) := by
  pointwise [reference]

theorem equal : whole c m = reference (lhs c m) (rhs c m) := by
  funext x
  obtain ⟨i, j, rfl⟩ : ∃ (i : Fin 8192) (j : Fin 5632), x = ix2 i j := ⟨x 0, x 1, (ix2_eta x).symm⟩
  refine Eq.trans ?_ (reference_apply (lhs c m) (rhs c m) i j).symm
  unfold whole
  refine Finset.sum_congr rfl fun k _ => congrArg₂ (· * ·) (at2_fin (lhs c m) i k) ?_
  exact (wide4_apply (rhs c m) k j).symm

theorem algebraic : Cert.algebraic_FfnUpIdeal_FfnUpReferenceIdeal := by
  intro m ρ m' ρ' _ hagree
  refine ⟨_, run_blocks (F := Ideal) m ρ, ?_⟩
  refine (θ_run Cert.FfnUpReferenceIdeal.defs _ _).mono (fun _ h c => ⟨?_, (h c).2⟩) (Cert.FfnUpReferenceIdeal.Value.run (F := Ideal) m' ρ')
  rw [(h c).1, (hagree c).1, (hagree c).2]
  exact ((result c m).trans (equal c m)).symm

theorem frame_reference : Cert.quiescent_FfnUpReferenceIdeal := fun m ρ _ =>
  (θ_run Cert.FfnUpReferenceIdeal.defs _ _).mono (fun r h => ⟨fun c => (h c).2, sem_eq_zero_of_no_sems (by decide) r.2⟩)
    (Cert.FfnUpReferenceIdeal.Value.run (F := Ideal) m ρ)

end Cert.FfnUpIdeal.Product

end
-- ==== Proof.Proj.lean ====
/- The product of the rows with the projection's columns: the array the call leaves, entry by entry. -/
module

public import proofs.«01_k».proof.Proof.MatSum
public import proofs.«01_k».proof.Defs
public import proofs.«01_k».proof.Proof.Gen.ProjIdeal.Value
public import proofs.«01_k».proof.Proof.Gen.ProjReferenceIdeal.Run
public import Idealize.ShloMosaic.Lib.Quiescent
public import Idealize.ShloMosaic.Lib.Pipeline.ValueKit

@[expose] public section

set_option maxRecDepth 16384

noncomputable section

namespace Cert.ProjIdeal.Product

open Cert.ProjIdeal Cert.ProjIdeal.Gen Cert.ProjIdeal.Value Idealize.ShloMosaic Idealize.ShloMosaic.TcCoe Idealize.SL.Sem MatSum
open Idealize.ShloMosaic.Pipeline (Dat)

/-- One block's product added to the sum so far. -/
theorem pay_apply (v : FVec Ideal S1024x1024 .f32) (a : FVec Ideal S1024x1024 .bf16) (b : FVec Ideal S1024x1024 .bf16) (i : Fin 1024) (j : Fin 1024) :
    k0_pay2 v a b (ix2 i j) = v (ix2 i j) + ∑ k : Fin 1024, a (ix2 i k) * b (ix2 k j) := by
  pointwise [k0_pay2]

theorem zero_apply (i : Fin 1024) (j : Fin 1024) : (k0_pay1 : FVec Ideal S1024x1024 .f32) (ix2 i j) = 0 := by
  pointwise [k0_pay1]

theorem hz : (![0, 0] : Fin 2 → Nat) = fun _ => 0 := funext fun a => by fin_cases a <;> rfl

variable {F : FTy → Type} [FloatOps F] (c : Dev nD)

/-- A point stores zero, reads it back, adds the block's product and copies the sum to the result's block. -/
theorem out_point (i a3 h3 a4 h4 a5 h5 a6 h6 hc0 hc1) (x0 : Vec F S1024x1024 .bf16) (x1 : Vec F S1024x1024 .bf16) :
    out0_A_2 c i a3 h3 a4 h4 a5 h5 a6 h6 hc0 hc1 x0 x1 = k0_pay2 k0_pay1 x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz, View.readCov_cons_toLoadRect, View.readCov_unit_zero (S := S1024x1024) _ hz]
  simp only [View.readAt_eq_ld, h3.read_unread, h4.read_unread, View.ld_unit_zero (S := S1024x1024) hz]

variable (m : (ℓ : Loc nD τ sig) → Buf (Elt Ideal) ℓ)

/-- The two operands. -/
abbrev lhs : FVec Ideal ⟨2, ![8192, 1024]⟩ .bf16 := m ((c : Thread nD τ).loc main_arg0)
abbrev rhs : FVec Ideal ⟨2, ![1024, 3072]⟩ .bf16 := m ((c : Thread nD τ).loc main_arg1)

/-- Column `j` of the weight at row `k`. -/
def right (j k : ℕ) : EReal := at2 (rhs c m) k j

/-- Where each array's block lies at a point. -/
theorem index : ∀ t : Fin cfg0.N, win0_0.index t = ![t.val / 3, 0] ∧ win0_1.index t = ![0, t.val % 3] ∧ win0_2.index t = ![t.val / 3, t.val % 3] :=
  (by decide +kernel : ∀ t : Fin grid0.N, _)

theorem iblk_lhs (t : Fin cfg0.N) (i : Fin 1024) (k : Fin 1024) :
    iblk m c 0 t (ix2 i k) = at2 (lhs c m) (t.val / 3 * 1024 + i.val) k.val := by
  have ht : t.val < 24 := t.isLt
  have hk := k.isLt
  have hi := i.isLt
  rw [at2_eq _ (by omega) (by omega)]
  blk_ext [iblk, index t]

theorem iblk_rhs (t : Fin cfg0.N) (j : Fin 1024) (k : Fin 1024) :
    iblk m c 1 t (ix2 k j) = right c m (t.val % 3 * 1024 + j.val) k.val := by
  have ht : t.val < 24 := t.isLt
  have hk := k.isLt
  have hj := j.isLt
  unfold right
  rw [at2_eq _ (by omega) (by omega)]
  blk_ext [iblk, index t]

/-- What a point writes. -/
theorem point (t : Fin cfg0.N) (i : Fin 1024) (j : Fin 1024) :
    outsAt0 m c t (ix2 i j) = ∑ k : Fin 1024, at2 (lhs c m) (t.val / 3 * 1024 + i.val) k.val * right c m (t.val % 3 * 1024 + j.val) k.val := by
  unfold outsAt0
  rw [out_point]
  refine (pay_apply _ _ _ i j).trans ?_
  rw [zero_apply, zero_add]
  exact Finset.sum_congr rfl fun k _ => congrArg₂ (· * ·) (iblk_lhs c m t i k) (iblk_rhs c m t j k)

/-- THE PRODUCT: the call's array. -/
def whole : FVec Ideal ⟨2, ![8192, 3072]⟩ .f32 := fun i => ∑ k : Fin 1024, at2 (lhs c m) (i 0).val k.val * right c m (i 1).val k.val

theorem result : (dats m 0 c).arrAt 2 cfg0.N = whole c m := by
  refine (dats m 0 c).arrAt_eq_of_covers 2 _ (by decide +kernel) fun t hf y => ?_
  have ht : t.val < 24 := t.isLt
  unfold whole
  blk_simp [index t]
  rw [after0_2]
  idx_vars y
  exact point c m t y0 y1

/-- The reference: the same product on the host. -/
def reference (a : FVec Ideal Cert.ProjReferenceIdeal.S8192x1024 .bf16) (b : FVec Ideal Cert.ProjReferenceIdeal.S1024x3072 .bf16) : FVec Ideal Cert.ProjReferenceIdeal.S8192x3072 .f32 :=
  Host.dotGeneral Cert.ProjReferenceIdeal.dot_S8192x1024_S1024x3072_S8192x3072_1_0_0_1_n_n none (extf .f32 a Cert.ProjReferenceIdeal.Facts₀.bitsLt_bf16_f32) (extf .f32 b Cert.ProjReferenceIdeal.Facts₀.bitsLt_bf16_f32)

theorem reference_apply (a : FVec Ideal Cert.ProjReferenceIdeal.S8192x1024 .bf16) (b : FVec Ideal Cert.ProjReferenceIdeal.S1024x3072 .bf16) (i : Fin 8192) (j : Fin 3072) :
    reference a b (ix2 i j) = ∑ k : Fin 1024, a (ix2 i k) * b (ix2 k j) := by
  pointwise [reference]

theorem equal : whole c m = reference (lhs c m) (rhs c m) := by
  funext x
  obtain ⟨i, j, rfl⟩ : ∃ (i : Fin 8192) (j : Fin 3072), x = ix2 i j := ⟨x 0, x 1, (ix2_eta x).symm⟩
  refine Eq.trans ?_ (reference_apply (lhs c m) (rhs c m) i j).symm
  unfold whole
  refine Finset.sum_congr rfl fun k _ => congrArg₂ (· * ·) (at2_fin (lhs c m) i k) ?_
  exact at2_fin (rhs c m) k j

theorem algebraic : Cert.algebraic_ProjIdeal_ProjReferenceIdeal := by
  intro m ρ m' ρ' _ hagree
  refine ⟨_, run_blocks (F := Ideal) m ρ, ?_⟩
  refine (θ_run Cert.ProjReferenceIdeal.defs _ _).mono (fun _ h c => ⟨?_, (h c).2⟩) (Cert.ProjReferenceIdeal.Value.run (F := Ideal) m' ρ')
  rw [(h c).1, (hagree c).1, (hagree c).2]
  exact ((result c m).trans (equal c m)).symm

theorem frame_reference : Cert.quiescent_ProjReferenceIdeal := fun m ρ _ =>
  (θ_run Cert.ProjReferenceIdeal.defs _ _).mono (fun r h => ⟨fun c => (h c).2, sem_eq_zero_of_no_sems (by decide) r.2⟩)
    (Cert.ProjReferenceIdeal.Value.run (F := Ideal) m ρ)

end Cert.ProjIdeal.Product

end
-- ==== Proof.RowNorm.lean ====
/- The layer norm of one row of 1024 numbers and its gradient, as functions of the row. -/
module

public import Idealize.ShloMosaic.PureOps
public import Idealize.ShloMosaic.Lib.Pipeline.ValueKit

@[expose] public section

noncomputable section

namespace RowNorm

open Idealize.ShloMosaic

/-- A row. -/
abbrev Row := Fin 1024 → EReal

/-- Row `i` of a matrix, and the row number `n`; zero outside of it. -/
def row {a : ℕ} {φ : FTy} (A : FVec Ideal ⟨2, ![a, 1024]⟩ φ) (i : Fin a) : Row := fun j => A (ix2 i j)
def rowAt {a : ℕ} {φ : FTy} (A : FVec Ideal ⟨2, ![a, 1024]⟩ φ) (n : ℕ) : Row := if h : n < a then row A ⟨n, h⟩ else fun _ => 0

theorem rowAt_eq {a : ℕ} {φ : FTy} (A : FVec Ideal ⟨2, ![a, 1024]⟩ φ) {n : ℕ} (h : n < a) : rowAt A n = row A ⟨n, h⟩ := dif_pos h
theorem rowAt_fin {a : ℕ} {φ : FTy} (A : FVec Ideal ⟨2, ![a, 1024]⟩ φ) (i : Fin a) : rowAt A i.val = row A i := rowAt_eq A i.isLt

/-- Entry `n` of a row; zero outside of it. -/
def entry (r : Row) (n : ℕ) : EReal := if h : n < 1024 then r ⟨n, h⟩ else 0

theorem entry_fin (r : Row) (j : Fin 1024) : entry r j.val = r j := dif_pos j.isLt

/-- The row's length, the norm's small number, the weight of the residual and minus one half, as the programs spell them. -/
def len : EReal := Ideal.ofBits .f32 1149239296#32
def eps : EReal := Ideal.ofBits .f32 897988541#32
def alpha : EReal := Ideal.ofBits .f32 1066940400#32
def half : EReal := Ideal.ofBits .f32 3204448256#32

/-- The product of a row with a matrix, and with its transpose. -/
def times {φ : FTy} (u : Row) (w : FVec Ideal ⟨2, ![1024, 1024]⟩ φ) : Row := fun j => ∑ k : Fin 1024, u k * w (ix2 k j)
def timesT {φ : FTy} (u : Row) (w : FVec Ideal ⟨2, ![1024, 1024]⟩ φ) : Row := fun j => ∑ k : Fin 1024, u k * w (ix2 j k)

/-- The distance from the mean, the variance with the small number added, its inverse root, and the norm. -/
def dev (r : Row) : Row := fun j => r j - Ideal.div (∑ k : Fin 1024, r k) len
def spread (r : Row) : EReal := Ideal.div (∑ k : Fin 1024, dev r k * dev r k) len + eps
def scale (r : Row) : EReal := Ideal.rsqrt (spread r)
def norm (r g b : Row) : Row := fun j => dev r j * scale r * g j + b j

/-- The residual added to a product. -/
def mixed {φ : FTy} (x u : Row) (w : FVec Ideal ⟨2, ![1024, 1024]⟩ φ) : Row := fun j => alpha * x j + times u w j

/-- The norm's cotangent: its three uses, added. -/
def cot {φ : FTy} (x a u : Row) (w : FVec Ideal ⟨2, ![1024, 1024]⟩ φ) : Row := fun j => alpha * x j + a j + timesT u w j

/-- The derivative of the inverse root at the variance. -/
def slope (r : Row) : EReal := half * Ideal.div (scale r) (spread r)

/-- The share of the variance in the row's gradient. -/
def pull (r c : Row) : EReal := Ideal.div ((∑ k : Fin 1024, dev r k * c k) * slope r) len

/-- The gradient at the distances from the mean, and the row's gradient. -/
def dDev (r c : Row) : Row := fun j => c j * scale r + dev r j * pull r c + pull r c * dev r j
def dRow (r c : Row) : Row := fun j => dDev r c j + Ideal.div (∑ k : Fin 1024, -(dDev r c k)) len

end RowNorm

end
-- ==== Proof.MixLn.lean ====
/- The attention's output product with the residual and the layer norm: the arrays the call leaves, row by row. -/
module

public import proofs.«01_k».proof.Proof.RowNorm
public import proofs.«01_k».proof.Defs
public import proofs.«01_k».proof.Proof.Gen.MixLnIdeal.Value
public import proofs.«01_k».proof.Proof.Gen.MixLnReferenceIdeal.Run
public import Idealize.ShloMosaic.Lib.Quiescent
public import Idealize.ShloMosaic.Lib.Pipeline.ValueKit

@[expose] public section

set_option maxRecDepth 16384

noncomputable section

namespace Cert.MixLnIdeal.Product

open Cert.MixLnIdeal Cert.MixLnIdeal.Gen Cert.MixLnIdeal.Value Idealize.ShloMosaic Idealize.ShloMosaic.TcCoe Idealize.SL.Sem RowNorm
open Idealize.ShloMosaic.Pipeline (Dat)

section Payloads

variable (x : FVec Ideal S512x1024 .f32) (u : FVec Ideal S512x1024 .bf16) (w : FVec Ideal S1024x1024 .bf16) (g b : FVec Ideal S1x1024 .f32) (i : Fin 512) (j : Fin 1024)

/-- A point's first block: the residual and the product. -/
theorem mixed_apply : (k0_pay1 (F := Ideal) x u w : FVec Ideal S512x1024 .f32) (ix2 i j) = mixed (row x i) (row u i) w j := by
  pointwise [k0_pay1]
  rfl

/-- Its second block: the norm of the first one's rows. -/
theorem norm_apply : (k0_pay2 (F := Ideal) x u w g b : FVec Ideal S512x1024 .f32) (ix2 i j)
    = norm (mixed (row x i) (row u i) w) (row g 0) (row b 0) j := by
  pointwise [k0_pay2]
  simp only [mixed_apply]
  rfl

/-- Its third block: the second one, rounded. -/
theorem round_apply : (k0_pay3 (F := Ideal) x u w g b : FVec Ideal S512x1024 .bf16) (ix2 i j)
    = norm (mixed (row x i) (row u i) w) (row g 0) (row b 0) j := by
  refine Eq.trans ?_ (norm_apply x u w g b i j)
  pointwise [k0_pay3]

end Payloads

theorem hz : (![0, 0] : Fin 2 → Nat) = fun _ => 0 := funext fun a => by fin_cases a <;> rfl

variable (c : Dev nD) (m : (ℓ : Loc nD τ sig) → Buf (Elt Ideal) ℓ)

/-- The arguments. -/
abbrev res : FVec Ideal ⟨2, ![8192, 1024]⟩ .f32 := m ((c : Thread nD τ).loc main_arg0)
abbrev att : FVec Ideal ⟨2, ![8192, 1024]⟩ .bf16 := m ((c : Thread nD τ).loc main_arg1)
abbrev wgt : FVec Ideal ⟨2, ![1024, 1024]⟩ .bf16 := m ((c : Thread nD τ).loc main_arg2)
abbrev gain : FVec Ideal ⟨2, ![1, 1024]⟩ .f32 := m ((c : Thread nD τ).loc main_arg3)
abbrev bias : FVec Ideal ⟨2, ![1, 1024]⟩ .f32 := m ((c : Thread nD τ).loc main_arg4)

/-- Where each array's block lies at a point. -/
theorem index : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

theorem iblk_res (t : Fin cfg0.N) (i : Fin 512) : row (φ := .f32) (iblk m c 0 t : FVec Ideal S512x1024 .f32) i = rowAt (res c m) (t.val * 512 + i.val) := by
  have ht : t.val < 16 := t.isLt
  have hi := i.isLt
  rw [rowAt_eq _ (by omega)]
  funext j
  show (iblk m c 0 t : FVec Ideal S512x1024 .f32) (ix2 i j) = res c m (ix2 ⟨_, _⟩ j)
  blk_ext [iblk, index t]

theorem iblk_att (t : Fin cfg0.N) (i : Fin 512) : row (φ := .bf16) (iblk m c 1 t : FVec Ideal S512x1024 .bf16) i = rowAt (att c m) (t.val * 512 + i.val) := by
  have ht : t.val < 16 := t.isLt
  have hi := i.isLt
  rw [rowAt_eq _ (by omega)]
  funext j
  show (iblk m c 1 t : FVec Ideal S512x1024 .bf16) (ix2 i j) = att c m (ix2 ⟨_, _⟩ j)
  blk_ext [iblk, index t]

theorem iblk_wgt (t : Fin cfg0.N) : (iblk m c 2 t : FVec Ideal S1024x1024 .bf16) = wgt c m := by
  funext y
  obtain ⟨i, j, rfl⟩ : ∃ (i : Fin 1024) (j : Fin 1024), y = ix2 i j := ⟨y 0, y 1, (ix2_eta y).symm⟩
  blk_ext [iblk, index t]

theorem iblk_gain (t : Fin cfg0.N) : row (φ := .f32) (iblk m c 3 t : FVec Ideal S1x1024 .f32) 0 = row (gain c m) 0 := by
  funext j
  show (iblk m c 3 t : FVec Ideal S1x1024 .f32) (ix2 0 j) = gain c m (ix2 0 j)
  blk_ext [iblk, index t]

theorem iblk_bias (t : Fin cfg0.N) : row (φ := .f32) (iblk m c 4 t : FVec Ideal S1x1024 .f32) 0 = row (bias c m) 0 := by
  funext j
  show (iblk m c 4 t : FVec Ideal S1x1024 .f32) (ix2 0 j) = bias c m (ix2 0 j)
  blk_ext [iblk, index t]

/-- Row `n` of the first array, and of the second and third ones. -/
def sumRow (n : ℕ) : Row := mixed (rowAt (res c m) n) (rowAt (att c m) n) (wgt c m)
def normRow (n : ℕ) : Row := norm (sumRow c m n) (row (gain c m) 0) (row (bias c m) 0)

/-- What a point writes. -/
theorem point_sum (t : Fin cfg0.N) (i : Fin 512) (j : Fin 1024) :
    out0_5 (F := Ideal) (iblk m c 0 t) (iblk m c 1 t) (iblk m c 2 t) (iblk m c 3 t) (iblk m c 4 t) (ix2 i j) = sumRow c m (t.val * 512 + i.val) j := by
  unfold out0_5
  rw [View.canon_unit_zero hz]
  simp only [View.ld_unit_zero (S := S512x1024) hz, View.ld_unit_zero (S := S1024x1024) hz]
  refine (mixed_apply _ _ _ i j).trans ?_
  rw [iblk_res, iblk_att, iblk_wgt]
  rfl

theorem point_norm (t : Fin cfg0.N) (i : Fin 512) (j : Fin 1024) :
    out0_6 (F := Ideal) (iblk m c 0 t) (iblk m c 1 t) (iblk m c 2 t) (iblk m c 3 t) (iblk m c 4 t) (ix2 i j) = normRow c m (t.val * 512 + i.val) j := by
  unfold out0_6
  rw [View.canon_unit_zero hz]
  simp only [View.ld_unit_zero (S := S512x1024) hz, View.ld_unit_zero (S := S1024x1024) hz, View.ld_unit_zero (S := S1x1024) hz]
  refine (norm_apply _ _ _ _ _ i j).trans ?_
  rw [iblk_res, iblk_att, iblk_wgt, iblk_gain, iblk_bias]
  rfl

theorem point_round (t : Fin cfg0.N) (i : Fin 512) (j : Fin 1024) :
    out0_7 (F := Ideal) (iblk m c 0 t) (iblk m c 1 t) (iblk m c 2 t) (iblk m c 3 t) (iblk m c 4 t) (ix2 i j) = normRow c m (t.val * 512 + i.val) j := by
  unfold out0_7
  rw [View.canon_unit_zero hz]
  simp only [View.ld_unit_zero (S := S512x1024) hz, View.ld_unit_zero (S := S1024x1024) hz, View.ld_unit_zero (S := S1x1024) hz]
  refine (round_apply _ _ _ _ _ i j).trans ?_
  rw [iblk_res, iblk_att, iblk_wgt, iblk_gain, iblk_bias]
  rfl

/-- THE CALL'S ARRAYS. -/
def sums : FVec Ideal ⟨2, ![8192, 1024]⟩ .f32 := fun i => entry (sumRow c m (i 0).val) (i 1).val
def norms : FVec Ideal ⟨2, ![8192, 1024]⟩ .f32 := fun i => entry (normRow c m (i 0).val) (i 1).val
def rounds : FVec Ideal ⟨2, ![8192, 1024]⟩ .bf16 := fun i => entry (normRow c m (i 0).val) (i 1).val

theorem sums_result : (dats m 0 c).arrAt 5 cfg0.N = sums c m := by
  refine (dats m 0 c).arrAt_eq_of_covers 5 _ (by decide +kernel) fun t hf y => ?_
  have ht : t.val < 16 := t.isLt
  unfold sums
  blk_simp [index t]
  rw [after0_5]
  idx_vars y
  exact (point_sum c m t y0 y1).trans (entry_fin _ y1).symm

theorem norms_result : (dats m 0 c).arrAt 6 cfg0.N = norms c m := by
  refine (dats m 0 c).arrAt_eq_of_covers 6 _ (by decide +kernel) fun t hf y => ?_
  have ht : t.val < 16 := t.isLt
  unfold norms
  blk_simp [index t]
  rw [after0_6]
  idx_vars y
  exact (point_norm c m t y0 y1).trans (entry_fin _ y1).symm

theorem rounds_result : (dats m 0 c).arrAt 7 cfg0.N = rounds c m := by
  refine (dats m 0 c).arrAt_eq_of_covers 7 _ (by decide +kernel) fun t hf y => ?_
  have ht : t.val < 16 := t.isLt
  unfold rounds
  blk_simp [index t]
  rw [after0_7]
  idx_vars y
  exact (point_round c m t y0 y1).trans (entry_fin _ y1).symm

section Reference

open Cert.MixLnReferenceIdeal Cert.MixLnReferenceIdeal.Facts₀

abbrev R2 := FVec Ideal Cert.MixLnReferenceIdeal.S8192x1024 .f32

/-- The reference's steps on the host: the residual and the product, … -/
def refSum (x : R2) (u : FVec Ideal Cert.MixLnReferenceIdeal.S8192x1024 .bf16) (w : FVec Ideal Cert.MixLnReferenceIdeal.S1024x1024 .bf16) : R2 :=
  addf (mulf (broadcastInDim Cert.MixLnReferenceIdeal.S8192x1024 ![] bcast_S_S8192x1024 (constant Cert.MixLnReferenceIdeal.S_ .f32 0x3F9837F0#32)) x)
    (Host.dotGeneral dot_S8192x1024_S1024x1024_S8192x1024_1_0_0_1_n_n none (extf .f32 u Cert.MixLnReferenceIdeal.Facts₀.bitsLt_bf16_f32) (extf .f32 w Cert.MixLnReferenceIdeal.Facts₀.bitsLt_bf16_f32))

/-- … a row's mean, … -/
def refMean (r : R2) : FVec Ideal Cert.MixLnReferenceIdeal.S8192x1 .f32 :=
  Host.divf (broadcastInDim Cert.MixLnReferenceIdeal.S8192x1 ![0] bcast_S8192_S8192x1_0 (Host.reduceAdd r (constant Cert.MixLnReferenceIdeal.S_ .f32 0x00000000#32) reducesTo_S8192x1024_S8192_d1 h_S_))
    (broadcastInDim Cert.MixLnReferenceIdeal.S8192x1 ![] bcast_S_S8192x1 (constant Cert.MixLnReferenceIdeal.S_ .f32 0x44800000#32))

/-- … the distances from it, … -/
def refDev (r : R2) : R2 := subf r (broadcastInDim Cert.MixLnReferenceIdeal.S8192x1024 ![0, 1] bcast_S8192x1_S8192x1024_0_1 (refMean r))

/-- … the inverse root of the variance, … -/
def refScale (r : R2) : FVec Ideal Cert.MixLnReferenceIdeal.S8192x1 .f32 :=
  Host.rsqrt (addf (refMean (mulf (refDev r) (refDev r))) (broadcastInDim Cert.MixLnReferenceIdeal.S8192x1 ![] bcast_S_S8192x1 (constant Cert.MixLnReferenceIdeal.S_ .f32 0x358637BD#32)))

/-- … a vector along the rows, … -/
def refAlong (g : FVec Ideal Cert.MixLnReferenceIdeal.S1x1024 .f32) : R2 :=
  broadcastInDim Cert.MixLnReferenceIdeal.S8192x1024 ![0, 1] bcast_S1x1024_S8192x1024_0_1 (broadcastInDim Cert.MixLnReferenceIdeal.S1x1024 ![1] bcast_S1024_S1x1024_1 (shapeCast _ g shapeCasts_S1x1024_S1024))

/-- … and the norm. -/
def refNorm (r : R2) (g b : FVec Ideal Cert.MixLnReferenceIdeal.S1x1024 .f32) : R2 :=
  addf (mulf (mulf (refDev r) (broadcastInDim Cert.MixLnReferenceIdeal.S8192x1024 ![0, 1] bcast_S8192x1_S8192x1024_0_1 (refScale r))) (refAlong g)) (refAlong b)

def refRound (r : R2) (g b : FVec Ideal Cert.MixLnReferenceIdeal.S1x1024 .f32) : FVec Ideal Cert.MixLnReferenceIdeal.S8192x1024 .bf16 :=
  truncf .bf16 (refNorm r g b) Cert.MixLnReferenceIdeal.Facts₀.bitsLt_bf16_f32

variable (i : Fin 8192) (j : Fin 1024)

theorem refSum_apply (x : R2) (u : FVec Ideal Cert.MixLnReferenceIdeal.S8192x1024 .bf16) (w : FVec Ideal Cert.MixLnReferenceIdeal.S1024x1024 .bf16) :
    refSum x u w (ix2 i j) = mixed (row x i) (row u i) w j := by
  pointwise [refSum]
  rfl
theorem refMean_apply (r : R2) (z : Fin 1) : refMean r (ix2 i z) = Ideal.div (∑ k : Fin 1024, row r i k) len := by
  pointwise [refMean]
  rfl
theorem refDev_apply (r : R2) : refDev r (ix2 i j) = dev (row r i) j := by
  pointwise [refDev]
  rw [refMean_apply]
  rfl
theorem refScale_apply (r : R2) (z : Fin 1) : refScale r (ix2 i z) = scale (row r i) := by
  pointwise [refScale]
  rw [refMean_apply]
  unfold scale spread
  refine congrArg (fun q => Ideal.rsqrt (Ideal.div q len + eps)) (Finset.sum_congr rfl fun k _ => ?_)
  exact congrArg₂ (· * ·) (refDev_apply i k r) (refDev_apply i k r)
theorem refAlong_apply (g : FVec Ideal Cert.MixLnReferenceIdeal.S1x1024 .f32) : refAlong g (ix2 i j) = row g 0 j := by
  pointwise [refAlong]
  rfl
theorem refNorm_apply (r : R2) (g b : FVec Ideal Cert.MixLnReferenceIdeal.S1x1024 .f32) : refNorm r g b (ix2 i j) = norm (row r i) (row g 0) (row b 0) j := by
  pointwise [refNorm]
  rw [refDev_apply, refScale_apply, refAlong_apply, refAlong_apply]
  rfl
theorem refRound_apply (r : R2) (g b : FVec Ideal Cert.MixLnReferenceIdeal.S1x1024 .f32) : refRound r g b (ix2 i j) = norm (row r i) (row g 0) (row b 0) j := by
  refine Eq.trans ?_ (refNorm_apply i j r g b)
  pointwise [refRound]

end Reference

theorem sums_equal : sums c m = refSum (res c m) (att c m) (wgt c m) := by
  funext x
  obtain ⟨i, j, rfl⟩ : ∃ (i : Fin 8192) (j : Fin 1024), x = ix2 i j := ⟨x 0, x 1, (ix2_eta x).symm⟩
  refine Eq.trans ?_ (refSum_apply i j _ _ _).symm
  refine (entry_fin (sumRow c m i.val) j).trans ?_
  unfold sumRow
  rw [rowAt_fin, rowAt_fin]

theorem row_sum (i : Fin 8192) : sumRow c m i.val = row (refSum (res c m) (att c m) (wgt c m)) i := by
  funext j
  exact (entry_fin (sumRow c m i.val) j).symm.trans (congrFun (sums_equal c m) (ix2 i j))

theorem norms_equal : norms c m = refNorm (refSum (res c m) (att c m) (wgt c m)) (gain c m) (bias c m) := by
  funext x
  obtain ⟨i, j, rfl⟩ : ∃ (i : Fin 8192) (j : Fin 1024), x = ix2 i j := ⟨x 0, x 1, (ix2_eta x).symm⟩
  refine Eq.trans ?_ (refNorm_apply i j _ _ _).symm
  refine (entry_fin (normRow c m i.val) j).trans ?_
  unfold normRow
  rw [row_sum]

theorem rounds_equal : rounds c m = refRound (refSum (res c m) (att c m) (wgt c m)) (gain c m) (bias c m) := by
  funext x
  obtain ⟨i, j, rfl⟩ : ∃ (i : Fin 8192) (j : Fin 1024), x = ix2 i j := ⟨x 0, x 1, (ix2_eta x).symm⟩
  refine Eq.trans ?_ (refRound_apply i j _ _ _).symm
  refine (entry_fin (normRow c m i.val) j).trans ?_
  unfold normRow
  rw [row_sum]

theorem algebraic : Cert.algebraic_MixLnIdeal_MixLnReferenceIdeal := by
  intro m ρ m' ρ' _ hagree
  refine ⟨_, _, _, run_blocks (F := Ideal) m ρ, ?_⟩
  refine (θ_run Cert.MixLnReferenceIdeal.defs _ _).mono (fun _ h c => ⟨?_, ?_, ?_, (h c).2.2.2⟩) (Cert.MixLnReferenceIdeal.Value.run (F := Ideal) m' ρ')
  · rw [(h c).1, (hagree c).1, (hagree c).2.1, (hagree c).2.2.1]
    exact ((sums_result c m).trans (sums_equal c m)).symm
  · rw [(h c).2.1, (hagree c).1, (hagree c).2.1, (hagree c).2.2.1, (hagree c).2.2.2.1, (hagree c).2.2.2.2]
    exact ((norms_result c m).trans (norms_equal c m)).symm
  · rw [(h c).2.2.1, (hagree c).1, (hagree c).2.1, (hagree c).2.2.1, (hagree c).2.2.2.1, (hagree c).2.2.2.2]
    exact ((rounds_result c m).trans (rounds_equal c m)).symm

theorem frame_reference : Cert.quiescent_MixLnReferenceIdeal := fun m ρ _ =>
  (θ_run Cert.MixLnReferenceIdeal.defs _ _).mono (fun r h => ⟨fun c => (h c).2.2.2, sem_eq_zero_of_no_sems (by decide) r.2⟩)
    (Cert.MixLnReferenceIdeal.Value.run (F := Ideal) m ρ)

end Cert.MixLnIdeal.Product

end
-- ==== Proof.LnBwd.lean ====
/- The gradient of the layer norm after the attention, with the two products beside it: the arrays the call leaves, row by row. -/
module

public import proofs.«01_k».proof.Proof.RowNorm
public import proofs.«01_k».proof.Proof.MatSum
public import proofs.«01_k».proof.Defs
public import proofs.«01_k».proof.Proof.Gen.LnBwdIdeal.Value
public import Idealize.ShloMosaic.Lib.Pipeline.ValueKit

@[expose] public section

set_option maxRecDepth 16384

noncomputable section

namespace Cert.LnBwdIdeal.Product

open Cert.LnBwdIdeal Cert.LnBwdIdeal.Gen Cert.LnBwdIdeal.Value Idealize.ShloMosaic Idealize.ShloMosaic.TcCoe Idealize.SL.Sem RowNorm
open Idealize.ShloMosaic.Pipeline (Dat)

section Payloads

variable (r x a : FVec Ideal S512x1024 .f32) (u : FVec Ideal S512x1024 .bf16) (w o : FVec Ideal S1024x1024 .bf16) (g p : FVec Ideal S1x1024 .f32) (i : Fin 512) (j : Fin 1024) (z : Fin 1)

/-- A point's intermediate blocks, row by row. -/
theorem cot_apply : (k0_pay3 (F := Ideal) x a u w : FVec Ideal S512x1024 .f32) (ix2 i j) = cot (row x i) (row a i) (row u i) w j := by
  pointwise [k0_pay3]
  rfl
theorem dev_apply : (k0_pay4 (F := Ideal) r : FVec Ideal S512x1024 .f32) (ix2 i j) = dev (row r i) j := by
  pointwise [k0_pay4]
  rfl
theorem spread_apply : (k0_pay5 (F := Ideal) r : FVec Ideal S512x1 .f32) (ix2 i z) = spread (row r i) := by
  pointwise [k0_pay5]
  simp only [dev_apply]
  rfl
theorem scale_apply : (k0_pay6 (F := Ideal) r : FVec Ideal S512x1 .f32) (ix2 i z) = scale (row r i) := by
  pointwise [k0_pay6]
  rw [spread_apply]
  rfl
theorem slope_apply : (k0_pay7 (F := Ideal) r : FVec Ideal S512x1 .f32) (ix2 i z) = slope (row r i) := by
  pointwise [k0_pay7]
  rw [spread_apply, scale_apply]
  rfl
theorem gained_apply : (k0_pay10 (F := Ideal) x a u w g : FVec Ideal S512x1024 .f32) (ix2 i j) = cot (row x i) (row a i) (row u i) w j * row g 0 j := by
  pointwise [k0_pay10]
  rw [cot_apply]
  rfl

/-- What the point adds to the bias's and to the gain's gradient. -/
theorem dbias_apply : (k0_pay8 (F := Ideal) x a u w : FVec Ideal S1x1024 .f32) (ix2 z j) = ∑ i : Fin 512, cot (row x i) (row a i) (row u i) w j := by
  pointwise [k0_pay8]
  simp only [cot_apply]
theorem dgain_apply : (k0_pay9 (F := Ideal) x a u w r : FVec Ideal S1x1024 .f32) (ix2 z j)
    = ∑ i : Fin 512, dev (row r i) j * scale (row r i) * cot (row x i) (row a i) (row u i) w j := by
  pointwise [k0_pay9]
  simp only [cot_apply, dev_apply, scale_apply]

/-- The rows' gradient. -/
theorem drow_apply (d : FVec Ideal S512x1024 .f32) (s l : FVec Ideal S512x1 .f32) (e : FVec Ideal S512x1024 .f32) (R C : Row)
    (hd : ∀ k, d (ix2 i k) = dev R k) (hs : ∀ z, s (ix2 i z) = scale R) (hl : ∀ z, l (ix2 i z) = slope R) (he : ∀ k, e (ix2 i k) = C k) :
    (k0_pay11 (F := Ideal) d s l e : FVec Ideal S512x1024 .f32) (ix2 i j) = dRow R C j := by
  pointwise [k0_pay11, hd, hs, hl, he]
  simp only [Fin.sum_univ_one, zero_sub]
  rfl

end Payloads

theorem hz : (![0, 0] : Fin 2 → Nat) = fun _ => 0 := funext fun a => by fin_cases a <;> rfl

section Points

variable {F : FTy → Type} [FloatOps F] (c : Dev nD)

/-- The rows' gradient, … -/
theorem out8_A (i a1 h1 a2 h2 a3 h3 a4 h4 a5 h5 a6 h6 a7 h7 a8 h8 a9 h9 a10 h10 a11 h11 a12 h12 a13 h13 hc0) (x0 x1 x2 : Vec F S512x1024 .f32) (x3 : Vec F S512x1024 .bf16) (x4 x5 : Vec F S1024x1024 .bf16) (x6 x7 : Vec F S1x1024 .f32) :
    out0_A_8 c i a1 h1 a2 h2 a3 h3 a4 h4 a5 h5 a6 h6 a7 h7 a8 h8 a9 h9 a10 h10 a11 h11 a12 h12 a13 h13 hc0 x0 x1 x2 x3 x4 x5 x6 x7 = k0_pay11 (k0_pay4 x0) (k0_pay6 x0) (k0_pay7 x0) (k0_pay10 x1 x2 x3 x4 x6) := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 hc0 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h12.read_unread, h13.read_unread, View.ld_unit_zero (S := S512x1024) hz, View.ld_unit_zero (S := S1024x1024) hz, View.ld_unit_zero (S := S1x1024) hz]
theorem out8_B (i a1 h1 a2 h2 a3 h3 a4 h4 a5 h5 a6 h6 a7 h7 a8 h8 a9 h9 a10 h10 a11 h11 a12 h12 a13 h13 hc0) (x0 x1 x2 : Vec F S512x1024 .f32) (x3 : Vec F S512x1024 .bf16) (x4 x5 : Vec F S1024x1024 .bf16) (x6 x7 : Vec F S1x1024 .f32) (y0 y1 : Vec F S1x1024 .f32) :
    out0_B_8 c i a1 h1 a2 h2 a3 h3 a4 h4 a5 h5 a6 h6 a7 h7 a8 h8 a9 h9 a10 h10 a11 h11 a12 h12 a13 h13 hc0 x0 x1 x2 x3 x4 x5 x6 x7 y0 y1 = k0_pay11 (k0_pay4 x0) (k0_pay6 x0) (k0_pay7 x0) (k0_pay10 x1 x2 x3 x4 x6) := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 hc0 x0 x1 x2 x3 x4 x5 x6 x7 y0 y1)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h12.read_unread, h13.read_unread, View.ld_unit_zero (S := S512x1024) hz, View.ld_unit_zero (S := S1024x1024) hz, View.ld_unit_zero (S := S1x1024) hz]

/-- … the same, rounded, … -/
theorem out9_A (i a1 h1 a2 h2 a3 h3 a4 h4 a5 h5 a6 h6 a7 h7 a8 h8 a9 h9 a10 h10 a11 h11 a12 h12 a13 h13 hc0) (x0 x1 x2 : Vec F S512x1024 .f32) (x3 : Vec F S512x1024 .bf16) (x4 x5 : Vec F S1024x1024 .bf16) (x6 x7 : Vec F S1x1024 .f32) :
    out0_A_9 c i a1 h1 a2 h2 a3 h3 a4 h4 a5 h5 a6 h6 a7 h7 a8 h8 a9 h9 a10 h10 a11 h11 a12 h12 a13 h13 hc0 x0 x1 x2 x3 x4 x5 x6 x7 = k0_pay12 (k0_pay4 x0) (k0_pay6 x0) (k0_pay7 x0) (k0_pay10 x1 x2 x3 x4 x6) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 hc0 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h12.read_unread, h13.read_unread, View.ld_unit_zero (S := S512x1024) hz, View.ld_unit_zero (S := S1024x1024) hz, View.ld_unit_zero (S := S1x1024) hz]
theorem out9_B (i a1 h1 a2 h2 a3 h3 a4 h4 a5 h5 a6 h6 a7 h7 a8 h8 a9 h9 a10 h10 a11 h11 a12 h12 a13 h13 hc0) (x0 x1 x2 : Vec F S512x1024 .f32) (x3 : Vec F S512x1024 .bf16) (x4 x5 : Vec F S1024x1024 .bf16) (x6 x7 : Vec F S1x1024 .f32) (y0 y1 : Vec F S1x1024 .f32) :
    out0_B_9 c i a1 h1 a2 h2 a3 h3 a4 h4 a5 h5 a6 h6 a7 h7 a8 h8 a9 h9 a10 h10 a11 h11 a12 h12 a13 h13 hc0 x0 x1 x2 x3 x4 x5 x6 x7 y0 y1 = k0_pay12 (k0_pay4 x0) (k0_pay6 x0) (k0_pay7 x0) (k0_pay10 x1 x2 x3 x4 x6) := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 hc0 x0 x1 x2 x3 x4 x5 x6 x7 y0 y1)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h12.read_unread, h13.read_unread, View.ld_unit_zero (S := S512x1024) hz, View.ld_unit_zero (S := S1024x1024) hz, View.ld_unit_zero (S := S1x1024) hz]

/-- … its product with the transposed weight, … -/
theorem out10_A (i a1 h1 a2 h2 a3 h3 a4 h4 a5 h5 a6 h6 a7 h7 a8 h8 a9 h9 a10 h10 a11 h11 a12 h12 a13 h13 hc0) (x0 x1 x2 : Vec F S512x1024 .f32) (x3 : Vec F S512x1024 .bf16) (x4 x5 : Vec F S1024x1024 .bf16) (x6 x7 : Vec F S1x1024 .f32) :
    out0_A_10 c i a1 h1 a2 h2 a3 h3 a4 h4 a5 h5 a6 h6 a7 h7 a8 h8 a9 h9 a10 h10 a11 h11 a12 h12 a13 h13 hc0 x0 x1 x2 x3 x4 x5 x6 x7 = k0_pay13 (k0_pay4 x0) (k0_pay6 x0) (k0_pay7 x0) (k0_pay10 x1 x2 x3 x4 x6) x5 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 hc0 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h12.read_unread, h13.read_unread, View.ld_unit_zero (S := S512x1024) hz, View.ld_unit_zero (S := S1024x1024) hz, View.ld_unit_zero (S := S1x1024) hz]
theorem out10_B (i a1 h1 a2 h2 a3 h3 a4 h4 a5 h5 a6 h6 a7 h7 a8 h8 a9 h9 a10 h10 a11 h11 a12 h12 a13 h13 hc0) (x0 x1 x2 : Vec F S512x1024 .f32) (x3 : Vec F S512x1024 .bf16) (x4 x5 : Vec F S1024x1024 .bf16) (x6 x7 : Vec F S1x1024 .f32) (y0 y1 : Vec F S1x1024 .f32) :
    out0_B_10 c i a1 h1 a2 h2 a3 h3 a4 h4 a5 h5 a6 h6 a7 h7 a8 h8 a9 h9 a10 h10 a11 h11 a12 h12 a13 h13 hc0 x0 x1 x2 x3 x4 x5 x6 x7 y0 y1 = k0_pay13 (k0_pay4 x0) (k0_pay6 x0) (k0_pay7 x0) (k0_pay10 x1 x2 x3 x4 x6) x5 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 hc0 x0 x1 x2 x3 x4 x5 x6 x7 y0 y1)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h12.read_unread, h13.read_unread, View.ld_unit_zero (S := S512x1024) hz, View.ld_unit_zero (S := S1024x1024) hz, View.ld_unit_zero (S := S1x1024) hz]

/-- … the gain's gradient, added to what the point before left (to zero at the first point), … -/
theorem out11_A (i a1 h1 a2 h2 a3 h3 a4 h4 a5 h5 a6 h6 a7 h7 a8 h8 a9 h9 a10 h10 a11 h11 a12 h12 a13 h13 hc0) (x0 x1 x2 : Vec F S512x1024 .f32) (x3 : Vec F S512x1024 .bf16) (x4 x5 : Vec F S1024x1024 .bf16) (x6 x7 : Vec F S1x1024 .f32) :
    out0_A_11 c i a1 h1 a2 h2 a3 h3 a4 h4 a5 h5 a6 h6 a7 h7 a8 h8 a9 h9 a10 h10 a11 h11 a12 h12 a13 h13 hc0 x0 x1 x2 x3 x4 x5 x6 x7 = k0_pay1 (k0_pay9 x1 x2 x3 x4 x0) k0_pay14 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 hc0 x0 x1 x2 x3 x4 x5 x6 x7)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h12.read_unread, h13.read_unread, View.ld_unit_zero (S := S512x1024) hz, View.ld_unit_zero (S := S1024x1024) hz, View.ld_unit_zero (S := S1x1024) hz]
theorem out11_B (i a1 h1 a2 h2 a3 h3 a4 h4 a5 h5 a6 h6 a7 h7 a8 h8 a9 h9 a10 h10 a11 h11 a12 h12 a13 h13 hc0) (x0 x1 x2 : Vec F S512x1024 .f32) (x3 : Vec F S512x1024 .bf16) (x4 x5 : Vec F S1024x1024 .bf16) (x6 x7 : Vec F S1x1024 .f32) (y0 y1 : Vec F S1x1024 .f32) :
    out0_B_11 c i a1 h1 a2 h2 a3 h3 a4 h4 a5 h5 a6 h6 a7 h7 a8 h8 a9 h9 a10 h10 a11 h11 a12 h12 a13 h13 hc0 x0 x1 x2 x3 x4 x5 x6 x7 y0 y1 = k0_pay1 (k0_pay9 x1 x2 x3 x4 x0) y0 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 hc0 x0 x1 x2 x3 x4 x5 x6 x7 y0 y1)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h12.read_unread, h13.read_unread, View.ld_unit_zero (S := S512x1024) hz, View.ld_unit_zero (S := S1024x1024) hz, View.ld_unit_zero (S := S1x1024) hz]

/-- … and the bias's. -/
theorem out12_A (i a1 h1 a2 h2 a3 h3 a4 h4 a5 h5 a6 h6 a7 h7 a8 h8 a9 h9 a10 h10 a11 h11 a12 h12 a13 h13 hc0) (x0 x1 x2 : Vec F S512x1024 .f32) (x3 : Vec F S512x1024 .bf16) (x4 x5 : Vec F S1024x1024 .bf16) (x6 x7 : Vec F S1x1024 .f32) :
    out0_A_12 c i a1 h1 a2 h2 a3 h3 a4 h4 a5 h5 a6 h6 a7 h7 a8 h8 a9 h9 a10 h10 a11 h11 a12 h12 a13 h13 hc0 x0 x1 x2 x3 x4 x5 x6 x7 = k0_pay2 (k0_pay8 x1 x2 x3 x4) k0_pay15 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 hc0 x0 x1 x2 x3 x4 x5 x6 x7)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h12.read_unread, h13.read_unread, View.ld_unit_zero (S := S512x1024) hz, View.ld_unit_zero (S := S1024x1024) hz, View.ld_unit_zero (S := S1x1024) hz]
theorem out12_B (i a1 h1 a2 h2 a3 h3 a4 h4 a5 h5 a6 h6 a7 h7 a8 h8 a9 h9 a10 h10 a11 h11 a12 h12 a13 h13 hc0) (x0 x1 x2 : Vec F S512x1024 .f32) (x3 : Vec F S512x1024 .bf16) (x4 x5 : Vec F S1024x1024 .bf16) (x6 x7 : Vec F S1x1024 .f32) (y0 y1 : Vec F S1x1024 .f32) :
    out0_B_12 c i a1 h1 a2 h2 a3 h3 a4 h4 a5 h5 a6 h6 a7 h7 a8 h8 a9 h9 a10 h10 a11 h11 a12 h12 a13 h13 hc0 x0 x1 x2 x3 x4 x5 x6 x7 y0 y1 = k0_pay2 (k0_pay8 x1 x2 x3 x4) y1 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 hc0 x0 x1 x2 x3 x4 x5 x6 x7 y0 y1)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h12.read_unread, h13.read_unread, View.ld_unit_zero (S := S512x1024) hz, View.ld_unit_zero (S := S1024x1024) hz, View.ld_unit_zero (S := S1x1024) hz]

end Points

end Cert.LnBwdIdeal.Product

end
-- ==== Proof.LnBwdVal.lean ====
/- The gradient of the layer norm after the attention: the arrays the call leaves, from what its points write. -/
module

public import proofs.«01_k».proof.Proof.LnBwd

@[expose] public section

set_option maxRecDepth 16384

noncomputable section

namespace Cert.LnBwdIdeal.Product

open Cert.LnBwdIdeal Cert.LnBwdIdeal.Gen Cert.LnBwdIdeal.Value Idealize.ShloMosaic Idealize.ShloMosaic.TcCoe Idealize.SL.Sem RowNorm
open Idealize.ShloMosaic.Pipeline (Dat)

variable (c : Dev nD) (m : (ℓ : Loc nD τ sig) → Buf (Elt Ideal) ℓ)

/-- The arguments: the norm's rows, the three cotangents, the two weights, the gain and the bias. -/
abbrev r1 : FVec Ideal ⟨2, ![8192, 1024]⟩ .f32 := m ((c : Thread nD τ).loc main_arg0)
abbrev dr2 : FVec Ideal ⟨2, ![8192, 1024]⟩ .f32 := m ((c : Thread nD τ).loc main_arg1)
abbrev da : FVec Ideal ⟨2, ![8192, 1024]⟩ .f32 := m ((c : Thread nD τ).loc main_arg2)
abbrev dg : FVec Ideal ⟨2, ![8192, 1024]⟩ .bf16 := m ((c : Thread nD τ).loc main_arg3)
abbrev wg : FVec Ideal ⟨2, ![1024, 1024]⟩ .bf16 := m ((c : Thread nD τ).loc main_arg4)
abbrev wo : FVec Ideal ⟨2, ![1024, 1024]⟩ .bf16 := m ((c : Thread nD τ).loc main_arg5)
abbrev gain : FVec Ideal ⟨2, ![1, 1024]⟩ .f32 := m ((c : Thread nD τ).loc main_arg6)
abbrev bias : FVec Ideal ⟨2, ![1, 1024]⟩ .f32 := m ((c : Thread nD τ).loc main_arg7)

/-- Where each array's block lies at a point. -/
theorem index : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![t.val, 0]
    ∧ win0_9.index t = ![t.val, 0] ∧ win0_10.index t = ![t.val, 0] ∧ win0_11.index t = ![0, 0] ∧ win0_12.index t = ![0, 0] :=
  (by decide +kernel : ∀ t : Fin grid0.N, _)

theorem iblk_r1 (t : Fin cfg0.N) (i : Fin 512) : row (φ := .f32) (iblk m c 0 t : FVec Ideal S512x1024 .f32) i = rowAt (r1 c m) (t.val * 512 + i.val) := by
  have ht : t.val < 16 := t.isLt
  have hi := i.isLt
  rw [rowAt_eq _ (by omega)]
  funext j
  show (iblk m c 0 t : FVec Ideal S512x1024 .f32) (ix2 i j) = r1 c m (ix2 ⟨_, _⟩ j)
  blk_ext [iblk, index t]

theorem iblk_dr2 (t : Fin cfg0.N) (i : Fin 512) : row (φ := .f32) (iblk m c 1 t : FVec Ideal S512x1024 .f32) i = rowAt (dr2 c m) (t.val * 512 + i.val) := by
  have ht : t.val < 16 := t.isLt
  have hi := i.isLt
  rw [rowAt_eq _ (by omega)]
  funext j
  show (iblk m c 1 t : FVec Ideal S512x1024 .f32) (ix2 i j) = dr2 c m (ix2 ⟨_, _⟩ j)
  blk_ext [iblk, index t]

theorem iblk_da (t : Fin cfg0.N) (i : Fin 512) : row (φ := .f32) (iblk m c 2 t : FVec Ideal S512x1024 .f32) i = rowAt (da c m) (t.val * 512 + i.val) := by
  have ht : t.val < 16 := t.isLt
  have hi := i.isLt
  rw [rowAt_eq _ (by omega)]
  funext j
  show (iblk m c 2 t : FVec Ideal S512x1024 .f32) (ix2 i j) = da c m (ix2 ⟨_, _⟩ j)
  blk_ext [iblk, index t]

theorem iblk_dg (t : Fin cfg0.N) (i : Fin 512) : row (φ := .bf16) (iblk m c 3 t : FVec Ideal S512x1024 .bf16) i = rowAt (dg c m) (t.val * 512 + i.val) := by
  have ht : t.val < 16 := t.isLt
  have hi := i.isLt
  rw [rowAt_eq _ (by omega)]
  funext j
  show (iblk m c 3 t : FVec Ideal S512x1024 .bf16) (ix2 i j) = dg c m (ix2 ⟨_, _⟩ j)
  blk_ext [iblk, index t]

theorem iblk_wg (t : Fin cfg0.N) : (iblk m c 4 t : FVec Ideal S1024x1024 .bf16) = wg c m := by
  funext y
  obtain ⟨i, j, rfl⟩ : ∃ (i : Fin 1024) (j : Fin 1024), y = ix2 i j := ⟨y 0, y 1, (ix2_eta y).symm⟩
  blk_ext [iblk, index t]

theorem iblk_wo (t : Fin cfg0.N) : (iblk m c 5 t : FVec Ideal S1024x1024 .bf16) = wo c m := by
  funext y
  obtain ⟨i, j, rfl⟩ : ∃ (i : Fin 1024) (j : Fin 1024), y = ix2 i j := ⟨y 0, y 1, (ix2_eta y).symm⟩
  blk_ext [iblk, index t]

theorem iblk_gain (t : Fin cfg0.N) : row (φ := .f32) (iblk m c 6 t : FVec Ideal S1x1024 .f32) 0 = row (gain c m) 0 := by
  funext j
  show (iblk m c 6 t : FVec Ideal S1x1024 .f32) (ix2 0 j) = gain c m (ix2 0 j)
  blk_ext [iblk, index t]

/-- Row `n` of the norm's cotangent, the same times the gain, the gradient's row and its product with the transposed weight. -/
def cotRow (n : ℕ) : Row := cot (rowAt (dr2 c m) n) (rowAt (da c m) n) (rowAt (dg c m) n) (wg c m)
def cotGain (n : ℕ) : Row := fun j => cotRow c m n j * row (gain c m) 0 j
def dR (n : ℕ) : Row := dRow (rowAt (r1 c m) n) (cotGain c m n)
def dC (n : ℕ) : Row := timesT (dR c m n) (wo c m)

/-- What row `n` adds to entry `j` of the gain's and of the bias's gradient. -/
def gainAt (j : Fin 1024) (n : ℕ) : EReal := dev (rowAt (r1 c m) n) j * scale (rowAt (r1 c m) n) * cotRow c m n j
def biasAt (j : Fin 1024) (n : ℕ) : EReal := cotRow c m n j

section Payloads

variable (d : FVec Ideal S512x1024 .f32) (s l : FVec Ideal S512x1 .f32) (e : FVec Ideal S512x1024 .f32) (o : FVec Ideal S1024x1024 .bf16) (p v : FVec Ideal S1x1024 .f32) (i : Fin 512) (j : Fin 1024)

theorem round_apply : (k0_pay12 (F := Ideal) d s l e : FVec Ideal S512x1024 .bf16) (ix2 i j) = (k0_pay11 (F := Ideal) d s l e : FVec Ideal S512x1024 .f32) (ix2 i j) := by
  pointwise [k0_pay12]
theorem dcat_apply : (k0_pay13 (F := Ideal) d s l e o : FVec Ideal S512x1024 .f32) (ix2 i j)
    = ∑ k : Fin 1024, (k0_pay11 (F := Ideal) d s l e : FVec Ideal S512x1024 .f32) (ix2 i k) * o (ix2 j k) := by
  pointwise [k0_pay13]
theorem addGain_apply : (k0_pay1 (F := Ideal) p v : FVec Ideal S1x1024 .f32) (ix2 0 j) = v (ix2 0 j) + p (ix2 0 j) := by
  pointwise [k0_pay1]
theorem addBias_apply : (k0_pay2 (F := Ideal) p v : FVec Ideal S1x1024 .f32) (ix2 0 j) = v (ix2 0 j) + p (ix2 0 j) := by
  pointwise [k0_pay2]
theorem zeroGain_apply : (k0_pay14 (F := Ideal) : FVec Ideal S1x1024 .f32) (ix2 0 j) = 0 := by
  pointwise [k0_pay14]
theorem zeroBias_apply : (k0_pay15 (F := Ideal) : FVec Ideal S1x1024 .f32) (ix2 0 j) = 0 := by
  pointwise [k0_pay15]

end Payloads

theorem drow_at (t : Fin cfg0.N) (i : Fin 512) (j : Fin 1024) :
    (k0_pay11 (F := Ideal) (k0_pay4 (iblk m c 0 t)) (k0_pay6 (iblk m c 0 t)) (k0_pay7 (iblk m c 0 t)) (k0_pay10 (iblk m c 1 t) (iblk m c 2 t) (iblk m c 3 t) (iblk m c 4 t) (iblk m c 6 t)) : FVec Ideal S512x1024 .f32) (ix2 i j) = dR c m (t.val * 512 + i.val) j := by
  refine drow_apply i j _ _ _ _ (rowAt (r1 c m) (t.val * 512 + i.val)) (cotGain c m (t.val * 512 + i.val)) (fun k => ?_) (fun z => ?_) (fun z => ?_) (fun k => ?_)
  · exact (dev_apply _ i k).trans (by rw [iblk_r1])
  · exact (scale_apply _ i z).trans (by rw [iblk_r1])
  · exact (slope_apply _ i z).trans (by rw [iblk_r1])
  · refine (gained_apply _ _ _ _ _ i k).trans ?_
    rw [iblk_dr2, iblk_da, iblk_dg, iblk_wg, iblk_gain]
    rfl

theorem drow_round_at (t : Fin cfg0.N) (i : Fin 512) (j : Fin 1024) :
    (k0_pay12 (F := Ideal) (k0_pay4 (iblk m c 0 t)) (k0_pay6 (iblk m c 0 t)) (k0_pay7 (iblk m c 0 t)) (k0_pay10 (iblk m c 1 t) (iblk m c 2 t) (iblk m c 3 t) (iblk m c 4 t) (iblk m c 6 t)) : FVec Ideal S512x1024 .bf16) (ix2 i j) = dR c m (t.val * 512 + i.val) j :=
  (round_apply _ _ _ _ i j).trans (drow_at c m t i j)

theorem dcat_at (t : Fin cfg0.N) (i : Fin 512) (j : Fin 1024) :
    (k0_pay13 (F := Ideal) (k0_pay4 (iblk m c 0 t)) (k0_pay6 (iblk m c 0 t)) (k0_pay7 (iblk m c 0 t)) (k0_pay10 (iblk m c 1 t) (iblk m c 2 t) (iblk m c 3 t) (iblk m c 4 t) (iblk m c 6 t)) (iblk m c 5 t) : FVec Ideal S512x1024 .f32) (ix2 i j) = dC c m (t.val * 512 + i.val) j := by
  refine (dcat_apply _ _ _ _ _ i j).trans ?_
  rw [iblk_wo]
  exact Finset.sum_congr rfl fun k _ => congrArg (· * wo c m (ix2 j k)) (drow_at c m t i k)

/-- What a point writes: its rows of the gradient, … -/
theorem point8 (t : Fin cfg0.N) (i : Fin 512) (j : Fin 1024) : (outsAt0 m c t.val t.isLt).1 (ix2 i j) = dR c m (t.val * 512 + i.val) j := by
  by_cases h0 : t.val % 16 = 0
  · rw [outsAt0_A m c t h0]
    dsimp only
    rw [out8_A]
    exact drow_at c m t i j
  · rw [outsAt0_B m c t h0]
    dsimp only
    rw [out8_B]
    exact drow_at c m t i j

/-- … the same, rounded, … -/
theorem point9 (t : Fin cfg0.N) (i : Fin 512) (j : Fin 1024) : (outsAt0 m c t.val t.isLt).2.1 (ix2 i j) = dR c m (t.val * 512 + i.val) j := by
  by_cases h0 : t.val % 16 = 0
  · rw [outsAt0_A m c t h0]
    dsimp only
    rw [out9_A]
    exact drow_round_at c m t i j
  · rw [outsAt0_B m c t h0]
    dsimp only
    rw [out9_B]
    exact drow_round_at c m t i j

/-- … and their product with the transposed weight. -/
theorem point10 (t : Fin cfg0.N) (i : Fin 512) (j : Fin 1024) : (outsAt0 m c t.val t.isLt).2.2.1 (ix2 i j) = dC c m (t.val * 512 + i.val) j := by
  by_cases h0 : t.val % 16 = 0
  · rw [outsAt0_A m c t h0]
    dsimp only
    rw [out10_A]
    exact dcat_at c m t i j
  · rw [outsAt0_B m c t h0]
    dsimp only
    rw [out10_B]
    exact dcat_at c m t i j

theorem addGain_at (t : Fin cfg0.N) (v : FVec Ideal S1x1024 .f32) (j : Fin 1024) :
    (k0_pay1 (F := Ideal) (k0_pay9 (iblk m c 1 t) (iblk m c 2 t) (iblk m c 3 t) (iblk m c 4 t) (iblk m c 0 t)) v : FVec Ideal S1x1024 .f32) (ix2 0 j)
      = v (ix2 0 j) + ∑ i : Fin 512, gainAt c m j (t.val * 512 + i.val) := by
  refine (addGain_apply _ v j).trans (congrArg (v (ix2 0 j) + ·) ((dgain_apply _ _ _ _ _ j 0).trans (Finset.sum_congr rfl fun i _ => ?_)))
  rw [iblk_r1, iblk_dr2, iblk_da, iblk_dg, iblk_wg]
  rfl

/-- The gain's gradient is summed over the points. -/
theorem point11_first (t : Fin cfg0.N) (h0 : t.val % 16 = 0) (j : Fin 1024) :
    (outsAt0 m c t.val t.isLt).2.2.2.1 (ix2 0 j) = ∑ i : Fin 512, gainAt c m j (t.val * 512 + i.val) := by
  rw [outsAt0_A m c t h0]
  dsimp only
  rw [out11_A]
  refine (addGain_at c m t _ j).trans ?_
  rw [zeroGain_apply, zero_add]

theorem point11_next (t : Fin cfg0.N) (h0 : ¬t.val % 16 = 0) (j : Fin 1024) :
    (outsAt0 m c t.val t.isLt).2.2.2.1 (ix2 0 j)
      = (outsAt0 m c (t.val - 1) (Nat.lt_of_le_of_lt (Nat.sub_le _ _) t.isLt)).2.2.2.1 (ix2 0 j) + ∑ i : Fin 512, gainAt c m j (t.val * 512 + i.val) := by
  rw [outsAt0_B m c t h0]
  dsimp only
  rw [out11_B]
  exact addGain_at c m t _ j

theorem point11 (t : Fin cfg0.N) (h15 : t.val % 16 = 15) (j : Fin 1024) :
    (outsAt0 m c t.val t.isLt).2.2.2.1 (ix2 0 j) = ∑ i : Fin 8192, gainAt c m j i.val := by
  have ht : t.val < 16 := t.isLt
  have h := Pipeline.eq_sum_of_reset_step_of_mod (fun n h => (outsAt0 m c n h).2.2.2.1 (ix2 0 j)) 16 (0 : EReal)
    (fun n => ∑ i : Fin 512, gainAt c m j (n * 512 + i.val))
    (fun t h0 => by rw [zero_add]; exact point11_first c m t h0 j) (fun t h0 => point11_next c m t h0 j) t h15
  refine h.trans ?_
  rw [zero_add, ← MatSum.blocks_all (gainAt c m j) 16 512 (N := 8192) rfl]
  refine Finset.sum_congr rfl fun s hs => Finset.sum_congr rfl fun k _ => ?_
  rw [show 16 * (t.val / 16) + s = s by omega]

theorem addBias_at (t : Fin cfg0.N) (v : FVec Ideal S1x1024 .f32) (j : Fin 1024) :
    (k0_pay2 (F := Ideal) (k0_pay8 (iblk m c 1 t) (iblk m c 2 t) (iblk m c 3 t) (iblk m c 4 t)) v : FVec Ideal S1x1024 .f32) (ix2 0 j)
      = v (ix2 0 j) + ∑ i : Fin 512, biasAt c m j (t.val * 512 + i.val) := by
  refine (addBias_apply _ v j).trans (congrArg (v (ix2 0 j) + ·) ((dbias_apply _ _ _ _ j 0).trans (Finset.sum_congr rfl fun i _ => ?_)))
  rw [iblk_dr2, iblk_da, iblk_dg, iblk_wg]
  rfl

/-- The bias's gradient is summed over the points. -/
theorem point12_first (t : Fin cfg0.N) (h0 : t.val % 16 = 0) (j : Fin 1024) :
    (outsAt0 m c t.val t.isLt).2.2.2.2 (ix2 0 j) = ∑ i : Fin 512, biasAt c m j (t.val * 512 + i.val) := by
  rw [outsAt0_A m c t h0]
  dsimp only
  rw [out12_A]
  refine (addBias_at c m t _ j).trans ?_
  rw [zeroBias_apply, zero_add]

theorem point12_next (t : Fin cfg0.N) (h0 : ¬t.val % 16 = 0) (j : Fin 1024) :
    (outsAt0 m c t.val t.isLt).2.2.2.2 (ix2 0 j)
      = (outsAt0 m c (t.val - 1) (Nat.lt_of_le_of_lt (Nat.sub_le _ _) t.isLt)).2.2.2.2 (ix2 0 j) + ∑ i : Fin 512, biasAt c m j (t.val * 512 + i.val) := by
  rw [outsAt0_B m c t h0]
  dsimp only
  rw [out12_B]
  exact addBias_at c m t _ j

theorem point12 (t : Fin cfg0.N) (h15 : t.val % 16 = 15) (j : Fin 1024) :
    (outsAt0 m c t.val t.isLt).2.2.2.2 (ix2 0 j) = ∑ i : Fin 8192, biasAt c m j i.val := by
  have ht : t.val < 16 := t.isLt
  have h := Pipeline.eq_sum_of_reset_step_of_mod (fun n h => (outsAt0 m c n h).2.2.2.2 (ix2 0 j)) 16 (0 : EReal)
    (fun n => ∑ i : Fin 512, biasAt c m j (n * 512 + i.val))
    (fun t h0 => by rw [zero_add]; exact point12_first c m t h0 j) (fun t h0 => point12_next c m t h0 j) t h15
  refine h.trans ?_
  rw [zero_add, ← MatSum.blocks_all (biasAt c m j) 16 512 (N := 8192) rfl]
  refine Finset.sum_congr rfl fun s hs => Finset.sum_congr rfl fun k _ => ?_
  rw [show 16 * (t.val / 16) + s = s by omega]

/-! THE CALL'S ARRAYS. -/

def drs : FVec Ideal ⟨2, ![8192, 1024]⟩ .f32 := fun i => entry (dR c m (i 0).val) (i 1).val

theorem drs_result : (dats m 0 c).arrAt 8 cfg0.N = drs c m := by
  refine (dats m 0 c).arrAt_eq_of_covers 8 _ (by decide +kernel) fun t hf y => ?_
  have ht : t.val < 16 := t.isLt
  unfold drs
  blk_simp [index t]
  rw [after0_8]
  idx_vars y
  exact (point8 c m t y0 y1).trans (entry_fin _ y1).symm

def drsR : FVec Ideal ⟨2, ![8192, 1024]⟩ .bf16 := fun i => entry (dR c m (i 0).val) (i 1).val

theorem drsR_result : (dats m 0 c).arrAt 9 cfg0.N = drsR c m := by
  refine (dats m 0 c).arrAt_eq_of_covers 9 _ (by decide +kernel) fun t hf y => ?_
  have ht : t.val < 16 := t.isLt
  unfold drsR
  blk_simp [index t]
  rw [after0_9]
  idx_vars y
  exact (point9 c m t y0 y1).trans (entry_fin _ y1).symm

def dcats : FVec Ideal ⟨2, ![8192, 1024]⟩ .f32 := fun i => entry (dC c m (i 0).val) (i 1).val

theorem dcats_result : (dats m 0 c).arrAt 10 cfg0.N = dcats c m := by
  refine (dats m 0 c).arrAt_eq_of_covers 10 _ (by decide +kernel) fun t hf y => ?_
  have ht : t.val < 16 := t.isLt
  unfold dcats
  blk_simp [index t]
  rw [after0_10]
  idx_vars y
  exact (point10 c m t y0 y1).trans (entry_fin _ y1).symm

def dgains : FVec Ideal ⟨2, ![1, 1024]⟩ .f32 := fun i => entry (fun j => ∑ k : Fin 8192, gainAt c m j k.val) (i 1).val

theorem dgains_result : (dats m 0 c).arrAt 11 cfg0.N = dgains c m := by
  refine (dats m 0 c).arrAt_eq_of_covers 11 _ (by decide +kernel) fun t hf y => ?_
  have ht : t.val < 16 := t.isLt
  have h15 : t.val % 16 = 15 := (by decide +kernel : ∀ t : Fin grid0.N, (cfg0.win 11).flush t = true → t.val % 16 = 15) t hf
  unfold dgains
  blk_simp [index t]
  rw [after0_11]
  idx_vars y
  obtain rfl : y0 = 0 := Subsingleton.elim _ _
  exact (point11 c m t h15 y1).trans (entry_fin (fun j => ∑ k : Fin 8192, gainAt c m j k.val) y1).symm

def dbiases : FVec Ideal ⟨2, ![1, 1024]⟩ .f32 := fun i => entry (fun j => ∑ k : Fin 8192, biasAt c m j k.val) (i 1).val

theorem dbiases_result : (dats m 0 c).arrAt 12 cfg0.N = dbiases c m := by
  refine (dats m 0 c).arrAt_eq_of_covers 12 _ (by decide +kernel) fun t hf y => ?_
  have ht : t.val < 16 := t.isLt
  have h15 : t.val % 16 = 15 := (by decide +kernel : ∀ t : Fin grid0.N, (cfg0.win 12).flush t = true → t.val % 16 = 15) t hf
  unfold dbiases
  blk_simp [index t]
  rw [after0_12]
  idx_vars y
  obtain rfl : y0 = 0 := Subsingleton.elim _ _
  exact (point12 c m t h15 y1).trans (entry_fin (fun j => ∑ k : Fin 8192, biasAt c m j k.val) y1).symm

end Cert.LnBwdIdeal.Product

end
-- ==== Proof.LnBwdRef.lean ====
/- The reference's gradient of the layer norm, row by row, and the call's claim. -/
module

public import proofs.«01_k».proof.Proof.LnBwdVal
public import proofs.«01_k».proof.Proof.Gen.LnBwdReferenceIdeal.Run
public import Idealize.ShloMosaic.Lib.Quiescent

@[expose] public section

set_option maxRecDepth 16384

noncomputable section

namespace Cert.LnBwdReferenceIdeal.Rows

open Cert.LnBwdReferenceIdeal Cert.LnBwdReferenceIdeal.Facts₀ Idealize.ShloMosaic Idealize.ShloMosaic.TcCoe Idealize.SL.Sem RowNorm

abbrev R2 := FVec Ideal S8192x1024 .f32
abbrev RB := FVec Ideal S8192x1024 .bf16
abbrev RW := FVec Ideal S1024x1024 .bf16
abbrev RV := FVec Ideal S1x1024 .f32
abbrev RC := FVec Ideal S8192x1 .f32

/-- The reference's steps on the host. A number for each row: one number for all, … -/
def fill (b : BitVec 32) : RC := broadcastInDim S8192x1 ![] bcast_S_S8192x1 (constant S_ .f32 b)

/-- … a row's sum divided by its length, with the sum taken to a column in the two ways it is written. -/
def mean (r : R2) : RC := Host.divf (broadcastInDim S8192x1 ![0] bcast_S8192_S8192x1_0 (Host.reduceAdd r (constant S_ .f32 0x00000000#32) reducesTo_S8192x1024_S8192_d1 h_S_)) (fill 0x44800000#32)
def total (r : R2) : RC := shapeCast S8192x1 (Host.reduceAdd r (constant S_ .f32 0x00000000#32) reducesTo_S8192x1024_S8192_d1 h_S_) shapeCasts_S8192_S8192x1

/-- A column along the rows, in the two ways it is written, and a vector along the rows. -/
def across (v : RC) : R2 := broadcastInDim S8192x1024 ![0, 1] bcast_S8192x1_S8192x1024_0_1 v
def spreadOut (v : RC) : R2 := broadcastInDim S8192x1024 ![0] bcast_S8192_S8192x1024_0 (Host.reduceAdd v (constant S_ .f32 0x00000000#32) reducesTo_S8192x1_S8192_d1 h_S_)
def along (g : RV) : R2 := broadcastInDim S8192x1024 ![0, 1] bcast_S1x1024_S8192x1024_0_1 (broadcastInDim S1x1024 ![1] bcast_S1024_S1x1024_1 (shapeCast _ g shapeCasts_S1x1024_S1024))

/-- The distances from the mean, the variance with the small number, its inverse root and that root's derivative. -/
def devR (r : R2) : R2 := subf r (across (mean r))
def spreadR (r : R2) : RC := addf (mean (mulf (devR r) (devR r))) (fill 0x358637BD#32)
def scaleR (r : R2) : RC := Host.rsqrt (spreadR r)
def slopeR (r : R2) : RC := mulf (fill 0xBF000000#32) (Host.divf (scaleR r) (spreadR r))

/-- The norm's cotangent and the same times the gain. -/
def cotR (x a : R2) (u : RB) (w : RW) : R2 :=
  addf (addf a (Host.dotGeneral dot_S8192x1024_S1024x1024_S8192x1024_1_1_0_0_n_n none (extf .f32 u Cert.LnBwdReferenceIdeal.Facts₀.bitsLt_bf16_f32) (extf .f32 w Cert.LnBwdReferenceIdeal.Facts₀.bitsLt_bf16_f32)))
    (mulf (broadcastInDim S8192x1024 ![] bcast_S_S8192x1024 (constant S_ .f32 0x3F9837F0#32)) x)
def same (y : R2) : R2 := shapeCast S8192x1024 y shapeCasts_S8192x1024_S8192x1024
def gainedR (y : R2) (g : RV) : R2 := mulf (same y) (along g)

/-- The gradient at the distances and at the rows, from the gained cotangent. -/
def pullR (r e : R2) : R2 := spreadOut (Host.divf (mulf (total (mulf (devR r) e)) (slopeR r)) (fill 0x44800000#32))
def dDevR (r e : R2) : R2 := addf (addf (mulf e (across (scaleR r))) (mulf (devR r) (pullR r e))) (mulf (pullR r e) (devR r))
def dRowR (r e : R2) : R2 := addf (dDevR r e) (spreadOut (Host.divf (total (Host.negf (dDevR r e))) (fill 0x44800000#32)))
def roundR (d : R2) : RB := truncf .bf16 d Cert.LnBwdReferenceIdeal.Facts₀.bitsLt_bf16_f32
def dcatR (d : R2) (o : RW) : R2 := Host.dotGeneral dot_S8192x1024_S1024x1024_S8192x1024_1_1_0_0_n_n none d (extf .f32 o Cert.LnBwdReferenceIdeal.Facts₀.bitsLt_bf16_f32)

/-- The sum of all rows. -/
def column (y : R2) : RV :=
  broadcastInDim S1x1024 ![1] bcast_S1024_S1x1024_1 (Host.reduceAdd (shapeCast S1x1024 (Host.reduceAdd y (constant S_ .f32 0x00000000#32) reducesTo_S8192x1024_S1024_d0 h_S_) shapeCasts_S1024_S1x1024) (constant S_ .f32 0x00000000#32) reducesTo_S1x1024_S1024_d0 h_S_)
def productR (r y : R2) : R2 := mulf (mulf (devR r) (across (scaleR r))) (same y)

variable (r x a y e d : R2) (u : RB) (w o : RW) (g : RV) (v : RC) (i : Fin 8192) (j : Fin 1024) (z : Fin 1)

theorem fill_apply (b : BitVec 32) : fill b (ix2 i z) = Ideal.ofBits .f32 b := by
  pointwise [fill]
theorem mean_apply : mean r (ix2 i z) = Ideal.div (∑ k : Fin 1024, r (ix2 i k)) len := by
  pointwise [mean, fill_apply]
  rfl
theorem total_apply : total r (ix2 i z) = ∑ k : Fin 1024, r (ix2 i k) := by
  pointwise [total]
theorem across_apply : across v (ix2 i j) = v (ix2 i 0) := by
  pointwise [across]
theorem spreadOut_apply : spreadOut v (ix2 i j) = v (ix2 i 0) := by
  pointwise [spreadOut]
  simp only [Fin.sum_univ_one]
theorem along_apply : along g (ix2 i j) = row g 0 j := by
  pointwise [along]
  rfl
theorem devR_apply : devR r (ix2 i j) = dev (row r i) j := by
  pointwise [devR, across_apply, mean_apply]
  rfl
theorem spreadR_apply : spreadR r (ix2 i z) = spread (row r i) := by
  pointwise [spreadR, mean_apply, fill_apply, devR_apply]
  rfl
theorem scaleR_apply : scaleR r (ix2 i z) = scale (row r i) := by
  pointwise [scaleR, spreadR_apply]
  rfl
theorem slopeR_apply : slopeR r (ix2 i z) = slope (row r i) := by
  pointwise [slopeR, scaleR_apply, spreadR_apply, fill_apply]
  rfl
theorem cotR_apply : cotR x a u w (ix2 i j) = cot (row x i) (row a i) (row u i) w j := by
  refine Eq.trans (b := a (ix2 i j) + (∑ k : Fin 1024, u (ix2 i k) * w (ix2 j k)) + alpha * x (ix2 i j)) ?_ ?_
  · pointwise [cotR]
    rfl
  · rw [add_comm, ← add_assoc]
    rfl
theorem same_apply : same y (ix2 i j) = y (ix2 i j) := by
  pointwise [same]
theorem gainedR_apply : gainedR y g (ix2 i j) = y (ix2 i j) * row g 0 j := by
  pointwise [gainedR, same_apply, along_apply]
theorem pullR_apply : pullR r e (ix2 i j) = pull (row r i) (row e i) := by
  pointwise [pullR, spreadOut_apply, total_apply, slopeR_apply, fill_apply, devR_apply]
  rfl
theorem dDevR_apply : dDevR r e (ix2 i j) = dDev (row r i) (row e i) j := by
  pointwise [dDevR, across_apply, scaleR_apply, devR_apply, pullR_apply]
  rfl
theorem dRowR_apply : dRowR r e (ix2 i j) = dRow (row r i) (row e i) j := by
  pointwise [dRowR, dDevR_apply, spreadOut_apply, total_apply, fill_apply]
  rfl
theorem roundR_apply : roundR d (ix2 i j) = d (ix2 i j) := by
  pointwise [roundR]
theorem dcatR_apply : dcatR d o (ix2 i j) = timesT (row d i) o j := by
  pointwise [dcatR]
  rfl
theorem column_apply : column y (ix2 z j) = ∑ k : Fin 8192, y (ix2 k j) := by
  pointwise [column]
  simp only [Fin.sum_univ_one]
theorem productR_apply : productR r y (ix2 i j) = dev (row r i) j * scale (row r i) * y (ix2 i j) := by
  pointwise [productR, devR_apply, across_apply, scaleR_apply, same_apply]

section Run

variable (m : (ℓ : Loc nD τ sig) → Buf (Elt Ideal) ℓ) (c : Dev nD)

/-- The cotangent and the gradient at the reference's own arguments, … -/
def refCotAt : R2 :=
  cotR (m ((c.tc : Thread nD τ).loc main_arg1)) (m ((c.tc : Thread nD τ).loc main_arg2)) (m ((c.tc : Thread nD τ).loc main_arg3)) (m ((c.tc : Thread nD τ).loc main_arg4))
def refRowAt : R2 :=
  dRowR (m ((c.tc : Thread nD τ).loc main_arg0)) (gainedR (refCotAt m c) (m ((c.tc : Thread nD τ).loc main_arg6)))

theorem res_row : Cert.LnBwdReferenceIdeal.Value.res_main_v68 (F := Ideal) m c = refRowAt m c := by
  unfold Cert.LnBwdReferenceIdeal.Value.res_main_v68
  rfl
theorem res_round : Cert.LnBwdReferenceIdeal.Value.res_main_v71 (F := Ideal) m c = roundR (refRowAt m c) := by
  unfold Cert.LnBwdReferenceIdeal.Value.res_main_v71
  rfl
theorem res_cat : Cert.LnBwdReferenceIdeal.Value.res_main_v70 (F := Ideal) m c = dcatR (refRowAt m c) (m ((c.tc : Thread nD τ).loc main_arg5)) := by
  unfold Cert.LnBwdReferenceIdeal.Value.res_main_v70
  rfl

/-- … in which every run of the reference leaves its results. -/
theorem run_rows (ρ : Dev nD → PrngReg) :
    θ_run defs (onTc (τ := τ) (main (F := Ideal))) ⟨m, fun _ => 0, ρ⟩ fun r => ∀ c : Dev nD,
      r.2.mem ((c.tc : Thread nD τ).loc main_v68) = refRowAt m c
      ∧ r.2.mem ((c.tc : Thread nD τ).loc main_v71) = roundR (refRowAt m c)
      ∧ r.2.mem ((c.tc : Thread nD τ).loc main_v70) = dcatR (refRowAt m c) (m ((c.tc : Thread nD τ).loc main_arg5))
      ∧ r.2.mem ((c.tc : Thread nD τ).loc main_v72) = column (productR (m ((c.tc : Thread nD τ).loc main_arg0)) (refCotAt m c))
      ∧ r.2.mem ((c.tc : Thread nD τ).loc main_v73) = column (refCotAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun _ h c => ⟨(h c).1.trans (res_row m c), (h c).2.1.trans (res_round m c), (h c).2.2.1.trans (res_cat m c), (h c).2.2.2.1, (h c).2.2.2.2.1, (h c).2.2.2.2.2⟩)
    (Cert.LnBwdReferenceIdeal.Value.run (F := Ideal) m ρ)

end Run

end Cert.LnBwdReferenceIdeal.Rows

namespace Cert.LnBwdIdeal.Product

open Cert.LnBwdIdeal Cert.LnBwdIdeal.Gen Cert.LnBwdIdeal.Value Idealize.ShloMosaic Idealize.ShloMosaic.TcCoe Idealize.SL.Sem RowNorm Cert.LnBwdReferenceIdeal.Rows

variable (c : Dev nD) (m : (ℓ : Loc nD τ sig) → Buf (Elt Ideal) ℓ)

/-- The reference's cotangent and its gradient of the rows at the call's arguments. -/
def refCot : R2 := cotR (dr2 c m) (da c m) (dg c m) (wg c m)
def refRow : R2 := dRowR (r1 c m) (gainedR (refCot c m) (gain c m))

theorem row_cot (i : Fin 8192) : cotRow c m i.val = row (refCot c m) i := by
  funext j
  refine Eq.trans ?_ (cotR_apply _ _ _ _ i j).symm
  unfold cotRow
  rw [rowAt_fin, rowAt_fin, rowAt_fin]

theorem row_gained (i : Fin 8192) : cotGain c m i.val = row (gainedR (refCot c m) (gain c m)) i := by
  funext j
  refine Eq.trans ?_ (gainedR_apply _ _ i j).symm
  unfold cotGain
  rw [row_cot]
  rfl

theorem row_dr (i : Fin 8192) : dR c m i.val = row (refRow c m) i := by
  funext j
  refine Eq.trans ?_ (dRowR_apply _ _ i j).symm
  unfold dR
  rw [rowAt_fin, row_gained]

theorem drs_equal : drs c m = refRow c m := by
  funext x
  obtain ⟨i, j, rfl⟩ : ∃ (i : Fin 8192) (j : Fin 1024), x = ix2 i j := ⟨x 0, x 1, (ix2_eta x).symm⟩
  exact (entry_fin (dR c m i.val) j).trans (congrFun (row_dr c m i) j)

theorem drsR_equal : drsR c m = roundR (refRow c m) := by
  funext x
  obtain ⟨i, j, rfl⟩ : ∃ (i : Fin 8192) (j : Fin 1024), x = ix2 i j := ⟨x 0, x 1, (ix2_eta x).symm⟩
  exact ((entry_fin (dR c m i.val) j).trans (congrFun (row_dr c m i) j)).trans (roundR_apply _ i j).symm

theorem dcats_equal : dcats c m = dcatR (refRow c m) (wo c m) := by
  funext x
  obtain ⟨i, j, rfl⟩ : ∃ (i : Fin 8192) (j : Fin 1024), x = ix2 i j := ⟨x 0, x 1, (ix2_eta x).symm⟩
  refine ((entry_fin (dC c m i.val) j).trans ?_).trans (dcatR_apply _ _ i j).symm
  unfold dC
  rw [row_dr]

theorem dgains_equal : dgains c m = column (productR (r1 c m) (refCot c m)) := by
  funext x
  obtain ⟨z, j, rfl⟩ : ∃ (z : Fin 1) (j : Fin 1024), x = ix2 z j := ⟨x 0, x 1, (ix2_eta x).symm⟩
  refine ((entry_fin (fun j => ∑ k : Fin 8192, gainAt c m j k.val) j).trans ?_).trans (column_apply _ j z).symm
  refine Finset.sum_congr rfl fun k _ => ?_
  refine Eq.trans ?_ (productR_apply _ _ k j).symm
  unfold gainAt
  rw [rowAt_fin, row_cot]
  rfl

theorem dbiases_equal : dbiases c m = column (refCot c m) := by
  funext x
  obtain ⟨z, j, rfl⟩ : ∃ (z : Fin 1) (j : Fin 1024), x = ix2 z j := ⟨x 0, x 1, (ix2_eta x).symm⟩
  refine ((entry_fin (fun j => ∑ k : Fin 8192, biasAt c m j k.val) j).trans ?_).trans (column_apply _ j z).symm
  exact Finset.sum_congr rfl fun k _ => congrFun (row_cot c m k) j

theorem algebraic : Cert.algebraic_LnBwdIdeal_LnBwdReferenceIdeal := by
  intro m ρ m' ρ' _ hagree
  refine ⟨_, _, _, _, _, run_blocks (F := Ideal) m ρ, ?_⟩
  refine (θ_run Cert.LnBwdReferenceIdeal.defs _ _).mono (fun _ h c => ?_) (run_rows m' ρ')
  obtain ⟨e0, e1, e2, e3, e4, kept⟩ := h c
  obtain ⟨g0, g1, g2, g3, g4, g5, g6, g7⟩ := hagree c
  have cot_eq : refCotAt m' c = refCot c m := by
    unfold refCotAt
    rw [g1, g2, g3, g4]
    rfl
  have row_eq : refRowAt m' c = refRow c m := by
    unfold refRowAt
    rw [cot_eq, g0, g6]
    rfl
  rw [row_eq] at e0 e1 e2
  rw [cot_eq] at e3 e4
  rw [g5] at e2
  rw [g0] at e3
  exact ⟨e0.trans ((drs_result c m).trans (drs_equal c m)).symm, e1.trans ((drsR_result c m).trans (drsR_equal c m)).symm,
    e2.trans ((dcats_result c m).trans (dcats_equal c m)).symm, e3.trans ((dgains_result c m).trans (dgains_equal c m)).symm,
    e4.trans ((dbiases_result c m).trans (dbiases_equal c m)).symm, kept⟩

theorem frame_reference : Cert.quiescent_LnBwdReferenceIdeal := fun m ρ _ =>
  (θ_run Cert.LnBwdReferenceIdeal.defs _ _).mono (fun r h => ⟨fun c => (h c).2.2.2.2.2, sem_eq_zero_of_no_sems (by decide) r.2⟩)
    (Cert.LnBwdReferenceIdeal.Value.run (F := Ideal) m ρ)

end Cert.LnBwdIdeal.Product

end
-- ==== Proof.HeadRow.lean ====
/- One token's way from the feed-forward's down product to the loss, and the loss's gradient along it, as functions of the rows. -/
module

public import proofs.«01_k».proof.Proof.RowNorm
public import Idealize.ShloMosaic.PureOps
public import Idealize.ShloMosaic.Lib.Pipeline.ValueKit

@[expose] public section

noncomputable section

namespace HeadRow

open Idealize.ShloMosaic RowNorm

/-- Row `i` of a matrix of `n` columns, and the row of a plain number; zero outside of it. -/
def line {a n : ℕ} {φ : FTy} (A : FVec Ideal ⟨2, ![a, n]⟩ φ) (i : Fin a) : Fin n → EReal := fun j => A (ix2 i j)
def lineAt {a n : ℕ} {φ : FTy} (A : FVec Ideal ⟨2, ![a, n]⟩ φ) (r : ℕ) : Fin n → EReal := if h : r < a then line A ⟨r, h⟩ else fun _ => 0

theorem lineAt_eq {a n : ℕ} {φ : FTy} (A : FVec Ideal ⟨2, ![a, n]⟩ φ) {r : ℕ} (h : r < a) : lineAt A r = line A ⟨r, h⟩ := dif_pos h
theorem lineAt_fin {a n : ℕ} {φ : FTy} (A : FVec Ideal ⟨2, ![a, n]⟩ φ) (i : Fin a) : lineAt A i.val = line A i := lineAt_eq A i.isLt

/-- The product of a row with a matrix. -/
def into {n : ℕ} {φ : FTy} (u : Fin n → EReal) (w : FVec Ideal ⟨2, ![n, 1024]⟩ φ) : Row := fun j => ∑ k : Fin n, u k * w (ix2 k j)

/-- One half and two, as the programs spell them. -/
def up : EReal := Ideal.ofBits .f32 1056964608#32
def two : EReal := Ideal.ofBits .f32 1073741824#32

/-- The gate and its slope, from the gate's product and its bias. -/
def gate (s b : Row) : Row := fun j => Ideal.logistic (s j + b j)
def gateSlope (s b : Row) : Row := fun j => gate s b j * (1 - gate s b j)

/-- The sum that is normalised: the residual, the feed-forward and the gated embedding. -/
def whole (x f s b e : Row) : Row := fun j => alpha * x j + f j + gate s b j * e j

/-- The distance from the target, and its gradient in the loss. -/
def miss (r g b t : Row) : Row := fun j => norm r g b j - t j
def cotMiss (e : Row) : Row := fun j => e j * (up * Ideal.div 1 len) + up * Ideal.div 1 len * e j

/-- What a row of distances adds to the loss. -/
def lossOf (e : Row) : EReal := ((1 / 2048 : ℝ) : EReal) * ∑ k : Fin 1024, e k * e k

theorem up_eq : up = ((1 / 2 : ℝ) : EReal) := by
  simp [up, Ideal.ofBits, Ideal.ieee, -EReal.coe_mul]
  norm_num
theorem two_eq : two = ((2 : ℝ) : EReal) := by
  simp [two, Ideal.ofBits, Ideal.ieee, -EReal.coe_mul]
  norm_num
theorem len_eq : len = ((1024 : ℝ) : EReal) := by
  simp [len, Ideal.ofBits, Ideal.ieee, -EReal.coe_mul]
  norm_num

theorem div_len (x : EReal) : Ideal.div x len = x * ((1 / 1024 : ℝ) : EReal) := by
  have h : ((1024 : ℝ) : EReal) ≠ 0 := by
    rw [← EReal.coe_zero]
    exact fun h => by norm_num [EReal.coe_eq_coe_iff] at h
  unfold Ideal.div
  rw [len_eq, if_neg h, ← EReal.coe_inv]
  norm_num

/-- A positive real factor goes into a sum. -/
theorem mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

theorem weight_eq : up * Ideal.div 1 len = ((1 / 2048 : ℝ) : EReal) := by
  rw [div_len, up_eq, one_mul, ← EReal.coe_mul]
  norm_num

theorem refWeight_eq : Ideal.div up len = ((1 / 2048 : ℝ) : EReal) := by
  rw [div_len, up_eq, ← EReal.coe_mul]
  norm_num

/-- The two ways the gradient of a square is written. -/
theorem cot_eq (e : Row) (j : Fin 1024) : cotMiss e j = Ideal.div up len * (two * e j) := by
  have h2 : two = 1 + 1 := by
    rw [two_eq, ← EReal.coe_one, ← EReal.coe_add]
    norm_num
  unfold cotMiss
  rw [weight_eq, refWeight_eq, h2, EReal.right_distrib_of_nonneg zero_le_one zero_le_one, one_mul,
    EReal.left_distrib_of_nonneg_of_ne_top (EReal.coe_nonneg.mpr (by norm_num)) (EReal.coe_ne_top _), mul_comm (e j)]

/-- A tile's loss, and the loss of all rows, are the sums of the rows' parts. -/
theorem tile_loss {n : ℕ} (e : Fin n → Row) : Ideal.div (up * ∑ i : Fin n, ∑ k : Fin 1024, e i k * e i k) len = ∑ i : Fin n, lossOf (e i) := by
  unfold lossOf
  rw [div_len, up_eq, mul_comm, ← mul_assoc, ← EReal.coe_mul, ← mul_sum _ _ (by norm_num)]
  norm_num

theorem all_loss {n : ℕ} (e : Fin n → Row) : up * ∑ i : Fin n, Ideal.div (∑ k : Fin 1024, e i k * e i k) len = ∑ i : Fin n, lossOf (e i) := by
  unfold lossOf
  rw [up_eq, mul_sum _ _ (by norm_num)]
  refine Finset.sum_congr rfl fun i _ => ?_
  rw [div_len, mul_comm (∑ k : Fin 1024, e i k * e i k), ← mul_assoc, ← EReal.coe_mul]
  norm_num

end HeadRow

end
-- ==== Proof.Head.lean ====
/- The last products with the second layer norm, the loss and its gradient: a point's blocks, row by row. -/
module

public import proofs.«01_k».proof.Proof.HeadRow
public import proofs.«01_k».proof.Proof.MatSum
public import proofs.«01_k».proof.Defs
public import proofs.«01_k».proof.Proof.Gen.HeadIdeal.Value
public import Idealize.ShloMosaic.Lib.Pipeline.ValueKit

@[expose] public section

set_option maxRecDepth 16384

noncomputable section

namespace Cert.HeadIdeal.Product

open Cert.HeadIdeal Cert.HeadIdeal.Gen Cert.HeadIdeal.Value Idealize.ShloMosaic Idealize.ShloMosaic.TcCoe Idealize.SL.Sem RowNorm HeadRow

variable (i : Fin 256) (j : Fin 1024) (z z' : Fin 1)

section Products

variable (x : FVec Ideal S256x1024 .f32) (u : FVec Ideal S256x1024 .bf16) (a : FVec Ideal S256x2816 .bf16) (p : FVec Ideal S256x256 .f32)
  (wd : FVec Ideal S2816x1024 .bf16) (wg : FVec Ideal S1024x1024 .bf16) (wp : FVec Ideal S256x1024 .bf16) (b : FVec Ideal S1x1024 .f32)

/-- The embedding's product, the gate and its slope, the sum and its mean. -/
theorem emb_apply : (k0_pay9 (F := Ideal) p wp : FVec Ideal S256x1024 .f32) (ix2 i j) = into (line p i) wp j := by
  pointwise [k0_pay9]
  rfl
theorem gate_apply : (k0_pay10 (F := Ideal) u wg b : FVec Ideal S256x1024 .f32) (ix2 i j) = gate (into (line u i) wg) (row b 0) j := by
  pointwise [k0_pay10]
  rfl
theorem gateSlope_apply : (k0_pay11 (F := Ideal) u wg b : FVec Ideal S256x1024 .f32) (ix2 i j) = gateSlope (into (line u i) wg) (row b 0) j := by
  pointwise [k0_pay11]
  rw [gate_apply]
  rfl
theorem whole_apply : (k0_pay12 (F := Ideal) a wd u wg p wp x b : FVec Ideal S256x1024 .f32) (ix2 i j)
    = whole (row x i) (into (line a i) wd) (into (line u i) wg) (row b 0) (into (line p i) wp) j := by
  pointwise [k0_pay12]
  rw [gate_apply, emb_apply]
  rfl
theorem mean_apply : (k0_pay13 (F := Ideal) a wd u wg p wp x b : FVec Ideal S256x1 .f32) (ix2 i z)
    = Ideal.div (∑ k : Fin 1024, whole (row x i) (into (line a i) wd) (into (line u i) wg) (row b 0) (into (line p i) wp) k) len := by
  pointwise [k0_pay13]
  simp only [whole_apply]
  rfl

end Products

section Norm

variable (s : FVec Ideal S256x1024 .f32) (q : FVec Ideal S256x1 .f32) (t : FVec Ideal S256x1024 .f32) (g b : FVec Ideal S1x1024 .f32) (R : Fin 256 → Row)
  (hs : ∀ i k, s (ix2 i k) = R i k) (hq : ∀ i z, q (ix2 i z) = Ideal.div (∑ k : Fin 1024, R i k) len)

include hs hq

theorem dev_apply : (k0_pay14 (F := Ideal) s q : FVec Ideal S256x1024 .f32) (ix2 i j) = dev (R i) j := by
  pointwise [k0_pay14, hs, hq]
  rfl
theorem spread_apply : (k0_pay15 (F := Ideal) s q : FVec Ideal S256x1 .f32) (ix2 i z) = spread (R i) := by
  pointwise [k0_pay15]
  simp only [dev_apply _ _ s q R hs hq]
  rfl
theorem scale_apply : (k0_pay16 (F := Ideal) s q : FVec Ideal S256x1 .f32) (ix2 i z) = scale (R i) := by
  pointwise [k0_pay16]
  rw [spread_apply _ _ s q R hs hq]
  rfl
theorem slope_apply : (k0_pay17 (F := Ideal) s q : FVec Ideal S256x1 .f32) (ix2 i z) = slope (R i) := by
  pointwise [k0_pay17]
  rw [spread_apply _ _ s q R hs hq, scale_apply _ _ s q R hs hq]
  rfl
theorem normed_apply : (k0_pay18 (F := Ideal) s q : FVec Ideal S256x1024 .f32) (ix2 i j) = dev (R i) j * scale (R i) := by
  pointwise [k0_pay18]
  rw [dev_apply _ _ s q R hs hq, scale_apply _ _ s q R hs hq]
theorem miss_apply : (k0_pay19 (F := Ideal) t g b s q : FVec Ideal S256x1024 .f32) (ix2 i j) = miss (R i) (row g 0) (row b 0) (row t i) j := by
  pointwise [k0_pay19]
  rw [normed_apply _ _ s q R hs hq]
  rfl
theorem loss_apply : (k0_pay20 (F := Ideal) t g b s q : FVec Ideal S1x1 .f32) (ix2 z z')
    = ∑ i : Fin 256, lossOf (miss (R i) (row g 0) (row b 0) (row t i)) := by
  rw [← tile_loss]
  pointwise [k0_pay20]
  simp only [miss_apply _ _ s q t g b R hs hq]
  rfl
theorem cot_apply : (k0_pay21 (F := Ideal) t g b s q : FVec Ideal S256x1024 .f32) (ix2 i j) = cotMiss (miss (R i) (row g 0) (row b 0) (row t i)) j := by
  pointwise [k0_pay21]
  simp only [miss_apply _ _ s q t g b R hs hq, Fin.sum_univ_one]
  rfl

end Norm

section Back

variable (e d c r h n : FVec Ideal S256x1024 .f32) (s l : FVec Ideal S256x1 .f32) (g : FVec Ideal S1x1024 .f32)

/-- What the point adds to the bias's and to the gain's gradient. -/
theorem dbias_apply : (k0_pay22 (F := Ideal) c : FVec Ideal S1x1024 .f32) (ix2 z j) = ∑ i : Fin 256, c (ix2 i j) := by
  pointwise [k0_pay22]
theorem dgain_apply : (k0_pay23 (F := Ideal) n c : FVec Ideal S1x1024 .f32) (ix2 z j) = ∑ i : Fin 256, n (ix2 i j) * c (ix2 i j) := by
  pointwise [k0_pay23]

/-- The gradient of the sum's rows, … -/
theorem drow_apply (R C : Row) (hd : ∀ k, d (ix2 i k) = dev R k) (hs : ∀ z, s (ix2 i z) = scale R) (hl : ∀ z, l (ix2 i z) = slope R) (hc : ∀ k, c (ix2 i k) = C k) :
    (k0_pay24 (F := Ideal) g d s l c : FVec Ideal S256x1024 .f32) (ix2 i j) = dRow R (fun k => C k * row g 0 k) j := by
  pointwise [k0_pay24, hd, hs, hl, hc]
  simp only [Fin.sum_univ_one, zero_sub]
  rfl

/-- … of the gate's product and of the gate's bias, and the roundings. -/
theorem dgate_apply : (k0_pay25 (F := Ideal) e g h d s l c : FVec Ideal S256x1024 .f32) (ix2 i j)
    = (k0_pay24 (F := Ideal) g d s l c : FVec Ideal S256x1024 .f32) (ix2 i j) * e (ix2 i j) * h (ix2 i j) := by
  pointwise [k0_pay25]
theorem dgateBias_apply : (k0_pay26 (F := Ideal) e g h d s l c : FVec Ideal S1x1024 .f32) (ix2 z j)
    = ∑ i : Fin 256, (k0_pay25 (F := Ideal) e g h d s l c : FVec Ideal S256x1024 .f32) (ix2 i j) := by
  pointwise [k0_pay26]
theorem drowRound_apply : (k0_pay27 (F := Ideal) g d s l c : FVec Ideal S256x1024 .bf16) (ix2 i j) = (k0_pay24 (F := Ideal) g d s l c : FVec Ideal S256x1024 .f32) (ix2 i j) := by
  pointwise [k0_pay27]
theorem dgateRound_apply : (k0_pay28 (F := Ideal) e g h d s l c : FVec Ideal S256x1024 .bf16) (ix2 i j)
    = (k0_pay25 (F := Ideal) e g h d s l c : FVec Ideal S256x1024 .f32) (ix2 i j) := by
  pointwise [k0_pay28]
theorem demb_apply : (k0_pay29 (F := Ideal) g e d s l c : FVec Ideal S256x1024 .bf16) (ix2 i j)
    = e (ix2 i j) * (k0_pay24 (F := Ideal) g d s l c : FVec Ideal S256x1024 .f32) (ix2 i j) := by
  pointwise [k0_pay29]

end Back

section Sums

variable (p v : FVec Ideal S1x1024 .f32) (k : Fin 8) (w : Fin 128)

/-- What a point adds to the arrays that all points share, and what the first one begins with. -/
theorem addLoss_apply (y : FVec Ideal S1x1 .f32) (o : FVec Ideal S8x128 .f32) : (k0_pay5 (F := Ideal) y o : FVec Ideal S8x128 .f32) (ix2 k w) = o (ix2 k w) + y (ix2 0 0) := by
  pointwise [k0_pay5]
theorem addGate_apply : (k0_pay6 (F := Ideal) p v : FVec Ideal S1x1024 .f32) (ix2 z j) = v (ix2 z j) + p (ix2 z j) := by
  pointwise [k0_pay6]
theorem addGain_apply : (k0_pay7 (F := Ideal) p v : FVec Ideal S1x1024 .f32) (ix2 z j) = v (ix2 z j) + p (ix2 z j) := by
  pointwise [k0_pay7]
theorem addBias_apply : (k0_pay8 (F := Ideal) p v : FVec Ideal S1x1024 .f32) (ix2 z j) = v (ix2 z j) + p (ix2 z j) := by
  pointwise [k0_pay8]
theorem zeroLoss_apply : (k0_pay1 (F := Ideal) : FVec Ideal S8x128 .f32) (ix2 k w) = 0 := by
  pointwise [k0_pay1]
theorem zeroGate_apply : (k0_pay2 (F := Ideal) : FVec Ideal S1x1024 .f32) (ix2 z j) = 0 := by
  pointwise [k0_pay2]
theorem zeroGain_apply : (k0_pay3 (F := Ideal) : FVec Ideal S1x1024 .f32) (ix2 z j) = 0 := by
  pointwise [k0_pay3]
theorem zeroBias_apply : (k0_pay4 (F := Ideal) : FVec Ideal S1x1024 .f32) (ix2 z j) = 0 := by
  pointwise [k0_pay4]

end Sums

end Cert.HeadIdeal.Product

end
-- ==== Proof.HeadPoint.lean ====
/- The last products with the second layer norm, the loss and its gradient: what a point leaves in its blocks. -/
module

public import proofs.«01_k».proof.Proof.Head

@[expose] public section

set_option maxRecDepth 16384

noncomputable section

namespace Cert.HeadIdeal.Product

open Cert.HeadIdeal Cert.HeadIdeal.Gen Cert.HeadIdeal.Value Idealize.ShloMosaic Idealize.ShloMosaic.TcCoe Idealize.SL.Sem

theorem hz : (![0, 0] : Fin 2 → Nat) = fun _ => 0 := funext fun a => by fin_cases a <;> rfl

section Blocks

variable {F : FTy → Type} [FloatOps F]
variable (x0 : Vec F S256x1024 .f32) (x1 : Vec F S256x1024 .bf16) (x2 : Vec F S256x2816 .bf16) (x3 : Vec F S256x256 .f32) (x4 : Vec F S2816x1024 .bf16) (x5 : Vec F S1024x1024 .bf16)
  (x6 : Vec F S256x1024 .bf16) (x7 x8 x9 : Vec F S1x1024 .f32) (x10 : Vec F S256x1024 .f32)

/-- A point's blocks: the sum that is normalised and its mean, the gradient at the norm's result, and the norm's own three. -/
def sumB : FVec F S256x1024 .f32 := k0_pay12 x2 x4 x1 x5 x3 x6 x0 x7
def meanB : FVec F S256x1 .f32 := k0_pay13 x2 x4 x1 x5 x3 x6 x0 x7
def cotB : FVec F S256x1024 .f32 := k0_pay21 x10 x8 x9 (sumB x0 x1 x2 x3 x4 x5 x6 x7) (meanB x0 x1 x2 x3 x4 x5 x6 x7)
def devB : FVec F S256x1024 .f32 := k0_pay14 (sumB x0 x1 x2 x3 x4 x5 x6 x7) (meanB x0 x1 x2 x3 x4 x5 x6 x7)
def scaleB : FVec F S256x1 .f32 := k0_pay16 (sumB x0 x1 x2 x3 x4 x5 x6 x7) (meanB x0 x1 x2 x3 x4 x5 x6 x7)
def slopeB : FVec F S256x1 .f32 := k0_pay17 (sumB x0 x1 x2 x3 x4 x5 x6 x7) (meanB x0 x1 x2 x3 x4 x5 x6 x7)

/-- What it writes: the sum's gradient, the same rounded, the gate's and the embedding's, … -/
def rowsB : FVec F S256x1024 .f32 := k0_pay24 x8 (devB x0 x1 x2 x3 x4 x5 x6 x7) (scaleB x0 x1 x2 x3 x4 x5 x6 x7) (slopeB x0 x1 x2 x3 x4 x5 x6 x7) (cotB x0 x1 x2 x3 x4 x5 x6 x7 x8 x9 x10)
def roundB : FVec F S256x1024 .bf16 := k0_pay27 x8 (devB x0 x1 x2 x3 x4 x5 x6 x7) (scaleB x0 x1 x2 x3 x4 x5 x6 x7) (slopeB x0 x1 x2 x3 x4 x5 x6 x7) (cotB x0 x1 x2 x3 x4 x5 x6 x7 x8 x9 x10)
def gateB : FVec F S256x1024 .bf16 := k0_pay28 (k0_pay9 x3 x6) x8 (k0_pay11 x1 x5 x7) (devB x0 x1 x2 x3 x4 x5 x6 x7) (scaleB x0 x1 x2 x3 x4 x5 x6 x7) (slopeB x0 x1 x2 x3 x4 x5 x6 x7) (cotB x0 x1 x2 x3 x4 x5 x6 x7 x8 x9 x10)
def embB : FVec F S256x1024 .bf16 := k0_pay29 x8 (k0_pay10 x1 x5 x7) (devB x0 x1 x2 x3 x4 x5 x6 x7) (scaleB x0 x1 x2 x3 x4 x5 x6 x7) (slopeB x0 x1 x2 x3 x4 x5 x6 x7) (cotB x0 x1 x2 x3 x4 x5 x6 x7 x8 x9 x10)

/-- … and what it adds: to the loss, to the gate's bias's gradient, to the gain's and to the norm's bias's. -/
def lossB : FVec F S1x1 .f32 := k0_pay20 x10 x8 x9 (sumB x0 x1 x2 x3 x4 x5 x6 x7) (meanB x0 x1 x2 x3 x4 x5 x6 x7)
def gateBiasB : FVec F S1x1024 .f32 := k0_pay26 (k0_pay9 x3 x6) x8 (k0_pay11 x1 x5 x7) (devB x0 x1 x2 x3 x4 x5 x6 x7) (scaleB x0 x1 x2 x3 x4 x5 x6 x7) (slopeB x0 x1 x2 x3 x4 x5 x6 x7) (cotB x0 x1 x2 x3 x4 x5 x6 x7 x8 x9 x10)
def gainB : FVec F S1x1024 .f32 := k0_pay23 (k0_pay18 (sumB x0 x1 x2 x3 x4 x5 x6 x7) (meanB x0 x1 x2 x3 x4 x5 x6 x7)) (cotB x0 x1 x2 x3 x4 x5 x6 x7 x8 x9 x10)
def biasB : FVec F S1x1024 .f32 := k0_pay22 (cotB x0 x1 x2 x3 x4 x5 x6 x7 x8 x9 x10)

end Blocks

section Points

variable {F : FTy → Type} [FloatOps F] (c : Dev nD)

/-- The sum's gradient, … -/
theorem out11_A (i a1 h1 a2 h2 a3 h3 a4 h4 a5 h5 a6 h6 a7 h7 a8 h8 a9 h9 a10 h10 a11 h11 a12 h12 a13 h13 a14 h14 a15 h15 a16 h16 a17 h17 a18 h18 a19 h19 hc0) (x0 : Vec F S256x1024 .f32) (x1 : Vec F S256x1024 .bf16) (x2 : Vec F S256x2816 .bf16) (x3 : Vec F S256x256 .f32) (x4 : Vec F S2816x1024 .bf16) (x5 : Vec F S1024x1024 .bf16) (x6 : Vec F S256x1024 .bf16) (x7 x8 x9 : Vec F S1x1024 .f32) (x10 : Vec F S256x1024 .f32) :
    out0_A_11 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 = rowsB x0 x1 x2 x3 x4 x5 x6 x7 x8 x9 x10 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S256x2816) hz, View.ld_unit_zero (S := S256x256) hz, View.ld_unit_zero (S := S2816x1024) hz, View.ld_unit_zero (S := S1024x1024) hz, View.ld_unit_zero (S := S1x1024) hz, View.ld_unit_zero (S := S8x128) hz]
  rfl
theorem out11_B (i a1 h1 a2 h2 a3 h3 a4 h4 a5 h5 a6 h6 a7 h7 a8 h8 a9 h9 a10 h10 a11 h11 a12 h12 a13 h13 a14 h14 a15 h15 a16 h16 a17 h17 a18 h18 a19 h19 hc0) (x0 : Vec F S256x1024 .f32) (x1 : Vec F S256x1024 .bf16) (x2 : Vec F S256x2816 .bf16) (x3 : Vec F S256x256 .f32) (x4 : Vec F S2816x1024 .bf16) (x5 : Vec F S1024x1024 .bf16) (x6 : Vec F S256x1024 .bf16) (x7 x8 x9 : Vec F S1x1024 .f32) (x10 : Vec F S256x1024 .f32) (y0 : Vec F S8x128 .f32) (y1 y2 y3 : Vec F S1x1024 .f32) :
    out0_B_11 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 y0 y1 y2 y3 = rowsB x0 x1 x2 x3 x4 x5 x6 x7 x8 x9 x10 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 y0 y1 y2 y3)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S256x2816) hz, View.ld_unit_zero (S := S256x256) hz, View.ld_unit_zero (S := S2816x1024) hz, View.ld_unit_zero (S := S1024x1024) hz, View.ld_unit_zero (S := S1x1024) hz, View.ld_unit_zero (S := S8x128) hz]
  rfl

/-- … the same, rounded, … -/
theorem out12_A (i a1 h1 a2 h2 a3 h3 a4 h4 a5 h5 a6 h6 a7 h7 a8 h8 a9 h9 a10 h10 a11 h11 a12 h12 a13 h13 a14 h14 a15 h15 a16 h16 a17 h17 a18 h18 a19 h19 hc0) (x0 : Vec F S256x1024 .f32) (x1 : Vec F S256x1024 .bf16) (x2 : Vec F S256x2816 .bf16) (x3 : Vec F S256x256 .f32) (x4 : Vec F S2816x1024 .bf16) (x5 : Vec F S1024x1024 .bf16) (x6 : Vec F S256x1024 .bf16) (x7 x8 x9 : Vec F S1x1024 .f32) (x10 : Vec F S256x1024 .f32) :
    out0_A_12 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 = roundB x0 x1 x2 x3 x4 x5 x6 x7 x8 x9 x10 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S256x2816) hz, View.ld_unit_zero (S := S256x256) hz, View.ld_unit_zero (S := S2816x1024) hz, View.ld_unit_zero (S := S1024x1024) hz, View.ld_unit_zero (S := S1x1024) hz, View.ld_unit_zero (S := S8x128) hz]
  rfl
theorem out12_B (i a1 h1 a2 h2 a3 h3 a4 h4 a5 h5 a6 h6 a7 h7 a8 h8 a9 h9 a10 h10 a11 h11 a12 h12 a13 h13 a14 h14 a15 h15 a16 h16 a17 h17 a18 h18 a19 h19 hc0) (x0 : Vec F S256x1024 .f32) (x1 : Vec F S256x1024 .bf16) (x2 : Vec F S256x2816 .bf16) (x3 : Vec F S256x256 .f32) (x4 : Vec F S2816x1024 .bf16) (x5 : Vec F S1024x1024 .bf16) (x6 : Vec F S256x1024 .bf16) (x7 x8 x9 : Vec F S1x1024 .f32) (x10 : Vec F S256x1024 .f32) (y0 : Vec F S8x128 .f32) (y1 y2 y3 : Vec F S1x1024 .f32) :
    out0_B_12 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 y0 y1 y2 y3 = roundB x0 x1 x2 x3 x4 x5 x6 x7 x8 x9 x10 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 y0 y1 y2 y3)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S256x2816) hz, View.ld_unit_zero (S := S256x256) hz, View.ld_unit_zero (S := S2816x1024) hz, View.ld_unit_zero (S := S1024x1024) hz, View.ld_unit_zero (S := S1x1024) hz, View.ld_unit_zero (S := S8x128) hz]
  rfl

/-- … the gate's, … -/
theorem out13_A (i a1 h1 a2 h2 a3 h3 a4 h4 a5 h5 a6 h6 a7 h7 a8 h8 a9 h9 a10 h10 a11 h11 a12 h12 a13 h13 a14 h14 a15 h15 a16 h16 a17 h17 a18 h18 a19 h19 hc0) (x0 : Vec F S256x1024 .f32) (x1 : Vec F S256x1024 .bf16) (x2 : Vec F S256x2816 .bf16) (x3 : Vec F S256x256 .f32) (x4 : Vec F S2816x1024 .bf16) (x5 : Vec F S1024x1024 .bf16) (x6 : Vec F S256x1024 .bf16) (x7 x8 x9 : Vec F S1x1024 .f32) (x10 : Vec F S256x1024 .f32) :
    out0_A_13 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 = gateB x0 x1 x2 x3 x4 x5 x6 x7 x8 x9 x10 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S256x2816) hz, View.ld_unit_zero (S := S256x256) hz, View.ld_unit_zero (S := S2816x1024) hz, View.ld_unit_zero (S := S1024x1024) hz, View.ld_unit_zero (S := S1x1024) hz, View.ld_unit_zero (S := S8x128) hz]
  rfl
theorem out13_B (i a1 h1 a2 h2 a3 h3 a4 h4 a5 h5 a6 h6 a7 h7 a8 h8 a9 h9 a10 h10 a11 h11 a12 h12 a13 h13 a14 h14 a15 h15 a16 h16 a17 h17 a18 h18 a19 h19 hc0) (x0 : Vec F S256x1024 .f32) (x1 : Vec F S256x1024 .bf16) (x2 : Vec F S256x2816 .bf16) (x3 : Vec F S256x256 .f32) (x4 : Vec F S2816x1024 .bf16) (x5 : Vec F S1024x1024 .bf16) (x6 : Vec F S256x1024 .bf16) (x7 x8 x9 : Vec F S1x1024 .f32) (x10 : Vec F S256x1024 .f32) (y0 : Vec F S8x128 .f32) (y1 y2 y3 : Vec F S1x1024 .f32) :
    out0_B_13 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 y0 y1 y2 y3 = gateB x0 x1 x2 x3 x4 x5 x6 x7 x8 x9 x10 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 y0 y1 y2 y3)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S256x2816) hz, View.ld_unit_zero (S := S256x256) hz, View.ld_unit_zero (S := S2816x1024) hz, View.ld_unit_zero (S := S1024x1024) hz, View.ld_unit_zero (S := S1x1024) hz, View.ld_unit_zero (S := S8x128) hz]
  rfl

/-- … the embedding's, … -/
theorem out14_A (i a1 h1 a2 h2 a3 h3 a4 h4 a5 h5 a6 h6 a7 h7 a8 h8 a9 h9 a10 h10 a11 h11 a12 h12 a13 h13 a14 h14 a15 h15 a16 h16 a17 h17 a18 h18 a19 h19 hc0) (x0 : Vec F S256x1024 .f32) (x1 : Vec F S256x1024 .bf16) (x2 : Vec F S256x2816 .bf16) (x3 : Vec F S256x256 .f32) (x4 : Vec F S2816x1024 .bf16) (x5 : Vec F S1024x1024 .bf16) (x6 : Vec F S256x1024 .bf16) (x7 x8 x9 : Vec F S1x1024 .f32) (x10 : Vec F S256x1024 .f32) :
    out0_A_14 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 = embB x0 x1 x2 x3 x4 x5 x6 x7 x8 x9 x10 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S256x2816) hz, View.ld_unit_zero (S := S256x256) hz, View.ld_unit_zero (S := S2816x1024) hz, View.ld_unit_zero (S := S1024x1024) hz, View.ld_unit_zero (S := S1x1024) hz, View.ld_unit_zero (S := S8x128) hz]
  rfl
theorem out14_B (i a1 h1 a2 h2 a3 h3 a4 h4 a5 h5 a6 h6 a7 h7 a8 h8 a9 h9 a10 h10 a11 h11 a12 h12 a13 h13 a14 h14 a15 h15 a16 h16 a17 h17 a18 h18 a19 h19 hc0) (x0 : Vec F S256x1024 .f32) (x1 : Vec F S256x1024 .bf16) (x2 : Vec F S256x2816 .bf16) (x3 : Vec F S256x256 .f32) (x4 : Vec F S2816x1024 .bf16) (x5 : Vec F S1024x1024 .bf16) (x6 : Vec F S256x1024 .bf16) (x7 x8 x9 : Vec F S1x1024 .f32) (x10 : Vec F S256x1024 .f32) (y0 : Vec F S8x128 .f32) (y1 y2 y3 : Vec F S1x1024 .f32) :
    out0_B_14 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 y0 y1 y2 y3 = embB x0 x1 x2 x3 x4 x5 x6 x7 x8 x9 x10 := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 y0 y1 y2 y3)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S256x2816) hz, View.ld_unit_zero (S := S256x256) hz, View.ld_unit_zero (S := S2816x1024) hz, View.ld_unit_zero (S := S1024x1024) hz, View.ld_unit_zero (S := S1x1024) hz, View.ld_unit_zero (S := S8x128) hz]
  rfl

/-- … the loss, added to what the point before left (to zero at the first point), … -/
theorem out15_A (i a1 h1 a2 h2 a3 h3 a4 h4 a5 h5 a6 h6 a7 h7 a8 h8 a9 h9 a10 h10 a11 h11 a12 h12 a13 h13 a14 h14 a15 h15 a16 h16 a17 h17 a18 h18 a19 h19 hc0) (x0 : Vec F S256x1024 .f32) (x1 : Vec F S256x1024 .bf16) (x2 : Vec F S256x2816 .bf16) (x3 : Vec F S256x256 .f32) (x4 : Vec F S2816x1024 .bf16) (x5 : Vec F S1024x1024 .bf16) (x6 : Vec F S256x1024 .bf16) (x7 x8 x9 : Vec F S1x1024 .f32) (x10 : Vec F S256x1024 .f32) :
    out0_A_15 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 = k0_pay5 (lossB x0 x1 x2 x3 x4 x5 x6 x7 x8 x9 x10) k0_pay1 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10)]
  unfold kernelRun0_A
  dsimp only
  sl_unfold_words
  rw [View.canon_cons_unit_zero (S := S8x128) hz, View.readCov_unit_zero (S := S8x128) _ hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S256x2816) hz, View.ld_unit_zero (S := S256x256) hz, View.ld_unit_zero (S := S2816x1024) hz, View.ld_unit_zero (S := S1024x1024) hz, View.ld_unit_zero (S := S1x1024) hz, View.ld_unit_zero (S := S8x128) hz]
  rfl
theorem out15_B (i a1 h1 a2 h2 a3 h3 a4 h4 a5 h5 a6 h6 a7 h7 a8 h8 a9 h9 a10 h10 a11 h11 a12 h12 a13 h13 a14 h14 a15 h15 a16 h16 a17 h17 a18 h18 a19 h19 hc0) (x0 : Vec F S256x1024 .f32) (x1 : Vec F S256x1024 .bf16) (x2 : Vec F S256x2816 .bf16) (x3 : Vec F S256x256 .f32) (x4 : Vec F S2816x1024 .bf16) (x5 : Vec F S1024x1024 .bf16) (x6 : Vec F S256x1024 .bf16) (x7 x8 x9 : Vec F S1x1024 .f32) (x10 : Vec F S256x1024 .f32) (y0 : Vec F S8x128 .f32) (y1 y2 y3 : Vec F S1x1024 .f32) :
    out0_B_15 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 y0 y1 y2 y3 = k0_pay5 (lossB x0 x1 x2 x3 x4 x5 x6 x7 x8 x9 x10) y0 := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 y0 y1 y2 y3)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h16.read_unread, View.ld_unit_zero (S := S256x1024) hz, View.ld_unit_zero (S := S256x2816) hz, View.ld_unit_zero (S := S256x256) hz, View.ld_unit_zero (S := S2816x1024) hz, View.ld_unit_zero (S := S1024x1024) hz, View.ld_unit_zero (S := S1x1024) hz, View.ld_unit_zero (S := S8x128) hz]
  rfl

/-- … and so the gate's bias's gradient, … -/
theorem out16_A (i a1 h1 a2 h2 a3 h3 a4 h4 a5 h5 a6 h6 a7 h7 a8 h8 a9 h9 a10 h10 a11 h11 a12 h12 a13 h13 a14 h14 a15 h15 a16 h16 a17 h17 a18 h18 a19 h19 hc0) (x0 : Vec F S256x1024 .f32) (x1 : Vec F S256x1024 .bf16) (x2 : Vec F S256x2816 .bf16) (x3 : Vec F S256x256 .f32) (x4 : Vec F S2816x1024 .bf16) (x5 : Vec F S1024x1024 .bf16) (x6 : Vec F S256x1024 .bf16) (x7 x8 x9 : Vec F S1x1024 .f32) (x10 : Vec F S256x1024 .f32) :
    out0_A_16 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 = k0_pay6 (gateBiasB x0 x1 x2 x3 x4 x5 x6 x7 x8 x9 x10) k0_pay2 := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S256x2816) hz, View.ld_unit_zero (S := S256x256) hz, View.ld_unit_zero (S := S2816x1024) hz, View.ld_unit_zero (S := S1024x1024) hz, View.ld_unit_zero (S := S1x1024) hz, View.ld_unit_zero (S := S8x128) hz]
  rfl
theorem out16_B (i a1 h1 a2 h2 a3 h3 a4 h4 a5 h5 a6 h6 a7 h7 a8 h8 a9 h9 a10 h10 a11 h11 a12 h12 a13 h13 a14 h14 a15 h15 a16 h16 a17 h17 a18 h18 a19 h19 hc0) (x0 : Vec F S256x1024 .f32) (x1 : Vec F S256x1024 .bf16) (x2 : Vec F S256x2816 .bf16) (x3 : Vec F S256x256 .f32) (x4 : Vec F S2816x1024 .bf16) (x5 : Vec F S1024x1024 .bf16) (x6 : Vec F S256x1024 .bf16) (x7 x8 x9 : Vec F S1x1024 .f32) (x10 : Vec F S256x1024 .f32) (y0 : Vec F S8x128 .f32) (y1 y2 y3 : Vec F S1x1024 .f32) :
    out0_B_16 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 y0 y1 y2 y3 = k0_pay6 (gateBiasB x0 x1 x2 x3 x4 x5 x6 x7 x8 x9 x10) y1 := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 y0 y1 y2 y3)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h17.read_unread, View.ld_unit_zero (S := S256x1024) hz, View.ld_unit_zero (S := S256x2816) hz, View.ld_unit_zero (S := S256x256) hz, View.ld_unit_zero (S := S2816x1024) hz, View.ld_unit_zero (S := S1024x1024) hz, View.ld_unit_zero (S := S1x1024) hz, View.ld_unit_zero (S := S8x128) hz]
  rfl

/-- … the gain's … -/
theorem out17_A (i a1 h1 a2 h2 a3 h3 a4 h4 a5 h5 a6 h6 a7 h7 a8 h8 a9 h9 a10 h10 a11 h11 a12 h12 a13 h13 a14 h14 a15 h15 a16 h16 a17 h17 a18 h18 a19 h19 hc0) (x0 : Vec F S256x1024 .f32) (x1 : Vec F S256x1024 .bf16) (x2 : Vec F S256x2816 .bf16) (x3 : Vec F S256x256 .f32) (x4 : Vec F S2816x1024 .bf16) (x5 : Vec F S1024x1024 .bf16) (x6 : Vec F S256x1024 .bf16) (x7 x8 x9 : Vec F S1x1024 .f32) (x10 : Vec F S256x1024 .f32) :
    out0_A_17 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 = k0_pay7 (gainB x0 x1 x2 x3 x4 x5 x6 x7 x8 x9 x10) k0_pay3 := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S256x2816) hz, View.ld_unit_zero (S := S256x256) hz, View.ld_unit_zero (S := S2816x1024) hz, View.ld_unit_zero (S := S1024x1024) hz, View.ld_unit_zero (S := S1x1024) hz, View.ld_unit_zero (S := S8x128) hz]
  rfl
theorem out17_B (i a1 h1 a2 h2 a3 h3 a4 h4 a5 h5 a6 h6 a7 h7 a8 h8 a9 h9 a10 h10 a11 h11 a12 h12 a13 h13 a14 h14 a15 h15 a16 h16 a17 h17 a18 h18 a19 h19 hc0) (x0 : Vec F S256x1024 .f32) (x1 : Vec F S256x1024 .bf16) (x2 : Vec F S256x2816 .bf16) (x3 : Vec F S256x256 .f32) (x4 : Vec F S2816x1024 .bf16) (x5 : Vec F S1024x1024 .bf16) (x6 : Vec F S256x1024 .bf16) (x7 x8 x9 : Vec F S1x1024 .f32) (x10 : Vec F S256x1024 .f32) (y0 : Vec F S8x128 .f32) (y1 y2 y3 : Vec F S1x1024 .f32) :
    out0_B_17 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 y0 y1 y2 y3 = k0_pay7 (gainB x0 x1 x2 x3 x4 x5 x6 x7 x8 x9 x10) y2 := by
  unfold out0_B_17
  rw [View.read_writes_eq_canon _ _ _ (cover0_B_17 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 y0 y1 y2 y3)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h18.read_unread, View.ld_unit_zero (S := S256x1024) hz, View.ld_unit_zero (S := S256x2816) hz, View.ld_unit_zero (S := S256x256) hz, View.ld_unit_zero (S := S2816x1024) hz, View.ld_unit_zero (S := S1024x1024) hz, View.ld_unit_zero (S := S1x1024) hz, View.ld_unit_zero (S := S8x128) hz]
  rfl

/-- … and the norm's bias's. -/
theorem out18_A (i a1 h1 a2 h2 a3 h3 a4 h4 a5 h5 a6 h6 a7 h7 a8 h8 a9 h9 a10 h10 a11 h11 a12 h12 a13 h13 a14 h14 a15 h15 a16 h16 a17 h17 a18 h18 a19 h19 hc0) (x0 : Vec F S256x1024 .f32) (x1 : Vec F S256x1024 .bf16) (x2 : Vec F S256x2816 .bf16) (x3 : Vec F S256x256 .f32) (x4 : Vec F S2816x1024 .bf16) (x5 : Vec F S1024x1024 .bf16) (x6 : Vec F S256x1024 .bf16) (x7 x8 x9 : Vec F S1x1024 .f32) (x10 : Vec F S256x1024 .f32) :
    out0_A_18 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 = k0_pay8 (biasB x0 x1 x2 x3 x4 x5 x6 x7 x8 x9 x10) k0_pay4 := by
  unfold out0_A_18
  rw [View.read_writes_eq_canon _ _ _ (cover0_A_18 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x1024) hz, View.ld_unit_zero (S := S256x2816) hz, View.ld_unit_zero (S := S256x256) hz, View.ld_unit_zero (S := S2816x1024) hz, View.ld_unit_zero (S := S1024x1024) hz, View.ld_unit_zero (S := S1x1024) hz, View.ld_unit_zero (S := S8x128) hz]
  rfl
theorem out18_B (i a1 h1 a2 h2 a3 h3 a4 h4 a5 h5 a6 h6 a7 h7 a8 h8 a9 h9 a10 h10 a11 h11 a12 h12 a13 h13 a14 h14 a15 h15 a16 h16 a17 h17 a18 h18 a19 h19 hc0) (x0 : Vec F S256x1024 .f32) (x1 : Vec F S256x1024 .bf16) (x2 : Vec F S256x2816 .bf16) (x3 : Vec F S256x256 .f32) (x4 : Vec F S2816x1024 .bf16) (x5 : Vec F S1024x1024 .bf16) (x6 : Vec F S256x1024 .bf16) (x7 x8 x9 : Vec F S1x1024 .f32) (x10 : Vec F S256x1024 .f32) (y0 : Vec F S8x128 .f32) (y1 y2 y3 : Vec F S1x1024 .f32) :
    out0_B_18 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 y0 y1 y2 y3 = k0_pay8 (biasB x0 x1 x2 x3 x4 x5 x6 x7 x8 x9 x10) y3 := by
  unfold out0_B_18
  rw [View.read_writes_eq_canon _ _ _ (cover0_B_18 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 y0 y1 y2 y3)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h19.read_unread, View.ld_unit_zero (S := S256x1024) hz, View.ld_unit_zero (S := S256x2816) hz, View.ld_unit_zero (S := S256x256) hz, View.ld_unit_zero (S := S2816x1024) hz, View.ld_unit_zero (S := S1024x1024) hz, View.ld_unit_zero (S := S1x1024) hz, View.ld_unit_zero (S := S8x128) hz]
  rfl

end Points

end Cert.HeadIdeal.Product

end
-- ==== Proof.HeadBlock.lean ====
/- The last products with the second layer norm, the loss and its gradient: a point's blocks as rows of the arguments. -/
module

public import proofs.«01_k».proof.Proof.HeadPoint

@[expose] public section

set_option maxRecDepth 16384

noncomputable section

namespace Cert.HeadIdeal.Product

open Cert.HeadIdeal Cert.HeadIdeal.Gen Cert.HeadIdeal.Value Idealize.ShloMosaic Idealize.ShloMosaic.TcCoe Idealize.SL.Sem RowNorm HeadRow
open Idealize.ShloMosaic.Pipeline (Dat)

variable (c : Dev nD) (m : (ℓ : Loc nD τ sig) → Buf (Elt Ideal) ℓ)

/-- The arguments: the norm's residual, its rounding, the activations, the embedding, the three weights, the gate's bias, the gain, the bias and the target. -/
abbrev h1 : FVec Ideal ⟨2, ![8192, 1024]⟩ .f32 := m ((c : Thread nD τ).loc main_arg0)
abbrev h1b : FVec Ideal ⟨2, ![8192, 1024]⟩ .bf16 := m ((c : Thread nD τ).loc main_arg1)
abbrev act : FVec Ideal ⟨2, ![8192, 2816]⟩ .bf16 := m ((c : Thread nD τ).loc main_arg2)
abbrev pt : FVec Ideal ⟨2, ![8192, 256]⟩ .f32 := m ((c : Thread nD τ).loc main_arg3)
abbrev wdown : FVec Ideal ⟨2, ![2816, 1024]⟩ .bf16 := m ((c : Thread nD τ).loc main_arg4)
abbrev wgate : FVec Ideal ⟨2, ![1024, 1024]⟩ .bf16 := m ((c : Thread nD τ).loc main_arg5)
abbrev wproj : FVec Ideal ⟨2, ![256, 1024]⟩ .bf16 := m ((c : Thread nD τ).loc main_arg6)
abbrev bgate : FVec Ideal ⟨2, ![1, 1024]⟩ .f32 := m ((c : Thread nD τ).loc main_arg7)
abbrev gain : FVec Ideal ⟨2, ![1, 1024]⟩ .f32 := m ((c : Thread nD τ).loc main_arg8)
abbrev bias : FVec Ideal ⟨2, ![1, 1024]⟩ .f32 := m ((c : Thread nD τ).loc main_arg9)
abbrev target : FVec Ideal ⟨2, ![8192, 1024]⟩ .f32 := m ((c : Thread nD τ).loc main_arg10)

/-- Where each array's block lies at a point. -/
theorem index : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![0, 0]
    ∧ win0_16.index t = ![0, 0]
    ∧ win0_17.index t = ![0, 0]
    ∧ win0_18.index t = ![0, 0] :=
  (by decide +kernel : ∀ t : Fin grid0.N, _)

theorem iblk_h1 (t : Fin cfg0.N) (i : Fin 256) : row (φ := .f32) (iblk m c 0 t : FVec Ideal S256x1024 .f32) i = rowAt (h1 c m) (t.val * 256 + i.val) := by
  have ht : t.val < 32 := t.isLt
  have hi := i.isLt
  rw [rowAt_eq _ (by omega)]
  funext j
  show (iblk m c 0 t : FVec Ideal S256x1024 .f32) (ix2 i j) = h1 c m (ix2 ⟨_, _⟩ j)
  blk_ext [iblk, index t]

theorem iblk_h1b (t : Fin cfg0.N) (i : Fin 256) : line (φ := .bf16) (iblk m c 1 t : FVec Ideal S256x1024 .bf16) i = lineAt (h1b c m) (t.val * 256 + i.val) := by
  have ht : t.val < 32 := t.isLt
  have hi := i.isLt
  rw [lineAt_eq _ (by omega)]
  funext j
  show (iblk m c 1 t : FVec Ideal S256x1024 .bf16) (ix2 i j) = h1b c m (ix2 ⟨_, _⟩ j)
  blk_ext [iblk, index t]

theorem iblk_act (t : Fin cfg0.N) (i : Fin 256) : line (φ := .bf16) (iblk m c 2 t : FVec Ideal S256x2816 .bf16) i = lineAt (act c m) (t.val * 256 + i.val) := by
  have ht : t.val < 32 := t.isLt
  have hi := i.isLt
  rw [lineAt_eq _ (by omega)]
  funext j
  show (iblk m c 2 t : FVec Ideal S256x2816 .bf16) (ix2 i j) = act c m (ix2 ⟨_, _⟩ j)
  blk_ext [iblk, index t]

theorem iblk_pt (t : Fin cfg0.N) (i : Fin 256) : line (φ := .f32) (iblk m c 3 t : FVec Ideal S256x256 .f32) i = lineAt (pt c m) (t.val * 256 + i.val) := by
  have ht : t.val < 32 := t.isLt
  have hi := i.isLt
  rw [lineAt_eq _ (by omega)]
  funext j
  show (iblk m c 3 t : FVec Ideal S256x256 .f32) (ix2 i j) = pt c m (ix2 ⟨_, _⟩ j)
  blk_ext [iblk, index t]

theorem iblk_wdown (t : Fin cfg0.N) : (iblk m c 4 t : FVec Ideal S2816x1024 .bf16) = wdown c m := by
  funext y
  obtain ⟨i, j, rfl⟩ : ∃ (i : Fin 2816) (j : Fin 1024), y = ix2 i j := ⟨y 0, y 1, (ix2_eta y).symm⟩
  blk_ext [iblk, index t]

theorem iblk_wgate (t : Fin cfg0.N) : (iblk m c 5 t : FVec Ideal S1024x1024 .bf16) = wgate c m := by
  funext y
  obtain ⟨i, j, rfl⟩ : ∃ (i : Fin 1024) (j : Fin 1024), y = ix2 i j := ⟨y 0, y 1, (ix2_eta y).symm⟩
  blk_ext [iblk, index t]

theorem iblk_wproj (t : Fin cfg0.N) : (iblk m c 6 t : FVec Ideal S256x1024 .bf16) = wproj c m := by
  funext y
  obtain ⟨i, j, rfl⟩ : ∃ (i : Fin 256) (j : Fin 1024), y = ix2 i j := ⟨y 0, y 1, (ix2_eta y).symm⟩
  blk_ext [iblk, index t]

theorem iblk_bgate (t : Fin cfg0.N) : row (φ := .f32) (iblk m c 7 t : FVec Ideal S1x1024 .f32) 0 = row (bgate c m) 0 := by
  funext j
  show (iblk m c 7 t : FVec Ideal S1x1024 .f32) (ix2 0 j) = bgate c m (ix2 0 j)
  blk_ext [iblk, index t]

theorem iblk_gain (t : Fin cfg0.N) : row (φ := .f32) (iblk m c 8 t : FVec Ideal S1x1024 .f32) 0 = row (gain c m) 0 := by
  funext j
  show (iblk m c 8 t : FVec Ideal S1x1024 .f32) (ix2 0 j) = gain c m (ix2 0 j)
  blk_ext [iblk, index t]

theorem iblk_bias (t : Fin cfg0.N) : row (φ := .f32) (iblk m c 9 t : FVec Ideal S1x1024 .f32) 0 = row (bias c m) 0 := by
  funext j
  show (iblk m c 9 t : FVec Ideal S1x1024 .f32) (ix2 0 j) = bias c m (ix2 0 j)
  blk_ext [iblk, index t]

theorem iblk_target (t : Fin cfg0.N) (i : Fin 256) : row (φ := .f32) (iblk m c 10 t : FVec Ideal S256x1024 .f32) i = rowAt (target c m) (t.val * 256 + i.val) := by
  have ht : t.val < 32 := t.isLt
  have hi := i.isLt
  rw [rowAt_eq _ (by omega)]
  funext j
  show (iblk m c 10 t : FVec Ideal S256x1024 .f32) (ix2 i j) = target c m (ix2 ⟨_, _⟩ j)
  blk_ext [iblk, index t]

/-- Row `n` of the embedding's product, of the gate and its slope, and of the sum that is normalised, … -/
def embRow (n : ℕ) : Row := into (lineAt (pt c m) n) (wproj c m)
def gateRow (n : ℕ) : Row := gate (into (lineAt (h1b c m) n) (wgate c m)) (row (bgate c m) 0)
def slopeRow (n : ℕ) : Row := gateSlope (into (lineAt (h1b c m) n) (wgate c m)) (row (bgate c m) 0)
def sumRow (n : ℕ) : Row := whole (rowAt (h1 c m) n) (into (lineAt (act c m) n) (wdown c m)) (into (lineAt (h1b c m) n) (wgate c m)) (row (bgate c m) 0) (embRow c m n)

/-- … of the distance from the target and of its gradient, … -/
def missRow (n : ℕ) : Row := miss (sumRow c m n) (row (gain c m) 0) (row (bias c m) 0) (rowAt (target c m) n)
def cotRow (n : ℕ) : Row := cotMiss (missRow c m n)

/-- … and of the gradients of the sum, of the gate's product and of the embedding's. -/
def dR (n : ℕ) : Row := dRow (sumRow c m n) (fun k => cotRow c m n k * row (gain c m) 0 k)
def dGate (n : ℕ) : Row := fun j => dR c m n j * embRow c m n j * slopeRow c m n j
def dEmb (n : ℕ) : Row := fun j => gateRow c m n j * dR c m n j

/-- What row `n` adds to the loss and to entry `j` of the gate's bias's, of the gain's and of the bias's gradient. -/
def lossAt (n : ℕ) : EReal := lossOf (missRow c m n)
def gateAt (j : Fin 1024) (n : ℕ) : EReal := dGate c m n j
def gainAt (j : Fin 1024) (n : ℕ) : EReal := dev (sumRow c m n) j * scale (sumRow c m n) * cotRow c m n j
def biasAt (j : Fin 1024) (n : ℕ) : EReal := cotRow c m n j

theorem emb_at (t : Fin cfg0.N) (i : Fin 256) (j : Fin 1024) : (k0_pay9 (F := Ideal) (iblk m c 3 t) (iblk m c 6 t) : FVec Ideal S256x1024 .f32) (ix2 i j) = embRow c m (t.val * 256 + i.val) j := by
  refine (emb_apply i j _ _).trans ?_
  rw [iblk_pt, iblk_wproj]
  rfl
theorem gate_at (t : Fin cfg0.N) (i : Fin 256) (j : Fin 1024) : (k0_pay10 (F := Ideal) (iblk m c 1 t) (iblk m c 5 t) (iblk m c 7 t) : FVec Ideal S256x1024 .f32) (ix2 i j) = gateRow c m (t.val * 256 + i.val) j := by
  refine (gate_apply i j _ _ _).trans ?_
  rw [iblk_h1b, iblk_wgate, iblk_bgate]
  rfl
theorem gateSlope_at (t : Fin cfg0.N) (i : Fin 256) (j : Fin 1024) : (k0_pay11 (F := Ideal) (iblk m c 1 t) (iblk m c 5 t) (iblk m c 7 t) : FVec Ideal S256x1024 .f32) (ix2 i j) = slopeRow c m (t.val * 256 + i.val) j := by
  refine (gateSlope_apply i j _ _ _).trans ?_
  rw [iblk_h1b, iblk_wgate, iblk_bgate]
  rfl

theorem sum_at (t : Fin cfg0.N) (i : Fin 256) (k : Fin 1024) : sumB (F := Ideal) (iblk m c 0 t) (iblk m c 1 t) (iblk m c 2 t) (iblk m c 3 t) (iblk m c 4 t) (iblk m c 5 t) (iblk m c 6 t) (iblk m c 7 t) (ix2 i k) = sumRow c m (t.val * 256 + i.val) k := by
  refine (whole_apply i k _ _ _ _ _ _ _ _).trans ?_
  rw [iblk_h1, iblk_act, iblk_wdown, iblk_h1b, iblk_wgate, iblk_bgate, iblk_pt, iblk_wproj]
  rfl
theorem mean_at (t : Fin cfg0.N) (i : Fin 256) (z : Fin 1) : meanB (F := Ideal) (iblk m c 0 t) (iblk m c 1 t) (iblk m c 2 t) (iblk m c 3 t) (iblk m c 4 t) (iblk m c 5 t) (iblk m c 6 t) (iblk m c 7 t) (ix2 i z) = Ideal.div (∑ k : Fin 1024, sumRow c m (t.val * 256 + i.val) k) len := by
  refine (mean_apply i z _ _ _ _ _ _ _ _).trans ?_
  rw [iblk_h1, iblk_act, iblk_wdown, iblk_h1b, iblk_wgate, iblk_bgate, iblk_pt, iblk_wproj]
  rfl

/-- The rows of the tile that point `t` works on. -/
def tile (t : Fin cfg0.N) (i : Fin 256) : Row := sumRow c m (t.val * 256 + i.val)

theorem dev_at (t : Fin cfg0.N) (i : Fin 256) (j : Fin 1024) : devB (F := Ideal) (iblk m c 0 t) (iblk m c 1 t) (iblk m c 2 t) (iblk m c 3 t) (iblk m c 4 t) (iblk m c 5 t) (iblk m c 6 t) (iblk m c 7 t) (ix2 i j) = dev (sumRow c m (t.val * 256 + i.val)) j :=
  dev_apply i j _ _ (tile c m t) (sum_at c m t) (mean_at c m t)
theorem scale_at (t : Fin cfg0.N) (i : Fin 256) (z : Fin 1) : scaleB (F := Ideal) (iblk m c 0 t) (iblk m c 1 t) (iblk m c 2 t) (iblk m c 3 t) (iblk m c 4 t) (iblk m c 5 t) (iblk m c 6 t) (iblk m c 7 t) (ix2 i z) = scale (sumRow c m (t.val * 256 + i.val)) :=
  scale_apply i z _ _ (tile c m t) (sum_at c m t) (mean_at c m t)
theorem slope_at (t : Fin cfg0.N) (i : Fin 256) (z : Fin 1) : slopeB (F := Ideal) (iblk m c 0 t) (iblk m c 1 t) (iblk m c 2 t) (iblk m c 3 t) (iblk m c 4 t) (iblk m c 5 t) (iblk m c 6 t) (iblk m c 7 t) (ix2 i z) = slope (sumRow c m (t.val * 256 + i.val)) :=
  slope_apply i z _ _ (tile c m t) (sum_at c m t) (mean_at c m t)
theorem cot_at (t : Fin cfg0.N) (i : Fin 256) (j : Fin 1024) : cotB (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j) = cotRow c m (t.val * 256 + i.val) j := by
  refine (cot_apply i j _ _ _ _ _ (tile c m t) (sum_at c m t) (mean_at c m t)).trans ?_
  rw [iblk_gain, iblk_bias, iblk_target]
  rfl

theorem rows_at (t : Fin cfg0.N) (i : Fin 256) (j : Fin 1024) : rowsB (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j) = dR c m (t.val * 256 + i.val) j := by
  refine (drow_apply i j _ _ _ _ _ (sumRow c m (t.val * 256 + i.val)) (cotRow c m (t.val * 256 + i.val)) (dev_at c m t i) (scale_at c m t i) (slope_at c m t i) (cot_at c m t i)).trans ?_
  rw [iblk_gain]
  rfl
theorem round_at (t : Fin cfg0.N) (i : Fin 256) (j : Fin 1024) : roundB (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j) = dR c m (t.val * 256 + i.val) j :=
  (drowRound_apply i j _ _ _ _ _).trans (rows_at c m t i j)
theorem dgate_at (t : Fin cfg0.N) (i : Fin 256) (j : Fin 1024) :
    (k0_pay25 (F := Ideal) (k0_pay9 (iblk m c 3 t) (iblk m c 6 t)) (iblk m c 8 t) (k0_pay11 (iblk m c 1 t) (iblk m c 5 t) (iblk m c 7 t)) (devB (iblk m c 0 t) (iblk m c 1 t) (iblk m c 2 t) (iblk m c 3 t) (iblk m c 4 t) (iblk m c 5 t) (iblk m c 6 t) (iblk m c 7 t)) (scaleB (iblk m c 0 t) (iblk m c 1 t) (iblk m c 2 t) (iblk m c 3 t) (iblk m c 4 t) (iblk m c 5 t) (iblk m c 6 t) (iblk m c 7 t)) (slopeB (iblk m c 0 t) (iblk m c 1 t) (iblk m c 2 t) (iblk m c 3 t) (iblk m c 4 t) (iblk m c 5 t) (iblk m c 6 t) (iblk m c 7 t)) (cotB (iblk m c 0 t) (iblk m c 1 t) (iblk m c 2 t) (iblk m c 3 t) (iblk m c 4 t) (iblk m c 5 t) (iblk m c 6 t) (iblk m c 7 t) (iblk m c 8 t) (iblk m c 9 t) (iblk m c 10 t)) : FVec Ideal S256x1024 .f32) (ix2 i j) = dGate c m (t.val * 256 + i.val) j := by
  refine (dgate_apply i j _ _ _ _ _ _ _).trans ?_
  rw [emb_at, gateSlope_at]
  exact congrArg (· * embRow c m (t.val * 256 + i.val) j * slopeRow c m (t.val * 256 + i.val) j) (rows_at c m t i j)
theorem gateRound_at (t : Fin cfg0.N) (i : Fin 256) (j : Fin 1024) : gateB (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j) = dGate c m (t.val * 256 + i.val) j :=
  (dgateRound_apply i j _ _ _ _ _ _ _).trans (dgate_at c m t i j)
theorem demb_at (t : Fin cfg0.N) (i : Fin 256) (j : Fin 1024) : embB (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 i j) = dEmb c m (t.val * 256 + i.val) j := by
  refine (demb_apply i j _ _ _ _ _ _).trans ?_
  rw [gate_at]
  exact congrArg (gateRow c m (t.val * 256 + i.val) j * ·) (rows_at c m t i j)

/-- What the point adds to the loss and to the three vectors' gradients. -/
theorem loss_at (t : Fin cfg0.N) : lossB (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 0 0) = ∑ i : Fin 256, lossAt c m (t.val * 256 + i.val) := by
  refine (loss_apply 0 0 _ _ _ _ _ (tile c m t) (sum_at c m t) (mean_at c m t)).trans (Finset.sum_congr rfl fun i _ => ?_)
  rw [iblk_gain, iblk_bias, iblk_target]
  rfl
theorem gateBias_at (t : Fin cfg0.N) (j : Fin 1024) : gateBiasB (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 0 j) = ∑ i : Fin 256, gateAt c m j (t.val * 256 + i.val) :=
  (dgateBias_apply j 0 _ _ _ _ _ _ _).trans (Finset.sum_congr rfl fun i _ => dgate_at c m t i j)
theorem gain_at (t : Fin cfg0.N) (j : Fin 1024) : gainB (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 0 j) = ∑ i : Fin 256, gainAt c m j (t.val * 256 + i.val) := by
  refine (dgain_apply j 0 _ _).trans (Finset.sum_congr rfl fun i _ => ?_)
  refine congrArg₂ (· * ·) ?_ (cot_at c m t i j)
  exact normed_apply i j _ _ (tile c m t) (sum_at c m t) (mean_at c m t)
theorem bias_at (t : Fin cfg0.N) (j : Fin 1024) : biasB (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 0 j) = ∑ i : Fin 256, biasAt c m j (t.val * 256 + i.val) :=
  (dbias_apply j 0 _).trans (Finset.sum_congr rfl fun i _ => cot_at c m t i j)

end Cert.HeadIdeal.Product

end
-- ==== Proof.HeadVal.lean ====
/- The last products with the second layer norm, the loss and its gradient: the arrays the call leaves, from what its points write. -/
module

public import proofs.«01_k».proof.Proof.HeadBlock

@[expose] public section

set_option maxRecDepth 16384

noncomputable section

namespace Cert.HeadIdeal.Product

open Cert.HeadIdeal Cert.HeadIdeal.Gen Cert.HeadIdeal.Value Idealize.ShloMosaic Idealize.ShloMosaic.TcCoe Idealize.SL.Sem RowNorm HeadRow
open Idealize.ShloMosaic.Pipeline (Dat)

variable (c : Dev nD) (m : (ℓ : Loc nD τ sig) → Buf (Elt Ideal) ℓ)

/-- What a point writes: its rows of the sum's gradient, … -/
theorem point11 (t : Fin cfg0.N) (i : Fin 256) (j : Fin 1024) : (outsAt0 m c t.val t.isLt).1 (ix2 i j) = dR c m (t.val * 256 + i.val) j := by
  by_cases h0 : t.val % 32 = 0
  · rw [outsAt0_A m c t h0]
    dsimp only
    rw [out11_A]
    exact rows_at c m t i j
  · rw [outsAt0_B m c t h0]
    dsimp only
    rw [out11_B]
    exact rows_at c m t i j

/-- … the same, rounded, … -/
theorem point12 (t : Fin cfg0.N) (i : Fin 256) (j : Fin 1024) : (outsAt0 m c t.val t.isLt).2.1 (ix2 i j) = dR c m (t.val * 256 + i.val) j := by
  by_cases h0 : t.val % 32 = 0
  · rw [outsAt0_A m c t h0]
    dsimp only
    rw [out12_A]
    exact round_at c m t i j
  · rw [outsAt0_B m c t h0]
    dsimp only
    rw [out12_B]
    exact round_at c m t i j

/-- … of the gate's product's … -/
theorem point13 (t : Fin cfg0.N) (i : Fin 256) (j : Fin 1024) : (outsAt0 m c t.val t.isLt).2.2.1 (ix2 i j) = dGate c m (t.val * 256 + i.val) j := by
  by_cases h0 : t.val % 32 = 0
  · rw [outsAt0_A m c t h0]
    dsimp only
    rw [out13_A]
    exact gateRound_at c m t i j
  · rw [outsAt0_B m c t h0]
    dsimp only
    rw [out13_B]
    exact gateRound_at c m t i j

/-- … and of the embedding's product's. -/
theorem point14 (t : Fin cfg0.N) (i : Fin 256) (j : Fin 1024) : (outsAt0 m c t.val t.isLt).2.2.2.1 (ix2 i j) = dEmb c m (t.val * 256 + i.val) j := by
  by_cases h0 : t.val % 32 = 0
  · rw [outsAt0_A m c t h0]
    dsimp only
    rw [out14_A]
    exact demb_at c m t i j
  · rw [outsAt0_B m c t h0]
    dsimp only
    rw [out14_B]
    exact demb_at c m t i j

/-- The loss is summed over the points. -/
theorem point15_first (t : Fin cfg0.N) (h0 : t.val % 32 = 0) (k : Fin 8) (w : Fin 128) :
    (outsAt0 m c t.val t.isLt).2.2.2.2.1 (ix2 k w) = ∑ i : Fin 256, lossAt c m (t.val * 256 + i.val) := by
  rw [outsAt0_A m c t h0]
  dsimp only
  rw [out15_A]
  refine (addLoss_apply k w _ _).trans ?_
  rw [zeroLoss_apply, zero_add]
  exact loss_at c m t

theorem point15_next (t : Fin cfg0.N) (h0 : ¬t.val % 32 = 0) (k : Fin 8) (w : Fin 128) :
    (outsAt0 m c t.val t.isLt).2.2.2.2.1 (ix2 k w)
      = (outsAt0 m c (t.val - 1) (Nat.lt_of_le_of_lt (Nat.sub_le _ _) t.isLt)).2.2.2.2.1 (ix2 k w) + ∑ i : Fin 256, lossAt c m (t.val * 256 + i.val) := by
  rw [outsAt0_B m c t h0]
  dsimp only
  rw [out15_B]
  exact (addLoss_apply k w _ _).trans (congrArg (_ + ·) (loss_at c m t))

theorem point15 (t : Fin cfg0.N) (h31 : t.val % 32 = 31) (k : Fin 8) (w : Fin 128) :
    (outsAt0 m c t.val t.isLt).2.2.2.2.1 (ix2 k w) = ∑ i : Fin 8192, lossAt c m i.val := by
  have ht : t.val < 32 := t.isLt
  have h := Pipeline.eq_sum_of_reset_step_of_mod (fun n h => (outsAt0 m c n h).2.2.2.2.1 (ix2 k w)) 32 (0 : EReal)
    (fun n => ∑ i : Fin 256, lossAt c m (n * 256 + i.val))
    (fun t h0 => by rw [zero_add]; exact point15_first c m t h0 k w) (fun t h0 => point15_next c m t h0 k w) t h31
  refine h.trans ?_
  rw [zero_add, ← MatSum.blocks_all (lossAt c m) 32 256 (N := 8192) rfl]
  refine Finset.sum_congr rfl fun s hs => Finset.sum_congr rfl fun k _ => ?_
  rw [show 32 * (t.val / 32) + s = s by omega]

/-- The gradient of the gate's bias is summed over the points. -/
theorem point16_first (t : Fin cfg0.N) (h0 : t.val % 32 = 0) (j : Fin 1024) :
    (outsAt0 m c t.val t.isLt).2.2.2.2.2.1 (ix2 0 j) = ∑ i : Fin 256, gateAt c m j (t.val * 256 + i.val) := by
  rw [outsAt0_A m c t h0]
  dsimp only
  rw [out16_A]
  refine (addGate_apply j 0 _ _).trans ?_
  rw [zeroGate_apply, zero_add]
  exact gateBias_at c m t j

theorem point16_next (t : Fin cfg0.N) (h0 : ¬t.val % 32 = 0) (j : Fin 1024) :
    (outsAt0 m c t.val t.isLt).2.2.2.2.2.1 (ix2 0 j)
      = (outsAt0 m c (t.val - 1) (Nat.lt_of_le_of_lt (Nat.sub_le _ _) t.isLt)).2.2.2.2.2.1 (ix2 0 j) + ∑ i : Fin 256, gateAt c m j (t.val * 256 + i.val) := by
  rw [outsAt0_B m c t h0]
  dsimp only
  rw [out16_B]
  exact (addGate_apply j 0 _ _).trans (congrArg (_ + ·) (gateBias_at c m t j))

theorem point16 (t : Fin cfg0.N) (h31 : t.val % 32 = 31) (j : Fin 1024) :
    (outsAt0 m c t.val t.isLt).2.2.2.2.2.1 (ix2 0 j) = ∑ i : Fin 8192, gateAt c m j i.val := by
  have ht : t.val < 32 := t.isLt
  have h := Pipeline.eq_sum_of_reset_step_of_mod (fun n h => (outsAt0 m c n h).2.2.2.2.2.1 (ix2 0 j)) 32 (0 : EReal)
    (fun n => ∑ i : Fin 256, gateAt c m j (n * 256 + i.val))
    (fun t h0 => by rw [zero_add]; exact point16_first c m t h0 j) (fun t h0 => point16_next c m t h0 j) t h31
  refine h.trans ?_
  rw [zero_add, ← MatSum.blocks_all (gateAt c m j) 32 256 (N := 8192) rfl]
  refine Finset.sum_congr rfl fun s hs => Finset.sum_congr rfl fun k _ => ?_
  rw [show 32 * (t.val / 32) + s = s by omega]

/-- The gain's gradient is summed over the points. -/
theorem point17_first (t : Fin cfg0.N) (h0 : t.val % 32 = 0) (j : Fin 1024) :
    (outsAt0 m c t.val t.isLt).2.2.2.2.2.2.1 (ix2 0 j) = ∑ i : Fin 256, gainAt c m j (t.val * 256 + i.val) := by
  rw [outsAt0_A m c t h0]
  dsimp only
  rw [out17_A]
  refine (addGain_apply j 0 _ _).trans ?_
  rw [zeroGain_apply, zero_add]
  exact gain_at c m t j

theorem point17_next (t : Fin cfg0.N) (h0 : ¬t.val % 32 = 0) (j : Fin 1024) :
    (outsAt0 m c t.val t.isLt).2.2.2.2.2.2.1 (ix2 0 j)
      = (outsAt0 m c (t.val - 1) (Nat.lt_of_le_of_lt (Nat.sub_le _ _) t.isLt)).2.2.2.2.2.2.1 (ix2 0 j) + ∑ i : Fin 256, gainAt c m j (t.val * 256 + i.val) := by
  rw [outsAt0_B m c t h0]
  dsimp only
  rw [out17_B]
  exact (addGain_apply j 0 _ _).trans (congrArg (_ + ·) (gain_at c m t j))

theorem point17 (t : Fin cfg0.N) (h31 : t.val % 32 = 31) (j : Fin 1024) :
    (outsAt0 m c t.val t.isLt).2.2.2.2.2.2.1 (ix2 0 j) = ∑ i : Fin 8192, gainAt c m j i.val := by
  have ht : t.val < 32 := t.isLt
  have h := Pipeline.eq_sum_of_reset_step_of_mod (fun n h => (outsAt0 m c n h).2.2.2.2.2.2.1 (ix2 0 j)) 32 (0 : EReal)
    (fun n => ∑ i : Fin 256, gainAt c m j (n * 256 + i.val))
    (fun t h0 => by rw [zero_add]; exact point17_first c m t h0 j) (fun t h0 => point17_next c m t h0 j) t h31
  refine h.trans ?_
  rw [zero_add, ← MatSum.blocks_all (gainAt c m j) 32 256 (N := 8192) rfl]
  refine Finset.sum_congr rfl fun s hs => Finset.sum_congr rfl fun k _ => ?_
  rw [show 32 * (t.val / 32) + s = s by omega]

/-- The bias's gradient is summed over the points. -/
theorem point18_first (t : Fin cfg0.N) (h0 : t.val % 32 = 0) (j : Fin 1024) :
    (outsAt0 m c t.val t.isLt).2.2.2.2.2.2.2 (ix2 0 j) = ∑ i : Fin 256, biasAt c m j (t.val * 256 + i.val) := by
  rw [outsAt0_A m c t h0]
  dsimp only
  rw [out18_A]
  refine (addBias_apply j 0 _ _).trans ?_
  rw [zeroBias_apply, zero_add]
  exact bias_at c m t j

theorem point18_next (t : Fin cfg0.N) (h0 : ¬t.val % 32 = 0) (j : Fin 1024) :
    (outsAt0 m c t.val t.isLt).2.2.2.2.2.2.2 (ix2 0 j)
      = (outsAt0 m c (t.val - 1) (Nat.lt_of_le_of_lt (Nat.sub_le _ _) t.isLt)).2.2.2.2.2.2.2 (ix2 0 j) + ∑ i : Fin 256, biasAt c m j (t.val * 256 + i.val) := by
  rw [outsAt0_B m c t h0]
  dsimp only
  rw [out18_B]
  exact (addBias_apply j 0 _ _).trans (congrArg (_ + ·) (bias_at c m t j))

theorem point18 (t : Fin cfg0.N) (h31 : t.val % 32 = 31) (j : Fin 1024) :
    (outsAt0 m c t.val t.isLt).2.2.2.2.2.2.2 (ix2 0 j) = ∑ i : Fin 8192, biasAt c m j i.val := by
  have ht : t.val < 32 := t.isLt
  have h := Pipeline.eq_sum_of_reset_step_of_mod (fun n h => (outsAt0 m c n h).2.2.2.2.2.2.2 (ix2 0 j)) 32 (0 : EReal)
    (fun n => ∑ i : Fin 256, biasAt c m j (n * 256 + i.val))
    (fun t h0 => by rw [zero_add]; exact point18_first c m t h0 j) (fun t h0 => point18_next c m t h0 j) t h31
  refine h.trans ?_
  rw [zero_add, ← MatSum.blocks_all (biasAt c m j) 32 256 (N := 8192) rfl]
  refine Finset.sum_congr rfl fun s hs => Finset.sum_congr rfl fun k _ => ?_
  rw [show 32 * (t.val / 32) + s = s by omega]

/-! THE CALL'S ARRAYS. -/

def drs : FVec Ideal ⟨2, ![8192, 1024]⟩ .f32 := fun i => entry (dR c m (i 0).val) (i 1).val

theorem drs_result : (dats m 0 c).arrAt 11 cfg0.N = drs c m := by
  refine (dats m 0 c).arrAt_eq_of_covers 11 _ (by decide +kernel) fun t hf y => ?_
  have ht : t.val < 32 := t.isLt
  unfold drs
  blk_simp [index t]
  rw [after0_11]
  idx_vars y
  exact (point11 c m t y0 y1).trans (entry_fin _ y1).symm

def drsR : FVec Ideal ⟨2, ![8192, 1024]⟩ .bf16 := fun i => entry (dR c m (i 0).val) (i 1).val

theorem drsR_result : (dats m 0 c).arrAt 12 cfg0.N = drsR c m := by
  refine (dats m 0 c).arrAt_eq_of_covers 12 _ (by decide +kernel) fun t hf y => ?_
  have ht : t.val < 32 := t.isLt
  unfold drsR
  blk_simp [index t]
  rw [after0_12]
  idx_vars y
  exact (point12 c m t y0 y1).trans (entry_fin _ y1).symm

def dgates : FVec Ideal ⟨2, ![8192, 1024]⟩ .bf16 := fun i => entry (dGate c m (i 0).val) (i 1).val

theorem dgates_result : (dats m 0 c).arrAt 13 cfg0.N = dgates c m := by
  refine (dats m 0 c).arrAt_eq_of_covers 13 _ (by decide +kernel) fun t hf y => ?_
  have ht : t.val < 32 := t.isLt
  unfold dgates
  blk_simp [index t]
  rw [after0_13]
  idx_vars y
  exact (point13 c m t y0 y1).trans (entry_fin _ y1).symm

def dembs : FVec Ideal ⟨2, ![8192, 1024]⟩ .bf16 := fun i => entry (dEmb c m (i 0).val) (i 1).val

theorem dembs_result : (dats m 0 c).arrAt 14 cfg0.N = dembs c m := by
  refine (dats m 0 c).arrAt_eq_of_covers 14 _ (by decide +kernel) fun t hf y => ?_
  have ht : t.val < 32 := t.isLt
  unfold dembs
  blk_simp [index t]
  rw [after0_14]
  idx_vars y
  exact (point14 c m t y0 y1).trans (entry_fin _ y1).symm

def losses : FVec Ideal ⟨2, ![8, 128]⟩ .f32 := fun _ => ∑ k : Fin 8192, lossAt c m k.val

theorem losses_result : (dats m 0 c).arrAt 15 cfg0.N = losses c m := by
  refine (dats m 0 c).arrAt_eq_of_covers 15 _ (by decide +kernel) fun t hf y => ?_
  have ht : t.val < 32 := t.isLt
  have h31 : t.val % 32 = 31 := (by decide +kernel : ∀ t : Fin grid0.N, (cfg0.win 15).flush t = true → t.val % 32 = 31) t hf
  unfold losses
  blk_simp [index t]
  rw [after0_15]
  idx_vars y
  exact point15 c m t h31 y0 y1

def dgateBiases : FVec Ideal ⟨2, ![1, 1024]⟩ .f32 := fun i => entry (fun j => ∑ k : Fin 8192, gateAt c m j k.val) (i 1).val

theorem dgateBiases_result : (dats m 0 c).arrAt 16 cfg0.N = dgateBiases c m := by
  refine (dats m 0 c).arrAt_eq_of_covers 16 _ (by decide +kernel) fun t hf y => ?_
  have ht : t.val < 32 := t.isLt
  have h31 : t.val % 32 = 31 := (by decide +kernel : ∀ t : Fin grid0.N, (cfg0.win 16).flush t = true → t.val % 32 = 31) t hf
  unfold dgateBiases
  blk_simp [index t]
  rw [after0_16]
  idx_vars y
  obtain rfl : y0 = 0 := Subsingleton.elim _ _
  exact (point16 c m t h31 y1).trans (entry_fin (fun j => ∑ k : Fin 8192, gateAt c m j k.val) y1).symm

def dgains : FVec Ideal ⟨2, ![1, 1024]⟩ .f32 := fun i => entry (fun j => ∑ k : Fin 8192, gainAt c m j k.val) (i 1).val

theorem dgains_result : (dats m 0 c).arrAt 17 cfg0.N = dgains c m := by
  refine (dats m 0 c).arrAt_eq_of_covers 17 _ (by decide +kernel) fun t hf y => ?_
  have ht : t.val < 32 := t.isLt
  have h31 : t.val % 32 = 31 := (by decide +kernel : ∀ t : Fin grid0.N, (cfg0.win 17).flush t = true → t.val % 32 = 31) t hf
  unfold dgains
  blk_simp [index t]
  rw [after0_17]
  idx_vars y
  obtain rfl : y0 = 0 := Subsingleton.elim _ _
  exact (point17 c m t h31 y1).trans (entry_fin (fun j => ∑ k : Fin 8192, gainAt c m j k.val) y1).symm

def dbiases : FVec Ideal ⟨2, ![1, 1024]⟩ .f32 := fun i => entry (fun j => ∑ k : Fin 8192, biasAt c m j k.val) (i 1).val

theorem dbiases_result : (dats m 0 c).arrAt 18 cfg0.N = dbiases c m := by
  refine (dats m 0 c).arrAt_eq_of_covers 18 _ (by decide +kernel) fun t hf y => ?_
  have ht : t.val < 32 := t.isLt
  have h31 : t.val % 32 = 31 := (by decide +kernel : ∀ t : Fin grid0.N, (cfg0.win 18).flush t = true → t.val % 32 = 31) t hf
  unfold dbiases
  blk_simp [index t]
  rw [after0_18]
  idx_vars y
  obtain rfl : y0 = 0 := Subsingleton.elim _ _
  exact (point18 c m t h31 y1).trans (entry_fin (fun j => ∑ k : Fin 8192, biasAt c m j k.val) y1).symm

end Cert.HeadIdeal.Product

end
-- ==== Proof.HeadRef.lean ====
/- The reference's layer norm, loss and gradient, row by row, and the call's claim. -/
module

public import proofs.«01_k».proof.Proof.HeadVal
public import proofs.«01_k».proof.Proof.Gen.HeadReferenceIdeal.Run
public import Idealize.ShloMosaic.Lib.Quiescent

@[expose] public section

set_option maxRecDepth 16384

noncomputable section

namespace Cert.HeadReferenceIdeal.Rows

open Cert.HeadReferenceIdeal Cert.HeadReferenceIdeal.Facts₀ Idealize.ShloMosaic Idealize.ShloMosaic.TcCoe Idealize.SL.Sem RowNorm HeadRow

abbrev R2 := FVec Ideal S8192x1024 .f32
abbrev RB := FVec Ideal S8192x1024 .bf16
abbrev RV := FVec Ideal S1x1024 .f32
abbrev RC := FVec Ideal S8192x1 .f32

/-- The reference's steps on the host. One number for every row and for every entry, … -/
def fill (b : BitVec 32) : RC := broadcastInDim S8192x1 ![] bcast_S_S8192x1 (constant S_ .f32 b)
def fillAll (b : BitVec 32) : R2 := broadcastInDim S8192x1024 ![] bcast_S_S8192x1024 (constant S_ .f32 b)
def fillRows (v : FVec Ideal S_ .f32) : FVec Ideal S8192 .f32 := broadcastInDim S8192 ![] bcast_S_S8192 v

/-- … a row's sum divided by its length, with the sum taken to a column in the two ways it is written. -/
def mean (r : R2) : RC := Host.divf (broadcastInDim S8192x1 ![0] bcast_S8192_S8192x1_0 (Host.reduceAdd r (constant S_ .f32 0x00000000#32) reducesTo_S8192x1024_S8192_d1 h_S_)) (fill 0x44800000#32)
def total (r : R2) : RC := shapeCast S8192x1 (Host.reduceAdd r (constant S_ .f32 0x00000000#32) reducesTo_S8192x1024_S8192_d1 h_S_) shapeCasts_S8192_S8192x1

/-- A column along the rows, in the two ways it is written, and a vector along the rows. -/
def across (v : RC) : R2 := broadcastInDim S8192x1024 ![0, 1] bcast_S8192x1_S8192x1024_0_1 v
def spreadOut (v : RC) : R2 := broadcastInDim S8192x1024 ![0] bcast_S8192_S8192x1024_0 (Host.reduceAdd v (constant S_ .f32 0x00000000#32) reducesTo_S8192x1_S8192_d1 h_S_)
def along (g : RV) : R2 := broadcastInDim S8192x1024 ![0, 1] bcast_S1x1024_S8192x1024_0_1 (broadcastInDim S1x1024 ![1] bcast_S1024_S1x1024_1 (shapeCast _ g shapeCasts_S1x1024_S1024))

/-- The embedding's product, the gate and the sum that is normalised. -/
def embR (p : FVec Ideal S8192x256 .f32) (w : FVec Ideal S256x1024 .bf16) : R2 :=
  Host.dotGeneral dot_S8192x256_S256x1024_S8192x1024_1_0_0_1_n_n none p (extf .f32 w Cert.HeadReferenceIdeal.Facts₀.bitsLt_bf16_f32)
def gateR (u : RB) (w : FVec Ideal S1024x1024 .bf16) (b : RV) : R2 :=
  Host.divf (fillAll 0x3F800000#32) (addf (fillAll 0x3F800000#32) (Host.exp (Host.negf (addf (Host.dotGeneral dot_S8192x1024_S1024x1024_S8192x1024_1_0_0_1_n_n none (extf .f32 u Cert.HeadReferenceIdeal.Facts₀.bitsLt_bf16_f32) (extf .f32 w Cert.HeadReferenceIdeal.Facts₀.bitsLt_bf16_f32)) (along b)))))
def wholeR (x : R2) (a : FVec Ideal S8192x2816 .bf16) (w : FVec Ideal S2816x1024 .bf16) (s e : R2) : R2 :=
  addf (addf (mulf (fillAll 0x3F9837F0#32) x) (Host.dotGeneral dot_S8192x2816_S2816x1024_S8192x1024_1_0_0_1_n_n none (extf .f32 a Cert.HeadReferenceIdeal.Facts₀.bitsLt_bf16_f32) (extf .f32 w Cert.HeadReferenceIdeal.Facts₀.bitsLt_bf16_f32))) (mulf s e)

/-- The distances from the mean, the variance with the small number, its inverse root and that root's derivative. -/
def devR (r : R2) : R2 := subf r (across (mean r))
def spreadR (r : R2) : RC := addf (mean (mulf (devR r) (devR r))) (fill 0x358637BD#32)
def scaleR (r : R2) : RC := Host.rsqrt (spreadR r)
def slopeR (r : R2) : RC := mulf (fill 0xBF000000#32) (Host.divf (scaleR r) (spreadR r))
def normedR (r : R2) : R2 := mulf (devR r) (across (scaleR r))

/-- The distance from the target, its gradient and the loss. -/
def missR (r : R2) (g b : RV) (t : R2) : R2 := subf (addf (mulf (normedR r) (along g)) (along b)) t
def cotR (e : R2) : R2 :=
  mulf (broadcastInDim S8192x1024 ![0] bcast_S8192_S8192x1024_0 (Host.divf (fillRows (mulf (constant S_ .f32 0x3F000000#32) (constant S_ .f32 0x3F800000#32))) (fillRows (constant S_ .f32 0x44800000#32)))) (mulf (fillAll 0x40000000#32) e)
def lossR (e : R2) : FVec Ideal S8x128 .f32 :=
  broadcastInDim S8x128 ![] bcast_S_S8x128 (mulf (constant S_ .f32 0x3F000000#32) (Host.reduceAdd (Host.divf (Host.reduceAdd (mulf e e) (constant S_ .f32 0x00000000#32) reducesTo_S8192x1024_S8192_d1 h_S_) (fillRows (constant S_ .f32 0x44800000#32))) (constant S_ .f32 0x00000000#32) reducesTo_S8192_S_d0 h_S_))

/-- The gradient at the distances from the mean and at the sum, from the gained cotangent, … -/
def pullR (r e : R2) : R2 := spreadOut (Host.divf (mulf (total (mulf (devR r) e)) (slopeR r)) (fill 0x44800000#32))
def dDevR (r e : R2) : R2 := addf (addf (mulf e (across (scaleR r))) (mulf (devR r) (pullR r e))) (mulf (pullR r e) (devR r))
def dRowR (r e : R2) : R2 := addf (dDevR r e) (spreadOut (Host.divf (total (Host.negf (dDevR r e))) (fill 0x44800000#32)))
def roundR (d : R2) : RB := truncf .bf16 d Cert.HeadReferenceIdeal.Facts₀.bitsLt_bf16_f32

/-- … and at the gate's product. -/
def dGateR (d e s : R2) : R2 := mulf (mulf d e) (mulf s (subf (fillAll 0x3F800000#32) s))

/-- The sum of all rows. -/
def column (y : R2) : RV :=
  broadcastInDim S1x1024 ![1] bcast_S1024_S1x1024_1 (Host.reduceAdd (shapeCast S1x1024 (Host.reduceAdd y (constant S_ .f32 0x00000000#32) reducesTo_S8192x1024_S1024_d0 h_S_) shapeCasts_S1024_S1x1024) (constant S_ .f32 0x00000000#32) reducesTo_S1x1024_S1024_d0 h_S_)

variable (r x y e d s t : R2) (u : RB) (a : FVec Ideal S8192x2816 .bf16) (p : FVec Ideal S8192x256 .f32) (wp : FVec Ideal S256x1024 .bf16) (wg : FVec Ideal S1024x1024 .bf16) (wd : FVec Ideal S2816x1024 .bf16)
  (g b : RV) (v : RC) (i : Fin 8192) (j : Fin 1024) (z : Fin 1)

theorem fill_apply (b : BitVec 32) : fill b (ix2 i z) = Ideal.ofBits .f32 b := by
  pointwise [fill]
theorem fillAll_apply (b : BitVec 32) : fillAll b (ix2 i j) = Ideal.ofBits .f32 b := by
  pointwise [fillAll]
theorem mean_apply : mean r (ix2 i z) = Ideal.div (∑ k : Fin 1024, r (ix2 i k)) len := by
  pointwise [mean, fill_apply]
  rfl
theorem total_apply : total r (ix2 i z) = ∑ k : Fin 1024, r (ix2 i k) := by
  pointwise [total]
theorem across_apply : across v (ix2 i j) = v (ix2 i 0) := by
  pointwise [across]
theorem spreadOut_apply : spreadOut v (ix2 i j) = v (ix2 i 0) := by
  pointwise [spreadOut]
  simp only [Fin.sum_univ_one]
theorem along_apply : along g (ix2 i j) = row g 0 j := by
  pointwise [along]
  rfl
theorem embR_apply : embR p wp (ix2 i j) = into (line p i) wp j := by
  pointwise [embR]
  rfl
theorem gateR_apply : gateR u wg b (ix2 i j) = gate (into (line u i) wg) (row b 0) j := by
  pointwise [gateR, fillAll_apply, along_apply]
  rfl
theorem wholeR_apply : wholeR x a wd s e (ix2 i j) = alpha * x (ix2 i j) + into (line a i) wd j + s (ix2 i j) * e (ix2 i j) := by
  pointwise [wholeR, fillAll_apply]
  rfl
theorem devR_apply : devR r (ix2 i j) = dev (row r i) j := by
  pointwise [devR, across_apply, mean_apply]
  rfl
theorem spreadR_apply : spreadR r (ix2 i z) = spread (row r i) := by
  pointwise [spreadR, mean_apply, fill_apply, devR_apply]
  rfl
theorem scaleR_apply : scaleR r (ix2 i z) = scale (row r i) := by
  pointwise [scaleR, spreadR_apply]
  rfl
theorem slopeR_apply : slopeR r (ix2 i z) = slope (row r i) := by
  pointwise [slopeR, scaleR_apply, spreadR_apply, fill_apply]
  rfl
theorem normedR_apply : normedR r (ix2 i j) = dev (row r i) j * scale (row r i) := by
  pointwise [normedR, devR_apply, across_apply, scaleR_apply]
theorem missR_apply : missR r g b t (ix2 i j) = miss (row r i) (row g 0) (row b 0) (row t i) j := by
  pointwise [missR, normedR_apply, along_apply]
  rfl
theorem cotR_apply : cotR e (ix2 i j) = cotMiss (row e i) j := by
  rw [cot_eq]
  pointwise [cotR, fillRows, fillAll_apply]
  rfl
theorem lossR_apply (k : Fin 8) (w : Fin 128) : lossR e (ix2 k w) = ∑ i : Fin 8192, lossOf (row e i) := by
  rw [← all_loss]
  pointwise [lossR, fillRows]
  rfl
theorem pullR_apply : pullR r e (ix2 i j) = pull (row r i) (row e i) := by
  pointwise [pullR, spreadOut_apply, total_apply, slopeR_apply, fill_apply, devR_apply]
  rfl
theorem dDevR_apply : dDevR r e (ix2 i j) = dDev (row r i) (row e i) j := by
  pointwise [dDevR, across_apply, scaleR_apply, devR_apply, pullR_apply]
  rfl
theorem dRowR_apply : dRowR r e (ix2 i j) = dRow (row r i) (row e i) j := by
  pointwise [dRowR, dDevR_apply, spreadOut_apply, total_apply, fill_apply]
  rfl
theorem roundR_apply : roundR d (ix2 i j) = d (ix2 i j) := by
  pointwise [roundR]
theorem dGateR_apply : dGateR d e s (ix2 i j) = d (ix2 i j) * e (ix2 i j) * (s (ix2 i j) * (1 - s (ix2 i j))) := by
  pointwise [dGateR, fillAll_apply]
theorem column_apply : column y (ix2 z j) = ∑ k : Fin 8192, y (ix2 k j) := by
  pointwise [column]
  simp only [Fin.sum_univ_one]
theorem times_apply : mulf x y (ix2 i j) = x (ix2 i j) * y (ix2 i j) := rfl

section Steps

variable (x0 : R2) (x1 : RB) (x2 : FVec Ideal S8192x2816 .bf16) (x3 : FVec Ideal S8192x256 .f32) (x4 : FVec Ideal S2816x1024 .bf16) (x5 : FVec Ideal S1024x1024 .bf16) (x6 : FVec Ideal S256x1024 .bf16) (x7 x8 x9 : RV) (x10 : R2)

/-- The reference's sum, the distance from the target, its gradient, and the gradients of the sum, of the gate's product, of the embedding's and of the gain by rows. -/
def refSum : R2 := wholeR x0 x2 x4 (gateR x1 x5 x7) (embR x3 x6)
def refMiss : R2 := missR (refSum x0 x1 x2 x3 x4 x5 x6 x7) x8 x9 x10
def refCot : R2 := cotR (refMiss x0 x1 x2 x3 x4 x5 x6 x7 x8 x9 x10)
def refRow : R2 := dRowR (refSum x0 x1 x2 x3 x4 x5 x6 x7) (mulf (refCot x0 x1 x2 x3 x4 x5 x6 x7 x8 x9 x10) (along x8))
def refDGate : R2 := dGateR (refRow x0 x1 x2 x3 x4 x5 x6 x7 x8 x9 x10) (embR x3 x6) (gateR x1 x5 x7)
def refDEmb : R2 := mulf (gateR x1 x5 x7) (refRow x0 x1 x2 x3 x4 x5 x6 x7 x8 x9 x10)
def refGain : R2 := mulf (normedR (refSum x0 x1 x2 x3 x4 x5 x6 x7)) (refCot x0 x1 x2 x3 x4 x5 x6 x7 x8 x9 x10)

end Steps

section Run

variable (m : (ℓ : Loc nD τ sig) → Buf (Elt Ideal) ℓ) (c : Dev nD)

/-- The same at the reference's own arguments, … -/
def sumAt : R2 := refSum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
def missAt : R2 := refMiss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
def cotAt : R2 := refCot (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
def rowsAt : R2 := refRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
def dGateAt : R2 := refDGate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
def dEmbAt : R2 := refDEmb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
def gainedAt : R2 := refGain (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

theorem res_emb : Cert.HeadReferenceIdeal.Value.res_main_v7 (F := Ideal) (StableHlo.launchContents m c) = embR (m ((c.tc : Thread nD τ).loc main_arg3)) (m ((c.tc : Thread nD τ).loc main_arg6)) := by
  unfold Cert.HeadReferenceIdeal.Value.res_main_v7
  rfl
theorem res_gate : Cert.HeadReferenceIdeal.Value.res_main_v19 (F := Ideal) (StableHlo.launchContents m c) = gateR (m ((c.tc : Thread nD τ).loc main_arg1)) (m ((c.tc : Thread nD τ).loc main_arg5)) (m ((c.tc : Thread nD τ).loc main_arg7)) := by
  unfold Cert.HeadReferenceIdeal.Value.res_main_v19
  rfl
theorem res_sum : Cert.HeadReferenceIdeal.Value.res_main_v27 (F := Ideal) (StableHlo.launchContents m c) = sumAt m c := by
  unfold Cert.HeadReferenceIdeal.Value.res_main_v27
  rw [res_gate, res_emb]
  rfl
theorem res_dev : Cert.HeadReferenceIdeal.Value.res_main_v33 (F := Ideal) (StableHlo.launchContents m c) = devR (sumAt m c) := by
  unfold Cert.HeadReferenceIdeal.Value.res_main_v33
  rw [res_sum]
  rfl
theorem res_spread : Cert.HeadReferenceIdeal.Value.res_main_v40 (F := Ideal) (StableHlo.launchContents m c) = spreadR (sumAt m c) := by
  unfold Cert.HeadReferenceIdeal.Value.res_main_v40
  rw [res_dev]
  rfl
theorem res_scale : Cert.HeadReferenceIdeal.Value.res_main_v41 (F := Ideal) (StableHlo.launchContents m c) = scaleR (sumAt m c) := by
  unfold Cert.HeadReferenceIdeal.Value.res_main_v41
  rw [res_spread]
  rfl
theorem res_normed : Cert.HeadReferenceIdeal.Value.res_main_v46 (F := Ideal) (StableHlo.launchContents m c) = normedR (sumAt m c) := by
  unfold Cert.HeadReferenceIdeal.Value.res_main_v46
  rw [res_dev, res_scale]
  rfl
theorem res_miss : Cert.HeadReferenceIdeal.Value.res_main_v53 (F := Ideal) (StableHlo.launchContents m c) = missAt m c := by
  unfold Cert.HeadReferenceIdeal.Value.res_main_v53
  rw [res_normed]
  rfl
theorem res_cot : Cert.HeadReferenceIdeal.Value.res_main_v67 (F := Ideal) (StableHlo.launchContents m c) = cotAt m c := by
  unfold Cert.HeadReferenceIdeal.Value.res_main_v67
  rw [res_miss]
  rfl
theorem res_gained : Cert.HeadReferenceIdeal.Value.res_main_v75 (F := Ideal) (StableHlo.launchContents m c) = mulf (cotAt m c) (along (m ((c.tc : Thread nD τ).loc main_arg8))) := by
  unfold Cert.HeadReferenceIdeal.Value.res_main_v75
  rw [res_cot]
  rfl
theorem res_pull : Cert.HeadReferenceIdeal.Value.res_main_v86 (F := Ideal) (StableHlo.launchContents m c) = pullR (sumAt m c) (mulf (cotAt m c) (along (m ((c.tc : Thread nD τ).loc main_arg8)))) := by
  unfold Cert.HeadReferenceIdeal.Value.res_main_v86
  rw [res_dev, res_gained, res_scale, res_spread]
  rfl
theorem res_dDev : Cert.HeadReferenceIdeal.Value.res_main_v90 (F := Ideal) (StableHlo.launchContents m c) = dDevR (sumAt m c) (mulf (cotAt m c) (along (m ((c.tc : Thread nD τ).loc main_arg8)))) := by
  unfold Cert.HeadReferenceIdeal.Value.res_main_v90
  rw [res_dev, res_gained, res_scale, res_pull]
  rfl
theorem res_rows : Cert.HeadReferenceIdeal.Value.res_main_v98 (F := Ideal) (StableHlo.launchContents m c) = rowsAt m c := by
  unfold Cert.HeadReferenceIdeal.Value.res_main_v98
  rw [res_dDev]
  rfl
theorem res_dGate : Cert.HeadReferenceIdeal.Value.res_main_v101 (F := Ideal) (StableHlo.launchContents m c) = dGateAt m c := by
  unfold Cert.HeadReferenceIdeal.Value.res_main_v101
  rw [res_rows, res_emb, res_gate]
  rfl

/-- … in which every run of the reference leaves its results. -/
theorem run_rows (ρ : Dev nD → PrngReg) :
    θ_run defs (onTc (τ := τ) (main (F := Ideal))) ⟨m, fun _ => 0, ρ⟩ fun r => ∀ c : Dev nD,
      r.2.mem ((c.tc : Thread nD τ).loc main_v98) = rowsAt m c
      ∧ r.2.mem ((c.tc : Thread nD τ).loc main_v105) = roundR (rowsAt m c)
      ∧ r.2.mem ((c.tc : Thread nD τ).loc main_v106) = roundR (dGateAt m c)
      ∧ r.2.mem ((c.tc : Thread nD τ).loc main_v107) = roundR (dEmbAt m c)
      ∧ r.2.mem ((c.tc : Thread nD τ).loc main_v108) = lossR (missAt m c)
      ∧ r.2.mem ((c.tc : Thread nD τ).loc main_v109) = column (dGateAt m c)
      ∧ r.2.mem ((c.tc : Thread nD τ).loc main_v110) = column (gainedAt m c)
      ∧ r.2.mem ((c.tc : Thread nD τ).loc main_v111) = column (cotAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun _ h c => ?_) (Cert.HeadReferenceIdeal.Value.run (F := Ideal) m ρ)
  obtain ⟨e0, e1, e2, e3, e4, e5, e6, e7, kept⟩ := h c
  exact ⟨e0.trans (res_rows m c), e1.trans (congrArg roundR (res_rows m c)), e2.trans (congrArg roundR (res_dGate m c)),
    e3.trans (congrArg roundR (congrArg₂ (fun a b : R2 => mulf a b) (res_gate m c) (res_rows m c))), e4.trans (congrArg lossR (res_miss m c)),
    e5.trans (congrArg column (res_dGate m c)), e6.trans (congrArg column (congrArg₂ (fun a b : R2 => mulf a b) (res_normed m c) (res_cot m c))),
    e7.trans (congrArg column (res_cot m c)), kept⟩

end Run

end Cert.HeadReferenceIdeal.Rows

namespace Cert.HeadIdeal.Product

open Cert.HeadIdeal Cert.HeadIdeal.Gen Cert.HeadIdeal.Value Idealize.ShloMosaic Idealize.ShloMosaic.TcCoe Idealize.SL.Sem RowNorm HeadRow Cert.HeadReferenceIdeal.Rows

variable (c : Dev nD) (m : (ℓ : Loc nD τ sig) → Buf (Elt Ideal) ℓ)

/-- The reference's arrays at the call's arguments. -/
def sums : R2 := refSum (h1 c m) (h1b c m) (act c m) (pt c m) (wdown c m) (wgate c m) (wproj c m) (bgate c m)
def misses : R2 := refMiss (h1 c m) (h1b c m) (act c m) (pt c m) (wdown c m) (wgate c m) (wproj c m) (bgate c m) (gain c m) (bias c m) (target c m)
def cots : R2 := refCot (h1 c m) (h1b c m) (act c m) (pt c m) (wdown c m) (wgate c m) (wproj c m) (bgate c m) (gain c m) (bias c m) (target c m)
def rows : R2 := refRow (h1 c m) (h1b c m) (act c m) (pt c m) (wdown c m) (wgate c m) (wproj c m) (bgate c m) (gain c m) (bias c m) (target c m)
def gates : R2 := refDGate (h1 c m) (h1b c m) (act c m) (pt c m) (wdown c m) (wgate c m) (wproj c m) (bgate c m) (gain c m) (bias c m) (target c m)
def embs : R2 := refDEmb (h1 c m) (h1b c m) (act c m) (pt c m) (wdown c m) (wgate c m) (wproj c m) (bgate c m) (gain c m) (bias c m) (target c m)
def gaineds : R2 := refGain (h1 c m) (h1b c m) (act c m) (pt c m) (wdown c m) (wgate c m) (wproj c m) (bgate c m) (gain c m) (bias c m) (target c m)

theorem row_sum (i : Fin 8192) : sumRow c m i.val = row (sums c m) i := by
  funext j
  refine Eq.trans ?_ (wholeR_apply _ _ _ _ _ i j).symm
  rw [gateR_apply, embR_apply]
  unfold sumRow embRow
  rw [rowAt_fin, lineAt_fin, lineAt_fin, lineAt_fin]
  rfl

theorem row_miss (i : Fin 8192) : missRow c m i.val = row (misses c m) i := by
  funext j
  refine Eq.trans ?_ (missR_apply _ _ _ _ i j).symm
  unfold missRow
  rw [row_sum, rowAt_fin]
  rfl

theorem row_cot (i : Fin 8192) : cotRow c m i.val = row (cots c m) i := by
  funext j
  refine Eq.trans ?_ (cotR_apply _ i j).symm
  unfold cotRow
  rw [row_miss]
  rfl

theorem row_dr (i : Fin 8192) : dR c m i.val = row (rows c m) i := by
  funext j
  refine Eq.trans ?_ (dRowR_apply _ _ i j).symm
  unfold dR
  rw [row_sum, row_cot]
  refine congrArg (fun e => dRow (row (sums c m) i) e j) (funext fun k => ?_)
  refine Eq.trans ?_ (times_apply _ _ i k).symm
  rw [along_apply]
  rfl

theorem row_dgate (i : Fin 8192) : dGate c m i.val = row (gates c m) i := by
  funext j
  refine Eq.trans ?_ (dGateR_apply _ _ _ i j).symm
  rw [gateR_apply, embR_apply]
  unfold dGate embRow slopeRow
  rw [row_dr, lineAt_fin, lineAt_fin]
  rfl

theorem row_demb (i : Fin 8192) : dEmb c m i.val = row (embs c m) i := by
  funext j
  refine Eq.trans ?_ (times_apply _ _ i j).symm
  rw [gateR_apply]
  unfold dEmb gateRow
  rw [row_dr, lineAt_fin]
  rfl

theorem drs_equal : drs c m = rows c m := by
  funext x
  obtain ⟨i, j, rfl⟩ : ∃ (i : Fin 8192) (j : Fin 1024), x = ix2 i j := ⟨x 0, x 1, (ix2_eta x).symm⟩
  exact (entry_fin (dR c m i.val) j).trans (congrFun (row_dr c m i) j)

theorem drsR_equal : drsR c m = roundR (rows c m) := by
  funext x
  obtain ⟨i, j, rfl⟩ : ∃ (i : Fin 8192) (j : Fin 1024), x = ix2 i j := ⟨x 0, x 1, (ix2_eta x).symm⟩
  exact ((entry_fin (dR c m i.val) j).trans (congrFun (row_dr c m i) j)).trans (roundR_apply _ i j).symm

theorem dgates_equal : dgates c m = roundR (gates c m) := by
  funext x
  obtain ⟨i, j, rfl⟩ : ∃ (i : Fin 8192) (j : Fin 1024), x = ix2 i j := ⟨x 0, x 1, (ix2_eta x).symm⟩
  exact ((entry_fin (dGate c m i.val) j).trans (congrFun (row_dgate c m i) j)).trans (roundR_apply _ i j).symm

theorem dembs_equal : dembs c m = roundR (embs c m) := by
  funext x
  obtain ⟨i, j, rfl⟩ : ∃ (i : Fin 8192) (j : Fin 1024), x = ix2 i j := ⟨x 0, x 1, (ix2_eta x).symm⟩
  exact ((entry_fin (dEmb c m i.val) j).trans (congrFun (row_demb c m i) j)).trans (roundR_apply _ i j).symm

theorem losses_equal : losses c m = lossR (misses c m) := by
  funext x
  obtain ⟨k, w, rfl⟩ : ∃ (k : Fin 8) (w : Fin 128), x = ix2 k w := ⟨x 0, x 1, (ix2_eta x).symm⟩
  refine Eq.trans ?_ (lossR_apply _ k w).symm
  refine Finset.sum_congr rfl fun i _ => ?_
  unfold lossAt
  rw [row_miss]

theorem dgateBiases_equal : dgateBiases c m = column (gates c m) := by
  funext x
  obtain ⟨z, j, rfl⟩ : ∃ (z : Fin 1) (j : Fin 1024), x = ix2 z j := ⟨x 0, x 1, (ix2_eta x).symm⟩
  refine ((entry_fin (fun j => ∑ k : Fin 8192, gateAt c m j k.val) j).trans ?_).trans (column_apply _ j z).symm
  exact Finset.sum_congr rfl fun k _ => congrFun (row_dgate c m k) j

theorem dgains_equal : dgains c m = column (gaineds c m) := by
  funext x
  obtain ⟨z, j, rfl⟩ : ∃ (z : Fin 1) (j : Fin 1024), x = ix2 z j := ⟨x 0, x 1, (ix2_eta x).symm⟩
  refine ((entry_fin (fun j => ∑ k : Fin 8192, gainAt c m j k.val) j).trans ?_).trans (column_apply _ j z).symm
  refine Finset.sum_congr rfl fun k _ => ?_
  refine Eq.trans ?_ (times_apply _ _ k j).symm
  rw [normedR_apply]
  unfold gainAt
  rw [row_sum, row_cot]
  rfl

theorem dbiases_equal : dbiases c m = column (cots c m) := by
  funext x
  obtain ⟨z, j, rfl⟩ : ∃ (z : Fin 1) (j : Fin 1024), x = ix2 z j := ⟨x 0, x 1, (ix2_eta x).symm⟩
  refine ((entry_fin (fun j => ∑ k : Fin 8192, biasAt c m j k.val) j).trans ?_).trans (column_apply _ j z).symm
  exact Finset.sum_congr rfl fun k _ => congrFun (row_cot c m k) j

theorem algebraic : Cert.algebraic_HeadIdeal_HeadReferenceIdeal := by
  intro m ρ m' ρ' _ hagree
  refine ⟨_, _, _, _, _, _, _, _, run_blocks (F := Ideal) m ρ, ?_⟩
  refine (θ_run Cert.HeadReferenceIdeal.defs _ _).mono (fun _ h c => ?_) (run_rows m' ρ')
  obtain ⟨e0, e1, e2, e3, e4, e5, e6, e7, kept⟩ := h c
  obtain ⟨g0, g1, g2, g3, g4, g5, g6, g7, g8, g9, g10⟩ := hagree c
  have rows_eq : rowsAt m' c = rows c m := by
    unfold rowsAt
    rw [g0, g1, g2, g3, g4, g5, g6, g7, g8, g9, g10]
    rfl
  have gates_eq : dGateAt m' c = gates c m := by
    unfold dGateAt
    rw [g0, g1, g2, g3, g4, g5, g6, g7, g8, g9, g10]
    rfl
  have embs_eq : dEmbAt m' c = embs c m := by
    unfold dEmbAt
    rw [g0, g1, g2, g3, g4, g5, g6, g7, g8, g9, g10]
    rfl
  have misses_eq : missAt m' c = misses c m := by
    unfold missAt
    rw [g0, g1, g2, g3, g4, g5, g6, g7, g8, g9, g10]
    rfl
  have gaineds_eq : gainedAt m' c = gaineds c m := by
    unfold gainedAt
    rw [g0, g1, g2, g3, g4, g5, g6, g7, g8, g9, g10]
    rfl
  have cots_eq : cotAt m' c = cots c m := by
    unfold cotAt
    rw [g0, g1, g2, g3, g4, g5, g6, g7, g8, g9, g10]
    rfl
  rw [rows_eq] at e0 e1
  rw [gates_eq] at e2 e5
  rw [embs_eq] at e3
  rw [misses_eq] at e4
  rw [gaineds_eq] at e6
  rw [cots_eq] at e7
  exact ⟨e0.trans ((drs_result c m).trans (drs_equal c m)).symm, e1.trans ((drsR_result c m).trans (drsR_equal c m)).symm,
    e2.trans ((dgates_result c m).trans (dgates_equal c m)).symm, e3.trans ((dembs_result c m).trans (dembs_equal c m)).symm,
    e4.trans ((losses_result c m).trans (losses_equal c m)).symm, e5.trans ((dgateBiases_result c m).trans (dgateBiases_equal c m)).symm,
    e6.trans ((dgains_result c m).trans (dgains_equal c m)).symm, e7.trans ((dbiases_result c m).trans (dbiases_equal c m)).symm, kept⟩

theorem frame_reference : Cert.quiescent_HeadReferenceIdeal := fun m ρ _ =>
  (θ_run Cert.HeadReferenceIdeal.defs _ _).mono (fun r h => ⟨fun c => (h c).2.2.2.2.2.2.2.2, sem_eq_zero_of_no_sems (by decide) r.2⟩)
    (Cert.HeadReferenceIdeal.Value.run (F := Ideal) m ρ)

end Cert.HeadIdeal.Product

end
-- ==== Proof.FiniteFwd.lean ====
/- Under the forward attention's precondition its first three arguments are real arrays. -/
module

public import proofs.«01_k».proof.Proof.Finite
public import proofs.«01_k».proof.Pre_finite_fwd

@[expose] public section

set_option maxRecDepth 16384

noncomputable section

namespace Cert.FiniteFwd

open Idealize.ShloMosaic Idealize.ShloMosaic.TcCoe AttnSpec Cert.Pre_finite_fwd Cert.Finite

/-- The predicate's side conditions. -/
theorem facts : Cert.Pre_finite_fwd.Facts where
  bitsLt_bf16_f32 := by decide
  bcast_S_S8192x1024 := by decide
  reducesTo_S8192x1024_S_d0_1 := by decide
  h_S_ := by decide
  bcast_S_S8192x128 := by decide
  reducesTo_S8192x128_S_d0_1 := by decide

variable [hP : Cert.Pre_finite_fwd.Facts]

theorem reals (x0 x1 : FVec Ideal S8192x1024 .bf16) (x2 : FVec Ideal S8192x128 .bf16) (x3 : FVec Ideal S8192x1024 .bf16)
    (h : Cert.Pre_finite_fwd.fn (F := Ideal) x0 x1 x2 x3 = fun _ => 1#1) :
    (∀ i, (((x0 i).toReal : ℝ) : EReal) = x0 i) ∧ (∀ i, (((x1 i).toReal : ℝ) : EReal) = x1 i) ∧ ∀ i, (((x2 i).toReal : ℝ) : EReal) = x2 i := by
  have e := congrFun h (fun a => nomatch a)
  dsimp only [Cert.Pre_finite_fwd.fn] at e
  obtain ⟨e, e2⟩ := IntOp.andi_eq_one.1 e
  obtain ⟨e0, e1⟩ := IntOp.andi_eq_one.1 e
  haveI : Subsingleton Cert.Pre_finite_fwd.S_.Idx := ⟨fun a b => funext fun x => nomatch x⟩
  refine ⟨fun i => real_of_lt _ ?_, fun i => real_of_lt _ ?_, fun i => real_of_lt _ ?_⟩
  · rw [← inf_word]
    exact Host.reduce_andi_all _ _ _ _ _ e0 i
  · rw [← inf_word]
    exact Host.reduce_andi_all _ _ _ _ _ e1 i
  · rw [← inf_word]
    exact Host.reduce_andi_all _ _ _ _ _ e2 i

/-- The real arrays that the arguments are, zero outside; no gradient comes in. -/
def data (x0 x1 : FVec Ideal S8192x1024 .bf16) (x2 : FVec Ideal S8192x128 .bf16) : Data where
  q r j := if h : r < 8192 ∧ j < 1024 then (x0 (ix2 ⟨r, h.1⟩ ⟨j, h.2⟩) : EReal).toReal else 0
  kv r j := if h : r < 8192 ∧ j < 1024 then (x1 (ix2 ⟨r, h.1⟩ ⟨j, h.2⟩) : EReal).toReal else 0
  kr r j := if h : r < 8192 ∧ j < 128 then (x2 (ix2 ⟨r, h.1⟩ ⟨j, h.2⟩) : EReal).toReal else 0
  g _ _ := 0

variable {x0 x1 : FVec Ideal S8192x1024 .bf16} {x2 : FVec Ideal S8192x128 .bf16} {x3 : FVec Ideal S8192x1024 .bf16}
    (h : Cert.Pre_finite_fwd.fn (F := Ideal) x0 x1 x2 x3 = fun _ => 1#1)
include h

theorem data_q (r : Fin 8192) (j : Fin 1024) : x0 (ix2 r j) = (((data x0 x1 x2).q r.val j.val : ℝ) : EReal) := by
  unfold data
  dsimp only
  rw [dif_pos ⟨r.isLt, j.isLt⟩]
  exact ((reals x0 x1 x2 x3 h).1 _).symm
theorem data_kv (r : Fin 8192) (j : Fin 1024) : x1 (ix2 r j) = (((data x0 x1 x2).kv r.val j.val : ℝ) : EReal) := by
  unfold data
  dsimp only
  rw [dif_pos ⟨r.isLt, j.isLt⟩]
  exact ((reals x0 x1 x2 x3 h).2.1 _).symm
theorem data_kr (r : Fin 8192) (j : Fin 128) : x2 (ix2 r j) = (((data x0 x1 x2).kr r.val j.val : ℝ) : EReal) := by
  unfold data
  dsimp only
  rw [dif_pos ⟨r.isLt, j.isLt⟩]
  exact ((reals x0 x1 x2 x3 h).2.2 _).symm

end Cert.FiniteFwd

end
-- ==== Proof.RowPrefix.lean ====
/- A row of block-causal scores cut to its first `K` keys, all the keys the row sees among them: maximum, normaliser,
   output and log-sum are those of the whole row. -/
module

public import proofs.«01_k».proof.Proof.Softmax

@[expose] public section

noncomputable section

namespace AttnSpec

open Idealize.ShloMosaic

/-- Terms that vanish from `K` on may be left out of a sum over 2048. -/
theorem sum_prefix {M : Type} [AddCommMonoid M] (f : ℕ → M) (K : ℕ) (hK : K ≤ 2048) (h : ∀ b, K ≤ b → f b = 0) :
    ∑ b : Fin K, f b.val = ∑ b : Fin 2048, f b.val := by
  rw [Fin.sum_univ_eq_sum_range f K, Fin.sum_univ_eq_sum_range f 2048]
  refine Finset.sum_subset (fun b hb => ?_) fun b _ hb => h b ?_
  · rw [Finset.mem_range] at hb ⊢; omega
  · rw [Finset.mem_range] at hb; omega

namespace Head

variable (H : Head) (a K : ℕ)

/-- The maximum of the first `K` scores of a row, and the sum of their exponentials about it. -/
def top : EReal := Finset.fold max (⊥ : EReal) (fun b : Fin K => H.row a b.val) Finset.univ
def norm : EReal := ∑ b : Fin K, Ideal.exp (H.row a b.val - H.top a K)

variable (ha : a < K) (hK : K ≤ 2048) (hs : ∀ b, b / 64 ≤ a / 64 → b < K)
include ha hK hs

theorem e_of_ge (b : ℕ) (hb : K ≤ b) : H.e a b = 0 := if_neg fun h => absurd (hs b h) (by omega)
theorem p_of_ge (b : ℕ) (hb : K ≤ b) : H.p a b = 0 := by rw [p, H.e_of_ge a K ha hK hs b hb, zero_div]

omit hK hs in
theorem top_real : ∃ M : ℝ, H.top a K = ((M : ℝ) : EReal) := by
  refine ⟨_, (EReal.coe_toReal (x := H.top a K) ?_ ?_).symm⟩
  · refine ne_of_lt ((Finset.fold_max_lt _).mpr ⟨bot_lt_top, fun b _ => ?_⟩)
    unfold Head.row
    split_ifs
    · exact EReal.coe_lt_top _
    · exact bot_lt_top
  · refine ne_of_gt ((Finset.lt_fold_max _).mpr (Or.inr ⟨⟨a, ha⟩, Finset.mem_univ _, ?_⟩))
    unfold Head.row
    rw [if_pos le_rfl]
    exact EReal.bot_lt_coe _

theorem norm_real (M : ℝ) (hM : H.top a K = ((M : ℝ) : EReal)) : H.norm a K = ((∑ b : Fin 2048, H.e a b.val * Real.exp (-M) : ℝ) : EReal) := by
  unfold norm
  simp only [hM, Head.exp_row]
  rw [← coe_sum]
  exact congrArg _ (sum_prefix (fun b => H.e a b * Real.exp (-M)) K hK fun b hb => by
    show H.e a b * _ = 0
    rw [H.e_of_ge a K ha hK hs b hb, zero_mul])

/-- The output from the first `K` keys. -/
theorem out_prefix (v : ℕ → ℝ) :
    ∑ b : Fin K, Ideal.div (Ideal.exp (H.row a b.val - H.top a K)) (H.norm a K) * ((v b.val : ℝ) : EReal) = ((∑ b : Fin 2048, H.p a b.val * v b.val : ℝ) : EReal) := by
  obtain ⟨M, hM⟩ := H.top_real a K ha
  have hn := (H.norm_pos a (by omega) M).ne'
  rw [H.norm_real a K ha hK hs M hM, hM]
  rw [← sum_prefix (M := ℝ) (fun b => H.p a b * v b) K hK fun b hb => by
    show H.p a b * _ = 0
    rw [H.p_of_ge a K ha hK hs b hb, zero_mul]]
  refine Eq.trans ?_ (coe_sum _ _).symm
  refine Finset.sum_congr rfl fun b _ => ?_
  rw [Head.exp_row, Ideal.div_coe hn, ← EReal.coe_mul, ← EReal.coe_mul, ← H.p_shift a b.val M]
  exact congrArg _ (by rw [div_eq_mul_one_div]; ring)

/-- The log-sum from the first `K` keys. -/
theorem lse_prefix : H.top a K + Ideal.log (H.norm a K) = ((H.lse a : ℝ) : EReal) := by
  obtain ⟨M, hM⟩ := H.top_real a K ha
  have hn := H.norm_pos a (by omega) M
  rw [H.norm_real a K ha hK hs M hM, hM, Ideal.log_coe, if_neg (not_le.mpr hn), ← EReal.coe_add, H.lse_shift a (by omega) M]

end Head

end AttnSpec

end
-- ==== Proof.AttnFwdTile.lean ====
/- The attention kernel's arithmetic for each of its four blocks of 512 query rows: over rows that are real numbers, the
   masked scores are the head's, and the softmax over the keys up to the block's end gives the head's outputs and
   log-sums. -/
module

public import proofs.«01_k».proof.Proof.Gen.AttnFwdIdeal.Value
public import proofs.«01_k».proof.Proof.RowPrefix
public import proofs.«01_k».proof.Proof.TileVal
public import Idealize.ShloMosaic.Lib.Pointwise
public import Idealize.ShloMosaic.Lib.Tactic.WordOmega

@[expose] public section

set_option maxRecDepth 16384

noncomputable section

namespace Cert.AttnFwdIdeal.Attn

open Cert.AttnFwdIdeal Cert.AttnFwdIdeal.Gen Idealize.ShloMosaic Idealize.ShloMosaic.TcCoe AttnSpec

theorem named_mask : (Named.named (F := Ideal) κ "mask" 0xF149F2CA#32 : Ideal .f32) = (⊥ : EReal) := rfl

/-- Whether a key's chunk comes after the query's, on the words the kernel compares. -/
theorem keep_word (o : ℕ) (a b : ℕ) (ha : o + a < 2048) (hb : b < 2048) :
    IntOp.cmpi .sle (IntOp.shrsi .vector (IntOp.addi 0#32 (BitVec.ofNat 32 b)) 6#32) (IntOp.shrsi .vector (IntOp.addi (BitVec.ofNat 32 o) (BitVec.ofNat 32 a)) 6#32)
      = if b / 64 ≤ (o + a) / 64 then 1#1 else 0#1 := by
  have e1 : IntOp.addi 0#32 (BitVec.ofNat 32 b) = BitVec.ofNat 32 b := by simp [IntOp.addi]
  have e2 : IntOp.addi (BitVec.ofNat 32 o) (BitVec.ofNat 32 a) = BitVec.ofNat 32 (o + a) := by simp only [IntOp.addi, BitVec.ofNat_add]
  rw [e1, e2]
  have f1 := Cert.KernelIdeal.Attn.chunk_word ⟨b, hb⟩
  have f2 := Cert.KernelIdeal.Attn.chunk_word ⟨o + a, ha⟩
  dsimp only at f1 f2
  rw [f1, f2]
  word_omega

/-- A masked score, from the sums of products of real numbers. -/
theorem score_row (H : Head) (o a b : ℕ) (s t : EReal)
    (hs : s = ∑ d : Fin 128, ((H.q (o + a) d.val : ℝ) : EReal) * ((H.k b d.val : ℝ) : EReal))
    (ht : t = ∑ d : Fin 128, ((H.q (o + a) (128 + d.val) : ℝ) : EReal) * ((H.r b d.val : ℝ) : EReal)) :
    Scalar.select (if b / 64 ≤ (o + a) / 64 then 1#1 else 0#1) ((s + t) * Ideal.ofBits FTy.f32 1033096506#32 : Ideal .f32) (Named.named (F := Ideal) κ "mask" 0xF149F2CA#32 : Ideal .f32) = H.row (o + a) b := by
  rw [hs, ht, Cert.KernelIdeal.Attn.scale_word, named_mask]
  unfold Head.row
  split_ifs
  · show _ = ((H.score (o + a) b : ℝ) : EReal)
    simp only [Head.score, EReal.coe_mul, EReal.coe_add, coe_sum]
    rfl
  · rfl

/-! ### The query rows from 0 on, against the first 512 keys -/

theorem score_512 (H : Head) (Q : Vec Ideal S512x256 .bf16) (N R : Vec Ideal S512x128 .bf16)
    (hq : ∀ (a : Fin 512) (j : Fin 256), Q (ix2 a j) = ((H.q (0 + a.val) j.val : ℝ) : EReal))
    (hn : ∀ (b : Fin 512) (d : Fin 128), N (ix2 b d) = ((H.k b.val d.val : ℝ) : EReal))
    (hr : ∀ (b : Fin 512) (d : Fin 128), R (ix2 b d) = ((H.r b.val d.val : ℝ) : EReal)) (a : Fin 512) (b : Fin 512) :
    (k0_pay8 (F := Ideal) Q N R : FVec Ideal S512x512 .f32) (ix2 a b) = H.row (0 + a.val) b.val := by
  have ha := a.isLt
  have hb := b.isLt
  rw [← score_row H 0 a.val b.val _ _ rfl rfl, ← keep_word 0 a.val b.val (by omega) (by omega)]
  pointwise [k0_pay8]
  simp only [hq, hn, hr, Nat.zero_add]

theorem top_512 (X : FVec Ideal S512x512 .f32) (a : Fin 512) (z : Fin 1) :
    (k0_pay11 (F := Ideal) X : FVec Ideal S512x1 .f32) (ix2 a z) = Finset.fold max (Ideal.ofBits FTy.f32 4286578688#32) (fun b : Fin 512 => X (ix2 a b)) Finset.univ := by
  pointwise [k0_pay11]

theorem exp_512 (X : FVec Ideal S512x512 .f32) (a : Fin 512) (b : Fin 512) :
    (k0_pay12 (F := Ideal) X : FVec Ideal S512x512 .f32) (ix2 a b) = Ideal.exp (X (ix2 a b) - (k0_pay11 (F := Ideal) X : FVec Ideal S512x1 .f32) (ix2 a 0)) := by
  pointwise [k0_pay12]

theorem norm_512 (X : FVec Ideal S512x512 .f32) (a : Fin 512) (z : Fin 1) :
    (k0_pay13 (F := Ideal) X : FVec Ideal S512x1 .f32) (ix2 a z) = ∑ b : Fin 512, (k0_pay12 (F := Ideal) X : FVec Ideal S512x512 .f32) (ix2 a b) := by
  pointwise [k0_pay13]

theorem out_512_apply (X : FVec Ideal S512x512 .f32) (v : Vec Ideal S512x128 .bf16) (a : Fin 512) (d : Fin 128) :
    (k0_pay14 (F := Ideal) X v : FVec Ideal S512x128 .f32) (ix2 a d)
      = ∑ b : Fin 512, Ideal.div ((k0_pay12 (F := Ideal) X : FVec Ideal S512x512 .f32) (ix2 a b)) ((k0_pay13 (F := Ideal) X : FVec Ideal S512x1 .f32) (ix2 a 0)) * v (ix2 b d) := by
  pointwise [k0_pay14]

theorem lse_512_apply (X : FVec Ideal S512x512 .f32) (a : Fin 512) (d : Fin 128) :
    (k0_pay16 (F := Ideal) X : FVec Ideal S512x128 .f32) (ix2 a d)
      = (k0_pay11 (F := Ideal) X : FVec Ideal S512x1 .f32) (ix2 a 0) + Ideal.log ((k0_pay13 (F := Ideal) X : FVec Ideal S512x1 .f32) (ix2 a 0)) := by
  pointwise [k0_pay16]

section
variable (H : Head) (X : FVec Ideal S512x512 .f32) (hX : ∀ (a : Fin 512) (b : Fin 512), X (ix2 a b) = H.row (0 + a.val) b.val)
include hX

theorem top_512_val (a : Fin 512) : (k0_pay11 (F := Ideal) X : FVec Ideal S512x1 .f32) (ix2 a 0) = H.top (0 + a.val) 512 := by
  rw [top_512, bot_word']
  simp only [hX]
  rfl

theorem norm_512_val (a : Fin 512) : (k0_pay13 (F := Ideal) X : FVec Ideal S512x1 .f32) (ix2 a 0) = H.norm (0 + a.val) 512 := by
  rw [norm_512]
  simp only [exp_512, top_512_val H X hX, hX]
  rfl

theorem out_512 (v : Vec Ideal S512x128 .bf16) (hv : ∀ (b : Fin 512) (d : Fin 128), v (ix2 b d) = ((H.k b.val (128 + d.val) : ℝ) : EReal)) (a : Fin 512) (d : Fin 128) :
    (k0_pay14 (F := Ideal) X v : FVec Ideal S512x128 .f32) (ix2 a d) = ((H.out (0 + a.val) d.val : ℝ) : EReal) := by
  have ha := a.isLt
  rw [out_512_apply]
  simp only [exp_512, top_512_val H X hX, norm_512_val H X hX, hX, hv]
  exact H.out_prefix (0 + a.val) 512 (by omega) (by omega) (fun b hb => by omega) fun b => H.k b (128 + d.val)

theorem lse_512 (a : Fin 512) (d : Fin 128) :
    (k0_pay16 (F := Ideal) X : FVec Ideal S512x128 .f32) (ix2 a d) = ((H.lse (0 + a.val) : ℝ) : EReal) := by
  have ha := a.isLt
  rw [lse_512_apply, top_512_val H X hX, norm_512_val H X hX]
  exact H.lse_prefix (0 + a.val) 512 (by omega) (by omega) fun b hb => by omega
end

/-! ### The query rows from 512 on, against the first 1024 keys -/

theorem score_1024 (H : Head) (Q : Vec Ideal S512x256 .bf16) (N R : Vec Ideal S1024x128 .bf16)
    (hq : ∀ (a : Fin 512) (j : Fin 256), Q (ix2 a j) = ((H.q (512 + a.val) j.val : ℝ) : EReal))
    (hn : ∀ (b : Fin 1024) (d : Fin 128), N (ix2 b d) = ((H.k b.val d.val : ℝ) : EReal))
    (hr : ∀ (b : Fin 1024) (d : Fin 128), R (ix2 b d) = ((H.r b.val d.val : ℝ) : EReal)) (a : Fin 512) (b : Fin 1024) :
    (k0_pay10 (F := Ideal) (k0_pay9 Q N R) (iota .tc S512x1024 32 [0] iota_S512x1024_d0_w32) 512#32 : FVec Ideal S512x1024 .f32) (ix2 a b) = H.row (512 + a.val) b.val := by
  have ha := a.isLt
  have hb := b.isLt
  rw [← score_row H 512 a.val b.val _ _ rfl rfl, ← keep_word 512 a.val b.val (by omega) (by omega)]
  pointwise [k0_pay10, k0_pay9]
  simp only [hq, hn, hr]

theorem top_1024 (X : FVec Ideal S512x1024 .f32) (a : Fin 512) (z : Fin 1) :
    (k0_pay19 (F := Ideal) X : FVec Ideal S512x1 .f32) (ix2 a z) = Finset.fold max (Ideal.ofBits FTy.f32 4286578688#32) (fun b : Fin 1024 => X (ix2 a b)) Finset.univ := by
  pointwise [k0_pay19]

theorem exp_1024 (X : FVec Ideal S512x1024 .f32) (a : Fin 512) (b : Fin 1024) :
    (k0_pay20 (F := Ideal) X : FVec Ideal S512x1024 .f32) (ix2 a b) = Ideal.exp (X (ix2 a b) - (k0_pay19 (F := Ideal) X : FVec Ideal S512x1 .f32) (ix2 a 0)) := by
  pointwise [k0_pay20]

theorem norm_1024 (X : FVec Ideal S512x1024 .f32) (a : Fin 512) (z : Fin 1) :
    (k0_pay21 (F := Ideal) X : FVec Ideal S512x1 .f32) (ix2 a z) = ∑ b : Fin 1024, (k0_pay20 (F := Ideal) X : FVec Ideal S512x1024 .f32) (ix2 a b) := by
  pointwise [k0_pay21]

theorem out_1024_apply (X : FVec Ideal S512x1024 .f32) (v : Vec Ideal S1024x128 .bf16) (a : Fin 512) (d : Fin 128) :
    (k0_pay22 (F := Ideal) X v : FVec Ideal S512x128 .f32) (ix2 a d)
      = ∑ b : Fin 1024, Ideal.div ((k0_pay20 (F := Ideal) X : FVec Ideal S512x1024 .f32) (ix2 a b)) ((k0_pay21 (F := Ideal) X : FVec Ideal S512x1 .f32) (ix2 a 0)) * v (ix2 b d) := by
  pointwise [k0_pay22]

theorem lse_1024_apply (X : FVec Ideal S512x1024 .f32) (a : Fin 512) (d : Fin 128) :
    (k0_pay24 (F := Ideal) X : FVec Ideal S512x128 .f32) (ix2 a d)
      = (k0_pay19 (F := Ideal) X : FVec Ideal S512x1 .f32) (ix2 a 0) + Ideal.log ((k0_pay21 (F := Ideal) X : FVec Ideal S512x1 .f32) (ix2 a 0)) := by
  pointwise [k0_pay24]

section
variable (H : Head) (X : FVec Ideal S512x1024 .f32) (hX : ∀ (a : Fin 512) (b : Fin 1024), X (ix2 a b) = H.row (512 + a.val) b.val)
include hX

theorem top_1024_val (a : Fin 512) : (k0_pay19 (F := Ideal) X : FVec Ideal S512x1 .f32) (ix2 a 0) = H.top (512 + a.val) 1024 := by
  rw [top_1024, bot_word']
  simp only [hX]
  rfl

theorem norm_1024_val (a : Fin 512) : (k0_pay21 (F := Ideal) X : FVec Ideal S512x1 .f32) (ix2 a 0) = H.norm (512 + a.val) 1024 := by
  rw [norm_1024]
  simp only [exp_1024, top_1024_val H X hX, hX]
  rfl

theorem out_1024 (v : Vec Ideal S1024x128 .bf16) (hv : ∀ (b : Fin 1024) (d : Fin 128), v (ix2 b d) = ((H.k b.val (128 + d.val) : ℝ) : EReal)) (a : Fin 512) (d : Fin 128) :
    (k0_pay22 (F := Ideal) X v : FVec Ideal S512x128 .f32) (ix2 a d) = ((H.out (512 + a.val) d.val : ℝ) : EReal) := by
  have ha := a.isLt
  rw [out_1024_apply]
  simp only [exp_1024, top_1024_val H X hX, norm_1024_val H X hX, hX, hv]
  exact H.out_prefix (512 + a.val) 1024 (by omega) (by omega) (fun b hb => by omega) fun b => H.k b (128 + d.val)

theorem lse_1024 (a : Fin 512) (d : Fin 128) :
    (k0_pay24 (F := Ideal) X : FVec Ideal S512x128 .f32) (ix2 a d) = ((H.lse (512 + a.val) : ℝ) : EReal) := by
  have ha := a.isLt
  rw [lse_1024_apply, top_1024_val H X hX, norm_1024_val H X hX]
  exact H.lse_prefix (512 + a.val) 1024 (by omega) (by omega) fun b hb => by omega
end

/-! ### The query rows from 1024 on, against the first 1536 keys -/

theorem score_1536 (H : Head) (Q : Vec Ideal S512x256 .bf16) (N R : Vec Ideal S1536x128 .bf16)
    (hq : ∀ (a : Fin 512) (j : Fin 256), Q (ix2 a j) = ((H.q (1024 + a.val) j.val : ℝ) : EReal))
    (hn : ∀ (b : Fin 1536) (d : Fin 128), N (ix2 b d) = ((H.k b.val d.val : ℝ) : EReal))
    (hr : ∀ (b : Fin 1536) (d : Fin 128), R (ix2 b d) = ((H.r b.val d.val : ℝ) : EReal)) (a : Fin 512) (b : Fin 1536) :
    (k0_pay18 (F := Ideal) Q N R (k0_pay17 Q) : FVec Ideal S512x1536 .f32) (ix2 a b) = H.row (1024 + a.val) b.val := by
  have ha := a.isLt
  have hb := b.isLt
  rw [← score_row H 1024 a.val b.val _ _ rfl rfl, ← keep_word 1024 a.val b.val (by omega) (by omega)]
  pointwise [k0_pay18, k0_pay17]
  simp only [hq, hn, hr]

theorem top_1536 (X : FVec Ideal S512x1536 .f32) (a : Fin 512) (z : Fin 1) :
    (k0_pay26 (F := Ideal) X : FVec Ideal S512x1 .f32) (ix2 a z) = Finset.fold max (Ideal.ofBits FTy.f32 4286578688#32) (fun b : Fin 1536 => X (ix2 a b)) Finset.univ := by
  pointwise [k0_pay26]

theorem exp_1536 (X : FVec Ideal S512x1536 .f32) (a : Fin 512) (b : Fin 1536) :
    (k0_pay27 (F := Ideal) X : FVec Ideal S512x1536 .f32) (ix2 a b) = Ideal.exp (X (ix2 a b) - (k0_pay26 (F := Ideal) X : FVec Ideal S512x1 .f32) (ix2 a 0)) := by
  pointwise [k0_pay27]

theorem norm_1536 (X : FVec Ideal S512x1536 .f32) (a : Fin 512) (z : Fin 1) :
    (k0_pay28 (F := Ideal) X : FVec Ideal S512x1 .f32) (ix2 a z) = ∑ b : Fin 1536, (k0_pay27 (F := Ideal) X : FVec Ideal S512x1536 .f32) (ix2 a b) := by
  pointwise [k0_pay28]

theorem out_1536_apply (X : FVec Ideal S512x1536 .f32) (v : Vec Ideal S1536x128 .bf16) (a : Fin 512) (d : Fin 128) :
    (k0_pay29 (F := Ideal) X v : FVec Ideal S512x128 .f32) (ix2 a d)
      = ∑ b : Fin 1536, Ideal.div ((k0_pay27 (F := Ideal) X : FVec Ideal S512x1536 .f32) (ix2 a b)) ((k0_pay28 (F := Ideal) X : FVec Ideal S512x1 .f32) (ix2 a 0)) * v (ix2 b d) := by
  pointwise [k0_pay29]

theorem lse_1536_apply (X : FVec Ideal S512x1536 .f32) (a : Fin 512) (d : Fin 128) :
    (k0_pay1 (F := Ideal) (k0_pay30 X) : FVec Ideal S512x128 .f32) (ix2 a d)
      = (k0_pay26 (F := Ideal) X : FVec Ideal S512x1 .f32) (ix2 a 0) + Ideal.log ((k0_pay28 (F := Ideal) X : FVec Ideal S512x1 .f32) (ix2 a 0)) := by
  pointwise [k0_pay1, k0_pay30]

section
variable (H : Head) (X : FVec Ideal S512x1536 .f32) (hX : ∀ (a : Fin 512) (b : Fin 1536), X (ix2 a b) = H.row (1024 + a.val) b.val)
include hX

theorem top_1536_val (a : Fin 512) : (k0_pay26 (F := Ideal) X : FVec Ideal S512x1 .f32) (ix2 a 0) = H.top (1024 + a.val) 1536 := by
  rw [top_1536, bot_word']
  simp only [hX]
  rfl

theorem norm_1536_val (a : Fin 512) : (k0_pay28 (F := Ideal) X : FVec Ideal S512x1 .f32) (ix2 a 0) = H.norm (1024 + a.val) 1536 := by
  rw [norm_1536]
  simp only [exp_1536, top_1536_val H X hX, hX]
  rfl

theorem out_1536 (v : Vec Ideal S1536x128 .bf16) (hv : ∀ (b : Fin 1536) (d : Fin 128), v (ix2 b d) = ((H.k b.val (128 + d.val) : ℝ) : EReal)) (a : Fin 512) (d : Fin 128) :
    (k0_pay29 (F := Ideal) X v : FVec Ideal S512x128 .f32) (ix2 a d) = ((H.out (1024 + a.val) d.val : ℝ) : EReal) := by
  have ha := a.isLt
  rw [out_1536_apply]
  simp only [exp_1536, top_1536_val H X hX, norm_1536_val H X hX, hX, hv]
  exact H.out_prefix (1024 + a.val) 1536 (by omega) (by omega) (fun b hb => by omega) fun b => H.k b (128 + d.val)

theorem lse_1536 (a : Fin 512) (d : Fin 128) :
    (k0_pay1 (F := Ideal) (k0_pay30 X) : FVec Ideal S512x128 .f32) (ix2 a d) = ((H.lse (1024 + a.val) : ℝ) : EReal) := by
  have ha := a.isLt
  rw [lse_1536_apply, top_1536_val H X hX, norm_1536_val H X hX]
  exact H.lse_prefix (1024 + a.val) 1536 (by omega) (by omega) fun b hb => by omega
end

/-! ### The query rows from 1536 on, against the first 2048 keys -/

theorem score_2048 (H : Head) (Q : Vec Ideal S512x256 .bf16) (N R : Vec Ideal S2048x128 .bf16)
    (hq : ∀ (a : Fin 512) (j : Fin 256), Q (ix2 a j) = ((H.q (1536 + a.val) j.val : ℝ) : EReal))
    (hn : ∀ (b : Fin 2048) (d : Fin 128), N (ix2 b d) = ((H.k b.val d.val : ℝ) : EReal))
    (hr : ∀ (b : Fin 2048) (d : Fin 128), R (ix2 b d) = ((H.r b.val d.val : ℝ) : EReal)) (a : Fin 512) (b : Fin 2048) :
    (k0_pay25 (F := Ideal) Q N R : FVec Ideal S512x2048 .f32) (ix2 a b) = H.row (1536 + a.val) b.val := by
  have ha := a.isLt
  have hb := b.isLt
  rw [← score_row H 1536 a.val b.val _ _ rfl rfl, ← keep_word 1536 a.val b.val (by omega) (by omega)]
  pointwise [k0_pay25]
  simp only [hq, hn, hr]

theorem top_2048 (X : FVec Ideal S512x2048 .f32) (a : Fin 512) (z : Fin 1) :
    (k0_pay2 (F := Ideal) X : FVec Ideal S512x1 .f32) (ix2 a z) = Finset.fold max (Ideal.ofBits FTy.f32 4286578688#32) (fun b : Fin 2048 => X (ix2 a b)) Finset.univ := by
  pointwise [k0_pay2]

theorem exp_2048 (X : FVec Ideal S512x2048 .f32) (a : Fin 512) (b : Fin 2048) :
    (k0_pay3 (F := Ideal) X : FVec Ideal S512x2048 .f32) (ix2 a b) = Ideal.exp (X (ix2 a b) - (k0_pay2 (F := Ideal) X : FVec Ideal S512x1 .f32) (ix2 a 0)) := by
  pointwise [k0_pay3]

theorem norm_2048 (X : FVec Ideal S512x2048 .f32) (a : Fin 512) (z : Fin 1) :
    (k0_pay4 (F := Ideal) X : FVec Ideal S512x1 .f32) (ix2 a z) = ∑ b : Fin 2048, (k0_pay3 (F := Ideal) X : FVec Ideal S512x2048 .f32) (ix2 a b) := by
  pointwise [k0_pay4]

theorem out_2048_apply (X : FVec Ideal S512x2048 .f32) (v : Vec Ideal S2048x128 .bf16) (a : Fin 512) (d : Fin 128) :
    (k0_pay5 (F := Ideal) X v : FVec Ideal S512x128 .f32) (ix2 a d)
      = ∑ b : Fin 2048, Ideal.div ((k0_pay3 (F := Ideal) X : FVec Ideal S512x2048 .f32) (ix2 a b)) ((k0_pay4 (F := Ideal) X : FVec Ideal S512x1 .f32) (ix2 a 0)) * v (ix2 b d) := by
  pointwise [k0_pay5]

theorem lse_2048_apply (X : FVec Ideal S512x2048 .f32) (a : Fin 512) (d : Fin 128) :
    (k0_pay7 (F := Ideal) X : FVec Ideal S512x128 .f32) (ix2 a d)
      = (k0_pay2 (F := Ideal) X : FVec Ideal S512x1 .f32) (ix2 a 0) + Ideal.log ((k0_pay4 (F := Ideal) X : FVec Ideal S512x1 .f32) (ix2 a 0)) := by
  pointwise [k0_pay7]

section
variable (H : Head) (X : FVec Ideal S512x2048 .f32) (hX : ∀ (a : Fin 512) (b : Fin 2048), X (ix2 a b) = H.row (1536 + a.val) b.val)
include hX

theorem top_2048_val (a : Fin 512) : (k0_pay2 (F := Ideal) X : FVec Ideal S512x1 .f32) (ix2 a 0) = H.top (1536 + a.val) 2048 := by
  rw [top_2048, bot_word']
  simp only [hX]
  rfl

theorem norm_2048_val (a : Fin 512) : (k0_pay4 (F := Ideal) X : FVec Ideal S512x1 .f32) (ix2 a 0) = H.norm (1536 + a.val) 2048 := by
  rw [norm_2048]
  simp only [exp_2048, top_2048_val H X hX, hX]
  rfl

theorem out_2048 (v : Vec Ideal S2048x128 .bf16) (hv : ∀ (b : Fin 2048) (d : Fin 128), v (ix2 b d) = ((H.k b.val (128 + d.val) : ℝ) : EReal)) (a : Fin 512) (d : Fin 128) :
    (k0_pay5 (F := Ideal) X v : FVec Ideal S512x128 .f32) (ix2 a d) = ((H.out (1536 + a.val) d.val : ℝ) : EReal) := by
  have ha := a.isLt
  rw [out_2048_apply]
  simp only [exp_2048, top_2048_val H X hX, norm_2048_val H X hX, hX, hv]
  exact H.out_prefix (1536 + a.val) 2048 (by omega) (by omega) (fun b hb => by omega) fun b => H.k b (128 + d.val)

theorem lse_2048 (a : Fin 512) (d : Fin 128) :
    (k0_pay7 (F := Ideal) X : FVec Ideal S512x128 .f32) (ix2 a d) = ((H.lse (1536 + a.val) : ℝ) : EReal) := by
  have ha := a.isLt
  rw [lse_2048_apply, top_2048_val H X hX, norm_2048_val H X hX]
  exact H.lse_prefix (1536 + a.val) 2048 (by omega) (by omega) fun b hb => by omega
end

end Cert.AttnFwdIdeal.Attn

end
-- ==== Proof.AttnFwdPoint.lean ====
/- What a point of the attention kernel leaves in its three output buffers: a head's outputs, twice, and its log-sums. -/
module

public import proofs.«01_k».proof.Proof.AttnFwdTile
public import proofs.«01_k».proof.Proof.Gen.AttnFwdIdeal.Value
public import Idealize.ShloMosaic.Lib.Pipeline.ValueKit

@[expose] public section

set_option maxRecDepth 16384

noncomputable section

namespace Cert.AttnFwdIdeal.Attn

open Idealize.ShloMosaic.Tactic Cert.AttnFwdIdeal Cert.AttnFwdIdeal.Gen Idealize.ShloMosaic Idealize.ShloMosaic.TcCoe AttnSpec

/-- A load of some rows and columns of a buffer, at an entry. -/
theorem read_at {S : Shape} {e : EltTy} (v : Memref sig .tc .vmem S e) (hv : v.IsWhole) (X : Vec Ideal S e) (off size : Fin S.rank → ℕ)
    (inb : ∀ a, off a + size a ≤ S.size a) (x : (Rect.unit off size inb).shape.Idx) (y : S.Idx) (hy : ∀ a, (y a : ℕ) = off a + x a) :
    View.readAt (Elt Ideal) v.view (Rect.unit off size inb).toLoadRect (hv.unread X) x = X y := by
  show View.ld (v.view.read _ (hv.unread X)) (Rect.unit off size inb) x = _
  rw [hv.read_unread]
  exact View.ld_unit_apply_of X off size inb x y hy

section Loads

variable (arg2 : Memref sig .tc .vmem S2048x256 .bf16) (harg2 : arg2.IsWhole) (arg3 : Memref sig .tc .vmem S2048x256 .bf16) (harg3 : arg3.IsWhole)
    (arg4 : Memref sig .tc .vmem S2048x128 .bf16) (harg4 : arg4.IsWhole)
    (x0 : Vec Ideal S2048x256 .bf16) (x1 : Vec Ideal S2048x256 .bf16) (x2 : Vec Ideal S2048x128 .bf16)

/-! The loads for a block of query rows: the rows, the keys, the values, the rotated keys. -/

abbrev q0 : Vec Ideal S512x256 .bf16 := View.readAt (Elt Ideal) arg2.view (Rect.unit (s := S2048x256) ![0, 0] S512x256.size inb_S2048x256_S512x256_0_0).toLoadRect (harg2.unread x0)
abbrev n0 : Vec Ideal S512x128 .bf16 := View.readAt (Elt Ideal) arg3.view (Rect.unit (s := S2048x256) ![0, 0] S512x128.size inb_S2048x256_S512x128_0_0).toLoadRect (harg3.unread x1)
abbrev v0 : Vec Ideal S512x128 .bf16 := View.readAt (Elt Ideal) arg3.view (Rect.unit (s := S2048x256) ![0, 128] S512x128.size inb_S2048x256_S512x128_0_128).toLoadRect (harg3.unread x1)
abbrev r0 : Vec Ideal S512x128 .bf16 := View.readAt (Elt Ideal) arg4.view (Rect.unit (s := S2048x128) ![0, 0] S512x128.size inb_S2048x128_S512x128_0_0).toLoadRect (harg4.unread x2)
abbrev s0 : FVec Ideal S512x512 .f32 := k0_pay8 (F := Ideal) (q0 arg2 harg2 x0) (n0 arg3 harg3 x1) (r0 arg4 harg4 x2)

abbrev q512 : Vec Ideal S512x256 .bf16 := View.readAt (Elt Ideal) arg2.view (Rect.unit (s := S2048x256) ![512, 0] S512x256.size inb_S2048x256_S512x256_512_0).toLoadRect (harg2.unread x0)
abbrev n512 : Vec Ideal S1024x128 .bf16 := View.readAt (Elt Ideal) arg3.view (Rect.unit (s := S2048x256) ![0, 0] S1024x128.size inb_S2048x256_S1024x128_0_0).toLoadRect (harg3.unread x1)
abbrev v512 : Vec Ideal S1024x128 .bf16 := View.readAt (Elt Ideal) arg3.view (Rect.unit (s := S2048x256) ![0, 128] S1024x128.size inb_S2048x256_S1024x128_0_128).toLoadRect (harg3.unread x1)
abbrev r512 : Vec Ideal S1024x128 .bf16 := View.readAt (Elt Ideal) arg4.view (Rect.unit (s := S2048x128) ![0, 0] S1024x128.size inb_S2048x128_S1024x128_0_0).toLoadRect (harg4.unread x2)
abbrev s512 : FVec Ideal S512x1024 .f32 := k0_pay10 (F := Ideal) (k0_pay9 (q512 arg2 harg2 x0) (n512 arg3 harg3 x1) (r512 arg4 harg4 x2)) (iota .tc S512x1024 32 [0] iota_S512x1024_d0_w32) 512#32

abbrev q1024 : Vec Ideal S512x256 .bf16 := View.readAt (Elt Ideal) arg2.view (Rect.unit (s := S2048x256) ![1024, 0] S512x256.size inb_S2048x256_S512x256_1024_0).toLoadRect (harg2.unread x0)
abbrev n1024 : Vec Ideal S1536x128 .bf16 := View.readAt (Elt Ideal) arg3.view (Rect.unit (s := S2048x256) ![0, 0] S1536x128.size inb_S2048x256_S1536x128_0_0).toLoadRect (harg3.unread x1)
abbrev v1024 : Vec Ideal S1536x128 .bf16 := View.readAt (Elt Ideal) arg3.view (Rect.unit (s := S2048x256) ![0, 128] S1536x128.size inb_S2048x256_S1536x128_0_128).toLoadRect (harg3.unread x1)
abbrev r1024 : Vec Ideal S1536x128 .bf16 := View.readAt (Elt Ideal) arg4.view (Rect.unit (s := S2048x128) ![0, 0] S1536x128.size inb_S2048x128_S1536x128_0_0).toLoadRect (harg4.unread x2)
abbrev s1024 : FVec Ideal S512x1536 .f32 := k0_pay18 (F := Ideal) (q1024 arg2 harg2 x0) (n1024 arg3 harg3 x1) (r1024 arg4 harg4 x2) (k0_pay17 (q1024 arg2 harg2 x0))

abbrev q1536 : Vec Ideal S512x256 .bf16 := View.readAt (Elt Ideal) arg2.view (Rect.unit (s := S2048x256) ![1536, 0] S512x256.size inb_S2048x256_S512x256_1536_0).toLoadRect (harg2.unread x0)
abbrev n1536 : Vec Ideal S2048x128 .bf16 := View.readAt (Elt Ideal) arg3.view (Rect.unit (s := S2048x256) ![0, 0] S2048x128.size inb_S2048x256_S2048x128_0_0).toLoadRect (harg3.unread x1)
abbrev v1536 : Vec Ideal S2048x128 .bf16 := View.readAt (Elt Ideal) arg3.view (Rect.unit (s := S2048x256) ![0, 128] S2048x128.size inb_S2048x256_S2048x128_0_128).toLoadRect (harg3.unread x1)
abbrev r1536 : Vec Ideal S2048x128 .bf16 := View.readAt (Elt Ideal) arg4.view (Rect.unit (s := S2048x128) ![0, 0] S2048x128.size inb_S2048x128_S2048x128_0_0).toLoadRect (harg4.unread x2)
abbrev s1536 : FVec Ideal S512x2048 .f32 := k0_pay25 (F := Ideal) (q1536 arg2 harg2 x0) (n1536 arg3 harg3 x1) (r1536 arg4 harg4 x2)

/-- The stores into output 3. -/
def stores3 : List (View.Piece (Elt Ideal) S2048x128 .bf16) :=
  [⟨Rect.unit (s := S2048x128) ![1536, 0] S512x128.size inb_S2048x128_S512x128_1536_0, k0_pay6 (F := Ideal) (s1536 arg2 harg2 arg3 harg3 arg4 harg4 x0 x1 x2) (v1536 arg3 harg3 x1)⟩,
    ⟨Rect.unit (s := S2048x128) ![1024, 0] S512x128.size inb_S2048x128_S512x128_1024_0, k0_pay31 (F := Ideal) (s1024 arg2 harg2 arg3 harg3 arg4 harg4 x0 x1 x2) (v1024 arg3 harg3 x1)⟩,
    ⟨Rect.unit (s := S2048x128) ![512, 0] S512x128.size inb_S2048x128_S512x128_512_0, k0_pay23 (F := Ideal) (s512 arg2 harg2 arg3 harg3 arg4 harg4 x0 x1 x2) (v512 arg3 harg3 x1)⟩,
    ⟨Rect.unit (s := S2048x128) ![0, 0] S512x128.size inb_S2048x128_S512x128_0_0, k0_pay15 (F := Ideal) (s0 arg2 harg2 arg3 harg3 arg4 harg4 x0 x1 x2) (v0 arg3 harg3 x1)⟩]

/-- The stores into output 4. -/
def stores4 : List (View.Piece (Elt Ideal) S2048x128 .f32) :=
  [⟨Rect.unit (s := S2048x128) ![1536, 0] S512x128.size inb_S2048x128_S512x128_1536_0, k0_pay5 (F := Ideal) (s1536 arg2 harg2 arg3 harg3 arg4 harg4 x0 x1 x2) (v1536 arg3 harg3 x1)⟩,
    ⟨Rect.unit (s := S2048x128) ![1024, 0] S512x128.size inb_S2048x128_S512x128_1024_0, k0_pay29 (F := Ideal) (s1024 arg2 harg2 arg3 harg3 arg4 harg4 x0 x1 x2) (v1024 arg3 harg3 x1)⟩,
    ⟨Rect.unit (s := S2048x128) ![512, 0] S512x128.size inb_S2048x128_S512x128_512_0, k0_pay22 (F := Ideal) (s512 arg2 harg2 arg3 harg3 arg4 harg4 x0 x1 x2) (v512 arg3 harg3 x1)⟩,
    ⟨Rect.unit (s := S2048x128) ![0, 0] S512x128.size inb_S2048x128_S512x128_0_0, k0_pay14 (F := Ideal) (s0 arg2 harg2 arg3 harg3 arg4 harg4 x0 x1 x2) (v0 arg3 harg3 x1)⟩]

/-- The stores into output 5. -/
def stores5 : List (View.Piece (Elt Ideal) S2048x128 .f32) :=
  [⟨Rect.unit (s := S2048x128) ![1536, 0] S512x128.size inb_S2048x128_S512x128_1536_0, k0_pay7 (F := Ideal) (s1536 arg2 harg2 arg3 harg3 arg4 harg4 x0 x1 x2)⟩,
    ⟨Rect.unit (s := S2048x128) ![1024, 0] S512x128.size inb_S2048x128_S512x128_1024_0, k0_pay1 (F := Ideal) (k0_pay30 (s1024 arg2 harg2 arg3 harg3 arg4 harg4 x0 x1 x2))⟩,
    ⟨Rect.unit (s := S2048x128) ![512, 0] S512x128.size inb_S2048x128_S512x128_512_0, k0_pay24 (F := Ideal) (s512 arg2 harg2 arg3 harg3 arg4 harg4 x0 x1 x2)⟩,
    ⟨Rect.unit (s := S2048x128) ![0, 0] S512x128.size inb_S2048x128_S512x128_0_0, k0_pay16 (F := Ideal) (s0 arg2 harg2 arg3 harg3 arg4 harg4 x0 x1 x2)⟩]

variable (H : Head)
  (hq : ∀ (r : Fin 2048) (j : Fin 256), x0 (ix2 r j) = ((H.q r.val j.val : ℝ) : EReal))
  (hk : ∀ (r : Fin 2048) (j : Fin 256), x1 (ix2 r j) = ((H.k r.val j.val : ℝ) : EReal))
  (hr : ∀ (r : Fin 2048) (j : Fin 128), x2 (ix2 r j) = ((H.r r.val j.val : ℝ) : EReal))

include hq hk hr in
theorem s0_val (a : Fin 512) (b : Fin 512) : s0 arg2 harg2 arg3 harg3 arg4 harg4 x0 x1 x2 (ix2 a b) = H.row (0 + a.val) b.val := by
  refine score_512 H _ _ _ (fun a j => ?_) (fun b d => ?_) (fun b d => ?_) a b
  · exact (read_at arg2 harg2 x0 _ _ _ _ (ix2 ⟨0 + a.val, by have := a.isLt; omega⟩ j) (fun k => by fin_cases k; rfl; exact (Nat.zero_add _).symm)).trans (hq _ _)
  · exact (read_at arg3 harg3 x1 _ _ _ _ (ix2 ⟨b.val, by have := b.isLt; omega⟩ ⟨d.val, by have := d.isLt; omega⟩) (fun k => by fin_cases k <;> exact (Nat.zero_add _).symm)).trans (hk _ _)
  · exact (read_at arg4 harg4 x2 _ _ _ _ (ix2 ⟨b.val, by have := b.isLt; omega⟩ d) (fun k => by fin_cases k <;> exact (Nat.zero_add _).symm)).trans (hr _ _)

include hk in
theorem v0_val (b : Fin 512) (d : Fin 128) : v0 arg3 harg3 x1 (ix2 b d) = ((H.k b.val (128 + d.val) : ℝ) : EReal) :=
  (read_at arg3 harg3 x1 _ _ _ _ (ix2 ⟨b.val, by have := b.isLt; omega⟩ ⟨128 + d.val, by have := d.isLt; omega⟩) (fun k => by fin_cases k; exact (Nat.zero_add _).symm; rfl)).trans (hk _ _)

include hq hk hr in
theorem s512_val (a : Fin 512) (b : Fin 1024) : s512 arg2 harg2 arg3 harg3 arg4 harg4 x0 x1 x2 (ix2 a b) = H.row (512 + a.val) b.val := by
  refine score_1024 H _ _ _ (fun a j => ?_) (fun b d => ?_) (fun b d => ?_) a b
  · exact (read_at arg2 harg2 x0 _ _ _ _ (ix2 ⟨512 + a.val, by have := a.isLt; omega⟩ j) (fun k => by fin_cases k; rfl; exact (Nat.zero_add _).symm)).trans (hq _ _)
  · exact (read_at arg3 harg3 x1 _ _ _ _ (ix2 ⟨b.val, by have := b.isLt; omega⟩ ⟨d.val, by have := d.isLt; omega⟩) (fun k => by fin_cases k <;> exact (Nat.zero_add _).symm)).trans (hk _ _)
  · exact (read_at arg4 harg4 x2 _ _ _ _ (ix2 ⟨b.val, by have := b.isLt; omega⟩ d) (fun k => by fin_cases k <;> exact (Nat.zero_add _).symm)).trans (hr _ _)

include hk in
theorem v512_val (b : Fin 1024) (d : Fin 128) : v512 arg3 harg3 x1 (ix2 b d) = ((H.k b.val (128 + d.val) : ℝ) : EReal) :=
  (read_at arg3 harg3 x1 _ _ _ _ (ix2 ⟨b.val, by have := b.isLt; omega⟩ ⟨128 + d.val, by have := d.isLt; omega⟩) (fun k => by fin_cases k; exact (Nat.zero_add _).symm; rfl)).trans (hk _ _)

include hq hk hr in
theorem s1024_val (a : Fin 512) (b : Fin 1536) : s1024 arg2 harg2 arg3 harg3 arg4 harg4 x0 x1 x2 (ix2 a b) = H.row (1024 + a.val) b.val := by
  refine score_1536 H _ _ _ (fun a j => ?_) (fun b d => ?_) (fun b d => ?_) a b
  · exact (read_at arg2 harg2 x0 _ _ _ _ (ix2 ⟨1024 + a.val, by have := a.isLt; omega⟩ j) (fun k => by fin_cases k; rfl; exact (Nat.zero_add _).symm)).trans (hq _ _)
  · exact (read_at arg3 harg3 x1 _ _ _ _ (ix2 ⟨b.val, by have := b.isLt; omega⟩ ⟨d.val, by have := d.isLt; omega⟩) (fun k => by fin_cases k <;> exact (Nat.zero_add _).symm)).trans (hk _ _)
  · exact (read_at arg4 harg4 x2 _ _ _ _ (ix2 ⟨b.val, by have := b.isLt; omega⟩ d) (fun k => by fin_cases k <;> exact (Nat.zero_add _).symm)).trans (hr _ _)

include hk in
theorem v1024_val (b : Fin 1536) (d : Fin 128) : v1024 arg3 harg3 x1 (ix2 b d) = ((H.k b.val (128 + d.val) : ℝ) : EReal) :=
  (read_at arg3 harg3 x1 _ _ _ _ (ix2 ⟨b.val, by have := b.isLt; omega⟩ ⟨128 + d.val, by have := d.isLt; omega⟩) (fun k => by fin_cases k; exact (Nat.zero_add _).symm; rfl)).trans (hk _ _)

include hq hk hr in
theorem s1536_val (a : Fin 512) (b : Fin 2048) : s1536 arg2 harg2 arg3 harg3 arg4 harg4 x0 x1 x2 (ix2 a b) = H.row (1536 + a.val) b.val := by
  refine score_2048 H _ _ _ (fun a j => ?_) (fun b d => ?_) (fun b d => ?_) a b
  · exact (read_at arg2 harg2 x0 _ _ _ _ (ix2 ⟨1536 + a.val, by have := a.isLt; omega⟩ j) (fun k => by fin_cases k; rfl; exact (Nat.zero_add _).symm)).trans (hq _ _)
  · exact (read_at arg3 harg3 x1 _ _ _ _ (ix2 ⟨b.val, by have := b.isLt; omega⟩ ⟨d.val, by have := d.isLt; omega⟩) (fun k => by fin_cases k <;> exact (Nat.zero_add _).symm)).trans (hk _ _)
  · exact (read_at arg4 harg4 x2 _ _ _ _ (ix2 ⟨b.val, by have := b.isLt; omega⟩ d) (fun k => by fin_cases k <;> exact (Nat.zero_add _).symm)).trans (hr _ _)

include hk in
theorem v1536_val (b : Fin 2048) (d : Fin 128) : v1536 arg3 harg3 x1 (ix2 b d) = ((H.k b.val (128 + d.val) : ℝ) : EReal) :=
  (read_at arg3 harg3 x1 _ _ _ _ (ix2 ⟨b.val, by have := b.isLt; omega⟩ ⟨128 + d.val, by have := d.isLt; omega⟩) (fun k => by fin_cases k; exact (Nat.zero_add _).symm; rfl)).trans (hk _ _)

variable (c : Dev nD) (i : grid0.Coords) (arg6 : Memref sig .tc .vmem S2048x128 .bf16) (harg6 : arg6.IsWhole) (arg7 : Memref sig .tc .vmem S2048x128 .f32) (harg7 : arg7.IsWhole)
    (arg8 : Memref sig .tc .vmem S2048x128 .f32) (harg8 : arg8.IsWhole)

theorem run3 : (kernelRun0_A (F := Ideal) c i arg2 harg2 arg3 harg3 arg4 harg4 arg6 harg6 arg7 harg7 arg8 harg8 x0 x1 x2).1 = stores3 arg2 harg2 arg3 harg3 arg4 harg4 x0 x1 x2 := by
  sl_kernel_rfl
theorem run4 : (kernelRun0_A (F := Ideal) c i arg2 harg2 arg3 harg3 arg4 harg4 arg6 harg6 arg7 harg7 arg8 harg8 x0 x1 x2).2.1 = stores4 arg2 harg2 arg3 harg3 arg4 harg4 x0 x1 x2 := by
  sl_kernel_rfl
theorem run5 : (kernelRun0_A (F := Ideal) c i arg2 harg2 arg3 harg3 arg4 harg4 arg6 harg6 arg7 harg7 arg8 harg8 x0 x1 x2).2.2.1 = stores5 arg2 harg2 arg3 harg3 arg4 harg4 x0 x1 x2 := by
  sl_kernel_rfl

include hq hk hr in
theorem point3 (y : S2048x128.Idx) : out0_A_3 (F := Ideal) c i arg2 harg2 arg3 harg3 arg4 harg4 arg6 harg6 arg7 harg7 arg8 harg8 x0 x1 x2 y = ((H.out (y 0).val (y 1).val : ℝ) : EReal) := by
  unfold out0_A_3
  rw [View.read_writes_junk_eq_canon, run3]
  have cover := cover0_A_3 (F := Ideal) c i arg2 harg2 arg3 harg3 arg4 harg4 arg6 harg6 arg7 harg7 arg8 harg8 x0 x1 x2 y
  rw [run3] at cover
  unfold stores3 at cover ⊢
  canon_tiles x h using cover
  · rw [h0, h1, ← ix2_eta x]
    exact out_2048 H _ (s1536_val arg2 harg2 arg3 harg3 arg4 harg4 x0 x1 x2 H hq hk hr) _ (v1536_val arg3 harg3 x1 H hk) (x 0) (x 1)
  · rw [h0, h1, ← ix2_eta x]
    exact out_1536 H _ (s1024_val arg2 harg2 arg3 harg3 arg4 harg4 x0 x1 x2 H hq hk hr) _ (v1024_val arg3 harg3 x1 H hk) (x 0) (x 1)
  · rw [h0, h1, ← ix2_eta x]
    exact out_1024 H _ (s512_val arg2 harg2 arg3 harg3 arg4 harg4 x0 x1 x2 H hq hk hr) _ (v512_val arg3 harg3 x1 H hk) (x 0) (x 1)
  · rw [h0, h1, ← ix2_eta x]
    have e := out_512 H _ (s0_val arg2 harg2 arg3 harg3 arg4 harg4 x0 x1 x2 H hq hk hr) _ (v0_val arg3 harg3 x1 H hk) (x 0) (x 1)
    rw [Nat.zero_add] at e
    exact e

include hq hk hr in
theorem point4 (y : S2048x128.Idx) : out0_A_4 (F := Ideal) c i arg2 harg2 arg3 harg3 arg4 harg4 arg6 harg6 arg7 harg7 arg8 harg8 x0 x1 x2 y = ((H.out (y 0).val (y 1).val : ℝ) : EReal) := by
  unfold out0_A_4
  rw [View.read_writes_junk_eq_canon, run4]
  have cover := cover0_A_4 (F := Ideal) c i arg2 harg2 arg3 harg3 arg4 harg4 arg6 harg6 arg7 harg7 arg8 harg8 x0 x1 x2 y
  rw [run4] at cover
  unfold stores4 at cover ⊢
  canon_tiles x h using cover
  · rw [h0, h1, ← ix2_eta x]
    exact out_2048 H _ (s1536_val arg2 harg2 arg3 harg3 arg4 harg4 x0 x1 x2 H hq hk hr) _ (v1536_val arg3 harg3 x1 H hk) (x 0) (x 1)
  · rw [h0, h1, ← ix2_eta x]
    exact out_1536 H _ (s1024_val arg2 harg2 arg3 harg3 arg4 harg4 x0 x1 x2 H hq hk hr) _ (v1024_val arg3 harg3 x1 H hk) (x 0) (x 1)
  · rw [h0, h1, ← ix2_eta x]
    exact out_1024 H _ (s512_val arg2 harg2 arg3 harg3 arg4 harg4 x0 x1 x2 H hq hk hr) _ (v512_val arg3 harg3 x1 H hk) (x 0) (x 1)
  · rw [h0, h1, ← ix2_eta x]
    have e := out_512 H _ (s0_val arg2 harg2 arg3 harg3 arg4 harg4 x0 x1 x2 H hq hk hr) _ (v0_val arg3 harg3 x1 H hk) (x 0) (x 1)
    rw [Nat.zero_add] at e
    exact e

include hq hk hr in
theorem point5 (y : S2048x128.Idx) : out0_A_5 (F := Ideal) c i arg2 harg2 arg3 harg3 arg4 harg4 arg6 harg6 arg7 harg7 arg8 harg8 x0 x1 x2 y = ((H.lse (y 0).val : ℝ) : EReal) := by
  unfold out0_A_5
  rw [View.read_writes_junk_eq_canon, run5]
  have cover := cover0_A_5 (F := Ideal) c i arg2 harg2 arg3 harg3 arg4 harg4 arg6 harg6 arg7 harg7 arg8 harg8 x0 x1 x2 y
  rw [run5] at cover
  unfold stores5 at cover ⊢
  canon_tiles x h using cover
  · rw [h0, ← ix2_eta x]
    exact lse_2048 H _ (s1536_val arg2 harg2 arg3 harg3 arg4 harg4 x0 x1 x2 H hq hk hr) (x 0) (x 1)
  · rw [h0, ← ix2_eta x]
    exact lse_1536 H _ (s1024_val arg2 harg2 arg3 harg3 arg4 harg4 x0 x1 x2 H hq hk hr) (x 0) (x 1)
  · rw [h0, ← ix2_eta x]
    exact lse_1024 H _ (s512_val arg2 harg2 arg3 harg3 arg4 harg4 x0 x1 x2 H hq hk hr) (x 0) (x 1)
  · rw [h0, ← ix2_eta x]
    have e := lse_512 H _ (s0_val arg2 harg2 arg3 harg3 arg4 harg4 x0 x1 x2 H hq hk hr) (x 0) (x 1)
    rw [Nat.zero_add] at e
    exact e

end Loads

end Cert.AttnFwdIdeal.Attn

end
-- ==== Proof.AttnFwdVal.lean ====
/- The forward attention's result arrays: over real arguments the outputs and log-sums that `AttnSpec.Data` names, and
   beside the outputs the columns that the launch found in the array it writes into. -/
module

public import proofs.«01_k».proof.Proof.AttnFwdPoint
public import proofs.«01_k».proof.Proof.Global
public import proofs.«01_k».proof.Proof.Gen.AttnFwdIdeal.Value
public import Idealize.ShloMosaic.Lib.Pipeline.ValueKit
public import Idealize.ShloMosaic.Lib.StableHlo.ReadAt

@[expose] public section

set_option maxRecDepth 16384

noncomputable section

namespace Cert.AttnFwdIdeal.Attn

open Cert.AttnFwdIdeal Cert.AttnFwdIdeal.Gen Idealize.ShloMosaic Idealize.ShloMosaic.TcCoe AttnSpec
open Idealize.ShloMosaic.Pipeline (Dat)

variable (m : (ℓ : Loc nD τ sig) → Buf (Elt Ideal) ℓ)

/-- Where each window's block lies at a point: sequence `t / 4`, head `t % 4`. -/
theorem index : ∀ t : Fin cfg0.N, win0_0.index t = ![t.val / 4, t.val % 4] ∧ win0_1.index t = ![t.val / 4, t.val % 4] ∧
    win0_2.index t = ![t.val / 4, 0] ∧ win0_3.index t = ![t.val / 4, 4 + t.val % 4] ∧ win0_4.index t = ![t.val / 4, t.val % 4] ∧
    win0_5.index t = ![t.val / 4, t.val % 4] :=
  (by decide +kernel : ∀ t : Fin grid0.N, _)

/-- The arguments are the real arrays of `D`. -/
structure Args (c : Dev nD) (D : Data) : Prop where
  q : ∀ (r : Fin 8192) (j : Fin 1024), (m ((c : Thread nD τ).loc main_arg0) : FVec Ideal S8192x1024 .bf16) (ix2 r j) = ((D.q r.val j.val : ℝ) : EReal)
  kv : ∀ (r : Fin 8192) (j : Fin 1024), (m ((c : Thread nD τ).loc main_arg1) : FVec Ideal S8192x1024 .bf16) (ix2 r j) = ((D.kv r.val j.val : ℝ) : EReal)
  kr : ∀ (r : Fin 8192) (j : Fin 128), (m ((c : Thread nD τ).loc main_arg2) : FVec Ideal S8192x128 .bf16) (ix2 r j) = ((D.kr r.val j.val : ℝ) : EReal)

/-- The array the outputs are written into starts as the fourth argument. -/
theorem start (c : Dev nD) : V m c main_v0_0 = m ((c : Thread nD τ).loc main_arg3) := by
  unfold V
  after_reads_simp
  rfl

variable {m} {c : Dev nD} {D : Data} (A : Args m c D)
include A

/-- Head `h` of sequence `b` as a grid point meets it. -/
abbrev headAt (D : Data) (t : Fin cfg0.N) : Head := D.head (t.val / 4) (t.val % 4)

theorem iblk_q (t : Fin cfg0.N) (r : Fin 2048) (j : Fin 256) : iblk m c 0 t (ix2 r j) = (((headAt D t).q r.val j.val : ℝ) : EReal) := by
  have ht : t.val < 16 := t.isLt
  have hr := r.isLt
  have hj := j.isLt
  refine Eq.trans ?_ ((congrFun (Gen.V_main_arg0 m c) _).trans (A.q ⟨2048 * (t.val / 4) + r.val, by omega⟩ ⟨256 * (t.val % 4) + j.val, by omega⟩))
  blk_ext [iblk, index t]

theorem iblk_k (t : Fin cfg0.N) (r : Fin 2048) (j : Fin 256) : iblk m c 1 t (ix2 r j) = (((headAt D t).k r.val j.val : ℝ) : EReal) := by
  have ht : t.val < 16 := t.isLt
  have hr := r.isLt
  have hj := j.isLt
  refine Eq.trans ?_ ((congrFun (Gen.V_main_arg1 m c) _).trans (A.kv ⟨2048 * (t.val / 4) + r.val, by omega⟩ ⟨256 * (t.val % 4) + j.val, by omega⟩))
  blk_ext [iblk, index t]

theorem iblk_r (t : Fin cfg0.N) (r : Fin 2048) (j : Fin 128) : iblk m c 2 t (ix2 r j) = (((headAt D t).r r.val j.val : ℝ) : EReal) := by
  have ht : t.val < 16 := t.isLt
  have hr := r.isLt
  have hj := j.isLt
  refine Eq.trans ?_ ((congrFun (Gen.V_main_arg2 m c) _).trans (A.kr ⟨2048 * (t.val / 4) + r.val, by omega⟩ ⟨j.val, by omega⟩))
  blk_ext [iblk, index t]

/-- What a point leaves in its three output buffers. -/
theorem left3 (t : Fin cfg0.N) (y : S2048x128.Idx) : (outsAt0 m c t).1 y = (((headAt D t).out (y 0).val (y 1).val : ℝ) : EReal) := by
  simp only [outsAt0]
  exact point3 (ms0_0 t) (hs0_0 t) (ms0_1 t) (hs0_1 t) (ms0_2 t) (hs0_2 t) (iblk m c 0 t) (iblk m c 1 t) (iblk m c 2 t) (headAt D t) (iblk_q A t) (iblk_k A t) (iblk_r A t)
    c (grid0.coords t) (ms0_3 t) (hs0_3 t) (ms0_4 t) (hs0_4 t) (ms0_5 t) (hs0_5 t) y
theorem left4 (t : Fin cfg0.N) (y : S2048x128.Idx) : (outsAt0 m c t).2.1 y = (((headAt D t).out (y 0).val (y 1).val : ℝ) : EReal) := by
  simp only [outsAt0]
  exact point4 (ms0_0 t) (hs0_0 t) (ms0_1 t) (hs0_1 t) (ms0_2 t) (hs0_2 t) (iblk m c 0 t) (iblk m c 1 t) (iblk m c 2 t) (headAt D t) (iblk_q A t) (iblk_k A t) (iblk_r A t)
    c (grid0.coords t) (ms0_3 t) (hs0_3 t) (ms0_4 t) (hs0_4 t) (ms0_5 t) (hs0_5 t) y
theorem left5 (t : Fin cfg0.N) (y : S2048x128.Idx) : (outsAt0 m c t).2.2 y = (((headAt D t).lse (y 0).val : ℝ) : EReal) := by
  simp only [outsAt0]
  exact point5 (ms0_0 t) (hs0_0 t) (ms0_1 t) (hs0_1 t) (ms0_2 t) (hs0_2 t) (iblk m c 0 t) (iblk m c 1 t) (iblk m c 2 t) (headAt D t) (iblk_q A t) (iblk_k A t) (iblk_r A t)
    c (grid0.coords t) (ms0_3 t) (hs0_3 t) (ms0_4 t) (hs0_4 t) (ms0_5 t) (hs0_5 t) y

theorem arr_out : (dats m 0 c).arrAt 4 cfg0.N = fun i => ((D.out (i 0).val (i 1).val : ℝ) : EReal) := by
  refine (dats m 0 c).arrAt_eq_of_covers 4 _ (by decide +kernel) fun t hf y => ?_
  have ht : t.val < 16 := t.isLt
  blk_simp [index t]
  rw [after0_4]
  idx_vars y
  have h0 := y0.isLt
  have h1 := y1.isLt
  unfold Data.out
  rw [show (t.val / 4 * 2048 + y0.val) / 2048 = t.val / 4 by omega, show (t.val / 4 * 2048 + y0.val) % 2048 = y0.val by omega,
    show (t.val % 4 * 128 + y1.val) / 128 = t.val % 4 by omega, show (t.val % 4 * 128 + y1.val) % 128 = y1.val by omega]
  exact left4 A t (ix2 y0 y1)

theorem arr_lse : (dats m 0 c).arrAt 5 cfg0.N = fun i => ((D.lse (i 0).val (i 1).val : ℝ) : EReal) := by
  refine (dats m 0 c).arrAt_eq_of_covers 5 _ (by decide +kernel) fun t hf y => ?_
  have ht : t.val < 16 := t.isLt
  blk_simp [index t]
  rw [after0_5]
  idx_vars y
  have h0 := y0.isLt
  have h1 := y1.isLt
  unfold Data.lse
  rw [show (t.val / 4 * 2048 + y0.val) / 2048 = t.val / 4 by omega, show (t.val / 4 * 2048 + y0.val) % 2048 = y0.val by omega,
    show (t.val % 4 * 128 + y1.val) / 128 = t.val % 4 by omega]
  exact left5 A t (ix2 y0 y1)

omit A in
theorem blk3 (X : S8192x1024.Idx → Elt Ideal .bf16) (t : Fin cfg0.N) (r : Fin 2048) (j : Fin 128) :
    ((cfg0.win 3).blk t).view.read (Elt Ideal) X (ix2 r j)
      = X (ix2 ⟨2048 * (t.val / 4) + r.val, by have : t.val < 16 := t.isLt; omega⟩ ⟨512 + (128 * (t.val % 4) + j.val), by omega⟩) := by
  have ht : t.val < 16 := t.isLt
  blk_ext [index t]

omit A in
theorem flush3 : ∀ t : Fin cfg0.N, (cfg0.win 3).flush t = true := by decide +kernel

/-- The right half of the array: the outputs. -/
theorem arr_right (r : Fin 8192) (j : Fin 512) :
    (dats m 0 c).arrAt 3 cfg0.N (ix2 r ⟨512 + j.val, by have := j.isLt; omega⟩) = ((D.out r.val j.val : ℝ) : EReal) := by
  have hr := r.isLt
  have hj := j.isLt
  have ht : 4 * (r.val / 2048) + j.val / 128 < 16 := by omega
  let t : Fin cfg0.N := ⟨4 * (r.val / 2048) + j.val / 128, ht⟩
  have e1 : t.val / 4 = r.val / 2048 := by show (4 * (r.val / 2048) + j.val / 128) / 4 = _; omega
  have e2 : t.val % 4 = j.val / 128 := by show (4 * (r.val / 2048) + j.val / 128) % 4 = _; omega
  have h := congrFun (Value.blocks3 m c t (flush3 t)) (ix2 ⟨r.val % 2048, by omega⟩ ⟨j.val % 128, by omega⟩)
  rw [blk3, Value.flushed3] at h
  have l := left3 A t (ix2 ⟨r.val % 2048, by omega⟩ ⟨j.val % 128, by omega⟩)
  have a1 : (⟨2048 * (t.val / 4) + r.val % 2048, by omega⟩ : Fin 8192) = r := Fin.ext (by show 2048 * (t.val / 4) + r.val % 2048 = _; omega)
  have a2 : (⟨512 + (128 * (t.val % 4) + j.val % 128), by omega⟩ : Fin 1024) = ⟨512 + j.val, by omega⟩ := Fin.ext (by show 512 + (128 * (t.val % 4) + j.val % 128) = 512 + j.val; omega)
  rw [a1, a2] at h
  unfold Data.out
  rw [← e1, ← e2]
  exact h.trans l

omit A in
/-- The left half: as the launch found it. -/
theorem arr_left (r : Fin 8192) (j : Fin 512) :
    (dats m 0 c).arrAt 3 cfg0.N (ix2 r ⟨j.val, by have := j.isLt; omega⟩)
      = (m ((c : Thread nD τ).loc main_arg3) : FVec Ideal S8192x1024 .bf16) (ix2 r ⟨j.val, by have := j.isLt; omega⟩) := by
  have hj := j.isLt
  refine (Value.entry3 m c _ fun t _ h => ?_).trans (congrFun (start m c) _)
  have ht : t.val < 16 := t.isLt
  mem_blk [index t] at h
  have h1 : (4 + t.val % 4) * 128 ≤ j.val := by
    obtain ⟨_, h1, _⟩ := h
    exact h1
  omega

end Cert.AttnFwdIdeal.Attn

end
-- ==== Proof.AttnFwdRef.lean ====
/- The forward attention's reference over real arguments: the outputs and log-sums that `AttnSpec.Data` names, and the
   left half of its fourth argument beside the outputs. With it the value claim. -/
module

public import proofs.«01_k».proof.Defs
public import proofs.«01_k».proof.Proof.SavedVal
public import proofs.«01_k».proof.Proof.FiniteFwd
public import proofs.«01_k».proof.Proof.AttnFwdVal
public import proofs.«01_k».proof.Proof.Gen.AttnFwdReferenceIdeal.Run

@[expose] public section

set_option maxRecDepth 16384

noncomputable section

namespace Cert.AttnFwdReferenceIdeal.Attn

open Cert.AttnFwdReferenceIdeal Cert.AttnFwdReferenceIdeal.Facts₀ Cert.AttnFwdReferenceIdeal.Facts Idealize.ShloMosaic Idealize.ShloMosaic.TcCoe Idealize.SL.Sem AttnSpec
open Cert.KernelIdeal.Attn (heads first second seqs prodN prodR maskedH topH expH normH outH lseH masked_val topH_apply expH_apply normH_apply outH_apply lseH_apply
  second_apply heads_val bot_word)

/-- The chunk each position lies in. -/
def chunkOf : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))

theorem chunk_val (n : Fin 2048) : chunkOf (ix1 n) = BitVec.ofNat 32 (n.val / 64) := by
  revert n
  decide +kernel

section Rows

variable (x0 x1 : FVec Ideal S8192x1024 .bf16) (x2 : FVec Ideal S8192x128 .bf16)

/-- The reference's lines: the masked scores, their row maxima, the exponentials, the row sums. -/
def scores : FVec Ideal S4x4x2048x2048 .f32 := maskedH chunkOf (addf (prodN (first (heads x0)) (first (heads x1))) (prodR (second (heads x0)) (seqs x2)))
def tops : FVec Ideal S4x4x2048x1 .f32 := topH (scores x0 x1 x2)
def exps : FVec Ideal S4x4x2048x2048 .f32 := expH (scores x0 x1 x2) (tops x0 x1 x2)
def norms : FVec Ideal S4x4x2048x1 .f32 := normH (exps x0 x1 x2)
def outs : FVec Ideal S8192x512 .f32 := outH (second (heads x1)) (exps x0 x1 x2) (norms x0 x1 x2)
def lses : FVec Ideal S8192x512 .f32 := lseH (tops x0 x1 x2) (norms x0 x1 x2)
def beside (x3 : FVec Ideal S8192x1024 .bf16) : FVec Ideal S8192x1024 .bf16 :=
  concatenate S8192x1024 1 [⟨S8192x512, extractStridedSlice S8192x512 ![0, 0] x3 slices_S8192x1024_S8192x512_0_0⟩, ⟨S8192x512, truncf .bf16 (outs x0 x1 x2) bitsLt_bf16_f32⟩]
    concatenates_S8192x512_S8192x512_S8192x1024_d1

variable {x0 x1 x2} {D : Data} (h0 : ∀ (r : Fin 8192) (j : Fin 1024), x0 (ix2 r j) = ((D.q r.val j.val : ℝ) : EReal))
    (h1 : ∀ (r : Fin 8192) (j : Fin 1024), x1 (ix2 r j) = ((D.kv r.val j.val : ℝ) : EReal)) (h2 : ∀ (r : Fin 8192) (j : Fin 128), x2 (ix2 r j) = ((D.kr r.val j.val : ℝ) : EReal))
include h0 h1 h2

/-- A row's maximum, exponentials and normaliser. -/
theorem row_facts (b h : Fin 4) (a : Fin 2048) : ∃ M : ℝ, tops x0 x1 x2 (ix4 b h a 0) = ((M : ℝ) : EReal)
    ∧ (∀ x : Fin 2048, exps x0 x1 x2 (ix4 b h a x) = (((D.head b.val h.val).e a.val x.val * Real.exp (-M) : ℝ) : EReal))
    ∧ norms x0 x1 x2 (ix4 b h a 0) = ((∑ x : Fin 2048, (D.head b.val h.val).e a.val x.val * Real.exp (-M) : ℝ) : EReal) := by
  have hs (x : Fin 2048) : scores x0 x1 x2 (ix4 b h a x) = (D.head b.val h.val).row a.val x.val := masked_val D x0 x1 x2 chunkOf h0 h1 h2 chunk_val b h a x
  obtain ⟨M, hM⟩ := (D.head b.val h.val).exists_top a.val a.isLt
  have ht : tops x0 x1 x2 (ix4 b h a 0) = ((M : ℝ) : EReal) := by
    refine (topH_apply (scores x0 x1 x2) b h a 0).trans ?_
    rw [bot_word]
    simp only [hs]
    exact hM
  have he (x : Fin 2048) : exps x0 x1 x2 (ix4 b h a x) = (((D.head b.val h.val).e a.val x.val * Real.exp (-M) : ℝ) : EReal) := by
    refine (expH_apply (scores x0 x1 x2) (tops x0 x1 x2) b h a x).trans ?_
    rw [hs, ht, Head.exp_row]
  refine ⟨M, ht, he, ?_⟩
  refine (normH_apply (exps x0 x1 x2) b h a 0).trans ?_
  rw [zero_word', zero_add, coe_sum]
  exact Finset.sum_congr rfl fun x _ => he x

theorem outs_val (r : Fin 8192) (j : Fin 512) : outs x0 x1 x2 (ix2 r j) = ((D.out r.val j.val : ℝ) : EReal) := by
  obtain ⟨M, _, he, hz⟩ := row_facts h0 h1 h2 ⟨r.val / 2048, by omega⟩ ⟨j.val / 128, by omega⟩ ⟨r.val % 2048, by omega⟩
  have hn := ((D.head (r.val / 2048) (j.val / 128)).norm_pos (r.val % 2048) (by omega) M).ne'
  refine (outH_apply _ _ _ r j).trans ?_
  unfold Data.out Head.out
  rw [coe_sum]
  refine Finset.sum_congr rfl fun x _ => ?_
  have hv := (second_apply (heads x1) ⟨r.val / 2048, by omega⟩ x ⟨j.val / 128, by omega⟩ ⟨j.val % 128, by omega⟩).trans (heads_val _ _ h1 _ _ _ _)
  refine (congrArg₂ (fun y z : EReal => y * z) hv (congrArg₂ Ideal.div (he x) hz)).trans ?_
  dsimp only
  rw [Ideal.div_coe hn, ← EReal.coe_mul, ← EReal.coe_mul, ← Head.p_shift (D.head (r.val / 2048) (j.val / 128)) _ _ M]
  refine congrArg _ ?_
  simp only [Data.head]
  ring

theorem lses_val (r : Fin 8192) (j : Fin 512) : lses x0 x1 x2 (ix2 r j) = ((D.lse r.val j.val : ℝ) : EReal) := by
  obtain ⟨M, ht, _, hz⟩ := row_facts h0 h1 h2 ⟨r.val / 2048, by omega⟩ ⟨j.val / 128, by omega⟩ ⟨r.val % 2048, by omega⟩
  have hn := (D.head (r.val / 2048) (j.val / 128)).norm_pos (r.val % 2048) (by omega) M
  refine (lseH_apply _ _ r j).trans ?_
  rw [ht, hz, Ideal.log_coe, if_neg (not_le.mpr hn), ← EReal.coe_add]
  unfold Data.lse
  rw [← (D.head (r.val / 2048) (j.val / 128)).lse_shift (r.val % 2048) (by omega) M]

omit h0 h1 h2 in
theorem beside_left (x3 : FVec Ideal S8192x1024 .bf16) (r : Fin 8192) (j : Fin 512) :
    beside x0 x1 x2 x3 (ix2 r ⟨j.val, by have := j.isLt; omega⟩) = x3 (ix2 r ⟨j.val, by have := j.isLt; omega⟩) := by
  have := j.isLt
  unfold beside
  refine (concatenate_pair_apply_left (t := S8192x1024) 1 _ _ concatenates_S8192x512_S8192x512_S8192x1024_d1 _ rfl (ix2 r j) fun b => match b with | ⟨0, _⟩ => rfl | ⟨1, _⟩ => rfl).trans ?_
  exact extractStridedSlice_apply ![0, 0] x3 slices_S8192x1024_S8192x512_0_0 (ix2 r j) (ix2 r ⟨j.val, by omega⟩)
    (fun a => match a with | ⟨0, _⟩ => (Nat.zero_add _).symm | ⟨1, _⟩ => (Nat.zero_add _).symm)

theorem beside_right (x3 : FVec Ideal S8192x1024 .bf16) (r : Fin 8192) (j : Fin 512) :
    beside x0 x1 x2 x3 (ix2 r ⟨512 + j.val, by have := j.isLt; omega⟩) = ((D.out r.val j.val : ℝ) : EReal) := by
  refine Eq.trans ?_ (outs_val h0 h1 h2 r j)
  unfold beside
  exact concatenate_pair_apply_right (t := S8192x1024) 1 _ (truncf .bf16 (outs x0 x1 x2) bitsLt_bf16_f32) concatenates_S8192x512_S8192x512_S8192x1024_d1 _ rfl rfl (ix2 r j)
    (fun b hb => match b with | ⟨0, _⟩ => rfl | ⟨1, _⟩ => absurd rfl hb) (Nat.add_comm _ _)

end Rows

variable (m : (ℓ : Loc nD τ sig) → Buf (Elt Ideal) ℓ) (c : Dev nD)

/-- The reference's results in these names. -/
theorem res_out : (Value.res_main_v35 m c : FVec Ideal S8192x512 .f32)
    = outs (m ((c.tc : Thread nD τ).loc main_arg0)) (m ((c.tc : Thread nD τ).loc main_arg1)) (m ((c.tc : Thread nD τ).loc main_arg2)) := by
  unfold Value.res_main_v35
  rfl
theorem res_lse : (Value.res_main_v40 m c : FVec Ideal S8192x512 .f32)
    = lses (m ((c.tc : Thread nD τ).loc main_arg0)) (m ((c.tc : Thread nD τ).loc main_arg1)) (m ((c.tc : Thread nD τ).loc main_arg2)) := by
  unfold Value.res_main_v40
  rfl
theorem res_beside : (Value.res_main_v43 m c : FVec Ideal S8192x1024 .bf16)
    = beside (m ((c.tc : Thread nD τ).loc main_arg0)) (m ((c.tc : Thread nD τ).loc main_arg1)) (m ((c.tc : Thread nD τ).loc main_arg2)) (m ((c.tc : Thread nD τ).loc main_arg3)) := by
  unfold Value.res_main_v43
  rfl

end Cert.AttnFwdReferenceIdeal.Attn

namespace Cert.AttnFwdIdeal.Attn

open Idealize.ShloMosaic Idealize.ShloMosaic.TcCoe Idealize.SL.Sem AttnSpec

variable [hP : Cert.Pre_finite_fwd.Facts]

/-- Two rank-two arrays of 1024 columns agree when their left and right halves do. -/
theorem by_halves (X Y : (⟨2, ![8192, 1024]⟩ : Shape).Idx → EReal) (hl : ∀ (r : Fin 8192) (j : Fin 512), X (ix2 r ⟨j.val, by have := j.isLt; omega⟩) = Y (ix2 r ⟨j.val, by have := j.isLt; omega⟩))
    (hr : ∀ (r : Fin 8192) (j : Fin 512), X (ix2 r ⟨512 + j.val, by have := j.isLt; omega⟩) = Y (ix2 r ⟨512 + j.val, by have := j.isLt; omega⟩)) : X = Y := by
  funext i
  idx_vars i
  have h1 := i1.isLt
  by_cases h : i1.val < 512
  · exact hl i0 ⟨i1.val, h⟩
  · have e : i1 = (⟨512 + (i1.val - 512), by omega⟩ : Fin 1024) := Fin.ext (by show i1.val = 512 + (i1.val - 512); omega)
    rw [e]
    exact hr i0 ⟨i1.val - 512, by omega⟩

theorem by_rows {a b : ℕ} (X : (⟨2, ![a, b]⟩ : Shape).Idx → EReal) (f : ℕ → ℕ → ℝ) (h : ∀ (r : Fin a) (j : Fin b), X (ix2 r j) = ((f r.val j.val : ℝ) : EReal)) :
    X = fun i => ((f (i 0).val (i 1).val : ℝ) : EReal) := by
  funext i
  have e : i = ix2 (i 0) (i 1) := funext fun x => match x with | ⟨0, _⟩ => rfl | ⟨1, _⟩ => rfl
  rw [e]
  exact h _ _

theorem algebraic : Cert.algebraic_AttnFwdIdeal_AttnFwdReferenceIdeal_pre_finite_fwd := by
  intro m g m' g' hpre hargs
  refine ⟨fun c => (Gen.dats m 0 c).arrAt 3 cfg0.N, fun c => (Gen.dats m 0 c).arrAt 4 cfg0.N, fun c => (Gen.dats m 0 c).arrAt 5 cfg0.N, Value.run_blocks m g, ?_⟩
  refine (θ_run Cert.AttnFwdReferenceIdeal.defs _ _).mono (fun r h c => ?_) (Cert.AttnFwdReferenceIdeal.Value.run m' g')
  obtain ⟨h43, h35, h40, k0, k1, k2, k3⟩ := h c
  obtain ⟨a0, a1, a2, a3⟩ := hargs c
  have A : Args m c _ := ⟨Cert.FiniteFwd.data_q (hpre c), Cert.FiniteFwd.data_kv (hpre c), Cert.FiniteFwd.data_kr (hpre c)⟩
  refine ⟨h43.trans ?_, h35.trans ?_, h40.trans ?_, k0, k1, k2, k3⟩
  · refine (Cert.AttnFwdReferenceIdeal.Attn.res_beside m' c).trans ?_
    rw [a0, a1, a2, a3]
    refine by_halves _ _ (fun r j => ?_) (fun r j => ?_)
    · exact (Cert.AttnFwdReferenceIdeal.Attn.beside_left _ r j).trans (arr_left r j).symm
    · exact (Cert.AttnFwdReferenceIdeal.Attn.beside_right A.q A.kv A.kr _ r j).trans (arr_right A r j).symm
  · refine (Cert.AttnFwdReferenceIdeal.Attn.res_out m' c).trans ?_
    rw [a0, a1, a2]
    exact (by_rows _ _ (Cert.AttnFwdReferenceIdeal.Attn.outs_val A.q A.kv A.kr)).trans (arr_out A).symm
  · refine (Cert.AttnFwdReferenceIdeal.Attn.res_lse m' c).trans ?_
    rw [a0, a1, a2]
    exact (by_rows _ _ (Cert.AttnFwdReferenceIdeal.Attn.lses_val A.q A.kv A.kr)).trans (arr_lse A).symm

/-- The reference's frame: its run keeps the arguments, and it has no semaphore. -/
theorem frame_reference : Cert.quiescent_AttnFwdReferenceIdeal := by
  intro m g _
  exact (θ_run Cert.AttnFwdReferenceIdeal.defs _ _).mono (fun r h => ⟨fun c => (h c).2.2.2, sem_eq_zero_of_no_sems (by decide) r.2⟩) (Cert.AttnFwdReferenceIdeal.Value.run (F := Ideal) m g)

end Cert.AttnFwdIdeal.Attn

end
-- ==== Proof.lean ====
/- The claims about the attention and its gradient, the step's products, the two layer norms and the loss: three frames each, each kernel's idealization,
   and that its results are the reference's. Over real arguments the tiles' values (Proof/TileVal, WalkVal), their sum over a query block
   (Proof/Points), what the forward pass saves (Proof/SavedVal) and the reference's gradient (Proof/RefOut) all meet in
   the plain attention's gradient of Proof/AttnSpec. A product's array is a sum over one axis, block after block
   (Proof/DwDown and its like). The layer norms, their gradients and the
   loss go row by row (Proof/RowNorm, HeadRow). -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Algebraic
public import proofs.«01_k».proof.Proof.Gen.DwUp.Frame
public import proofs.«01_k».proof.Proof.Gen.DwUpIdeal.Value
public import proofs.«01_k».proof.Proof.DwUp
public import proofs.«01_k».proof.Proof.Gen.DhFfn.Frame
public import proofs.«01_k».proof.Proof.Gen.DhFfnIdeal.Value
public import proofs.«01_k».proof.Proof.DhFfn
public import proofs.«01_k».proof.Proof.Gen.DAct.Frame
public import proofs.«01_k».proof.Proof.Gen.DActIdeal.Value
public import proofs.«01_k».proof.Proof.DAct
public import proofs.«01_k».proof.Proof.Gen.DwDown.Frame
public import proofs.«01_k».proof.Proof.Gen.DwDownIdeal.Value
public import proofs.«01_k».proof.Proof.DwDown
public import proofs.«01_k».proof.Proof.Gen.DwIn.Frame
public import proofs.«01_k».proof.Proof.Gen.DwInIdeal.Value
public import proofs.«01_k».proof.Proof.DwIn
public import proofs.«01_k».proof.Proof.Gen.DwGate.Frame
public import proofs.«01_k».proof.Proof.Gen.DwGateIdeal.Value
public import proofs.«01_k».proof.Proof.DwGate
public import proofs.«01_k».proof.Proof.Gen.DwOut.Frame
public import proofs.«01_k».proof.Proof.Gen.DwOutIdeal.Value
public import proofs.«01_k».proof.Proof.DwOut
public import proofs.«01_k».proof.Proof.Gen.DwProj.Frame
public import proofs.«01_k».proof.Proof.Gen.DwProjIdeal.Value
public import proofs.«01_k».proof.Proof.DwProj
public import proofs.«01_k».proof.Proof.Gen.FfnUp.Frame
public import proofs.«01_k».proof.Proof.Gen.FfnUpIdeal.Value
public import proofs.«01_k».proof.Proof.FfnUp
public import proofs.«01_k».proof.Proof.Gen.Proj.Frame
public import proofs.«01_k».proof.Proof.Gen.ProjIdeal.Value
public import proofs.«01_k».proof.Proof.Proj
public import proofs.«01_k».proof.Proof.Gen.MixLn.Frame
public import proofs.«01_k».proof.Proof.Gen.MixLnIdeal.Value
public import proofs.«01_k».proof.Proof.MixLn
public import proofs.«01_k».proof.Proof.Gen.LnBwd.Frame
public import proofs.«01_k».proof.Proof.Gen.LnBwdIdeal.Value
public import proofs.«01_k».proof.Proof.LnBwdRef
public import proofs.«01_k».proof.Proof.HeadRef
public import proofs.«01_k».proof.Proof.Gen.Head.Frame
public import proofs.«01_k».proof.Proof.Gen.HeadIdeal.Value
public import proofs.«01_k».proof.Proof.AttnFwdRef
public import proofs.«01_k».proof.Proof.Gen.DwUpReferenceIdeal.Run
public import proofs.«01_k».proof.Proof.Gen.DhFfnReferenceIdeal.Run
public import proofs.«01_k».proof.Proof.Gen.DActReferenceIdeal.Run
public import proofs.«01_k».proof.Proof.Gen.DwDownReferenceIdeal.Run
public import proofs.«01_k».proof.Proof.Gen.DwInReferenceIdeal.Run
public import proofs.«01_k».proof.Proof.Gen.DwGateReferenceIdeal.Run
public import proofs.«01_k».proof.Proof.Gen.DwOutReferenceIdeal.Run
public import proofs.«01_k».proof.Proof.Gen.DwProjReferenceIdeal.Run
public import proofs.«01_k».proof.Proof.Gen.FfnUpReferenceIdeal.Run
public import proofs.«01_k».proof.Proof.Gen.ProjReferenceIdeal.Run
public import proofs.«01_k».proof.Proof.Gen.MixLnReferenceIdeal.Run
public import proofs.«01_k».proof.Proof.Gen.LnBwdReferenceIdeal.Run
public import proofs.«01_k».proof.Proof.Gen.HeadReferenceIdeal.Run
public import proofs.«01_k».proof.Proof.Gen.AttnFwd.Frame
public import proofs.«01_k».proof.Proof.Gen.AttnFwdIdeal.Value
public import proofs.«01_k».proof.Proof.Gen.AttnFwdReferenceIdeal.Run

@[expose] public section

noncomputable section

namespace Cert.Proof

open Idealize.ShloMosaic Idealize.SL.Sem

/-- The stand-in for −∞ is read as −∞. -/
theorem preserves : Cert.preserves_Kernel_KernelIdeal := IdealRules.named_const.statement Cert.KernelIdeal.κ "mask" .f32 0xF149F2CA#32 ⊥ rfl

theorem frame_ideal [hP : Cert.Pre_finite.Facts] : Cert.quiescent_KernelIdeal_pre_finite := fun m ρ _ => Cert.KernelIdeal.Gen.frame m ρ
theorem frame_reference [hP : Cert.Pre_finite.Facts] : Cert.quiescent_ReferenceIdeal_pre_finite := fun m ρ _ => Cert.Attn.frame_reference m ρ trivial

theorem preserves_fwd : Cert.preserves_AttnFwd_AttnFwdIdeal := IdealRules.named_const.statement Cert.AttnFwdIdeal.κ "mask" .f32 0xF149F2CA#32 ⊥ rfl
theorem frame_fwd_ideal [hP : Cert.Pre_finite_fwd.Facts] : Cert.quiescent_AttnFwdIdeal_pre_finite_fwd := fun m ρ _ => Cert.AttnFwdIdeal.Gen.frame m ρ
theorem frame_fwd_reference [hP : Cert.Pre_finite_fwd.Facts] : Cert.quiescent_AttnFwdReferenceIdeal_pre_finite_fwd := fun m ρ _ => Cert.AttnFwdIdeal.Attn.frame_reference m ρ trivial

theorem claim : Cert.Claim := haveI := Cert.Finite.facts; haveI := Cert.FiniteFwd.facts; ⟨Cert.Kernel.Gen.facts, Cert.KernelIdeal.Gen.facts, Cert.ReferenceIdeal.Gen.facts,
  Cert.DwUp.Gen.facts, Cert.DwUpIdeal.Gen.facts, Cert.DwUpReferenceIdeal.Gen.facts,
  Cert.DhFfn.Gen.facts, Cert.DhFfnIdeal.Gen.facts, Cert.DhFfnReferenceIdeal.Gen.facts,
  Cert.DAct.Gen.facts, Cert.DActIdeal.Gen.facts, Cert.DActReferenceIdeal.Gen.facts,
  Cert.DwDown.Gen.facts, Cert.DwDownIdeal.Gen.facts, Cert.DwDownReferenceIdeal.Gen.facts,
  Cert.DwIn.Gen.facts, Cert.DwInIdeal.Gen.facts, Cert.DwInReferenceIdeal.Gen.facts,
  Cert.DwGate.Gen.facts, Cert.DwGateIdeal.Gen.facts, Cert.DwGateReferenceIdeal.Gen.facts,
  Cert.DwOut.Gen.facts, Cert.DwOutIdeal.Gen.facts, Cert.DwOutReferenceIdeal.Gen.facts,
  Cert.DwProj.Gen.facts, Cert.DwProjIdeal.Gen.facts, Cert.DwProjReferenceIdeal.Gen.facts,
  Cert.FfnUp.Gen.facts, Cert.FfnUpIdeal.Gen.facts, Cert.FfnUpReferenceIdeal.Gen.facts,
  Cert.Proj.Gen.facts, Cert.ProjIdeal.Gen.facts, Cert.ProjReferenceIdeal.Gen.facts,
  Cert.MixLn.Gen.facts, Cert.MixLnIdeal.Gen.facts, Cert.MixLnReferenceIdeal.Gen.facts,
  Cert.LnBwd.Gen.facts, Cert.LnBwdIdeal.Gen.facts, Cert.LnBwdReferenceIdeal.Gen.facts,
  Cert.Head.Gen.facts, Cert.HeadIdeal.Gen.facts, Cert.HeadReferenceIdeal.Gen.facts,
  Cert.AttnFwd.Gen.facts, Cert.AttnFwdIdeal.Gen.facts, Cert.AttnFwdReferenceIdeal.Gen.facts,
  Cert.Finite.facts, Cert.FiniteFwd.facts,
  fun m ρ _ => Cert.Kernel.Gen.frame m ρ,
  fun m ρ _ => Cert.KernelIdeal.Gen.frame m ρ,
  frame_ideal (hP := Cert.Finite.facts),
  Cert.Attn.frame_reference,
  frame_reference (hP := Cert.Finite.facts),
  fun m ρ _ => Cert.DwUp.Gen.frame m ρ, fun m ρ _ => Cert.DwUpIdeal.Gen.frame m ρ, Cert.DwUpIdeal.Product.frame_reference,
  fun m ρ _ => Cert.DhFfn.Gen.frame m ρ, fun m ρ _ => Cert.DhFfnIdeal.Gen.frame m ρ, Cert.DhFfnIdeal.Product.frame_reference,
  fun m ρ _ => Cert.DAct.Gen.frame m ρ, fun m ρ _ => Cert.DActIdeal.Gen.frame m ρ, Cert.DActIdeal.Product.frame_reference,
  fun m ρ _ => Cert.DwDown.Gen.frame m ρ, fun m ρ _ => Cert.DwDownIdeal.Gen.frame m ρ, Cert.DwDownIdeal.Product.frame_reference,
  fun m ρ _ => Cert.DwIn.Gen.frame m ρ, fun m ρ _ => Cert.DwInIdeal.Gen.frame m ρ, Cert.DwInIdeal.Product.frame_reference,
  fun m ρ _ => Cert.DwGate.Gen.frame m ρ, fun m ρ _ => Cert.DwGateIdeal.Gen.frame m ρ, Cert.DwGateIdeal.Product.frame_reference,
  fun m ρ _ => Cert.DwOut.Gen.frame m ρ, fun m ρ _ => Cert.DwOutIdeal.Gen.frame m ρ, Cert.DwOutIdeal.Product.frame_reference,
  fun m ρ _ => Cert.DwProj.Gen.frame m ρ, fun m ρ _ => Cert.DwProjIdeal.Gen.frame m ρ, Cert.DwProjIdeal.Product.frame_reference,
  fun m ρ _ => Cert.FfnUp.Gen.frame m ρ, fun m ρ _ => Cert.FfnUpIdeal.Gen.frame m ρ, Cert.FfnUpIdeal.Product.frame_reference,
  fun m ρ _ => Cert.Proj.Gen.frame m ρ, fun m ρ _ => Cert.ProjIdeal.Gen.frame m ρ, Cert.ProjIdeal.Product.frame_reference,
  fun m ρ _ => Cert.MixLn.Gen.frame m ρ, fun m ρ _ => Cert.MixLnIdeal.Gen.frame m ρ, Cert.MixLnIdeal.Product.frame_reference,
  fun m ρ _ => Cert.LnBwd.Gen.frame m ρ, fun m ρ _ => Cert.LnBwdIdeal.Gen.frame m ρ, Cert.LnBwdIdeal.Product.frame_reference,
  fun m ρ _ => Cert.Head.Gen.frame m ρ, fun m ρ _ => Cert.HeadIdeal.Gen.frame m ρ, Cert.HeadIdeal.Product.frame_reference,
  fun m ρ _ => Cert.AttnFwd.Gen.frame m ρ, fun m ρ _ => Cert.AttnFwdIdeal.Gen.frame m ρ, frame_fwd_ideal (hP := Cert.FiniteFwd.facts),
  Cert.AttnFwdIdeal.Attn.frame_reference, frame_fwd_reference (hP := Cert.FiniteFwd.facts),
  preserves,
  Cert.Attn.algebraic (hP := Cert.Finite.facts),
  trivial, Cert.DwUpIdeal.Product.algebraic,
  trivial, Cert.DhFfnIdeal.Product.algebraic,
  trivial, Cert.DActIdeal.Product.algebraic,
  trivial, Cert.DwDownIdeal.Product.algebraic,
  trivial, Cert.DwInIdeal.Product.algebraic,
  trivial, Cert.DwGateIdeal.Product.algebraic,
  trivial, Cert.DwOutIdeal.Product.algebraic,
  trivial, Cert.DwProjIdeal.Product.algebraic,
  trivial, Cert.FfnUpIdeal.Product.algebraic,
  trivial, Cert.ProjIdeal.Product.algebraic,
  trivial, Cert.MixLnIdeal.Product.algebraic,
  trivial, Cert.LnBwdIdeal.Product.algebraic,
  trivial, Cert.HeadIdeal.Product.algebraic,
  preserves_fwd, Cert.AttnFwdIdeal.Attn.algebraic (hP := Cert.FiniteFwd.facts)⟩

end Cert.Proof

end
